-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v140) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v146) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v144) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v30_0)) (v1 : (c : Dev Cert.Kernel6Ideal.nD) → Buf (Elt Ideal) ((c.tc : Thread Cert.Kernel6Ideal.nD Cert.Kernel6Ideal.τ).loc Cert.Kernel6Ideal.main_v30_1)) (v2 : (c : Dev Cert.Kernel6Ideal.nD) → Buf (Elt Ideal) ((c.tc : Thread Cert.Kernel6Ideal.nD Cert.Kernel6Ideal.τ).loc Cert.Kernel6Ideal.main_v30_2)) (v3 : (c : Dev Cert.Kernel6Ideal.nD) → Buf (Elt Ideal) ((c.tc : Thread Cert.Kernel6Ideal.nD Cert.Kernel6Ideal.τ).loc Cert.Kernel6Ideal.main_v30_3)) (v4 : (c : Dev Cert.Kernel6Ideal.nD) → Buf (Elt Ideal) ((c.tc : Thread Cert.Kernel6Ideal.nD Cert.Kernel6Ideal.τ).loc Cert.Kernel6Ideal.main_v30_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30_0) = v0 c
          ∧ r.2.mem ((c.tc : Thread Cert.Kernel6Ideal.nD Cert.Kernel6Ideal.τ).loc Cert.Kernel6Ideal.main_v30_1) = v1 c
          ∧ r.2.mem ((c.tc : Thread Cert.Kernel6Ideal.nD Cert.Kernel6Ideal.τ).loc Cert.Kernel6Ideal.main_v30_2) = v2 c
          ∧ r.2.mem ((c.tc : Thread Cert.Kernel6Ideal.nD Cert.Kernel6Ideal.τ).loc Cert.Kernel6Ideal.main_v30_3) = v3 c
          ∧ r.2.mem ((c.tc : Thread Cert.Kernel6Ideal.nD Cert.Kernel6Ideal.τ).loc Cert.Kernel6Ideal.main_v30_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v207) = v0 c
          ∧ r.2.mem ((c.tc : Thread Cert.Reference6Ideal.nD Cert.Reference6Ideal.τ).loc Cert.Reference6Ideal.main_v208) = v1 c
          ∧ r.2.mem ((c.tc : Thread Cert.Reference6Ideal.nD Cert.Reference6Ideal.τ).loc Cert.Reference6Ideal.main_v209) = v2 c
          ∧ r.2.mem ((c.tc : Thread Cert.Reference6Ideal.nD Cert.Reference6Ideal.τ).loc Cert.Reference6Ideal.main_v210) = v3 c
          ∧ r.2.mem ((c.tc : Thread Cert.Reference6Ideal.nD Cert.Reference6Ideal.τ).loc Cert.Reference6Ideal.main_v211) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S8x8x2304x96 : Shape := ⟨4, ![8, 8, 2304, 96]⟩
abbrev S8x8x2304x64 : Shape := ⟨4, ![8, 8, 2304, 64]⟩
abbrev S8x8x2048x96 : Shape := ⟨4, ![8, 8, 2048, 96]⟩
abbrev S_ : Shape := ⟨0, ![]⟩
abbrev S8x8x4352x96 : Shape := ⟨4, ![8, 8, 4352, 96]⟩

class Facts : Prop where
  slices_S8x8x2304x96_S8x8x2048x96_0_0_0_0 : S8x8x2304x96.Slices ![0, 0, 0, 0] S8x8x2048x96
  bcast_S_S8x8x2048x96 : S_.BroadcastsInDim S8x8x2048x96 (![] : Fin 0 → Fin S8x8x2048x96.rank)
  bcast_S_S8x8x2304x96 : S_.BroadcastsInDim S8x8x2304x96 (![] : Fin 0 → Fin S8x8x2304x96.rank)
  concatenates_S8x8x2048x96_S8x8x2304x96_S8x8x4352x96_d2 : Shape.Concatenates [S8x8x2048x96, S8x8x2304x96] S8x8x4352x96 2

variable [Facts]

def fn {F : FTy → Type} [FloatOps F] (main_arg0 : FVec F S8x8x2304x96 .f32) (main_arg1 : FVec F S8x8x2304x96 .f32) (main_arg2 : FVec F S8x8x2304x64 .f32) : IVec S8x8x4352x96 1 :=
  let main_v0 : FVec F S8x8x2048x96 .f32 := (extractStridedSlice S8x8x2048x96 ![0, 0, 0, 0] · slices_S8x8x2304x96_S8x8x2048x96_0_0_0_0) main_arg0
  let main_v1 : FVec F S8x8x2048x96 .f32 := Host.absf main_v0
  let main_cst : FVec F S_ .f32 := constant S_ .f32 0x7F800000#32
  let main_v2 : FVec F S8x8x2048x96 .f32 := broadcastInDim S8x8x2048x96 ![] bcast_S_S8x8x2048x96 main_cst
  let main_v3 : IVec S8x8x2048x96 1 := cmpf .olt main_v1 main_v2
  let main_v4 : FVec F S8x8x2304x96 .f32 := Host.absf main_arg1
  let main_cst_0 : FVec F S_ .f32 := constant S_ .f32 0x7F800000#32
  let main_v5 : FVec F S8x8x2304x96 .f32 := broadcastInDim S8x8x2304x96 ![] bcast_S_S8x8x2304x96 main_cst_0
  let main_v6 : IVec S8x8x2304x96 1 := cmpf .olt main_v4 main_v5
  let main_v7 : IVec S8x8x4352x96 1 := (fun a b => concatenate S8x8x4352x96 2 [⟨S8x8x2048x96, a⟩, ⟨S8x8x2304x96, b⟩] concatenates_S8x8x2048x96_S8x8x2304x96_S8x8x4352x96_d2) main_v3 main_v6
  main_v7
-- ==== Kernel.lean ====
abbrev S8x8x2304x96 : Shape := ⟨4, ![8, 8, 2304, 96]⟩
abbrev S8x8x2304x64 : Shape := ⟨4, ![8, 8, 2304, 64]⟩
abbrev S_ : Shape := ⟨0, ![]⟩
abbrev S8x8x2304x128 : Shape := ⟨4, ![8, 8, 2304, 128]⟩
abbrev S8x8x128x2304 : Shape := ⟨4, ![8, 8, 128, 2304]⟩
abbrev S8x1024x2304 : Shape := ⟨3, ![8, 1024, 2304]⟩
abbrev S8x2304x8x128 : Shape := ⟨4, ![8, 2304, 8, 128]⟩
abbrev S8x2304x1024 : Shape := ⟨3, ![8, 2304, 1024]⟩
abbrev S8x8x1x2304 : Shape := ⟨4, ![8, 8, 1, 2304]⟩
abbrev S8x8x15x2304 : Shape := ⟨4, ![8, 8, 15, 2304]⟩
abbrev S8x8x16x2304 : Shape := ⟨4, ![8, 8, 16, 2304]⟩
abbrev S8x8x64x2304 : Shape := ⟨4, ![8, 8, 64, 2304]⟩
abbrev S8x8x80x2304 : Shape := ⟨4, ![8, 8, 80, 2304]⟩
abbrev S8x640x2304 : Shape := ⟨3, ![8, 640, 2304]⟩
abbrev S8x2048x512 : Shape := ⟨3, ![8, 2048, 512]⟩
abbrev S1x256x1024 : Shape := ⟨3, ![1, 256, 1024]⟩
abbrev S1x2304x256 : Shape := ⟨3, ![1, 2304, 256]⟩
abbrev S1x160x2304 : Shape := ⟨3, ![1, 160, 2304]⟩
abbrev S1x1024x128 : Shape := ⟨3, ![1, 1024, 128]⟩
abbrev S1x128x1024 : Shape := ⟨3, ![1, 128, 1024]⟩
abbrev S128x1024 : Shape := ⟨2, ![128, 1024]⟩
abbrev S1x256x128 : Shape := ⟨3, ![1, 256, 128]⟩
abbrev S256x128 : Shape := ⟨2, ![256, 128]⟩
abbrev S256x1024 : Shape := ⟨2, ![256, 1024]⟩
abbrev S1024 : Shape := ⟨1, ![1024]⟩
abbrev S1x1024 : Shape := ⟨2, ![1, 1024]⟩
abbrev S1x80x256 : Shape := ⟨3, ![1, 80, 256]⟩
abbrev S80x256 : Shape := ⟨2, ![80, 256]⟩
abbrev S80x1024 : Shape := ⟨2, ![80, 1024]⟩
abbrev S64x1024 : Shape := ⟨2, ![64, 1024]⟩
abbrev S1024x64 : Shape := ⟨2, ![1024, 64]⟩
abbrev S1024x128 : Shape := ⟨2, ![1024, 128]⟩

abbrev nBuf : Space → Nat
  | .hbm => 25
  | .vmem => 8
  | .smem => 0
  | _ => 0

abbrev bufTy : (tb : Table) → Fin (tcTables nBuf tb) → BufTy
  | .hbm, ⟨0, _⟩ => ⟨S8x8x2304x96, .f32⟩
  | .hbm, ⟨1, _⟩ => ⟨S8x8x2304x96, .f32⟩
  | .hbm, ⟨2, _⟩ => ⟨S8x8x2304x64, .f32⟩
  | .hbm, ⟨3, _⟩ => ⟨S_, .i32⟩
  | .hbm, ⟨4, _⟩ => ⟨S_, .f32⟩
  | .hbm, ⟨5, _⟩ => ⟨S8x8x2304x128, .f32⟩
  | .hbm, ⟨6, _⟩ => ⟨S8x8x128x2304, .f32⟩
  | .hbm, ⟨7, _⟩ => ⟨S8x1024x2304, .f32⟩
  | .hbm, ⟨8, _⟩ => ⟨S8x1024x2304, .bf16⟩
  | .hbm, ⟨9, _⟩ => ⟨S_, .i32⟩
  | .hbm, ⟨10, _⟩ => ⟨S_, .f32⟩
  | .hbm, ⟨11, _⟩ => ⟨S8x8x2304x128, .f32⟩
  | .hbm, ⟨12, _⟩ => ⟨S8x2304x8x128, .f32⟩
  | .hbm, ⟨13, _⟩ => ⟨S8x2304x1024, .f32⟩
  | .hbm, ⟨14, _⟩ => ⟨S8x2304x1024, .bf16⟩
  | .hbm, ⟨15, _⟩ => ⟨S_, .f32⟩
  | .hbm, ⟨16, _⟩ => ⟨S8x8x1x2304, .f32⟩
  | .hbm, ⟨17, _⟩ => ⟨S_, .f32⟩
  | .hbm, ⟨18, _⟩ => ⟨S8x8x15x2304, .f32⟩
  | .hbm, ⟨19, _⟩ => ⟨S8x8x16x2304, .f32⟩
  | .hbm, ⟨20, _⟩ => ⟨S8x8x64x2304, .f32⟩
  | .hbm, ⟨21, _⟩ => ⟨S8x8x80x2304, .f32⟩
  | .hbm, ⟨22, _⟩ => ⟨S8x640x2304, .f32⟩
  | .hbm, ⟨23, _⟩ => ⟨S8x640x2304, .bf16⟩
  | .hbm, ⟨24, _⟩ => ⟨S8x2048x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x160x2304, .bf16⟩
  | .local _ .vmem, ⟨5, _⟩ => ⟨S1x160x2304, .bf16⟩
  | .local _ .vmem, ⟨6, _⟩ => ⟨S1x1024x128, .bf16⟩
  | .local _ .vmem, ⟨7, _⟩ => ⟨S1x1024x128, .bf16⟩
  | _, _ => ⟨S8x8x2304x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x160x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
abbrev S8x8x2304x96 : Shape := ⟨4, ![8, 8, 2304, 96]⟩
abbrev S8x8x2304x64 : Shape := ⟨4, ![8, 8, 2304, 64]⟩
abbrev S8x8x2048x96 : Shape := ⟨4, ![8, 8, 2048, 96]⟩
abbrev S8x8x2048x2304 : Shape := ⟨4, ![8, 8, 2048, 2304]⟩
abbrev S_ : Shape := ⟨0, ![]⟩
abbrev S8x8x2048 : Shape := ⟨3, ![8, 8, 2048]⟩
abbrev S8x8x2048x1 : Shape := ⟨4, ![8, 8, 2048, 1]⟩
abbrev S8x8x2048x64 : Shape := ⟨4, ![8, 8, 2048, 64]⟩
abbrev S8x2048x8x64 : Shape := ⟨4, ![8, 2048, 8, 64]⟩
abbrev S8x2048x512 : Shape := ⟨3, ![8, 2048, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x8x2304x96, .f32⟩
  | .hbm, ⟨1, _⟩ => ⟨S8x8x2304x96, .f32⟩
  | .hbm, ⟨2, _⟩ => ⟨S8x8x2304x64, .f32⟩
  | .hbm, ⟨3, _⟩ => ⟨S8x8x2048x96, .f32⟩
  | .hbm, ⟨4, _⟩ => ⟨S8x8x2048x2304, .f32⟩
  | .hbm, ⟨5, _⟩ => ⟨S_, .f32⟩
  | .hbm, ⟨6, _⟩ => ⟨S_, .f32⟩
  | .hbm, ⟨7, _⟩ => ⟨S8x8x2048x2304, .f32⟩
  | .hbm, ⟨8, _⟩ => ⟨S8x8x2048x2304, .f32⟩
  | .hbm, ⟨9, _⟩ => ⟨S_, .f32⟩
  | .hbm, ⟨10, _⟩ => ⟨S8x8x2048, .f32⟩
  | .hbm, ⟨11, _⟩ => ⟨S_, .f32⟩
  | .hbm, ⟨12, _⟩ => ⟨S8x8x2048, .f32⟩
  | .hbm, ⟨13, _⟩ => ⟨S8x8x2048, .f32⟩
  | .hbm, ⟨14, _⟩ => ⟨S8x8x2048x1, .f32⟩
  | .hbm, ⟨15, _⟩ => ⟨S8x8x2048x2304, .f32⟩
  | .hbm, ⟨16, _⟩ => ⟨S8x8x2048x2304, .f32⟩
  | .hbm, ⟨17, _⟩ => ⟨S8x8x2048x2304, .f32⟩
  | .hbm, ⟨18, _⟩ => ⟨S_, .f32⟩
  | .hbm, ⟨19, _⟩ => ⟨S8x8x2048, .f32⟩
  | .hbm, ⟨20, _⟩ => ⟨S8x8x2048x1, .f32⟩
  | .hbm, ⟨21, _⟩ => ⟨S8x8x2048x2304, .f32⟩
  | .hbm, ⟨22, _⟩ => ⟨S8x8x2048x2304, .f32⟩
  | .hbm, ⟨23, _⟩ => ⟨S8x8x2048x64, .f32⟩
  | .hbm, ⟨24, _⟩ => ⟨S8x2048x8x64, .f32⟩
  | .hbm, ⟨25, _⟩ => ⟨S8x2048x512, .f32⟩
  | .hbm, ⟨26, _⟩ => ⟨S8x2048x512, .bf16⟩
  | _, _ => ⟨S8x8x2304x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S8x8x2304x128 : Shape := ⟨4, ![8, 8, 2304, 128]⟩
abbrev S8x2304x1024 : Shape := ⟨3, ![8, 2304, 1024]⟩
abbrev S8x6x1024 : Shape := ⟨3, ![8, 6, 1024]⟩
abbrev S6x1024 : Shape := ⟨2, ![6, 1024]⟩
abbrev S128 : Shape := ⟨1, ![128]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S8x1x6x1024 : Shape := ⟨4, ![8, 1, 6, 1024]⟩
abbrev S8x2x6x1024 : Shape := ⟨4, ![8, 2, 6, 1024]⟩
abbrev S8x2304x8x128 : Shape := ⟨4, ![8, 2304, 8, 128]⟩
abbrev S1x128 : Shape := ⟨2, ![1, 128]⟩
abbrev S1x1024 : Shape := ⟨2, ![1, 1024]⟩
abbrev S8x2048x1024 : Shape := ⟨3, ![8, 2048, 1024]⟩
abbrev S2x256x1024 : Shape := ⟨3, ![2, 256, 1024]⟩
abbrev S2x1x6x1024 : Shape := ⟨4, ![2, 1, 6, 1024]⟩
abbrev S1x1024x4096 : Shape := ⟨3, ![1, 1024, 4096]⟩
abbrev S1x4096x1024 : Shape := ⟨3, ![1, 4096, 1024]⟩
abbrev S1x1x6x1024 : Shape := ⟨4, ![1, 1, 6, 1024]⟩
abbrev S1x256x1024 : Shape := ⟨3, ![1, 256, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S1x1024x1024 : Shape := ⟨3, ![1, 1024, 1024]⟩

abbrev nBuf : Space → Nat
  | .hbm => 27
  | .vmem => 18
  | .smem => 0
  | _ => 0

abbrev bufTy : (tb : Table) → Fin (tcTables nBuf tb) → BufTy
  | .hbm, ⟨0, _⟩ => ⟨S8x8x2304x128, .f32⟩
  | .hbm, ⟨1, _⟩ => ⟨S8x8x2304x128, .f32⟩
  | .hbm, ⟨2, _⟩ => ⟨S8x2304x1024, .f32⟩
  | .hbm, ⟨3, _⟩ => ⟨S8x2304x1024, .f32⟩
  | .hbm, ⟨4, _⟩ => ⟨S8x6x1024, .f32⟩
  | .hbm, ⟨5, _⟩ => ⟨S6x1024, .f32⟩
  | .hbm, ⟨6, _⟩ => ⟨S128, .f32⟩
  | .hbm, ⟨7, _⟩ => ⟨S1024x1024, .f32⟩
  | .hbm, ⟨8, _⟩ => ⟨S1024, .f32⟩
  | .hbm, ⟨9, _⟩ => ⟨S4x1024x4096, .f32⟩
  | .hbm, ⟨10, _⟩ => ⟨S4x4096x1024, .f32⟩
  | .hbm, ⟨11, _⟩ => ⟨S1024, .f32⟩
  | .hbm, ⟨12, _⟩ => ⟨S8x6x1024, .f32⟩
  | .hbm, ⟨13, _⟩ => ⟨S8x1x6x1024, .f32⟩
  | .hbm, ⟨14, _⟩ => ⟨S8x1x6x1024, .f32⟩
  | .hbm, ⟨15, _⟩ => ⟨S8x2x6x1024, .f32⟩
  | .hbm, ⟨16, _⟩ => ⟨S8x2304x8x128, .f32⟩
  | .hbm, ⟨17, _⟩ => ⟨S8x2304x1024, .f32⟩
  | .hbm, ⟨18, _⟩ => ⟨S8x2304x8x128, .f32⟩
  | .hbm, ⟨19, _⟩ => ⟨S8x2304x1024, .f32⟩
  | .hbm, ⟨20, _⟩ => ⟨S1x128, .f32⟩
  | .hbm, ⟨21, _⟩ => ⟨S1024x1024, .bf16⟩
  | .hbm, ⟨22, _⟩ => ⟨S1x1024, .f32⟩
  | .hbm, ⟨23, _⟩ => ⟨S4x1024x4096, .bf16⟩
  | .hbm, ⟨24, _⟩ => ⟨S4x4096x1024, .bf16⟩
  | .hbm, ⟨25, _⟩ => ⟨S1x1024, .f32⟩
  | .hbm, ⟨26, _⟩ => ⟨S8x2048x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | .local _ .vmem, ⟨7, _⟩ => ⟨S2x256x1024, .f32⟩
  | .local _ .vmem, ⟨8, _⟩ => ⟨S1x128, .f32⟩
  | .local _ .vmem, ⟨9, _⟩ => ⟨S1024x1024, .bf16⟩
  | .local _ .vmem, ⟨10, _⟩ => ⟨S2x1x6x1024, .f32⟩
  | .local _ .vmem, ⟨11, _⟩ => ⟨S2x1x6x1024, .f32⟩
  | .local _ .vmem, ⟨12, _⟩ => ⟨S1x1024, .f32⟩
  | .local _ .vmem, ⟨13, _⟩ => ⟨S1x1024x4096, .bf16⟩
  | .local _ .vmem, ⟨14, _⟩ => ⟨S1x4096x1024, .bf16⟩
  | .local _ .vmem, ⟨15, _⟩ => ⟨S1x1024, .f32⟩
  | .local _ .vmem, ⟨16, _⟩ => ⟨S2x256x1024, .f32⟩
  | .local _ .vmem, ⟨17, _⟩ => ⟨S2x256x1024, .f32⟩
  | _, _ => ⟨S8x8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x8x2304x128 : Shape := ⟨4, ![8, 8, 2304, 128]⟩
abbrev S8x2304x1024 : Shape := ⟨3, ![8, 2304, 1024]⟩
abbrev S8x6x1024 : Shape := ⟨3, ![8, 6, 1024]⟩
abbrev S6x1024 : Shape := ⟨2, ![6, 1024]⟩
abbrev S128 : Shape := ⟨1, ![128]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S8x8x2048x128 : Shape := ⟨4, ![8, 8, 2048, 128]⟩
abbrev S8x2048x1024 : Shape := ⟨3, ![8, 2048, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩

abbrev nBuf : Space → Nat
  | .hbm => 114
  | .vmem => 0
  | .smem => 0
  | _ => 0

abbrev bufTy : (tb : Table) → Fin (tcTables nBuf tb) → BufTy
  | .hbm, ⟨0, _⟩ => ⟨S8x8x2304x128, .f32⟩
  | .hbm, ⟨1, _⟩ => ⟨S8x8x2304x128, .f32⟩
  | .hbm, ⟨2, _⟩ => ⟨S8x2304x1024, .f32⟩
  | .hbm, ⟨3, _⟩ => ⟨S8x2304x1024, .f32⟩
  | .hbm, ⟨4, _⟩ => ⟨S8x6x1024, .f32⟩
  | .hbm, ⟨5, _⟩ => ⟨S6x1024, .f32⟩
  | .hbm, ⟨6, _⟩ => ⟨S128, .f32⟩
  | .hbm, ⟨7, _⟩ => ⟨S1024x1024, .f32⟩
  | .hbm, ⟨8, _⟩ => ⟨S1024, .f32⟩
  | .hbm, ⟨9, _⟩ => ⟨S4x1024x4096, .f32⟩
  | .hbm, ⟨10, _⟩ => ⟨S4x4096x1024, .f32⟩
  | .hbm, ⟨11, _⟩ => ⟨S1024, .f32⟩
  | .hbm, ⟨12, _⟩ => ⟨S8x6x1x1024, .f32⟩
  | .hbm, ⟨13, _⟩ => ⟨S8x1x1x1024, .f32⟩
  | .hbm, ⟨14, _⟩ => ⟨S8x1x1x1024, .f32⟩
  | .hbm, ⟨15, _⟩ => ⟨S8x1x1x1024, .f32⟩
  | .hbm, ⟨16, _⟩ => ⟨S8x1x1x1024, .f32⟩
  | .hbm, ⟨17, _⟩ => ⟨S8x1x1x1024, .f32⟩
  | .hbm, ⟨18, _⟩ => ⟨S8x1x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x8x2304x128, .f32⟩
  | .hbm, ⟨26, _⟩ => ⟨S8x8x2048x128, .f32⟩
  | .hbm, ⟨27, _⟩ => ⟨S8x2048x1024, .f32⟩
  | .hbm, ⟨28, _⟩ => ⟨S8x2048x8x128, .f32⟩
  | .hbm, ⟨29, _⟩ => ⟨S8x2048x8x128, .f32⟩
  | .hbm, ⟨30, _⟩ => ⟨S_, .f32⟩
  | .hbm, ⟨31, _⟩ => ⟨S8x2048x8, .f32⟩
  | .hbm, ⟨32, _⟩ => ⟨S8x2048x8x1, .f32⟩
  | .hbm, ⟨33, _⟩ => ⟨S_, .f32⟩
  | .hbm, ⟨34, _⟩ => ⟨S8x2048x8x1, .f32⟩
  | .hbm, ⟨35, _⟩ => ⟨S8x2048x8x1, .f32⟩
  | .hbm, ⟨36, _⟩ => ⟨S_, .f32⟩
  | .hbm, ⟨37, _⟩ => ⟨S8x2048x8x1, .f32⟩
  | .hbm, ⟨38, _⟩ => ⟨S8x2048x8x1, .f32⟩
  | .hbm, ⟨39, _⟩ => ⟨S8x2048x8x1, .f32⟩
  | .hbm, ⟨40, _⟩ => ⟨S8x2048x8x128, .f32⟩
  | .hbm, ⟨41, _⟩ => ⟨S8x2048x8x128, .f32⟩
  | .hbm, ⟨42, _⟩ => ⟨S1x1x1x128, .f32⟩
  | .hbm, ⟨43, _⟩ => ⟨S8x2048x8x128, .f32⟩
  | .hbm, ⟨44, _⟩ => ⟨S8x2048x8x128, .f32⟩
  | .hbm, ⟨45, _⟩ => ⟨S8x2048x8x128, .f32⟩
  | .hbm, ⟨46, _⟩ => ⟨S8x2048x8x128, .f32⟩
  | .hbm, ⟨47, _⟩ => ⟨S8x2048x8x128, .f32⟩
  | .hbm, ⟨48, _⟩ => ⟨S_, .f32⟩
  | .hbm, ⟨49, _⟩ => ⟨S8x2048x8x128, .f32⟩
  | .hbm, ⟨50, _⟩ => ⟨S8x2048x8x128, .f32⟩
  | .hbm, ⟨51, _⟩ => ⟨S_, .f32⟩
  | .hbm, ⟨52, _⟩ => ⟨S8x2048x8x128, .f32⟩
  | .hbm, ⟨53, _⟩ => ⟨S8x2048x8x128, .f32⟩
  | .hbm, ⟨54, _⟩ => ⟨S8x2048x8x128, .f32⟩
  | .hbm, ⟨55, _⟩ => ⟨S8x2048x8x128, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x1x1024, .f32⟩
  | .hbm, ⟨80, _⟩ => ⟨S8x1x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S1x1024x4096, .f32⟩
  | .hbm, ⟨86, _⟩ => ⟨S1024x4096, .f32⟩
  | .hbm, ⟨87, _⟩ => ⟨S1x4096x1024, .f32⟩
  | .hbm, ⟨88, _⟩ => ⟨S4096x1024, .f32⟩
  | .hbm, ⟨89, _⟩ => ⟨S8x2048x4096, .f32⟩
  | .hbm, ⟨90, _⟩ => ⟨S_, .f32⟩
  | .hbm, ⟨91, _⟩ => ⟨S8x2048x4096, .f32⟩
  | .hbm, ⟨92, _⟩ => ⟨S8x2048x4096, .f32⟩
  | .hbm, ⟨93, _⟩ => ⟨S8x2048x4096, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S_, .f32⟩
  | .hbm, ⟨100, _⟩ => ⟨S8x2048, .f32⟩
  | .hbm, ⟨101, _⟩ => ⟨S8x2048x1, .f32⟩
  | .hbm, ⟨102, _⟩ => ⟨S_, .f32⟩
  | .hbm, ⟨103, _⟩ => ⟨S8x2048x1, .f32⟩
  | .hbm, ⟨104, _⟩ => ⟨S8x2048x1, .f32⟩
  | .hbm, ⟨105, _⟩ => ⟨S_, .f32⟩
  | .hbm, ⟨106, _⟩ => ⟨S8x2048x1, .f32⟩
  | .hbm, ⟨107, _⟩ => ⟨S8x2048x1, .f32⟩
  | .hbm, ⟨108, _⟩ => ⟨S8x2048x1, .f32⟩
  | .hbm, ⟨109, _⟩ => ⟨S8x2048x1024, .f32⟩
  | .hbm, ⟨110, _⟩ => ⟨S8x2048x1024, .f32⟩
  | .hbm, ⟨111, _⟩ => ⟨S1x1x1024, .f32⟩
  | .hbm, ⟨112, _⟩ => ⟨S8x2048x1024, .f32⟩
  | .hbm, ⟨113, _⟩ => ⟨S8x2048x1024, .f32⟩
  | _, _ => ⟨S8x8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_6 : Ref sig .tc := ⟨.hbm, 99, rfl⟩
abbrev main_v70 : Ref sig .tc := ⟨.hbm, 100, rfl⟩
abbrev main_v71 : Ref sig .tc := ⟨.hbm, 101, rfl⟩
abbrev main_cst_7 : Ref sig .tc := ⟨.hbm, 102, rfl⟩
abbrev main_v72 : Ref sig .tc := ⟨.hbm, 103, rfl⟩
abbrev main_v73 : Ref sig .tc := ⟨.hbm, 104, rfl⟩
abbrev main_cst_8 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]
-- ==== Kernel3.lean ====
abbrev S8x8x2304x128 : Shape := ⟨4, ![8, 8, 2304, 128]⟩
abbrev S8x2304x1024 : Shape := ⟨3, ![8, 2304, 1024]⟩
abbrev S8x6x1024 : Shape := ⟨3, ![8, 6, 1024]⟩
abbrev S6x1024 : Shape := ⟨2, ![6, 1024]⟩
abbrev S128 : Shape := ⟨1, ![128]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S8x1x6x1024 : Shape := ⟨4, ![8, 1, 6, 1024]⟩
abbrev S8x2x6x1024 : Shape := ⟨4, ![8, 2, 6, 1024]⟩
abbrev S8x2304x8x128 : Shape := ⟨4, ![8, 2304, 8, 128]⟩
abbrev S1x128 : Shape := ⟨2, ![1, 128]⟩
abbrev S1x1024 : Shape := ⟨2, ![1, 1024]⟩
abbrev S2x256x1024 : Shape := ⟨3, ![2, 256, 1024]⟩
abbrev S2x1x6x1024 : Shape := ⟨4, ![2, 1, 6, 1024]⟩
abbrev S1x1024x4096 : Shape := ⟨3, ![1, 1024, 4096]⟩
abbrev S1x4096x1024 : Shape := ⟨3, ![1, 4096, 1024]⟩
abbrev S1x1x6x1024 : Shape := ⟨4, ![1, 1, 6, 1024]⟩
abbrev S1x256x1024 : Shape := ⟨3, ![1, 256, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S1x1024x1024 : Shape := ⟨3, ![1, 1024, 1024]⟩

abbrev nBuf : Space → Nat
  | .hbm => 25
  | .vmem => 17
  | .smem => 0
  | _ => 0

abbrev bufTy : (tb : Table) → Fin (tcTables nBuf tb) → BufTy
  | .hbm, ⟨0, _⟩ => ⟨S8x8x2304x128, .f32⟩
  | .hbm, ⟨1, _⟩ => ⟨S8x8x2304x128, .f32⟩
  | .hbm, ⟨2, _⟩ => ⟨S8x2304x1024, .f32⟩
  | .hbm, ⟨3, _⟩ => ⟨S8x2304x1024, .f32⟩
  | .hbm, ⟨4, _⟩ => ⟨S8x6x1024, .f32⟩
  | .hbm, ⟨5, _⟩ => ⟨S6x1024, .f32⟩
  | .hbm, ⟨6, _⟩ => ⟨S128, .f32⟩
  | .hbm, ⟨7, _⟩ => ⟨S1024x1024, .f32⟩
  | .hbm, ⟨8, _⟩ => ⟨S1024, .f32⟩
  | .hbm, ⟨9, _⟩ => ⟨S4x1024x4096, .f32⟩
  | .hbm, ⟨10, _⟩ => ⟨S4x4096x1024, .f32⟩
  | .hbm, ⟨11, _⟩ => ⟨S8x6x1024, .f32⟩
  | .hbm, ⟨12, _⟩ => ⟨S8x1x6x1024, .f32⟩
  | .hbm, ⟨13, _⟩ => ⟨S8x1x6x1024, .f32⟩
  | .hbm, ⟨14, _⟩ => ⟨S8x2x6x1024, .f32⟩
  | .hbm, ⟨15, _⟩ => ⟨S8x2304x8x128, .f32⟩
  | .hbm, ⟨16, _⟩ => ⟨S8x2304x1024, .f32⟩
  | .hbm, ⟨17, _⟩ => ⟨S8x2304x8x128, .f32⟩
  | .hbm, ⟨18, _⟩ => ⟨S8x2304x1024, .f32⟩
  | .hbm, ⟨19, _⟩ => ⟨S1x128, .f32⟩
  | .hbm, ⟨20, _⟩ => ⟨S1024x1024, .bf16⟩
  | .hbm, ⟨21, _⟩ => ⟨S1x1024, .f32⟩
  | .hbm, ⟨22, _⟩ => ⟨S4x1024x4096, .bf16⟩
  | .hbm, ⟨23, _⟩ => ⟨S4x4096x1024, .bf16⟩
  | .hbm, ⟨24, _⟩ => ⟨S8x2304x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | .local _ .vmem, ⟨7, _⟩ => ⟨S2x256x1024, .f32⟩
  | .local _ .vmem, ⟨8, _⟩ => ⟨S1x128, .f32⟩
  | .local _ .vmem, ⟨9, _⟩ => ⟨S1024x1024, .bf16⟩
  | .local _ .vmem, ⟨10, _⟩ => ⟨S2x1x6x1024, .f32⟩
  | .local _ .vmem, ⟨11, _⟩ => ⟨S2x1x6x1024, .f32⟩
  | .local _ .vmem, ⟨12, _⟩ => ⟨S1x1024, .f32⟩
  | .local _ .vmem, ⟨13, _⟩ => ⟨S1x1024x4096, .bf16⟩
  | .local _ .vmem, ⟨14, _⟩ => ⟨S1x4096x1024, .bf16⟩
  | .local _ .vmem, ⟨15, _⟩ => ⟨S2x256x1024, .f32⟩
  | .local _ .vmem, ⟨16, _⟩ => ⟨S2x256x1024, .f32⟩
  | _, _ => ⟨S8x8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x8x2304x128 : Shape := ⟨4, ![8, 8, 2304, 128]⟩
abbrev S8x2304x1024 : Shape := ⟨3, ![8, 2304, 1024]⟩
abbrev S8x6x1024 : Shape := ⟨3, ![8, 6, 1024]⟩
abbrev S6x1024 : Shape := ⟨2, ![6, 1024]⟩
abbrev S128 : Shape := ⟨1, ![128]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S8x8x2048x128 : Shape := ⟨4, ![8, 8, 2048, 128]⟩
abbrev S8x2048x1024 : Shape := ⟨3, ![8, 2048, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x8x256x128 : Shape := ⟨4, ![8, 8, 256, 128]⟩
abbrev S8x256x1024 : Shape := ⟨3, ![8, 256, 1024]⟩
abbrev S8x256x8x128 : Shape := ⟨4, ![8, 256, 8, 128]⟩
abbrev S8x256x8 : Shape := ⟨3, ![8, 256, 8]⟩
abbrev S8x256x8x1 : Shape := ⟨4, ![8, 256, 8, 1]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩
abbrev S8x256 : Shape := ⟨2, ![8, 256]⟩
abbrev S8x256x1 : Shape := ⟨3, ![8, 256, 1]⟩
abbrev S8x256x4096 : Shape := ⟨3, ![8, 256, 4096]⟩

abbrev nBuf : Space → Nat
  | .hbm => 186
  | .vmem => 0
  | .smem => 0
  | _ => 0

abbrev hbmTy0_0 (i : Nat) : BufTy := match i % 128 with
  | 0 => ⟨S8x8x2304x128, .f32⟩
  | 1 => ⟨S8x8x2304x128, .f32⟩
  | 2 => ⟨S8x2304x1024, .f32⟩
  | 3 => ⟨S8x2304x1024, .f32⟩
  | 4 => ⟨S8x6x1024, .f32⟩
  | 5 => ⟨S6x1024, .f32⟩
  | 6 => ⟨S128, .f32⟩
  | 7 => ⟨S1024x1024, .f32⟩
  | 8 => ⟨S1024, .f32⟩
  | 9 => ⟨S4x1024x4096, .f32⟩
  | 10 => ⟨S4x4096x1024, .f32⟩
  | 11 => ⟨S8x6x1x1024, .f32⟩
  | 12 => ⟨S8x1x1x1024, .f32⟩
  | 13 => ⟨S8x1x1x1024, .f32⟩
  | 14 => ⟨S8x1x1x1024, .f32⟩
  | 15 => ⟨S8x1x1x1024, .f32⟩
  | 16 => ⟨S8x1x1x1024, .f32⟩
  | 17 => ⟨S8x1x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S8x1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S8x8x2304x128, .f32⟩
  | 37 => ⟨S8x8x2048x128, .f32⟩
  | 38 => ⟨S8x2048x1024, .f32⟩
  | 39 => ⟨S8x2048x8x128, .f32⟩
  | 40 => ⟨S8x2048x8x128, .f32⟩
  | 41 => ⟨S_, .f32⟩
  | 42 => ⟨S8x2048x8, .f32⟩
  | 43 => ⟨S8x2048x8x1, .f32⟩
  | 44 => ⟨S_, .f32⟩
  | 45 => ⟨S8x2048x8x1, .f32⟩
  | 46 => ⟨S8x2048x8x1, .f32⟩
  | 47 => ⟨S_, .f32⟩
  | 48 => ⟨S8x2048x8x1, .f32⟩
  | 49 => ⟨S8x2048x8x1, .f32⟩
  | 50 => ⟨S8x2048x8x1, .f32⟩
  | 51 => ⟨S8x2048x8x128, .f32⟩
  | 52 => ⟨S8x2048x8x128, .f32⟩
  | 53 => ⟨S1x1x1x128, .f32⟩
  | 54 => ⟨S8x2048x8x128, .f32⟩
  | 55 => ⟨S8x2048x8x128, .f32⟩
  | 56 => ⟨S8x2048x8x128, .f32⟩
  | 57 => ⟨S8x2048x8x128, .f32⟩
  | 58 => ⟨S8x2048x8x128, .f32⟩
  | 59 => ⟨S_, .f32⟩
  | 60 => ⟨S8x2048x8x128, .f32⟩
  | 61 => ⟨S8x2048x8x128, .f32⟩
  | 62 => ⟨S_, .f32⟩
  | 63 => ⟨S8x2048x8x128, .f32⟩
  | 64 => ⟨S8x2048x8x128, .f32⟩
  | 65 => ⟨S8x2048x8x128, .f32⟩
  | 66 => ⟨S8x2048x8x128, .f32⟩
  | 67 => ⟨S8x2048x1024, .f32⟩
  | 68 => ⟨S8x2048x1024, .f32⟩
  | 69 => ⟨S8x8x256x128, .f32⟩
  | 70 => ⟨S8x256x1024, .f32⟩
  | 71 => ⟨S8x256x8x128, .f32⟩
  | 72 => ⟨S8x256x8x128, .f32⟩
  | 73 => ⟨S_, .f32⟩
  | 74 => ⟨S8x256x8, .f32⟩
  | 75 => ⟨S8x256x8x1, .f32⟩
  | 76 => ⟨S_, .f32⟩
  | 77 => ⟨S8x256x8x1, .f32⟩
  | 78 => ⟨S8x256x8x1, .f32⟩
  | 79 => ⟨S_, .f32⟩
  | 80 => ⟨S8x256x8x1, .f32⟩
  | 81 => ⟨S8x256x8x1, .f32⟩
  | 82 => ⟨S8x256x8x1, .f32⟩
  | 83 => ⟨S8x256x8x128, .f32⟩
  | 84 => ⟨S8x256x8x128, .f32⟩
  | 85 => ⟨S1x1x1x128, .f32⟩
  | 86 => ⟨S8x256x8x128, .f32⟩
  | 87 => ⟨S8x256x8x128, .f32⟩
  | 88 => ⟨S8x256x8x128, .f32⟩
  | 89 => ⟨S8x256x8x128, .f32⟩
  | 90 => ⟨S8x256x8x128, .f32⟩
  | 91 => ⟨S_, .f32⟩
  | 92 => ⟨S8x256x8x128, .f32⟩
  | 93 => ⟨S8x256x8x128, .f32⟩
  | 94 => ⟨S_, .f32⟩
  | 95 => ⟨S8x256x8x128, .f32⟩
  | 96 => ⟨S8x256x8x128, .f32⟩
  | 97 => ⟨S8x256x8x128, .f32⟩
  | 98 => ⟨S8x256x8x128, .f32⟩
  | 99 => ⟨S8x256x1024, .f32⟩
  | 100 => ⟨S8x256x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S8x2048x1024, .f32⟩
  | 106 => ⟨S_, .f32⟩
  | 107 => ⟨S8x2048, .f32⟩
  | 108 => ⟨S8x2048x1, .f32⟩
  | 109 => ⟨S_, .f32⟩
  | 110 => ⟨S8x2048x1, .f32⟩
  | 111 => ⟨S8x2048x1, .f32⟩
  | 112 => ⟨S_, .f32⟩
  | 113 => ⟨S8x2048x1, .f32⟩
  | 114 => ⟨S8x2048x1, .f32⟩
  | 115 => ⟨S8x2048x1, .f32⟩
  | 116 => ⟨S8x2048x1024, .f32⟩
  | 117 => ⟨S8x2048x1024, .f32⟩
  | 118 => ⟨S1x1x1024, .f32⟩
  | 119 => ⟨S8x2048x1024, .f32⟩
  | 120 => ⟨S8x2048x1024, .f32⟩
  | 121 => ⟨S_, .f32⟩
  | 122 => ⟨S8x1x1024, .f32⟩
  | 123 => ⟨S8x1x1024, .f32⟩
  | 124 => ⟨S8x2048x1024, .f32⟩
  | 125 => ⟨S8x2048x1024, .f32⟩
  | 126 => ⟨S8x2048x1024, .f32⟩
  | 127 => ⟨S8x2048x1024, .f32⟩
  | _ => ⟨S8x8x2304x128, .f32⟩

abbrev hbmTy0_1 (i : Nat) : BufTy := match i % 128 with
  | 0 => ⟨S1x1024x4096, .f32⟩
  | 1 => ⟨S1024x4096, .f32⟩
  | 2 => ⟨S1x4096x1024, .f32⟩
  | 3 => ⟨S4096x1024, .f32⟩
  | 4 => ⟨S8x2048x4096, .f32⟩
  | 5 => ⟨S_, .f32⟩
  | 6 => ⟨S8x2048x4096, .f32⟩
  | 7 => ⟨S8x2048x4096, .f32⟩
  | 8 => ⟨S8x2048x4096, .f32⟩
  | 9 => ⟨S8x2048x1024, .f32⟩
  | 10 => ⟨S8x2048x1024, .f32⟩
  | 11 => ⟨S8x2048x1024, .f32⟩
  | 12 => ⟨S8x2048x1024, .f32⟩
  | 13 => ⟨S8x256x1024, .f32⟩
  | 14 => ⟨S1x1x1024, .f32⟩
  | 15 => ⟨S8x256x1024, .f32⟩
  | 16 => ⟨S8x256x1024, .f32⟩
  | 17 => ⟨S8x256x1024, .f32⟩
  | 18 => ⟨S8x256x1024, .f32⟩
  | 19 => ⟨S_, .f32⟩
  | 20 => ⟨S8x256, .f32⟩
  | 21 => ⟨S8x256x1, .f32⟩
  | 22 => ⟨S_, .f32⟩
  | 23 => ⟨S8x256x1, .f32⟩
  | 24 => ⟨S8x256x1, .f32⟩
  | 25 => ⟨S_, .f32⟩
  | 26 => ⟨S8x256x1, .f32⟩
  | 27 => ⟨S8x256x1, .f32⟩
  | 28 => ⟨S8x256x1, .f32⟩
  | 29 => ⟨S8x256x1024, .f32⟩
  | 30 => ⟨S8x256x1024, .f32⟩
  | 31 => ⟨S1x1x1024, .f32⟩
  | 32 => ⟨S8x256x1024, .f32⟩
  | 33 => ⟨S8x256x1024, .f32⟩
  | 34 => ⟨S_, .f32⟩
  | 35 => ⟨S1024, .f32⟩
  | 36 => ⟨S1024, .f32⟩
  | 37 => ⟨S1x1x1024, .f32⟩
  | 38 => ⟨S8x256x1024, .f32⟩
  | 39 => ⟨S8x256x1024, .f32⟩
  | 40 => ⟨S1x1x1024, .f32⟩
  | 41 => ⟨S8x256x1024, .f32⟩
  | 42 => ⟨S8x256x1024, .f32⟩
  | 43 => ⟨S1x1024x4096, .f32⟩
  | 44 => ⟨S1024x4096, .f32⟩
  | 45 => ⟨S1x4096x1024, .f32⟩
  | 46 => ⟨S4096x1024, .f32⟩
  | 47 => ⟨S8x256x4096, .f32⟩
  | 48 => ⟨S_, .f32⟩
  | 49 => ⟨S8x256x4096, .f32⟩
  | 50 => ⟨S8x256x4096, .f32⟩
  | 51 => ⟨S8x256x4096, .f32⟩
  | 52 => ⟨S8x256x1024, .f32⟩
  | 53 => ⟨S1x1x1024, .f32⟩
  | 54 => ⟨S8x256x1024, .f32⟩
  | 55 => ⟨S8x256x1024, .f32⟩
  | 56 => ⟨S8x256x1024, .f32⟩
  | 57 => ⟨S8x2304x1024, .f32⟩
  | _ => ⟨S8x8x2304x128, .f32⟩

abbrev hbmTy (i : Nat) : BufTy := match i / 128 with
  | 0 => hbmTy0_0 i
  | 1 => hbmTy0_1 i
  | _ => ⟨S8x8x2304x128, .f32⟩

abbrev bufTy : (tb : Table) → Fin (tcTables nBuf tb) → BufTy
  | .hbm, ⟨i, _⟩ => hbmTy i
  | _, _ => ⟨S8x8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_0 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_2 : Ref sig .tc := ⟨.hbm, 73, rfl⟩
abbrev main_v51 : Ref sig .tc := ⟨.hbm, 74, rfl⟩
abbrev main_v52 : Ref sig .tc := ⟨.hbm, 75, rfl⟩
abbrev main_cst_3 : Ref sig .tc := ⟨.hbm, 76, rfl⟩
abbrev main_v53 : Ref sig .tc := ⟨.hbm, 77, rfl⟩
abbrev main_v54 : Ref sig .tc := ⟨.hbm, 78, rfl⟩
abbrev main_cst_4 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_5 : Ref sig .tc := ⟨.hbm, 106, rfl⟩
abbrev main_v73 : Ref sig .tc := ⟨.hbm, 107, rfl⟩
abbrev main_v74 : Ref sig .tc := ⟨.hbm, 108, rfl⟩
abbrev main_cst_6 : Ref sig .tc := ⟨.hbm, 109, rfl⟩
abbrev main_v75 : Ref sig .tc := ⟨.hbm, 110, rfl⟩
abbrev main_v76 : Ref sig .tc := ⟨.hbm, 111, rfl⟩
abbrev main_cst_7 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_8 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_call2_cst : Ref sig .tc := ⟨.hbm, 133, rfl⟩
abbrev main_call2_v0 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_9 : Ref sig .tc := ⟨.hbm, 147, rfl⟩
abbrev main_v108 : Ref sig .tc := ⟨.hbm, 148, rfl⟩
abbrev main_v109 : Ref sig .tc := ⟨.hbm, 149, rfl⟩
abbrev main_cst_10 : Ref sig .tc := ⟨.hbm, 150, rfl⟩
abbrev main_v110 : Ref sig .tc := ⟨.hbm, 151, rfl⟩
abbrev main_v111 : Ref sig .tc := ⟨.hbm, 152, rfl⟩
abbrev main_cst_11 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_12 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_call3_cst : Ref sig .tc := ⟨.hbm, 176, rfl⟩
abbrev main_call3_v0 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩

abbrev nD : Nat := 1
abbrev τ : Topo := Topo.v7x

variable {F : FTy → Type} [FloatOps F]
-- ==== Kernel4.lean ====
abbrev S8x8x2048x64 : Shape := ⟨4, ![8, 8, 2048, 64]⟩
abbrev S8x8x256x64 : Shape := ⟨4, ![8, 8, 256, 64]⟩
abbrev S8x4x2304x128 : Shape := ⟨4, ![8, 4, 2304, 128]⟩
abbrev S8x2304x512 : Shape := ⟨3, ![8, 2304, 512]⟩
abbrev S8x2304x1024 : Shape := ⟨3, ![8, 2304, 1024]⟩
abbrev S8x6x1024 : Shape := ⟨3, ![8, 6, 1024]⟩
abbrev S6x1024 : Shape := ⟨2, ![6, 1024]⟩
abbrev S128 : Shape := ⟨1, ![128]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S8x2048x8x64 : Shape := ⟨4, ![8, 2048, 8, 64]⟩
abbrev S8x2048x512 : Shape := ⟨3, ![8, 2048, 512]⟩
abbrev S8x256x8x64 : Shape := ⟨4, ![8, 256, 8, 64]⟩
abbrev S8x256x512 : Shape := ⟨3, ![8, 256, 512]⟩
abbrev S8x2304x4x128 : Shape := ⟨4, ![8, 2304, 4, 128]⟩
abbrev S8x1x6x1024 : Shape := ⟨4, ![8, 1, 6, 1024]⟩
abbrev S8x2x6x1024 : Shape := ⟨4, ![8, 2, 6, 1024]⟩
abbrev S1x128 : Shape := ⟨2, ![1, 128]⟩
abbrev S1x1024 : Shape := ⟨2, ![1, 1024]⟩
abbrev S2x256x512 : Shape := ⟨3, ![2, 256, 512]⟩
abbrev S2x256x1024 : Shape := ⟨3, ![2, 256, 1024]⟩
abbrev S2x1x6x1024 : Shape := ⟨4, ![2, 1, 6, 1024]⟩
abbrev S1x1024x4096 : Shape := ⟨3, ![1, 1024, 4096]⟩
abbrev S1x4096x1024 : Shape := ⟨3, ![1, 4096, 1024]⟩
abbrev S1x1x6x1024 : Shape := ⟨4, ![1, 1, 6, 1024]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S512x512 : Shape := ⟨2, ![512, 512]⟩
abbrev S512x1024 : Shape := ⟨2, ![512, 1024]⟩
abbrev S1x256x1024 : Shape := ⟨3, ![1, 256, 1024]⟩
abbrev S256x1024 : Shape := ⟨2, ![256, 1024]⟩
abbrev S1x1024x1024 : Shape := ⟨3, ![1, 1024, 1024]⟩

abbrev nBuf : Space → Nat
  | .hbm => 33
  | .vmem => 21
  | .smem => 0
  | _ => 0

abbrev bufTy : (tb : Table) → Fin (tcTables nBuf tb) → BufTy
  | .hbm, ⟨0, _⟩ => ⟨S8x8x2048x64, .f32⟩
  | .hbm, ⟨1, _⟩ => ⟨S8x8x256x64, .f32⟩
  | .hbm, ⟨2, _⟩ => ⟨S8x4x2304x128, .f32⟩
  | .hbm, ⟨3, _⟩ => ⟨S8x4x2304x128, .f32⟩
  | .hbm, ⟨4, _⟩ => ⟨S8x2304x512, .f32⟩
  | .hbm, ⟨5, _⟩ => ⟨S8x2304x1024, .f32⟩
  | .hbm, ⟨6, _⟩ => ⟨S8x6x1024, .f32⟩
  | .hbm, ⟨7, _⟩ => ⟨S6x1024, .f32⟩
  | .hbm, ⟨8, _⟩ => ⟨S128, .f32⟩
  | .hbm, ⟨9, _⟩ => ⟨S1024x1024, .f32⟩
  | .hbm, ⟨10, _⟩ => ⟨S1024, .f32⟩
  | .hbm, ⟨11, _⟩ => ⟨S4x1024x4096, .f32⟩
  | .hbm, ⟨12, _⟩ => ⟨S4x4096x1024, .f32⟩
  | .hbm, ⟨13, _⟩ => ⟨S8x2048x8x64, .f32⟩
  | .hbm, ⟨14, _⟩ => ⟨S8x2048x512, .f32⟩
  | .hbm, ⟨15, _⟩ => ⟨S8x2048x512, .bf16⟩
  | .hbm, ⟨16, _⟩ => ⟨S8x256x8x64, .f32⟩
  | .hbm, ⟨17, _⟩ => ⟨S8x256x512, .f32⟩
  | .hbm, ⟨18, _⟩ => ⟨S8x256x512, .bf16⟩
  | .hbm, ⟨19, _⟩ => ⟨S8x2304x4x128, .f32⟩
  | .hbm, ⟨20, _⟩ => ⟨S8x2304x512, .f32⟩
  | .hbm, ⟨21, _⟩ => ⟨S8x2304x4x128, .f32⟩
  | .hbm, ⟨22, _⟩ => ⟨S8x2304x512, .f32⟩
  | .hbm, ⟨23, _⟩ => ⟨S8x6x1024, .f32⟩
  | .hbm, ⟨24, _⟩ => ⟨S8x1x6x1024, .f32⟩
  | .hbm, ⟨25, _⟩ => ⟨S8x1x6x1024, .f32⟩
  | .hbm, ⟨26, _⟩ => ⟨S8x2x6x1024, .f32⟩
  | .hbm, ⟨27, _⟩ => ⟨S1x128, .f32⟩
  | .hbm, ⟨28, _⟩ => ⟨S1024x1024, .bf16⟩
  | .hbm, ⟨29, _⟩ => ⟨S1x1024, .f32⟩
  | .hbm, ⟨30, _⟩ => ⟨S4x1024x4096, .bf16⟩
  | .hbm, ⟨31, _⟩ => ⟨S4x4096x1024, .bf16⟩
  | .hbm, ⟨32, _⟩ => ⟨S8x2304x1024, .f32⟩
  | .local _ .vmem, ⟨0, _⟩ => ⟨S2x256x512, .bf16⟩
  | .local _ .vmem, ⟨1, _⟩ => ⟨S2x256x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x512, .f32⟩
  | .local _ .vmem, ⟨5, _⟩ => ⟨S2x256x512, .f32⟩
  | .local _ .vmem, ⟨6, _⟩ => ⟨S2x256x512, .f32⟩
  | .local _ .vmem, ⟨7, _⟩ => ⟨S2x256x512, .f32⟩
  | .local _ .vmem, ⟨8, _⟩ => ⟨S2x256x512, .f32⟩
  | .local _ .vmem, ⟨9, _⟩ => ⟨S2x256x512, .f32⟩
  | .local _ .vmem, ⟨10, _⟩ => ⟨S2x256x1024, .f32⟩
  | .local _ .vmem, ⟨11, _⟩ => ⟨S2x256x1024, .f32⟩
  | .local _ .vmem, ⟨12, _⟩ => ⟨S1x128, .f32⟩
  | .local _ .vmem, ⟨13, _⟩ => ⟨S1024x1024, .bf16⟩
  | .local _ .vmem, ⟨14, _⟩ => ⟨S2x1x6x1024, .f32⟩
  | .local _ .vmem, ⟨15, _⟩ => ⟨S2x1x6x1024, .f32⟩
  | .local _ .vmem, ⟨16, _⟩ => ⟨S1x1024, .f32⟩
  | .local _ .vmem, ⟨17, _⟩ => ⟨S1x1024x4096, .bf16⟩
  | .local _ .vmem, ⟨18, _⟩ => ⟨S1x4096x1024, .bf16⟩
  | .local _ .vmem, ⟨19, _⟩ => ⟨S2x256x1024, .f32⟩
  | .local _ .vmem, ⟨20, _⟩ => ⟨S2x256x1024, .f32⟩
  | _, _ => ⟨S8x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S8x8x2048x64 : Shape := ⟨4, ![8, 8, 2048, 64]⟩
abbrev S8x8x256x64 : Shape := ⟨4, ![8, 8, 256, 64]⟩
abbrev S8x4x2304x128 : Shape := ⟨4, ![8, 4, 2304, 128]⟩
abbrev S8x2304x512 : Shape := ⟨3, ![8, 2304, 512]⟩
abbrev S8x2304x1024 : Shape := ⟨3, ![8, 2304, 1024]⟩
abbrev S8x6x1024 : Shape := ⟨3, ![8, 6, 1024]⟩
abbrev S6x1024 : Shape := ⟨2, ![6, 1024]⟩
abbrev S128 : Shape := ⟨1, ![128]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S8x4x2048x128 : Shape := ⟨4, ![8, 4, 2048, 128]⟩
abbrev S8x2048x512 : Shape := ⟨3, ![8, 2048, 512]⟩
abbrev S8x2048x8x64 : Shape := ⟨4, ![8, 2048, 8, 64]⟩
abbrev S8x2048x4x128 : Shape := ⟨4, ![8, 2048, 4, 128]⟩
abbrev S_ : Shape := ⟨0, ![]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x1024 : Shape := ⟨3, ![8, 2048, 1024]⟩
abbrev S8x4x256x128 : Shape := ⟨4, ![8, 4, 256, 128]⟩
abbrev S8x256x512 : Shape := ⟨3, ![8, 256, 512]⟩
abbrev S8x256x8x64 : Shape := ⟨4, ![8, 256, 8, 64]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S8x256x1024 : Shape := ⟨3, ![8, 256, 1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩
abbrev S8x256 : Shape := ⟨2, ![8, 256]⟩
abbrev S8x256x1 : Shape := ⟨3, ![8, 256, 1]⟩
abbrev S8x256x4096 : Shape := ⟨3, ![8, 256, 4096]⟩

abbrev nBuf : Space → Nat
  | .hbm => 194
  | .vmem => 0
  | .smem => 0
  | _ => 0

abbrev hbmTy0_0 (i : Nat) : BufTy := match i % 128 with
  | 0 => ⟨S8x8x2048x64, .f32⟩
  | 1 => ⟨S8x8x256x64, .f32⟩
  | 2 => ⟨S8x4x2304x128, .f32⟩
  | 3 => ⟨S8x4x2304x128, .f32⟩
  | 4 => ⟨S8x2304x512, .f32⟩
  | 5 => ⟨S8x2304x1024, .f32⟩
  | 6 => ⟨S8x6x1024, .f32⟩
  | 7 => ⟨S6x1024, .f32⟩
  | 8 => ⟨S128, .f32⟩
  | 9 => ⟨S1024x1024, .f32⟩
  | 10 => ⟨S1024, .f32⟩
  | 11 => ⟨S4x1024x4096, .f32⟩
  | 12 => ⟨S4x4096x1024, .f32⟩
  | 13 => ⟨S8x6x1x1024, .f32⟩
  | 14 => ⟨S8x1x1x1024, .f32⟩
  | 15 => ⟨S8x1x1x1024, .f32⟩
  | 16 => ⟨S8x1x1x1024, .f32⟩
  | 17 => ⟨S8x1x1x1024, .f32⟩
  | 18 => ⟨S8x1x1x1024, .f32⟩
  | 19 => ⟨S8x1x1x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S8x4x2304x128, .f32⟩
  | 39 => ⟨S8x4x2048x128, .f32⟩
  | 40 => ⟨S8x2048x512, .f32⟩
  | 41 => ⟨S8x2048x8x64, .f32⟩
  | 42 => ⟨S8x2048x512, .f32⟩
  | 43 => ⟨S8x2048x4x128, .f32⟩
  | 44 => ⟨S8x2048x4x128, .f32⟩
  | 45 => ⟨S_, .f32⟩
  | 46 => ⟨S8x2048x4, .f32⟩
  | 47 => ⟨S8x2048x4x1, .f32⟩
  | 48 => ⟨S_, .f32⟩
  | 49 => ⟨S8x2048x4x1, .f32⟩
  | 50 => ⟨S8x2048x4x1, .f32⟩
  | 51 => ⟨S_, .f32⟩
  | 52 => ⟨S8x2048x4x1, .f32⟩
  | 53 => ⟨S8x2048x4x1, .f32⟩
  | 54 => ⟨S8x2048x4x1, .f32⟩
  | 55 => ⟨S8x2048x4x128, .f32⟩
  | 56 => ⟨S8x2048x4x128, .f32⟩
  | 57 => ⟨S1x1x1x128, .f32⟩
  | 58 => ⟨S8x2048x4x128, .f32⟩
  | 59 => ⟨S8x2048x4x128, .f32⟩
  | 60 => ⟨S8x2048x4x128, .f32⟩
  | 61 => ⟨S8x2048x4x128, .f32⟩
  | 62 => ⟨S8x2048x4x128, .f32⟩
  | 63 => ⟨S_, .f32⟩
  | 64 => ⟨S8x2048x4x128, .f32⟩
  | 65 => ⟨S8x2048x4x128, .f32⟩
  | 66 => ⟨S_, .f32⟩
  | 67 => ⟨S8x2048x4x128, .f32⟩
  | 68 => ⟨S8x2048x4x128, .f32⟩
  | 69 => ⟨S8x2048x4x128, .f32⟩
  | 70 => ⟨S8x2048x4x128, .f32⟩
  | 71 => ⟨S8x2048x512, .f32⟩
  | 72 => ⟨S8x2048x1024, .f32⟩
  | 73 => ⟨S8x2048x1024, .f32⟩
  | 74 => ⟨S8x4x256x128, .f32⟩
  | 75 => ⟨S8x256x512, .f32⟩
  | 76 => ⟨S8x256x8x64, .f32⟩
  | 77 => ⟨S8x256x512, .f32⟩
  | 78 => ⟨S8x256x4x128, .f32⟩
  | 79 => ⟨S8x256x4x128, .f32⟩
  | 80 => ⟨S_, .f32⟩
  | 81 => ⟨S8x256x4, .f32⟩
  | 82 => ⟨S8x256x4x1, .f32⟩
  | 83 => ⟨S_, .f32⟩
  | 84 => ⟨S8x256x4x1, .f32⟩
  | 85 => ⟨S8x256x4x1, .f32⟩
  | 86 => ⟨S_, .f32⟩
  | 87 => ⟨S8x256x4x1, .f32⟩
  | 88 => ⟨S8x256x4x1, .f32⟩
  | 89 => ⟨S8x256x4x1, .f32⟩
  | 90 => ⟨S8x256x4x128, .f32⟩
  | 91 => ⟨S8x256x4x128, .f32⟩
  | 92 => ⟨S1x1x1x128, .f32⟩
  | 93 => ⟨S8x256x4x128, .f32⟩
  | 94 => ⟨S8x256x4x128, .f32⟩
  | 95 => ⟨S8x256x4x128, .f32⟩
  | 96 => ⟨S8x256x4x128, .f32⟩
  | 97 => ⟨S8x256x4x128, .f32⟩
  | 98 => ⟨S_, .f32⟩
  | 99 => ⟨S8x256x4x128, .f32⟩
  | 100 => ⟨S8x256x4x128, .f32⟩
  | 101 => ⟨S_, .f32⟩
  | 102 => ⟨S8x256x4x128, .f32⟩
  | 103 => ⟨S8x256x4x128, .f32⟩
  | 104 => ⟨S8x256x4x128, .f32⟩
  | 105 => ⟨S8x256x4x128, .f32⟩
  | 106 => ⟨S8x256x512, .f32⟩
  | 107 => ⟨S8x256x1024, .f32⟩
  | 108 => ⟨S8x256x1024, .f32⟩
  | 109 => ⟨S8x2048x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S_, .f32⟩
  | 121 => ⟨S8x2048x1, .f32⟩
  | 122 => ⟨S8x2048x1, .f32⟩
  | 123 => ⟨S8x2048x1, .f32⟩
  | 124 => ⟨S8x2048x1024, .f32⟩
  | 125 => ⟨S8x2048x1024, .f32⟩
  | 126 => ⟨S1x1x1024, .f32⟩
  | 127 => ⟨S8x2048x1024, .f32⟩
  | _ => ⟨S8x8x2048x64, .f32⟩

abbrev hbmTy0_1 (i : Nat) : BufTy := match i % 128 with
  | 0 => ⟨S8x2048x1024, .f32⟩
  | 1 => ⟨S_, .f32⟩
  | 2 => ⟨S8x1x1024, .f32⟩
  | 3 => ⟨S8x1x1024, .f32⟩
  | 4 => ⟨S8x2048x1024, .f32⟩
  | 5 => ⟨S8x2048x1024, .f32⟩
  | 6 => ⟨S8x2048x1024, .f32⟩
  | 7 => ⟨S8x2048x1024, .f32⟩
  | 8 => ⟨S1x1024x4096, .f32⟩
  | 9 => ⟨S1024x4096, .f32⟩
  | 10 => ⟨S1x4096x1024, .f32⟩
  | 11 => ⟨S4096x1024, .f32⟩
  | 12 => ⟨S8x2048x4096, .f32⟩
  | 13 => ⟨S_, .f32⟩
  | 14 => ⟨S8x2048x4096, .f32⟩
  | 15 => ⟨S8x2048x4096, .f32⟩
  | 16 => ⟨S8x2048x4096, .f32⟩
  | 17 => ⟨S8x2048x1024, .f32⟩
  | 18 => ⟨S8x2048x1024, .f32⟩
  | 19 => ⟨S8x2048x1024, .f32⟩
  | 20 => ⟨S8x2048x1024, .f32⟩
  | 21 => ⟨S8x256x1024, .f32⟩
  | 22 => ⟨S1x1x1024, .f32⟩
  | 23 => ⟨S8x256x1024, .f32⟩
  | 24 => ⟨S8x256x1024, .f32⟩
  | 25 => ⟨S8x256x1024, .f32⟩
  | 26 => ⟨S8x256x1024, .f32⟩
  | 27 => ⟨S_, .f32⟩
  | 28 => ⟨S8x256, .f32⟩
  | 29 => ⟨S8x256x1, .f32⟩
  | 30 => ⟨S_, .f32⟩
  | 31 => ⟨S8x256x1, .f32⟩
  | 32 => ⟨S8x256x1, .f32⟩
  | 33 => ⟨S_, .f32⟩
  | 34 => ⟨S8x256x1, .f32⟩
  | 35 => ⟨S8x256x1, .f32⟩
  | 36 => ⟨S8x256x1, .f32⟩
  | 37 => ⟨S8x256x1024, .f32⟩
  | 38 => ⟨S8x256x1024, .f32⟩
  | 39 => ⟨S1x1x1024, .f32⟩
  | 40 => ⟨S8x256x1024, .f32⟩
  | 41 => ⟨S8x256x1024, .f32⟩
  | 42 => ⟨S_, .f32⟩
  | 43 => ⟨S1024, .f32⟩
  | 44 => ⟨S1024, .f32⟩
  | 45 => ⟨S1x1x1024, .f32⟩
  | 46 => ⟨S8x256x1024, .f32⟩
  | 47 => ⟨S8x256x1024, .f32⟩
  | 48 => ⟨S1x1x1024, .f32⟩
  | 49 => ⟨S8x256x1024, .f32⟩
  | 50 => ⟨S8x256x1024, .f32⟩
  | 51 => ⟨S1x1024x4096, .f32⟩
  | 52 => ⟨S1024x4096, .f32⟩
  | 53 => ⟨S1x4096x1024, .f32⟩
  | 54 => ⟨S4096x1024, .f32⟩
  | 55 => ⟨S8x256x4096, .f32⟩
  | 56 => ⟨S_, .f32⟩
  | 57 => ⟨S8x256x4096, .f32⟩
  | 58 => ⟨S8x256x4096, .f32⟩
  | 59 => ⟨S8x256x4096, .f32⟩
  | 60 => ⟨S8x256x1024, .f32⟩
  | 61 => ⟨S1x1x1024, .f32⟩
  | 62 => ⟨S8x256x1024, .f32⟩
  | 63 => ⟨S8x256x1024, .f32⟩
  | 64 => ⟨S8x256x1024, .f32⟩
  | 65 => ⟨S8x2304x1024, .f32⟩
  | _ => ⟨S8x8x2048x64, .f32⟩

abbrev hbmTy (i : Nat) : BufTy := match i / 128 with
  | 0 => hbmTy0_0 i
  | 1 => hbmTy0_1 i
  | _ => ⟨S8x8x2048x64, .f32⟩

abbrev bufTy : (tb : Table) → Fin (tcTables nBuf tb) → BufTy
  | .hbm, ⟨i, _⟩ => hbmTy i
  | _, _ => ⟨S8x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_0 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_2 : Ref sig .tc := ⟨.hbm, 80, rfl⟩
abbrev main_v56 : Ref sig .tc := ⟨.hbm, 81, rfl⟩
abbrev main_v57 : Ref sig .tc := ⟨.hbm, 82, rfl⟩
abbrev main_cst_3 : Ref sig .tc := ⟨.hbm, 83, rfl⟩
abbrev main_v58 : Ref sig .tc := ⟨.hbm, 84, rfl⟩
abbrev main_v59 : Ref sig .tc := ⟨.hbm, 85, rfl⟩
abbrev main_cst_4 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_5 : Ref sig .tc := ⟨.hbm, 114, rfl⟩
abbrev main_v79 : Ref sig .tc := ⟨.hbm, 115, rfl⟩
abbrev main_v80 : Ref sig .tc := ⟨.hbm, 116, rfl⟩
abbrev main_cst_6 : Ref sig .tc := ⟨.hbm, 117, rfl⟩
abbrev main_v81 : Ref sig .tc := ⟨.hbm, 118, rfl⟩
abbrev main_v82 : Ref sig .tc := ⟨.hbm, 119, rfl⟩
abbrev main_cst_7 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_8 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_call2_cst : Ref sig .tc := ⟨.hbm, 141, rfl⟩
abbrev main_call2_v0 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_9 : Ref sig .tc := ⟨.hbm, 155, rfl⟩
abbrev main_v114 : Ref sig .tc := ⟨.hbm, 156, rfl⟩
abbrev main_v115 : Ref sig .tc := ⟨.hbm, 157, rfl⟩
abbrev main_cst_10 : Ref sig .tc := ⟨.hbm, 158, rfl⟩
abbrev main_v116 : Ref sig .tc := ⟨.hbm, 159, rfl⟩
abbrev main_v117 : Ref sig .tc := ⟨.hbm, 160, rfl⟩
abbrev main_cst_11 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_12 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_call3_cst : Ref sig .tc := ⟨.hbm, 184, rfl⟩
abbrev main_call3_v0 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩

abbrev nD : Nat := 1
abbrev τ : Topo := Topo.v7x

variable {F : FTy → Type} [FloatOps F]
-- ==== Kernel5.lean ====
abbrev S8x8x2048x64 : Shape := ⟨4, ![8, 8, 2048, 64]⟩
abbrev S8x8x256x64 : Shape := ⟨4, ![8, 8, 256, 64]⟩
abbrev S8x4x2304x128 : Shape := ⟨4, ![8, 4, 2304, 128]⟩
abbrev S8x2304x512 : Shape := ⟨3, ![8, 2304, 512]⟩
abbrev S8x2048x1024 : Shape := ⟨3, ![8, 2048, 1024]⟩
abbrev S8x256x1024 : Shape := ⟨3, ![8, 256, 1024]⟩
abbrev S8x6x1024 : Shape := ⟨3, ![8, 6, 1024]⟩
abbrev S6x1024 : Shape := ⟨2, ![6, 1024]⟩
abbrev S128 : Shape := ⟨1, ![128]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S8x2048x8x64 : Shape := ⟨4, ![8, 2048, 8, 64]⟩
abbrev S8x2048x512 : Shape := ⟨3, ![8, 2048, 512]⟩
abbrev S8x256x8x64 : Shape := ⟨4, ![8, 256, 8, 64]⟩
abbrev S8x256x512 : Shape := ⟨3, ![8, 256, 512]⟩
abbrev S8x2304x4x128 : Shape := ⟨4, ![8, 2304, 4, 128]⟩
abbrev S8x1x6x1024 : Shape := ⟨4, ![8, 1, 6, 1024]⟩
abbrev S8x2x6x1024 : Shape := ⟨4, ![8, 2, 6, 1024]⟩
abbrev S1x128 : Shape := ⟨2, ![1, 128]⟩
abbrev S1x1024 : Shape := ⟨2, ![1, 1024]⟩
abbrev S8x2304x1024 : Shape := ⟨3, ![8, 2304, 1024]⟩
abbrev S2x256x512 : Shape := ⟨3, ![2, 256, 512]⟩
abbrev S2x256x1024 : Shape := ⟨3, ![2, 256, 1024]⟩
abbrev S2x1x6x1024 : Shape := ⟨4, ![2, 1, 6, 1024]⟩
abbrev S1x1024x4096 : Shape := ⟨3, ![1, 1024, 4096]⟩
abbrev S1x4096x1024 : Shape := ⟨3, ![1, 4096, 1024]⟩
abbrev S1x1x6x1024 : Shape := ⟨4, ![1, 1, 6, 1024]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S512x512 : Shape := ⟨2, ![512, 512]⟩
abbrev S512x1024 : Shape := ⟨2, ![512, 1024]⟩
abbrev S1x256x1024 : Shape := ⟨3, ![1, 256, 1024]⟩
abbrev S256x1024 : Shape := ⟨2, ![256, 1024]⟩
abbrev S1x1024x1024 : Shape := ⟨3, ![1, 1024, 1024]⟩

abbrev nBuf : Space → Nat
  | .hbm => 34
  | .vmem => 23
  | .smem => 0
  | _ => 0

abbrev bufTy : (tb : Table) → Fin (tcTables nBuf tb) → BufTy
  | .hbm, ⟨0, _⟩ => ⟨S8x8x2048x64, .f32⟩
  | .hbm, ⟨1, _⟩ => ⟨S8x8x256x64, .f32⟩
  | .hbm, ⟨2, _⟩ => ⟨S8x4x2304x128, .f32⟩
  | .hbm, ⟨3, _⟩ => ⟨S8x4x2304x128, .f32⟩
  | .hbm, ⟨4, _⟩ => ⟨S8x2304x512, .f32⟩
  | .hbm, ⟨5, _⟩ => ⟨S8x2048x1024, .f32⟩
  | .hbm, ⟨6, _⟩ => ⟨S8x256x1024, .f32⟩
  | .hbm, ⟨7, _⟩ => ⟨S8x6x1024, .f32⟩
  | .hbm, ⟨8, _⟩ => ⟨S6x1024, .f32⟩
  | .hbm, ⟨9, _⟩ => ⟨S128, .f32⟩
  | .hbm, ⟨10, _⟩ => ⟨S1024x1024, .f32⟩
  | .hbm, ⟨11, _⟩ => ⟨S1024, .f32⟩
  | .hbm, ⟨12, _⟩ => ⟨S4x1024x4096, .f32⟩
  | .hbm, ⟨13, _⟩ => ⟨S4x4096x1024, .f32⟩
  | .hbm, ⟨14, _⟩ => ⟨S8x2048x8x64, .f32⟩
  | .hbm, ⟨15, _⟩ => ⟨S8x2048x512, .f32⟩
  | .hbm, ⟨16, _⟩ => ⟨S8x2048x512, .bf16⟩
  | .hbm, ⟨17, _⟩ => ⟨S8x256x8x64, .f32⟩
  | .hbm, ⟨18, _⟩ => ⟨S8x256x512, .f32⟩
  | .hbm, ⟨19, _⟩ => ⟨S8x256x512, .bf16⟩
  | .hbm, ⟨20, _⟩ => ⟨S8x2304x4x128, .f32⟩
  | .hbm, ⟨21, _⟩ => ⟨S8x2304x512, .f32⟩
  | .hbm, ⟨22, _⟩ => ⟨S8x2304x4x128, .f32⟩
  | .hbm, ⟨23, _⟩ => ⟨S8x2304x512, .f32⟩
  | .hbm, ⟨24, _⟩ => ⟨S8x6x1024, .f32⟩
  | .hbm, ⟨25, _⟩ => ⟨S8x1x6x1024, .f32⟩
  | .hbm, ⟨26, _⟩ => ⟨S8x1x6x1024, .f32⟩
  | .hbm, ⟨27, _⟩ => ⟨S8x2x6x1024, .f32⟩
  | .hbm, ⟨28, _⟩ => ⟨S1x128, .f32⟩
  | .hbm, ⟨29, _⟩ => ⟨S1024x1024, .bf16⟩
  | .hbm, ⟨30, _⟩ => ⟨S1x1024, .f32⟩
  | .hbm, ⟨31, _⟩ => ⟨S4x1024x4096, .bf16⟩
  | .hbm, ⟨32, _⟩ => ⟨S4x4096x1024, .bf16⟩
  | .hbm, ⟨33, _⟩ => ⟨S8x2304x1024, .f32⟩
  | .local _ .vmem, ⟨0, _⟩ => ⟨S2x256x512, .bf16⟩
  | .local _ .vmem, ⟨1, _⟩ => ⟨S2x256x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x512, .f32⟩
  | .local _ .vmem, ⟨5, _⟩ => ⟨S2x256x512, .f32⟩
  | .local _ .vmem, ⟨6, _⟩ => ⟨S2x256x512, .f32⟩
  | .local _ .vmem, ⟨7, _⟩ => ⟨S2x256x512, .f32⟩
  | .local _ .vmem, ⟨8, _⟩ => ⟨S2x256x512, .f32⟩
  | .local _ .vmem, ⟨9, _⟩ => ⟨S2x256x512, .f32⟩
  | .local _ .vmem, ⟨10, _⟩ => ⟨S2x256x1024, .f32⟩
  | .local _ .vmem, ⟨11, _⟩ => ⟨S2x256x1024, .f32⟩
  | .local _ .vmem, ⟨12, _⟩ => ⟨S2x256x1024, .f32⟩
  | .local _ .vmem, ⟨13, _⟩ => ⟨S2x256x1024, .f32⟩
  | .local _ .vmem, ⟨14, _⟩ => ⟨S1x128, .f32⟩
  | .local _ .vmem, ⟨15, _⟩ => ⟨S1024x1024, .bf16⟩
  | .local _ .vmem, ⟨16, _⟩ => ⟨S2x1x6x1024, .f32⟩
  | .local _ .vmem, ⟨17, _⟩ => ⟨S2x1x6x1024, .f32⟩
  | .local _ .vmem, ⟨18, _⟩ => ⟨S1x1024, .f32⟩
  | .local _ .vmem, ⟨19, _⟩ => ⟨S1x1024x4096, .bf16⟩
  | .local _ .vmem, ⟨20, _⟩ => ⟨S1x4096x1024, .bf16⟩
  | .local _ .vmem, ⟨21, _⟩ => ⟨S2x256x1024, .f32⟩
  | .local _ .vmem, ⟨22, _⟩ => ⟨S2x256x1024, .f32⟩
  | _, _ => ⟨S8x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S2x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8x8x2048x64 : Shape := ⟨4, ![8, 8, 2048, 64]⟩
abbrev S8x8x256x64 : Shape := ⟨4, ![8, 8, 256, 64]⟩
abbrev S8x4x2304x128 : Shape := ⟨4, ![8, 4, 2304, 128]⟩
abbrev S8x2304x512 : Shape := ⟨3, ![8, 2304, 512]⟩
abbrev S8x2048x1024 : Shape := ⟨3, ![8, 2048, 1024]⟩
abbrev S8x256x1024 : Shape := ⟨3, ![8, 256, 1024]⟩
abbrev S8x6x1024 : Shape := ⟨3, ![8, 6, 1024]⟩
abbrev S6x1024 : Shape := ⟨2, ![6, 1024]⟩
abbrev S128 : Shape := ⟨1, ![128]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S8x4x2048x128 : Shape := ⟨4, ![8, 4, 2048, 128]⟩
abbrev S8x2048x512 : Shape := ⟨3, ![8, 2048, 512]⟩
abbrev S8x2048x8x64 : Shape := ⟨4, ![8, 2048, 8, 64]⟩
abbrev S8x2048x4x128 : Shape := ⟨4, ![8, 2048, 4, 128]⟩
abbrev S_ : Shape := ⟨0, ![]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x4x256x128 : Shape := ⟨4, ![8, 4, 256, 128]⟩
abbrev S8x256x512 : Shape := ⟨3, ![8, 256, 512]⟩
abbrev S8x256x8x64 : Shape := ⟨4, ![8, 256, 8, 64]⟩
abbrev S8x256x4x128 : Shape := ⟨4, ![8, 256, 4, 128]⟩
abbrev S8x256x4 : Shape := ⟨3, ![8, 256, 4]⟩
abbrev S8x256x4x1 : Shape := ⟨4, ![8, 256, 4, 1]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩
abbrev S8x256 : Shape := ⟨2, ![8, 256]⟩
abbrev S8x256x1 : Shape := ⟨3, ![8, 256, 1]⟩
abbrev S8x256x4096 : Shape := ⟨3, ![8, 256, 4096]⟩
abbrev S8x2304x1024 : Shape := ⟨3, ![8, 2304, 1024]⟩

abbrev nBuf : Space → Nat
  | .hbm => 193
  | .vmem => 0
  | .smem => 0
  | _ => 0

abbrev hbmTy0_0 (i : Nat) : BufTy := match i % 128 with
  | 0 => ⟨S8x8x2048x64, .f32⟩
  | 1 => ⟨S8x8x256x64, .f32⟩
  | 2 => ⟨S8x4x2304x128, .f32⟩
  | 3 => ⟨S8x4x2304x128, .f32⟩
  | 4 => ⟨S8x2304x512, .f32⟩
  | 5 => ⟨S8x2048x1024, .f32⟩
  | 6 => ⟨S8x256x1024, .f32⟩
  | 7 => ⟨S8x6x1024, .f32⟩
  | 8 => ⟨S6x1024, .f32⟩
  | 9 => ⟨S128, .f32⟩
  | 10 => ⟨S1024x1024, .f32⟩
  | 11 => ⟨S1024, .f32⟩
  | 12 => ⟨S4x1024x4096, .f32⟩
  | 13 => ⟨S4x4096x1024, .f32⟩
  | 14 => ⟨S8x6x1x1024, .f32⟩
  | 15 => ⟨S8x1x1x1024, .f32⟩
  | 16 => ⟨S8x1x1x1024, .f32⟩
  | 17 => ⟨S8x1x1x1024, .f32⟩
  | 18 => ⟨S8x1x1x1024, .f32⟩
  | 19 => ⟨S8x1x1x1024, .f32⟩
  | 20 => ⟨S8x1x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S8x1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S8x4x2304x128, .f32⟩
  | 40 => ⟨S8x4x2048x128, .f32⟩
  | 41 => ⟨S8x2048x512, .f32⟩
  | 42 => ⟨S8x2048x8x64, .f32⟩
  | 43 => ⟨S8x2048x512, .f32⟩
  | 44 => ⟨S8x2048x4x128, .f32⟩
  | 45 => ⟨S8x2048x4x128, .f32⟩
  | 46 => ⟨S_, .f32⟩
  | 47 => ⟨S8x2048x4, .f32⟩
  | 48 => ⟨S8x2048x4x1, .f32⟩
  | 49 => ⟨S_, .f32⟩
  | 50 => ⟨S8x2048x4x1, .f32⟩
  | 51 => ⟨S8x2048x4x1, .f32⟩
  | 52 => ⟨S_, .f32⟩
  | 53 => ⟨S8x2048x4x1, .f32⟩
  | 54 => ⟨S8x2048x4x1, .f32⟩
  | 55 => ⟨S8x2048x4x1, .f32⟩
  | 56 => ⟨S8x2048x4x128, .f32⟩
  | 57 => ⟨S8x2048x4x128, .f32⟩
  | 58 => ⟨S1x1x1x128, .f32⟩
  | 59 => ⟨S8x2048x4x128, .f32⟩
  | 60 => ⟨S8x2048x4x128, .f32⟩
  | 61 => ⟨S8x2048x4x128, .f32⟩
  | 62 => ⟨S8x2048x4x128, .f32⟩
  | 63 => ⟨S8x2048x4x128, .f32⟩
  | 64 => ⟨S_, .f32⟩
  | 65 => ⟨S8x2048x4x128, .f32⟩
  | 66 => ⟨S8x2048x4x128, .f32⟩
  | 67 => ⟨S_, .f32⟩
  | 68 => ⟨S8x2048x4x128, .f32⟩
  | 69 => ⟨S8x2048x4x128, .f32⟩
  | 70 => ⟨S8x2048x4x128, .f32⟩
  | 71 => ⟨S8x2048x4x128, .f32⟩
  | 72 => ⟨S8x2048x512, .f32⟩
  | 73 => ⟨S8x2048x1024, .f32⟩
  | 74 => ⟨S8x2048x1024, .f32⟩
  | 75 => ⟨S8x4x256x128, .f32⟩
  | 76 => ⟨S8x256x512, .f32⟩
  | 77 => ⟨S8x256x8x64, .f32⟩
  | 78 => ⟨S8x256x512, .f32⟩
  | 79 => ⟨S8x256x4x128, .f32⟩
  | 80 => ⟨S8x256x4x128, .f32⟩
  | 81 => ⟨S_, .f32⟩
  | 82 => ⟨S8x256x4, .f32⟩
  | 83 => ⟨S8x256x4x1, .f32⟩
  | 84 => ⟨S_, .f32⟩
  | 85 => ⟨S8x256x4x1, .f32⟩
  | 86 => ⟨S8x256x4x1, .f32⟩
  | 87 => ⟨S_, .f32⟩
  | 88 => ⟨S8x256x4x1, .f32⟩
  | 89 => ⟨S8x256x4x1, .f32⟩
  | 90 => ⟨S8x256x4x1, .f32⟩
  | 91 => ⟨S8x256x4x128, .f32⟩
  | 92 => ⟨S8x256x4x128, .f32⟩
  | 93 => ⟨S1x1x1x128, .f32⟩
  | 94 => ⟨S8x256x4x128, .f32⟩
  | 95 => ⟨S8x256x4x128, .f32⟩
  | 96 => ⟨S8x256x4x128, .f32⟩
  | 97 => ⟨S8x256x4x128, .f32⟩
  | 98 => ⟨S8x256x4x128, .f32⟩
  | 99 => ⟨S_, .f32⟩
  | 100 => ⟨S8x256x4x128, .f32⟩
  | 101 => ⟨S8x256x4x128, .f32⟩
  | 102 => ⟨S_, .f32⟩
  | 103 => ⟨S8x256x4x128, .f32⟩
  | 104 => ⟨S8x256x4x128, .f32⟩
  | 105 => ⟨S8x256x4x128, .f32⟩
  | 106 => ⟨S8x256x4x128, .f32⟩
  | 107 => ⟨S8x256x512, .f32⟩
  | 108 => ⟨S8x256x1024, .f32⟩
  | 109 => ⟨S8x256x1024, .f32⟩
  | 110 => ⟨S8x2048x1024, .f32⟩
  | 111 => ⟨S8x2048x1024, .f32⟩
  | 112 => ⟨S8x2048x1024, .f32⟩
  | 113 => ⟨S8x2048x1024, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S_, .f32⟩
  | 121 => ⟨S8x2048x1, .f32⟩
  | 122 => ⟨S8x2048x1, .f32⟩
  | 123 => ⟨S8x2048x1, .f32⟩
  | 124 => ⟨S8x2048x1024, .f32⟩
  | 125 => ⟨S8x2048x1024, .f32⟩
  | 126 => ⟨S1x1x1024, .f32⟩
  | 127 => ⟨S8x2048x1024, .f32⟩
  | _ => ⟨S8x8x2048x64, .f32⟩

abbrev hbmTy0_1 (i : Nat) : BufTy := match i % 128 with
  | 0 => ⟨S8x2048x1024, .f32⟩
  | 1 => ⟨S_, .f32⟩
  | 2 => ⟨S8x1x1024, .f32⟩
  | 3 => ⟨S8x1x1024, .f32⟩
  | 4 => ⟨S8x2048x1024, .f32⟩
  | 5 => ⟨S8x2048x1024, .f32⟩
  | 6 => ⟨S8x2048x1024, .f32⟩
  | 7 => ⟨S8x2048x1024, .f32⟩
  | 8 => ⟨S1x1024x4096, .f32⟩
  | 9 => ⟨S1024x4096, .f32⟩
  | 10 => ⟨S1x4096x1024, .f32⟩
  | 11 => ⟨S4096x1024, .f32⟩
  | 12 => ⟨S8x2048x4096, .f32⟩
  | 13 => ⟨S_, .f32⟩
  | 14 => ⟨S8x2048x4096, .f32⟩
  | 15 => ⟨S8x2048x4096, .f32⟩
  | 16 => ⟨S8x2048x4096, .f32⟩
  | 17 => ⟨S8x2048x1024, .f32⟩
  | 18 => ⟨S8x2048x1024, .f32⟩
  | 19 => ⟨S8x2048x1024, .f32⟩
  | 20 => ⟨S8x2048x1024, .f32⟩
  | 21 => ⟨S1x1x1024, .f32⟩
  | 22 => ⟨S8x256x1024, .f32⟩
  | 23 => ⟨S8x256x1024, .f32⟩
  | 24 => ⟨S8x256x1024, .f32⟩
  | 25 => ⟨S8x256x1024, .f32⟩
  | 26 => ⟨S_, .f32⟩
  | 27 => ⟨S8x256, .f32⟩
  | 28 => ⟨S8x256x1, .f32⟩
  | 29 => ⟨S_, .f32⟩
  | 30 => ⟨S8x256x1, .f32⟩
  | 31 => ⟨S8x256x1, .f32⟩
  | 32 => ⟨S_, .f32⟩
  | 33 => ⟨S8x256x1, .f32⟩
  | 34 => ⟨S8x256x1, .f32⟩
  | 35 => ⟨S8x256x1, .f32⟩
  | 36 => ⟨S8x256x1024, .f32⟩
  | 37 => ⟨S8x256x1024, .f32⟩
  | 38 => ⟨S1x1x1024, .f32⟩
  | 39 => ⟨S8x256x1024, .f32⟩
  | 40 => ⟨S8x256x1024, .f32⟩
  | 41 => ⟨S_, .f32⟩
  | 42 => ⟨S1024, .f32⟩
  | 43 => ⟨S1024, .f32⟩
  | 44 => ⟨S1x1x1024, .f32⟩
  | 45 => ⟨S8x256x1024, .f32⟩
  | 46 => ⟨S8x256x1024, .f32⟩
  | 47 => ⟨S1x1x1024, .f32⟩
  | 48 => ⟨S8x256x1024, .f32⟩
  | 49 => ⟨S8x256x1024, .f32⟩
  | 50 => ⟨S1x1024x4096, .f32⟩
  | 51 => ⟨S1024x4096, .f32⟩
  | 52 => ⟨S1x4096x1024, .f32⟩
  | 53 => ⟨S4096x1024, .f32⟩
  | 54 => ⟨S8x256x4096, .f32⟩
  | 55 => ⟨S_, .f32⟩
  | 56 => ⟨S8x256x4096, .f32⟩
  | 57 => ⟨S8x256x4096, .f32⟩
  | 58 => ⟨S8x256x4096, .f32⟩
  | 59 => ⟨S8x256x1024, .f32⟩
  | 60 => ⟨S1x1x1024, .f32⟩
  | 61 => ⟨S8x256x1024, .f32⟩
  | 62 => ⟨S8x256x1024, .f32⟩
  | 63 => ⟨S8x256x1024, .f32⟩
  | 64 => ⟨S8x2304x1024, .f32⟩
  | _ => ⟨S8x8x2048x64, .f32⟩

abbrev hbmTy (i : Nat) : BufTy := match i / 128 with
  | 0 => hbmTy0_0 i
  | 1 => hbmTy0_1 i
  | _ => ⟨S8x8x2048x64, .f32⟩

abbrev bufTy : (tb : Table) → Fin (tcTables nBuf tb) → BufTy
  | .hbm, ⟨i, _⟩ => hbmTy i
  | _, _ => ⟨S8x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_cst_0 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_2 : Ref sig .tc := ⟨.hbm, 81, rfl⟩
abbrev main_v56 : Ref sig .tc := ⟨.hbm, 82, rfl⟩
abbrev main_v57 : Ref sig .tc := ⟨.hbm, 83, rfl⟩
abbrev main_cst_3 : Ref sig .tc := ⟨.hbm, 84, rfl⟩
abbrev main_v58 : Ref sig .tc := ⟨.hbm, 85, rfl⟩
abbrev main_v59 : Ref sig .tc := ⟨.hbm, 86, rfl⟩
abbrev main_cst_4 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_5 : Ref sig .tc := ⟨.hbm, 114, rfl⟩
abbrev main_v78 : Ref sig .tc := ⟨.hbm, 115, rfl⟩
abbrev main_v79 : Ref sig .tc := ⟨.hbm, 116, rfl⟩
abbrev main_cst_6 : Ref sig .tc := ⟨.hbm, 117, rfl⟩
abbrev main_v80 : Ref sig .tc := ⟨.hbm, 118, rfl⟩
abbrev main_v81 : Ref sig .tc := ⟨.hbm, 119, rfl⟩
abbrev main_cst_7 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_8 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call2_cst : Ref sig .tc := ⟨.hbm, 141, rfl⟩
abbrev main_call2_v0 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_9 : Ref sig .tc := ⟨.hbm, 154, rfl⟩
abbrev main_v112 : Ref sig .tc := ⟨.hbm, 155, rfl⟩
abbrev main_v113 : Ref sig .tc := ⟨.hbm, 156, rfl⟩
abbrev main_cst_10 : Ref sig .tc := ⟨.hbm, 157, rfl⟩
abbrev main_v114 : Ref sig .tc := ⟨.hbm, 158, rfl⟩
abbrev main_v115 : Ref sig .tc := ⟨.hbm, 159, rfl⟩
abbrev main_cst_11 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_12 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_call3_cst : Ref sig .tc := ⟨.hbm, 183, rfl⟩
abbrev main_call3_v0 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩

abbrev nD : Nat := 1
abbrev τ : Topo := Topo.v7x

variable {F : FTy → Type} [FloatOps F]
-- ==== Kernel6.lean ====
abbrev S8x2304x1024 : Shape := ⟨3, ![8, 2304, 1024]⟩
abbrev S8x6x1024 : Shape := ⟨3, ![8, 6, 1024]⟩
abbrev S6x1024 : Shape := ⟨2, ![6, 1024]⟩
abbrev S1024 : Shape := ⟨1, ![1024]⟩
abbrev S1024x3104 : Shape := ⟨2, ![1024, 3104]⟩
abbrev S3x2048 : Shape := ⟨2, ![3, 2048]⟩
abbrev S2x8 : Shape := ⟨2, ![2, 8]⟩
abbrev S8x1x6x1024 : Shape := ⟨4, ![8, 1, 6, 1024]⟩
abbrev S8x2x6x1024 : Shape := ⟨4, ![8, 2, 6, 1024]⟩
abbrev S1x1024 : Shape := ⟨2, ![1, 1024]⟩
abbrev S_ : Shape := ⟨0, ![]⟩
abbrev S1024x96 : Shape := ⟨2, ![1024, 96]⟩
abbrev S1024x3200 : Shape := ⟨2, ![1024, 3200]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S8 : Shape := ⟨1, ![8]⟩
abbrev S120 : Shape := ⟨1, ![120]⟩
abbrev S16 : Shape := ⟨1, ![16]⟩
abbrev S112 : Shape := ⟨1, ![112]⟩
abbrev S8x2304x512 : Shape := ⟨3, ![8, 2304, 512]⟩
abbrev S8x2304x128 : Shape := ⟨3, ![8, 2304, 128]⟩
abbrev S1x256x1024 : Shape := ⟨3, ![1, 256, 1024]⟩
abbrev S1x8x1024 : Shape := ⟨3, ![1, 8, 1024]⟩
abbrev S1x1x6x1024 : Shape := ⟨4, ![1, 1, 6, 1024]⟩
abbrev S1x256x512 : Shape := ⟨3, ![1, 256, 512]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S8x1 : Shape := ⟨2, ![8, 1]⟩
abbrev S272x1024 : Shape := ⟨2, ![272, 1024]⟩
abbrev S1024x512 : Shape := ⟨2, ![1024, 512]⟩
abbrev S272x512 : Shape := ⟨2, ![272, 512]⟩
abbrev S3x512 : Shape := ⟨2, ![3, 512]⟩
abbrev S1x512 : Shape := ⟨2, ![1, 512]⟩
abbrev S256x512 : Shape := ⟨2, ![256, 512]⟩
abbrev S512x128 : Shape := ⟨2, ![512, 128]⟩
abbrev S256x128 : Shape := ⟨2, ![256, 128]⟩
abbrev S128x512 : Shape := ⟨2, ![128, 512]⟩
abbrev S1024x1152 : Shape := ⟨2, ![1024, 1152]⟩
abbrev S256x1152 : Shape := ⟨2, ![256, 1152]⟩

abbrev nBuf : Space → Nat
  | .hbm => 65
  | .vmem => 26
  | .smem => 0
  | _ => 0

abbrev bufTy : (tb : Table) → Fin (tcTables nBuf tb) → BufTy
  | .hbm, ⟨0, _⟩ => ⟨S8x2304x1024, .f32⟩
  | .hbm, ⟨1, _⟩ => ⟨S8x6x1024, .f32⟩
  | .hbm, ⟨2, _⟩ => ⟨S6x1024, .f32⟩
  | .hbm, ⟨3, _⟩ => ⟨S1024, .f32⟩
  | .hbm, ⟨4, _⟩ => ⟨S1024x3104, .f32⟩
  | .hbm, ⟨5, _⟩ => ⟨S3x2048, .f32⟩
  | .hbm, ⟨6, _⟩ => ⟨S2x8, .f32⟩
  | .hbm, ⟨7, _⟩ => ⟨S2x8, .f32⟩
  | .hbm, ⟨8, _⟩ => ⟨S8x6x1024, .f32⟩
  | .hbm, ⟨9, _⟩ => ⟨S8x1x6x1024, .f32⟩
  | .hbm, ⟨10, _⟩ => ⟨S8x1x6x1024, .f32⟩
  | .hbm, ⟨11, _⟩ => ⟨S8x2x6x1024, .f32⟩
  | .hbm, ⟨12, _⟩ => ⟨S1x1024, .f32⟩
  | .hbm, ⟨13, _⟩ => ⟨S_, .f32⟩
  | .hbm, ⟨14, _⟩ => ⟨S1024x96, .f32⟩
  | .hbm, ⟨15, _⟩ => ⟨S1024x3200, .f32⟩
  | .hbm, ⟨16, _⟩ => ⟨S1024x3200, .bf16⟩
  | .hbm, ⟨17, _⟩ => ⟨S1024, .i32⟩
  | .hbm, ⟨18, _⟩ => ⟨S1024x1, .i32⟩
  | .hbm, ⟨19, _⟩ => ⟨S_, .i32⟩
  | .hbm, ⟨20, _⟩ => ⟨S_, .i32⟩
  | .hbm, ⟨21, _⟩ => ⟨S1024x1, .i32⟩
  | .hbm, ⟨22, _⟩ => ⟨S1024x1, .i32⟩
  | .hbm, ⟨23, _⟩ => ⟨S1024x1, .i32⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1024x1, .i32⟩
  | .hbm, ⟨28, _⟩ => ⟨S1024x1, .i32⟩
  | .hbm, ⟨29, _⟩ => ⟨S_, .i32⟩
  | .hbm, ⟨30, _⟩ => ⟨S1024x1, .i32⟩
  | .hbm, ⟨31, _⟩ => ⟨S1024x1, .i1⟩
  | .hbm, ⟨32, _⟩ => ⟨S1024x1, .i1⟩
  | .hbm, ⟨33, _⟩ => ⟨S_, .i32⟩
  | .hbm, ⟨34, _⟩ => ⟨S1024x1, .i32⟩
  | .hbm, ⟨35, _⟩ => ⟨S1024x1, .i32⟩
  | .hbm, ⟨36, _⟩ => ⟨S1024x1, .i32⟩
  | .hbm, ⟨37, _⟩ => ⟨S128, .i32⟩
  | .hbm, ⟨38, _⟩ => ⟨S1x128, .i32⟩
  | .hbm, ⟨39, _⟩ => ⟨S1024x128, .i32⟩
  | .hbm, ⟨40, _⟩ => ⟨S1024x128, .i32⟩
  | .hbm, ⟨41, _⟩ => ⟨S1024x128, .i1⟩
  | .hbm, ⟨42, _⟩ => ⟨S1024x128, .bf16⟩
  | .hbm, ⟨43, _⟩ => ⟨S128x1024, .bf16⟩
  | .hbm, ⟨44, _⟩ => ⟨S_, .f32⟩
  | .hbm, ⟨45, _⟩ => ⟨S8, .f32⟩
  | .hbm, ⟨46, _⟩ => ⟨S_, .f32⟩
  | .hbm, ⟨47, _⟩ => ⟨S120, .f32⟩
  | .hbm, ⟨48, _⟩ => ⟨S128, .f32⟩
  | .hbm, ⟨49, _⟩ => ⟨S1x128, .f32⟩
  | .hbm, ⟨50, _⟩ => ⟨S16, .f32⟩
  | .hbm, ⟨51, _⟩ => ⟨S_, .f32⟩
  | .hbm, ⟨52, _⟩ => ⟨S112, .f32⟩
  | .hbm, ⟨53, _⟩ => ⟨S128, .f32⟩
  | .hbm, ⟨54, _⟩ => ⟨S1x128, .f32⟩
  | .hbm, ⟨55, _⟩ => ⟨S16, .f32⟩
  | .hbm, ⟨56, _⟩ => ⟨S_, .f32⟩
  | .hbm, ⟨57, _⟩ => ⟨S112, .f32⟩
  | .hbm, ⟨58, _⟩ => ⟨S128, .f32⟩
  | .hbm, ⟨59, _⟩ => ⟨S1x128, .f32⟩
  | .hbm, ⟨60, _⟩ => ⟨S8x2304x512, .f32⟩
  | .hbm, ⟨61, _⟩ => ⟨S8x2304x512, .f32⟩
  | .hbm, ⟨62, _⟩ => ⟨S8x2304x1024, .f32⟩
  | .hbm, ⟨63, _⟩ => ⟨S8x2304x1024, .f32⟩
  | .hbm, ⟨64, _⟩ => ⟨S8x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x1024, .f32⟩
  | .local _ .vmem, ⟨9, _⟩ => ⟨S1024x3200, .bf16⟩
  | .local _ .vmem, ⟨10, _⟩ => ⟨S3x2048, .f32⟩
  | .local _ .vmem, ⟨11, _⟩ => ⟨S1024x128, .bf16⟩
  | .local _ .vmem, ⟨12, _⟩ => ⟨S128x1024, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x128, .f32⟩
  | .local _ .vmem, ⟨25, _⟩ => ⟨S1x256x128, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_0 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30_0 : Ref sig .tc := ⟨.hbm, 60, rfl⟩
abbrev main_v30_1 : Ref sig .tc := ⟨.hbm, 61, rfl⟩
abbrev main_v30_2 : Ref sig .tc := ⟨.hbm, 62, rfl⟩
abbrev main_v30_3 : Ref sig .tc := ⟨.hbm, 63, rfl⟩
abbrev main_v30_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c287_i32 : BitVec 32 := 287#32
  let v2 : BitVec 32 := Scalar.minsi v1 c287_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference6Ideal.lean ====
abbrev S8x2304x1024 : Shape := ⟨3, ![8, 2304, 1024]⟩
abbrev S8x6x1024 : Shape := ⟨3, ![8, 6, 1024]⟩
abbrev S6x1024 : Shape := ⟨2, ![6, 1024]⟩
abbrev S1024 : Shape := ⟨1, ![1024]⟩
abbrev S1024x3104 : Shape := ⟨2, ![1024, 3104]⟩
abbrev S3x2048 : Shape := ⟨2, ![3, 2048]⟩
abbrev S2x8 : Shape := ⟨2, ![2, 8]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256x1024 : Shape := ⟨3, ![8, 256, 1024]⟩
abbrev S8x256 : Shape := ⟨2, ![8, 256]⟩
abbrev S8x256x1 : Shape := ⟨3, ![8, 256, 1]⟩
abbrev S8x2048x3104 : Shape := ⟨3, ![8, 2048, 3104]⟩
abbrev S8x2048x2048 : Shape := ⟨3, ![8, 2048, 2048]⟩
abbrev S8x2048x16 : Shape := ⟨3, ![8, 2048, 16]⟩
abbrev S8x2050x2048 : Shape := ⟨3, ![8, 2050, 2048]⟩
abbrev S1x2048 : Shape := ⟨2, ![1, 2048]⟩
abbrev S2048 : Shape := ⟨1, ![2048]⟩
abbrev S1x1x2048 : Shape := ⟨3, ![1, 1, 2048]⟩
abbrev S8x2048x512 : Shape := ⟨3, ![8, 2048, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S8x2048x2x8 : Shape := ⟨4, ![8, 2048, 2, 8]⟩
abbrev S1x1x2x8 : Shape := ⟨4, ![1, 1, 2, 8]⟩
abbrev S8x2048x96 : Shape := ⟨3, ![8, 2048, 96]⟩
abbrev S8x2048x128 : Shape := ⟨3, ![8, 2048, 128]⟩
abbrev S8x256x3104 : Shape := ⟨3, ![8, 256, 3104]⟩
abbrev S8x256x2048 : Shape := ⟨3, ![8, 256, 2048]⟩
abbrev S8x256x16 : Shape := ⟨3, ![8, 256, 16]⟩
abbrev S8x258x2048 : Shape := ⟨3, ![8, 258, 2048]⟩
abbrev S8x256x512 : Shape := ⟨3, ![8, 256, 512]⟩
abbrev S8x256x8x64 : Shape := ⟨4, ![8, 256, 8, 64]⟩
abbrev S8x256x8 : Shape := ⟨3, ![8, 256, 8]⟩
abbrev S8x256x8x1 : Shape := ⟨4, ![8, 256, 8, 1]⟩
abbrev S8x256x2x8 : Shape := ⟨4, ![8, 256, 2, 8]⟩
abbrev S8x256x96 : Shape := ⟨3, ![8, 256, 96]⟩
abbrev S8x256x128 : Shape := ⟨3, ![8, 256, 128]⟩
abbrev S8x2304x512 : Shape := ⟨3, ![8, 2304, 512]⟩
abbrev S8x2304x128 : Shape := ⟨3, ![8, 2304, 128]⟩

abbrev nBuf : Space → Nat
  | .hbm => 290
  | .vmem => 0
  | .smem => 0
  | _ => 0

abbrev hbmTy0_0 (i : Nat) : BufTy := match i % 128 with
  | 0 => ⟨S8x2304x1024, .f32⟩
  | 1 => ⟨S8x6x1024, .f32⟩
  | 2 => ⟨S6x1024, .f32⟩
  | 3 => ⟨S1024, .f32⟩
  | 4 => ⟨S1024x3104, .f32⟩
  | 5 => ⟨S3x2048, .f32⟩
  | 6 => ⟨S2x8, .f32⟩
  | 7 => ⟨S2x8, .f32⟩
  | 8 => ⟨S8x6x1x1024, .f32⟩
  | 9 => ⟨S8x1x1x1024, .f32⟩
  | 10 => ⟨S8x1x1x1024, .f32⟩
  | 11 => ⟨S8x1x1x1024, .f32⟩
  | 12 => ⟨S8x1x1x1024, .f32⟩
  | 13 => ⟨S8x1x1x1024, .f32⟩
  | 14 => ⟨S8x1x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S8x2048x1024, .f32⟩
  | 34 => ⟨S8x2048x1024, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S_, .f32⟩
  | 42 => ⟨S8x2048x1, .f32⟩
  | 43 => ⟨S8x2048x1, .f32⟩
  | 44 => ⟨S8x2048x1, .f32⟩
  | 45 => ⟨S8x2048x1024, .f32⟩
  | 46 => ⟨S8x2048x1024, .f32⟩
  | 47 => ⟨S1x1x1024, .f32⟩
  | 48 => ⟨S8x2048x1024, .f32⟩
  | 49 => ⟨S8x2048x1024, .f32⟩
  | 50 => ⟨S_, .f32⟩
  | 51 => ⟨S8x1x1024, .f32⟩
  | 52 => ⟨S8x1x1024, .f32⟩
  | 53 => ⟨S8x2048x1024, .f32⟩
  | 54 => ⟨S8x2048x1024, .f32⟩
  | 55 => ⟨S8x2048x1024, .f32⟩
  | 56 => ⟨S8x2048x1024, .f32⟩
  | 57 => ⟨S8x256x1024, .f32⟩
  | 58 => ⟨S8x256x1024, .f32⟩
  | 59 => ⟨S_, .f32⟩
  | 60 => ⟨S8x256, .f32⟩
  | 61 => ⟨S8x256x1, .f32⟩
  | 62 => ⟨S_, .f32⟩
  | 63 => ⟨S8x256x1, .f32⟩
  | 64 => ⟨S8x256x1, .f32⟩
  | 65 => ⟨S_, .f32⟩
  | 66 => ⟨S8x256x1, .f32⟩
  | 67 => ⟨S8x256x1, .f32⟩
  | 68 => ⟨S8x256x1, .f32⟩
  | 69 => ⟨S8x256x1024, .f32⟩
  | 70 => ⟨S8x256x1024, .f32⟩
  | 71 => ⟨S1x1x1024, .f32⟩
  | 72 => ⟨S8x256x1024, .f32⟩
  | 73 => ⟨S8x256x1024, .f32⟩
  | 74 => ⟨S_, .f32⟩
  | 75 => ⟨S1024, .f32⟩
  | 76 => ⟨S1024, .f32⟩
  | 77 => ⟨S1x1x1024, .f32⟩
  | 78 => ⟨S8x256x1024, .f32⟩
  | 79 => ⟨S8x256x1024, .f32⟩
  | 80 => ⟨S1x1x1024, .f32⟩
  | 81 => ⟨S8x256x1024, .f32⟩
  | 82 => ⟨S8x256x1024, .f32⟩
  | 83 => ⟨S8x2048x3104, .f32⟩
  | 84 => ⟨S8x2048x2048, .f32⟩
  | 85 => ⟨S8x2048x1024, .f32⟩
  | 86 => ⟨S8x2048x16, .f32⟩
  | 87 => ⟨S8x2048x16, .f32⟩
  | 88 => ⟨S_, .i32⟩
  | 89 => ⟨S_, .f32⟩
  | 90 => ⟨S8x2050x2048, .f32⟩
  | 91 => ⟨S1x2048, .f32⟩
  | 92 => ⟨S2048, .f32⟩
  | 93 => ⟨S8x2048x2048, .f32⟩
  | 94 => ⟨S1x1x2048, .f32⟩
  | 95 => ⟨S8x2048x2048, .f32⟩
  | 96 => ⟨S8x2048x2048, .f32⟩
  | 97 => ⟨S1x2048, .f32⟩
  | 98 => ⟨S2048, .f32⟩
  | 99 => ⟨S1x1x2048, .f32⟩
  | 100 => ⟨S8x2048x2048, .f32⟩
  | 101 => ⟨S8x2048x2048, .f32⟩
  | 102 => ⟨S8x2048x2048, .f32⟩
  | 103 => ⟨S1x2048, .f32⟩
  | 104 => ⟨S2048, .f32⟩
  | 105 => ⟨S8x2048x2048, .f32⟩
  | 106 => ⟨S1x1x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S8x2048x2048, .f32⟩
  | 112 => ⟨S_, .f32⟩
  | 113 => ⟨S8x2048x2048, .f32⟩
  | 114 => ⟨S8x2048x2048, .f32⟩
  | 115 => ⟨S_, .f32⟩
  | 116 => ⟨S8x2048x2048, .f32⟩
  | 117 => ⟨S8x2048x2048, .f32⟩
  | 118 => ⟨S8x2048x2048, .f32⟩
  | 119 => ⟨S8x2048x512, .f32⟩
  | 120 => ⟨S8x2048x8x64, .f32⟩
  | 121 => ⟨S8x2048x8x64, .f32⟩
  | 122 => ⟨S_, .f32⟩
  | 123 => ⟨S8x2048x8, .f32⟩
  | 124 => ⟨S8x2048x8x1, .f32⟩
  | 125 => ⟨S_, .f32⟩
  | 126 => ⟨S8x2048x8x1, .f32⟩
  | 127 => ⟨S8x2048x8x1, .f32⟩
  | _ => ⟨S8x2304x1024, .f32⟩

abbrev hbmTy0_1 (i : Nat) : BufTy := match i % 128 with
  | 0 => ⟨S8x2048x8x1, .f32⟩
  | 1 => ⟨S8x2048x8x64, .f32⟩
  | 2 => ⟨S8x2048x8x64, .f32⟩
  | 3 => ⟨S_, .f32⟩
  | 4 => ⟨S8x2048x8x64, .f32⟩
  | 5 => ⟨S8x2048x8x64, .f32⟩
  | 6 => ⟨S8x2048x512, .f32⟩
  | 7 => ⟨S8x2048x512, .f32⟩
  | 8 => ⟨S8x2048x8x64, .f32⟩
  | 9 => ⟨S8x2048x8x64, .f32⟩
  | 10 => ⟨S_, .f32⟩
  | 11 => ⟨S8x2048x8, .f32⟩
  | 12 => ⟨S8x2048x8x1, .f32⟩
  | 13 => ⟨S_, .f32⟩
  | 14 => ⟨S8x2048x8x1, .f32⟩
  | 15 => ⟨S8x2048x8x1, .f32⟩
  | 16 => ⟨S8x2048x8x1, .f32⟩
  | 17 => ⟨S8x2048x8x64, .f32⟩
  | 18 => ⟨S8x2048x8x64, .f32⟩
  | 19 => ⟨S8x2048x512, .f32⟩
  | 20 => ⟨S8x2048x2x8, .f32⟩
  | 21 => ⟨S2x8, .f32⟩
  | 22 => ⟨S2x8, .f32⟩
  | 23 => ⟨S1x1x2x8, .f32⟩
  | 24 => ⟨S8x2048x2x8, .f32⟩
  | 25 => ⟨S8x2048x2x8, .f32⟩
  | 26 => ⟨S_, .f32⟩
  | 27 => ⟨S8x2048x2x8, .f32⟩
  | 28 => ⟨S8x2048x2x8, .f32⟩
  | 29 => ⟨S8x2048x2x8, .f32⟩
  | 30 => ⟨S8x2048x2x8, .f32⟩
  | 31 => ⟨S8x2048x2x8, .i1⟩
  | 32 => ⟨S8x2048x2x8, .f32⟩
  | 33 => ⟨S8x2048x2x8, .f32⟩
  | 34 => ⟨S8x2048x2x8, .f32⟩
  | 35 => ⟨S8x2048x2x8, .f32⟩
  | 36 => ⟨S8x2048x2x8, .f32⟩
  | 37 => ⟨S8x2048x2x8, .f32⟩
  | 38 => ⟨S8x2048x2x8, .f32⟩
  | 39 => ⟨S8x2048x2x8, .f32⟩
  | 40 => ⟨S1x1x2x8, .f32⟩
  | 41 => ⟨S8x2048x2x8, .f32⟩
  | 42 => ⟨S8x2048x2x8, .f32⟩
  | 43 => ⟨S8x2048x16, .f32⟩
  | 44 => ⟨S8x2048x16, .f32⟩
  | 45 => ⟨S_, .f32⟩
  | 46 => ⟨S8x2048x16, .f32⟩
  | 47 => ⟨S8x2048x16, .f32⟩
  | 48 => ⟨S_, .f32⟩
  | 49 => ⟨S8x2048x16, .f32⟩
  | 50 => ⟨S8x2048x16, .f32⟩
  | 51 => ⟨S8x2048x16, .f32⟩
  | 52 => ⟨S_, .f32⟩
  | 53 => ⟨S8x2048x96, .f32⟩
  | 54 => ⟨S8x2048x128, .f32⟩
  | 55 => ⟨S8x2048x1024, .f32⟩
  | 56 => ⟨S8x256x3104, .f32⟩
  | 57 => ⟨S8x256x2048, .f32⟩
  | 58 => ⟨S8x256x1024, .f32⟩
  | 59 => ⟨S8x256x16, .f32⟩
  | 60 => ⟨S8x256x16, .f32⟩
  | 61 => ⟨S_, .i32⟩
  | 62 => ⟨S_, .f32⟩
  | 63 => ⟨S8x258x2048, .f32⟩
  | 64 => ⟨S1x2048, .f32⟩
  | 65 => ⟨S2048, .f32⟩
  | 66 => ⟨S8x256x2048, .f32⟩
  | 67 => ⟨S1x1x2048, .f32⟩
  | 68 => ⟨S8x256x2048, .f32⟩
  | 69 => ⟨S8x256x2048, .f32⟩
  | 70 => ⟨S1x2048, .f32⟩
  | 71 => ⟨S2048, .f32⟩
  | 72 => ⟨S1x1x2048, .f32⟩
  | 73 => ⟨S8x256x2048, .f32⟩
  | 74 => ⟨S8x256x2048, .f32⟩
  | 75 => ⟨S8x256x2048, .f32⟩
  | 76 => ⟨S1x2048, .f32⟩
  | 77 => ⟨S2048, .f32⟩
  | 78 => ⟨S8x256x2048, .f32⟩
  | 79 => ⟨S1x1x2048, .f32⟩
  | 80 => ⟨S8x256x2048, .f32⟩
  | 81 => ⟨S8x256x2048, .f32⟩
  | 82 => ⟨S8x256x2048, .f32⟩
  | 83 => ⟨S8x256x2048, .f32⟩
  | 84 => ⟨S8x256x2048, .f32⟩
  | 85 => ⟨S_, .f32⟩
  | 86 => ⟨S8x256x2048, .f32⟩
  | 87 => ⟨S8x256x2048, .f32⟩
  | 88 => ⟨S_, .f32⟩
  | 89 => ⟨S8x256x2048, .f32⟩
  | 90 => ⟨S8x256x2048, .f32⟩
  | 91 => ⟨S8x256x2048, .f32⟩
  | 92 => ⟨S8x256x512, .f32⟩
  | 93 => ⟨S8x256x8x64, .f32⟩
  | 94 => ⟨S8x256x8x64, .f32⟩
  | 95 => ⟨S_, .f32⟩
  | 96 => ⟨S8x256x8, .f32⟩
  | 97 => ⟨S8x256x8x1, .f32⟩
  | 98 => ⟨S_, .f32⟩
  | 99 => ⟨S8x256x8x1, .f32⟩
  | 100 => ⟨S8x256x8x1, .f32⟩
  | 101 => ⟨S8x256x8x1, .f32⟩
  | 102 => ⟨S8x256x8x64, .f32⟩
  | 103 => ⟨S8x256x8x64, .f32⟩
  | 104 => ⟨S_, .f32⟩
  | 105 => ⟨S8x256x8x64, .f32⟩
  | 106 => ⟨S8x256x8x64, .f32⟩
  | 107 => ⟨S8x256x512, .f32⟩
  | 108 => ⟨S8x256x512, .f32⟩
  | 109 => ⟨S8x256x8x64, .f32⟩
  | 110 => ⟨S8x256x8x64, .f32⟩
  | 111 => ⟨S_, .f32⟩
  | 112 => ⟨S8x256x8, .f32⟩
  | 113 => ⟨S8x256x8x1, .f32⟩
  | 114 => ⟨S_, .f32⟩
  | 115 => ⟨S8x256x8x1, .f32⟩
  | 116 => ⟨S8x256x8x1, .f32⟩
  | 117 => ⟨S8x256x8x1, .f32⟩
  | 118 => ⟨S8x256x8x64, .f32⟩
  | 119 => ⟨S8x256x8x64, .f32⟩
  | 120 => ⟨S8x256x512, .f32⟩
  | 121 => ⟨S8x256x2x8, .f32⟩
  | 122 => ⟨S2x8, .f32⟩
  | 123 => ⟨S2x8, .f32⟩
  | 124 => ⟨S1x1x2x8, .f32⟩
  | 125 => ⟨S8x256x2x8, .f32⟩
  | 126 => ⟨S8x256x2x8, .f32⟩
  | 127 => ⟨S_, .f32⟩
  | _ => ⟨S8x2304x1024, .f32⟩

abbrev hbmTy0_2 (i : Nat) : BufTy := match i % 128 with
  | 0 => ⟨S8x256x2x8, .f32⟩
  | 1 => ⟨S8x256x2x8, .f32⟩
  | 2 => ⟨S8x256x2x8, .f32⟩
  | 3 => ⟨S8x256x2x8, .f32⟩
  | 4 => ⟨S8x256x2x8, .i1⟩
  | 5 => ⟨S8x256x2x8, .f32⟩
  | 6 => ⟨S8x256x2x8, .f32⟩
  | 7 => ⟨S8x256x2x8, .f32⟩
  | 8 => ⟨S8x256x2x8, .f32⟩
  | 9 => ⟨S8x256x2x8, .f32⟩
  | 10 => ⟨S8x256x2x8, .f32⟩
  | 11 => ⟨S8x256x2x8, .f32⟩
  | 12 => ⟨S8x256x2x8, .f32⟩
  | 13 => ⟨S1x1x2x8, .f32⟩
  | 14 => ⟨S8x256x2x8, .f32⟩
  | 15 => ⟨S8x256x2x8, .f32⟩
  | 16 => ⟨S8x256x16, .f32⟩
  | 17 => ⟨S8x256x16, .f32⟩
  | 18 => ⟨S_, .f32⟩
  | 19 => ⟨S8x256x16, .f32⟩
  | 20 => ⟨S8x256x16, .f32⟩
  | 21 => ⟨S_, .f32⟩
  | 22 => ⟨S8x256x16, .f32⟩
  | 23 => ⟨S8x256x16, .f32⟩
  | 24 => ⟨S8x256x16, .f32⟩
  | 25 => ⟨S_, .f32⟩
  | 26 => ⟨S8x256x96, .f32⟩
  | 27 => ⟨S8x256x128, .f32⟩
  | 28 => ⟨S8x256x1024, .f32⟩
  | 29 => ⟨S8x2304x512, .f32⟩
  | 30 => ⟨S8x2304x512, .f32⟩
  | 31 => ⟨S8x2304x1024, .f32⟩
  | 32 => ⟨S8x2304x1024, .f32⟩
  | 33 => ⟨S8x2304x128, .f32⟩
  | _ => ⟨S8x2304x1024, .f32⟩

abbrev hbmTy (i : Nat) : BufTy := match i / 128 with
  | 0 => hbmTy0_0 i
  | 1 => hbmTy0_1 i
  | 2 => hbmTy0_2 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_c : Ref sig .tc := ⟨.hbm, 88, rfl⟩
abbrev main_call0_v0 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_7 : Ref sig .tc := ⟨.hbm, 122, rfl⟩
abbrev main_v96 : Ref sig .tc := ⟨.hbm, 123, rfl⟩
abbrev main_v97 : Ref sig .tc := ⟨.hbm, 124, rfl⟩
abbrev main_cst_8 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_9 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_10 : Ref sig .tc := ⟨.hbm, 138, rfl⟩
abbrev main_v109 : Ref sig .tc := ⟨.hbm, 139, rfl⟩
abbrev main_v110 : Ref sig .tc := ⟨.hbm, 140, rfl⟩
abbrev main_cst_11 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_call2_cst : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_call2_v5 : Ref sig .tc := ⟨.hbm, 160, rfl⟩
abbrev main_call2_v6 : Ref sig .tc := ⟨.hbm, 161, rfl⟩
abbrev main_call2_v7 : Ref sig .tc := ⟨.hbm, 162, rfl⟩
abbrev main_call2_v8 : Ref sig .tc := ⟨.hbm, 163, rfl⟩
abbrev main_call2_v9 : Ref sig .tc := ⟨.hbm, 164, rfl⟩
abbrev main_call2_v10 : Ref sig .tc := ⟨.hbm, 165, rfl⟩
abbrev main_call2_v11 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_12 : Ref sig .tc := ⟨.hbm, 173, rfl⟩
abbrev main_v129 : Ref sig .tc := ⟨.hbm, 174, rfl⟩
abbrev main_v130 : Ref sig .tc := ⟨.hbm, 175, rfl⟩
abbrev main_cst_13 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_14 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_15 : Ref sig .tc := ⟨.hbm, 189, rfl⟩
abbrev main_call3_v0 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_call4_v0 : Ref sig .tc := ⟨.hbm, 211, rfl⟩
abbrev main_call4_v1 : Ref sig .tc := ⟨.hbm, 212, rfl⟩
abbrev main_call4_cst : Ref sig .tc := ⟨.hbm, 213, rfl⟩
abbrev main_call4_v2 : Ref sig .tc := ⟨.hbm, 214, rfl⟩
abbrev main_call4_v3 : Ref sig .tc := ⟨.hbm, 215, rfl⟩
abbrev main_call4_cst_0 : Ref sig .tc := ⟨.hbm, 216, rfl⟩
abbrev main_call4_v4 : Ref sig .tc := ⟨.hbm, 217, rfl⟩
abbrev main_call4_v5 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_16 : Ref sig .tc := ⟨.hbm, 223, rfl⟩
abbrev main_v166 : Ref sig .tc := ⟨.hbm, 224, rfl⟩
abbrev main_v167 : Ref sig .tc := ⟨.hbm, 225, rfl⟩
abbrev main_cst_17 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst_18 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_19 : Ref sig .tc := ⟨.hbm, 239, rfl⟩
abbrev main_v179 : Ref sig .tc := ⟨.hbm, 240, rfl⟩
abbrev main_v180 : Ref sig .tc := ⟨.hbm, 241, rfl⟩
abbrev main_cst_20 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_call5_cst : Ref sig .tc := ⟨.hbm, 255, rfl⟩
abbrev main_call5_v0 : Ref sig .tc := ⟨.hbm, 256, rfl⟩
abbrev main_call5_v1 : Ref sig .tc := ⟨.hbm, 257, rfl⟩
abbrev main_call5_v2 : Ref sig .tc := ⟨.hbm, 258, rfl⟩
abbrev main_call5_v3 : Ref sig .tc := ⟨.hbm, 259, rfl⟩
abbrev main_call5_v4 : Ref sig .tc := ⟨.hbm, 260, rfl⟩
abbrev main_call5_v5 : Ref sig .tc := ⟨.hbm, 261, rfl⟩
abbrev main_call5_v6 : Ref sig .tc := ⟨.hbm, 262, rfl⟩
abbrev main_call5_v7 : Ref sig .tc := ⟨.hbm, 263, rfl⟩
abbrev main_call5_v8 : Ref sig .tc := ⟨.hbm, 264, rfl⟩
abbrev main_call5_v9 : Ref sig .tc := ⟨.hbm, 265, rfl⟩
abbrev main_call5_v10 : Ref sig .tc := ⟨.hbm, 266, rfl⟩
abbrev main_call5_v11 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_cst_21 : Ref sig .tc := ⟨.hbm, 274, rfl⟩
abbrev main_v199 : Ref sig .tc := ⟨.hbm, 275, rfl⟩
abbrev main_v200 : Ref sig .tc := ⟨.hbm, 276, rfl⟩
abbrev main_cst_22 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_cst_23 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩

abbrev nD : Nat := 1
abbrev τ : Topo := Topo.v7x

variable {F : FTy → Type} [FloatOps F]
-- ==== Proof.Softmax.lean ====
/-
  Arithmetic of a softmax over the extended reals: real scores, values of any kind.
  * a real factor that is not negative distributes over a finite sum (`mul_sum_real`);
  * the weights of a softmax taken in base two with a subtracted number and the weights taken in base e with another
    give the same weighted mean (`softmax_base`).
-/
module

public import Idealize.ShloMosaic.Lib.Pointwise

@[expose] public section

noncomputable section

namespace Cert.Attn

open Idealize.ShloMosaic

/-- A real factor that is not negative distributes over a finite sum of extended reals. -/
theorem mul_sum_real {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- A finite sum of reals is real. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of extended reals all real is real. -/
theorem exists_sum {ι : Type} (s : Finset ι) (f : ι → EReal) (h : ∀ k, ∃ r : ℝ, f k = r) :
    ∃ r : ℝ, ∑ k ∈ s, f k = r := by
  choose g hg using h
  exact ⟨∑ k ∈ s, g k, by rw [← coe_sum]; exact Finset.sum_congr rfl fun k _ => hg k⟩

/-- The maximum of finitely many reals, not none, is real, whatever it starts from below. -/
theorem exists_fold_max {ι : Type} (s : Finset ι) (hs : s.Nonempty) (f : ι → EReal) (h : ∀ k, ∃ r : ℝ, f k = r) :
    ∃ r : ℝ, s.fold max ⊥ f = r := by
  classical
  choose g hg using h
  obtain rfl : f = fun k => ((g k : ℝ) : EReal) := funext hg
  induction hs using Finset.Nonempty.cons_induction with
  | singleton a => exact ⟨g a, by simp⟩
  | cons a s ha hs ih =>
    obtain ⟨r, hr⟩ := ih
    exact ⟨max (g a) r, by rw [Finset.fold_cons, hr]; exact (EReal.coe_strictMono.monotone.map_max).symm⟩

/-- The base-two exponential of a difference of reals. -/
theorem exp2_sub (a b : ℝ) : Ideal.exp2 ((a : EReal) - (b : EReal)) = ((Real.rpow 2 (a - b) : ℝ) : EReal) := by
  rw [← EReal.coe_sub, Ideal.exp2_coe]

/-- Changing the subtracted number of a base-two weight is one factor. -/
theorem rpow_shift (a m m' : ℝ) : Real.rpow 2 (m - m') * Real.rpow 2 (a - m) = Real.rpow 2 (a - m') := by
  show (2 : ℝ) ^ (m - m') * (2 : ℝ) ^ (a - m) = (2 : ℝ) ^ (a - m')
  rw [← Real.rpow_add (by norm_num)]
  congr 1; ring

/-- ONE STEP of the running softmax: rescaling a block's weighted sum from the subtracted number `m` to `m'`. -/
theorem rescale {ι : Type} (s : Finset ι) (S : ι → EReal) (hS : ∀ k, ∃ r : ℝ, S k = r) (v : ι → EReal) (m m' : ℝ) :
    Ideal.exp2 ((m : EReal) - (m' : EReal)) * ∑ k ∈ s, Ideal.exp2 (S k - (m : EReal)) * v k
      = ∑ k ∈ s, Ideal.exp2 (S k - (m' : EReal)) * v k := by
  choose g hg using hS
  obtain rfl : S = fun k => ((g k : ℝ) : EReal) := funext hg
  simp only [exp2_sub]
  rw [mul_sum_real s (Real.rpow 2 (m - m')) (Real.rpow_nonneg (by norm_num) _)]
  refine Finset.sum_congr rfl fun k _ => ?_
  rw [← mul_assoc, ← EReal.coe_mul, rpow_shift]

/-- A weighted mean is the same under weights that differ by one positive factor. -/
theorem mean_scale {ι : Type} [Fintype ι] [Nonempty ι] (w : ι → ℝ) (hw : ∀ k, 0 < w k) (c : ℝ) (hc : 0 < c) (v : ι → EReal) :
    Ideal.div (∑ k, ((c * w k : ℝ) : EReal) * v k) (∑ k, ((c * w k : ℝ) : EReal))
      = ∑ k, Ideal.div ((w k : ℝ) : EReal) (∑ k', ((w k' : ℝ) : EReal)) * v k := by
  have hl : 0 < ∑ k, w k := Finset.sum_pos (fun k _ => hw k) Finset.univ_nonempty
  have hl' : 0 < ∑ k, c * w k := by rw [← Finset.mul_sum]; exact mul_pos hc hl
  rw [coe_sum, coe_sum, Ideal.div_coe hl'.ne', mul_comm, mul_sum_real _ _ (by positivity)]
  refine Finset.sum_congr rfl fun k _ => ?_
  rw [Ideal.div_coe hl.ne', ← mul_assoc, ← EReal.coe_mul, ← EReal.coe_mul]
  congr 2
  rw [← Finset.mul_sum]
  field_simp

/-- THE TWO SOFTMAXES: base two over the scores times `log₂ e` against base e, each less a number of its own. -/
theorem softmax_base {ι : Type} [Fintype ι] [Nonempty ι] (s : ι → ℝ) (m M : ℝ) (v : ι → EReal) :
    Ideal.div (∑ k, Ideal.exp2 (((s k * (Real.log 2)⁻¹ : ℝ) : EReal) - (m : EReal)) * v k)
        (∑ k, Ideal.exp2 (((s k * (Real.log 2)⁻¹ : ℝ) : EReal) - (m : EReal)))
      = ∑ k, Ideal.div (Ideal.exp ((s k : EReal) - (M : EReal)))
          (∑ k', Ideal.exp ((s k' : EReal) - (M : EReal))) * v k := by
  have key : ∀ k, Real.rpow 2 (s k * (Real.log 2)⁻¹ - m)
      = Real.exp (M - m * Real.log 2) * Real.exp (s k - M) := fun k => by
    have h2 : Real.log 2 ≠ 0 := (Real.log_pos (by norm_num)).ne'
    show (2 : ℝ) ^ (_ : ℝ) = _
    rw [Real.rpow_def_of_pos (by norm_num), ← Real.exp_add]
    congr 1
    field_simp
    ring
  simp only [← EReal.coe_sub, Ideal.exp2_coe, Ideal.exp_coe, key]
  exact mean_scale (fun k => Real.exp (s k - M)) (fun k => Real.exp_pos _) _ (Real.exp_pos _) v

end Cert.Attn

end
-- ==== Proof.Attn.lean ====
/-
  What the attention's body leaves in its output block: for each of its two heads the running softmax over nine blocks
  of 256 keys, written as a fold of one step (`step`) over the blocks (`out_eq`), and that fold read at an index: the
  weighted sums of all keys so far, less one and the same number in the exponent (`fold_inv`).
-/
module

public import proofs.«01_k».proof.Proof.Gen.KernelIdeal.Value
public import proofs.«01_k».proof.Proof.Softmax
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- One key block with its value block, as the body loads them. -/
abbrev KV : Type := Vec Ideal S1x256x128 .bf16 × Vec Ideal S1x80x256 .bf16

/-- What the body carries from one key block to the next: the running maximum and the weighted sums. -/
abbrev St : Type := FVec Ideal S1x1024 .f32 × FVec Ideal S80x1024 .f32

/-- A block's scores. -/
def sc (q : FVec Ideal S128x1024 .bf16) (x : KV) : FVec Ideal S256x1024 .f32 :=
  matmul dot_S256x128_S128x1024_S256x1024_1_0_0_1_n_n none
    (shapeCast S256x128 x.1 shapeCasts_S1x256x128_S256x128 : FVec Ideal S256x128 .bf16) q
    (constant S256x1024 .f32 0x00000000#32)

/-- A block's largest scores, one per query. -/
def bmax (s : FVec Ideal S256x1024 .f32) : FVec Ideal S1x1024 .f32 :=
  shapeCast S1x1024 (multiReduction .maximumf [0] S1024 s 0xFF800000#32 reduces_S256x1024_S1024 (.inl rfl) rfl)
    shapeCasts_S1024_S1x1024

/-- A block's weighted sums, the weights less `m` in the exponent. -/
def wsum (s : FVec Ideal S256x1024 .f32) (m : FVec Ideal S1x1024 .f32) (x : KV) : FVec Ideal S80x1024 .f32 :=
  matmul dot_S80x256_S256x1024_S80x1024_1_0_0_1_n_n none
    (shapeCast S80x256 x.2 shapeCasts_S1x80x256_S80x256 : FVec Ideal S80x256 .bf16)
    (truncf .bf16 (exp2 (subf s (broadcastTo S256x1024 m broadcasts_S1x1024_S256x1024))) bitsLt_bf16_f32)
    (constant S80x1024 .f32 0x00000000#32)

/-- The first block. -/
def start (q : FVec Ideal S128x1024 .bf16) (x : KV) : St :=
  (bmax (sc q x), wsum (sc q x) (bmax (sc q x)) x)

/-- Every later block. -/
def step (q : FVec Ideal S128x1024 .bf16) (p : St) (x : KV) : St :=
  (maximumf p.1 (bmax (sc q x)),
    addf (mulf (broadcastTo S80x1024 (exp2 (subf p.1 (maximumf p.1 (bmax (sc q x))))) broadcasts_S1x1024_S80x1024) p.2)
      (wsum (sc q x) (maximumf p.1 (bmax (sc q x))) x))

/-- A head's output: the weighted sums over the sum of the weights. -/
def fin (a : FVec Ideal S80x1024 .f32) : FVec Ideal S1024x64 .f32 :=
  transpose S1024x64 [1, 0] (divf (extractStridedSlice S64x1024 ![0, 0] a slices_S80x1024_o0_0_S64x1024)
    (broadcastTo S64x1024 (extractStridedSlice S1x1024 ![64, 0] a slices_S80x1024_o64_0_S1x1024)
      broadcasts_S1x1024_S64x1024)) transposes_S64x1024_p1_0_S1024x64

/-- The first head's blocks, of the loaded operands. -/
def kv0 (x1 : Vec Ideal S1x2304x256 .bf16) (x2 : Vec Ideal S1x160x2304 .bf16) : List KV :=
  [(View.ld x1 (Rect.unit ![0, 256, 0] ![1, 256, 128] inb_S1x2304x256_S1x256x128_0_256_0), View.ld x2 (Rect.unit ![0, 0, 256] ![1, 80, 256] inb_S1x160x2304_S1x80x256_0_0_256)),
   (View.ld x1 (Rect.unit ![0, 512, 0] ![1, 256, 128] inb_S1x2304x256_S1x256x128_0_512_0), View.ld x2 (Rect.unit ![0, 0, 512] ![1, 80, 256] inb_S1x160x2304_S1x80x256_0_0_512)),
   (View.ld x1 (Rect.unit ![0, 768, 0] ![1, 256, 128] inb_S1x2304x256_S1x256x128_0_768_0), View.ld x2 (Rect.unit ![0, 0, 768] ![1, 80, 256] inb_S1x160x2304_S1x80x256_0_0_768)),
   (View.ld x1 (Rect.unit ![0, 1024, 0] ![1, 256, 128] inb_S1x2304x256_S1x256x128_0_1024_0), View.ld x2 (Rect.unit ![0, 0, 1024] ![1, 80, 256] inb_S1x160x2304_S1x80x256_0_0_1024)),
   (View.ld x1 (Rect.unit ![0, 1280, 0] ![1, 256, 128] inb_S1x2304x256_S1x256x128_0_1280_0), View.ld x2 (Rect.unit ![0, 0, 1280] ![1, 80, 256] inb_S1x160x2304_S1x80x256_0_0_1280)),
   (View.ld x1 (Rect.unit ![0, 1536, 0] ![1, 256, 128] inb_S1x2304x256_S1x256x128_0_1536_0), View.ld x2 (Rect.unit ![0, 0, 1536] ![1, 80, 256] inb_S1x160x2304_S1x80x256_0_0_1536)),
   (View.ld x1 (Rect.unit ![0, 1792, 0] ![1, 256, 128] inb_S1x2304x256_S1x256x128_0_1792_0), View.ld x2 (Rect.unit ![0, 0, 1792] ![1, 80, 256] inb_S1x160x2304_S1x80x256_0_0_1792)),
   (View.ld x1 (Rect.unit ![0, 2048, 0] ![1, 256, 128] inb_S1x2304x256_S1x256x128_0_2048_0), View.ld x2 (Rect.unit ![0, 0, 2048] ![1, 80, 256] inb_S1x160x2304_S1x80x256_0_0_2048))]

/-- The second head's. -/
def kv1 (x1 : Vec Ideal S1x2304x256 .bf16) (x2 : Vec Ideal S1x160x2304 .bf16) : List KV :=
  [(View.ld x1 (Rect.unit ![0, 256, 128] ![1, 256, 128] inb_S1x2304x256_S1x256x128_0_256_128), View.ld x2 (Rect.unit ![0, 80, 256] ![1, 80, 256] inb_S1x160x2304_S1x80x256_0_80_256)),
   (View.ld x1 (Rect.unit ![0, 512, 128] ![1, 256, 128] inb_S1x2304x256_S1x256x128_0_512_128), View.ld x2 (Rect.unit ![0, 80, 512] ![1, 80, 256] inb_S1x160x2304_S1x80x256_0_80_512)),
   (View.ld x1 (Rect.unit ![0, 768, 128] ![1, 256, 128] inb_S1x2304x256_S1x256x128_0_768_128), View.ld x2 (Rect.unit ![0, 80, 768] ![1, 80, 256] inb_S1x160x2304_S1x80x256_0_80_768)),
   (View.ld x1 (Rect.unit ![0, 1024, 128] ![1, 256, 128] inb_S1x2304x256_S1x256x128_0_1024_128), View.ld x2 (Rect.unit ![0, 80, 1024] ![1, 80, 256] inb_S1x160x2304_S1x80x256_0_80_1024)),
   (View.ld x1 (Rect.unit ![0, 1280, 128] ![1, 256, 128] inb_S1x2304x256_S1x256x128_0_1280_128), View.ld x2 (Rect.unit ![0, 80, 1280] ![1, 80, 256] inb_S1x160x2304_S1x80x256_0_80_1280)),
   (View.ld x1 (Rect.unit ![0, 1536, 128] ![1, 256, 128] inb_S1x2304x256_S1x256x128_0_1536_128), View.ld x2 (Rect.unit ![0, 80, 1536] ![1, 80, 256] inb_S1x160x2304_S1x80x256_0_80_1536)),
   (View.ld x1 (Rect.unit ![0, 1792, 128] ![1, 256, 128] inb_S1x2304x256_S1x256x128_0_1792_128), View.ld x2 (Rect.unit ![0, 80, 1792] ![1, 80, 256] inb_S1x160x2304_S1x80x256_0_80_1792)),
   (View.ld x1 (Rect.unit ![0, 2048, 128] ![1, 256, 128] inb_S1x2304x256_S1x256x128_0_2048_128), View.ld x2 (Rect.unit ![0, 80, 2048] ![1, 80, 256] inb_S1x160x2304_S1x80x256_0_80_2048))]

/-- The first head's scaled queries and first block; the second head's. -/
def q0 (x0 : Vec Ideal S1x256x1024 .bf16) : FVec Ideal S128x1024 .bf16 :=
  k0_pay2 (View.ld x0 (Rect.unit ![0, 0, 0] ![1, 128, 1024] inb_S1x256x1024_S1x128x1024_0_0_0))
def q1 (x0 : Vec Ideal S1x256x1024 .bf16) : FVec Ideal S128x1024 .bf16 :=
  k0_pay3 (View.ld x0 (Rect.unit ![0, 128, 0] ![1, 128, 1024] inb_S1x256x1024_S1x128x1024_0_128_0))
def f0 (x1 : Vec Ideal S1x2304x256 .bf16) (x2 : Vec Ideal S1x160x2304 .bf16) : KV :=
  (View.ld x1 (Rect.unit ![0, 0, 0] ![1, 256, 128] inb_S1x2304x256_S1x256x128_0_0_0), View.ld x2 (Rect.unit ![0, 0, 0] ![1, 80, 256] inb_S1x160x2304_S1x80x256_0_0_0))
def f1 (x1 : Vec Ideal S1x2304x256 .bf16) (x2 : Vec Ideal S1x160x2304 .bf16) : KV :=
  (View.ld x1 (Rect.unit ![0, 0, 128] ![1, 256, 128] inb_S1x2304x256_S1x256x128_0_0_128), View.ld x2 (Rect.unit ![0, 80, 0] ![1, 80, 256] inb_S1x160x2304_S1x80x256_0_80_0))

/-- A head's weighted sums after all blocks. -/
def sums (q : FVec Ideal S128x1024 .bf16) (x : KV) (xs : List KV) : FVec Ideal S80x1024 .f32 :=
  (xs.foldl (step q) (start q x)).2

theorem out_eq (c : Dev nD) (i : grid0.Coords) (a3 : Memref sig .tc .vmem S1x256x1024 .bf16) (h3 : a3.IsWhole)
    (a4 : Memref sig .tc .vmem S1x2304x256 .bf16) (h4 : a4.IsWhole) (a5 : Memref sig .tc .vmem S1x160x2304 .bf16)
    (h5 : a5.IsWhole) (a6 : Memref sig .tc .vmem S1x1024x128 .bf16) (h6 : a6.IsWhole)
    (x0 : Vec Ideal S1x256x1024 .bf16) (x1 : Vec Ideal S1x2304x256 .bf16) (x2 : Vec Ideal S1x160x2304 .bf16) :
    out0_A_3 c i a3 h3 a4 h4 a5 h5 a6 h6 x0 x1 x2
      = shapeCast S1x1024x128 (truncf .bf16 (concatenate S1024x128 1
          [⟨S1024x64, fin (sums (q0 x0) (f0 x1 x2) (kv0 x1 x2))⟩, ⟨S1024x64, fin (sums (q1 x0) (f1 x1 x2) (kv1 x1 x2))⟩]
          concatenates_S1024x64_S1024x64_S1024x128_d1) bitsLt_bf16_f32) shapeCasts_S1024x128_S1x1024x128 := by
  frame_out
  unfold sums kv0 kv1 q0 q1 f0 f1
  simp only [List.foldl_cons, List.foldl_nil]
  simp only [step, start, fin, sc, bmax, wsum, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]

/-! ## The fold read at an index -/

/-- The score of key `k` of a block against query `j`. -/
def S (q : FVec Ideal S128x1024 .bf16) (x : KV) (k : Fin 256) (j : Fin 1024) : EReal :=
  ∑ d : Fin 128, x.1 (ix3 0 k d) * q (ix2 d j)

theorem sc_apply (q : FVec Ideal S128x1024 .bf16) (x : KV) (k : Fin 256) (j : Fin 1024) :
    sc q x (ix2 k j) = S q x k j := by
  pointwise [sc, S]

theorem ofBits_bot : Ideal.ofBits .f32 0xFF800000#32 = ⊥ := by
  simp [Ideal.ofBits, Ideal.ieee]

theorem bmax_apply (s : FVec Ideal S256x1024 .f32) (j : Fin 1024) :
    bmax s (ix2 0 j) = Finset.univ.fold max ⊥ fun k : Fin 256 => s (ix2 k j) := by
  pointwise [bmax]
  rw [ofBits_bot]

theorem wsum_apply (s : FVec Ideal S256x1024 .f32) (m : FVec Ideal S1x1024 .f32) (x : KV) (r : Fin 80) (j : Fin 1024) :
    wsum s m x (ix2 r j) = ∑ k : Fin 256, Ideal.exp2 (s (ix2 k j) - m (ix2 0 j)) * x.2 (ix3 0 r k) := by
  pointwise [wsum]
  exact Finset.sum_congr rfl fun k _ => mul_comm _ _

theorem start_fst (q : FVec Ideal S128x1024 .bf16) (x : KV) : (start q x).1 = bmax (sc q x) := by
  rw [start]

theorem start_snd (q : FVec Ideal S128x1024 .bf16) (x : KV) :
    (start q x).2 = wsum (sc q x) (bmax (sc q x)) x := by
  rw [start]

theorem step_fst (q : FVec Ideal S128x1024 .bf16) (p : St) (x : KV) (j : Fin 1024) :
    (step q p x).1 (ix2 0 j) = max (p.1 (ix2 0 j)) (bmax (sc q x) (ix2 0 j)) := by
  pointwise [step]

theorem step_snd (q : FVec Ideal S128x1024 .bf16) (p : St) (x : KV) (r : Fin 80) (j : Fin 1024) :
    (step q p x).2 (ix2 r j)
      = Ideal.exp2 (p.1 (ix2 0 j) - (step q p x).1 (ix2 0 j)) * p.2 (ix2 r j)
        + wsum (sc q x) (step q p x).1 x (ix2 r j) := by
  pointwise [step]
  rfl

theorem fin_apply (a : FVec Ideal S80x1024 .f32) (j : Fin 1024) (r : Fin 64) :
    fin a (ix2 j r) = Ideal.div (a (ix2 ⟨r, by omega⟩ j)) (a (ix2 64 j)) := by
  pointwise [fin]

/-- What the blocks `xs` contribute to row `r` of the weighted sums, the weights less `m` in the exponent. -/
def tot (q : FVec Ideal S128x1024 .bf16) (xs : List KV) (m : EReal) (r : Fin 80) (j : Fin 1024) : EReal :=
  (xs.map fun x => ∑ k : Fin 256, Ideal.exp2 (S q x k j - m) * x.2 (ix3 0 r k)).sum

/-- THE INVARIANT of the running softmax: after any blocks of real scores the maximum is real and the weighted sums are
    those of all keys so far, the weights less that maximum in the exponent. -/
theorem fold_inv (q : FVec Ideal S128x1024 .bf16) (j : Fin 1024) (xs : List KV) :
    ∀ (x : KV) (hx : ∀ k, ∃ r : ℝ, S q x k j = r) (hxs : ∀ y ∈ xs, ∀ k, ∃ r : ℝ, S q y k j = r),
    ∃ m : ℝ, (xs.foldl (step q) (start q x)).1 (ix2 0 j) = m
      ∧ ∀ r, (xs.foldl (step q) (start q x)).2 (ix2 r j) = tot q (x :: xs) m r j := by
  intro x hx hxs
  have hm : ∀ y : KV, (∀ k, ∃ r : ℝ, S q y k j = r) → ∃ r : ℝ, bmax (sc q y) (ix2 0 j) = r := fun y hy => by
    rw [bmax_apply]
    exact exists_fold_max _ Finset.univ_nonempty _ fun k => by rw [sc_apply]; exact hy k
  induction xs using List.reverseRecOn with
  | nil =>
    obtain ⟨m, h⟩ := hm x hx
    rw [List.foldl_nil]
    refine ⟨m, by rw [start_fst, h], fun r => ?_⟩
    rw [start_snd, wsum_apply, h]
    simp only [sc_apply, tot, List.map_cons, List.map_nil, List.sum_cons, List.sum_nil, add_zero]
  | append_singleton ys y ih =>
    obtain ⟨m, h1, h2⟩ := ih fun z hz => hxs z (by simp [hz])
    obtain ⟨b, hb⟩ := hm y (hxs y (by simp))
    have e : (step q (ys.foldl (step q) (start q x)) y).1 (ix2 0 j) = ((max m b : ℝ) : EReal) := by
      rw [step_fst, h1, hb]
      exact (EReal.coe_strictMono.monotone.map_max).symm
    rw [List.foldl_append, List.foldl_cons, List.foldl_nil]
    refine ⟨max m b, e, fun r => ?_⟩
    rw [step_snd, wsum_apply, e, h1, h2 r]
    simp only [sc_apply]
    rw [← List.cons_append, tot, tot, List.map_append, List.sum_append]
    refine congrArg₂ (· + ·) ?_ ?_
    · have key : ∀ zs : List KV, (∀ z ∈ zs, ∀ k, ∃ r : ℝ, S q z k j = r) →
          Ideal.exp2 ((m : EReal) - ((max m b : ℝ) : EReal))
              * (zs.map fun z => ∑ k : Fin 256, Ideal.exp2 (S q z k j - (m : EReal)) * z.2 (ix3 0 r k)).sum
            = (zs.map fun z => ∑ k : Fin 256, Ideal.exp2 (S q z k j - ((max m b : ℝ) : EReal)) * z.2 (ix3 0 r k)).sum := by
        intro zs hzs
        induction zs with
        | nil => simp
        | cons z zs ih2 =>
          rw [List.map_cons, List.map_cons, List.sum_cons, List.sum_cons, ← ih2 fun w hw => hzs w (by simp [hw]),
            ← rescale _ _ (hzs z (by simp)) _ m (max m b), exp2_sub]
          exact EReal.left_distrib_of_nonneg_of_ne_top
            (by exact_mod_cast Real.rpow_nonneg (by norm_num) _) (EReal.coe_ne_top _) _ _
      exact key (x :: ys) fun z hz => by
        rcases List.mem_cons.1 hz with rfl | hz
        · exact hx
        · exact hxs z (by simp [hz])
    · simp

end Cert.Attn

end
-- ==== Proof.AttnRun.lean ====
/-
  The attention's operands as the host code before the call leaves them, and its result array.
-/
module

public import proofs.«01_k».proof.Proof.Attn
public import Idealize.ShloMosaic.Lib.Tactic.CleanTypes

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![(grid0.coords t 0).val, (grid0.coords t 1).val, (grid0.coords t 2).val]
    ∧ win0_1.index t = ![(grid0.coords t 0).val, 0, (grid0.coords t 1).val]
    ∧ win0_2.index t = ![(grid0.coords t 0).val, (grid0.coords t 1).val, 0]
    ∧ win0_3.index t = ![(grid0.coords t 0).val, (grid0.coords t 2).val, (grid0.coords t 1).val] := by decide +kernel

/-- The queries, the keys and the values of device `c`. -/
abbrev aq (c : Dev nD) : FVec Ideal S8x8x2304x96 .f32 := m ((c : Thread nD τ).loc main_arg0)
abbrev ak (c : Dev nD) : FVec Ideal S8x8x2304x96 .f32 := m ((c : Thread nD τ).loc main_arg1)
abbrev av (c : Dev nD) : FVec Ideal S8x8x2304x64 .f32 := m ((c : Thread nD τ).loc main_arg2)

/-- The call's operands as the host code before it leaves them. -/
abbrev oq (c : Dev nD) : FVec Ideal S8x1024x2304 .bf16 := V m c main_v3
abbrev ok (c : Dev nD) : FVec Ideal S8x2304x1024 .bf16 := V m c main_v7
abbrev ov (c : Dev nD) : FVec Ideal S8x640x2304 .bf16 := V m c main_v14

/-- The queries per head in columns of 128, the last 32 zero. -/
def mkq (x : FVec Ideal S8x8x2304x96 .f32) : FVec Ideal S8x1024x2304 .bf16 :=
  truncf .bf16 (shapeCast S8x1024x2304 (transpose S8x8x128x2304 [0, 1, 3, 2]
    (pad S8x8x2304x128 ![0, 0, 0, 0] ![0, 0, 0, 32] ![0, 0, 0, 0] x (sitofp .f32 (constantI S_ 32 0#32) : FVec Ideal S_ .f32)
      pads_S8x8x2304x96_S8x8x2304x128_000_000_000_0320 h_S_)
    transposes_S8x8x2304x128_S8x8x128x2304_0_1_3_2) shapeCasts_S8x8x128x2304_S8x1024x2304) bitsLt_bf16_f32

/-- The keys per head in columns of 128, the last 32 zero. -/
def mkk (x : FVec Ideal S8x8x2304x96 .f32) : FVec Ideal S8x2304x1024 .bf16 :=
  truncf .bf16 (shapeCast S8x2304x1024 (transpose S8x2304x8x128 [0, 2, 1, 3]
    (pad S8x8x2304x128 ![0, 0, 0, 0] ![0, 0, 0, 32] ![0, 0, 0, 0] x (sitofp .f32 (constantI S_ 32 0#32) : FVec Ideal S_ .f32)
      pads_S8x8x2304x96_S8x8x2304x128_000_000_000_0320 h_S_)
    transposes_S8x8x2304x128_S8x2304x8x128_0_2_1_3) shapeCasts_S8x2304x8x128_S8x2304x1024) bitsLt_bf16_f32

/-- The values per head in rows of 80: 64 of values, one of ones, 15 of zeros. -/
def mkv (x : FVec Ideal S8x8x2304x64 .f32) : FVec Ideal S8x640x2304 .bf16 :=
  truncf .bf16 (shapeCast S8x640x2304 (concatenate S8x8x80x2304 2
    [⟨S8x8x64x2304, transpose S8x8x64x2304 [0, 1, 3, 2] x transposes_S8x8x2304x64_S8x8x64x2304_0_1_3_2⟩,
     ⟨S8x8x16x2304, concatenate S8x8x16x2304 2
        [⟨S8x8x1x2304, broadcastInDim S8x8x1x2304 ![] bcast_S_S8x8x1x2304 (constant S_ .f32 0x3F800000#32)⟩,
         ⟨S8x8x15x2304, broadcastInDim S8x8x15x2304 ![] bcast_S_S8x8x15x2304 (constant S_ .f32 0x00000000#32)⟩]
        concatenates_S8x8x1x2304_S8x8x15x2304_S8x8x16x2304_d2⟩]
    concatenates_S8x8x64x2304_S8x8x16x2304_S8x8x80x2304_d2) shapeCasts_S8x8x80x2304_S8x640x2304) bitsLt_bf16_f32

theorem oq_eq (c : Dev nD) : oq m c = mkq (aq m c) := by
  unfold oq V
  simp only [hostOps0, hostOps0_1, hostOps0_2, hostOps0_3, hostOps0_4, List.flatten_cons, List.flatten_nil, List.cons_append,
    List.nil_append, List.append_nil]
  entry_read
  simp only [StableHlo.TRef.toBuf, StableHlo.TRef.ofBuf, cast_eq]
  unfold mkq
  rfl
theorem ok_eq (c : Dev nD) : ok m c = mkk (ak m c) := by
  unfold ok V
  simp only [hostOps0, hostOps0_1, hostOps0_2, hostOps0_3, hostOps0_4, List.flatten_cons, List.flatten_nil, List.cons_append,
    List.nil_append, List.append_nil]
  entry_read
  simp only [StableHlo.TRef.toBuf, StableHlo.TRef.ofBuf, cast_eq]
  unfold mkk
  rfl
theorem ov_eq (c : Dev nD) : ov m c = mkv (av m c) := by
  unfold ov V
  simp only [hostOps0, hostOps0_1, hostOps0_2, hostOps0_3, hostOps0_4, List.flatten_cons, List.flatten_nil, List.cons_append,
    List.nil_append, List.append_nil]
  entry_read
  rfl

theorem sitofp_zero : (FloatOps.sitofp .f32 (0#32 : BitVec 32) : Ideal .f32) = (0 : EReal) := by
  show (((0#32 : BitVec 32).toInt : ℝ) : EReal) = 0
  simp

theorem mkq_apply (x : FVec Ideal S8x8x2304x96 .f32) (b : Fin 8) (e : Fin 1024) (t : Fin 2304) :
    mkq x (ix3 b e t) = if h : (e : Nat) % 128 < 96 then x (ix4 b ⟨e / 128, by omega⟩ t ⟨e % 128, h⟩) else 0 := by
  have e8 : (e : Nat) / 128 < 8 := by omega
  pointwise [mkq]
  by_cases h : (e : Nat) % 128 < 96
  · simp only [h, e8, and_self, dite_true]
  · simp only [h, and_false, dite_false]
    exact sitofp_zero
theorem mkk_apply (x : FVec Ideal S8x8x2304x96 .f32) (b : Fin 8) (e : Fin 1024) (t : Fin 2304) :
    mkk x (ix3 b t e) = if h : (e : Nat) % 128 < 96 then x (ix4 b ⟨e / 128, by omega⟩ t ⟨e % 128, h⟩) else 0 := by
  have e8 : (e : Nat) / 128 < 8 := by omega
  pointwise [mkk]
  by_cases h : (e : Nat) % 128 < 96
  · simp only [h, e8, and_self, dite_true]
  · simp only [h, and_false, dite_false]
    exact sitofp_zero
theorem mkv_apply (x : FVec Ideal S8x8x2304x64 .f32) (b : Fin 8) (e : Fin 640) (t : Fin 2304) :
    mkv x (ix3 b e t) = if h : (e : Nat) % 80 < 64 then x (ix4 b ⟨e / 80, by omega⟩ t ⟨e % 80, h⟩)
      else if (e : Nat) % 80 = 64 then 1 else 0 := by
  have e8 : ∀ (y : FVec Ideal S8x8x64x2304 .f32) (z : FVec Ideal S8x8x16x2304 .f32),
      shapeCast S8x640x2304 (concatenate S8x8x80x2304 2 [⟨S8x8x64x2304, y⟩, ⟨S8x8x16x2304, z⟩]
        concatenates_S8x8x64x2304_S8x8x16x2304_S8x8x80x2304_d2) shapeCasts_S8x8x80x2304_S8x640x2304 (ix3 b e t)
      = if h : (e : Nat) % 80 < 64 then y (ix4 b ⟨e / 80, by omega⟩ ⟨e % 80, h⟩ t)
        else z (ix4 b ⟨e / 80, by omega⟩ ⟨e % 80 - 64, by omega⟩ t) := fun y z => by pointwise
  rw [mkv, truncf_apply, e8]
  by_cases h : (e : Nat) % 80 < 64
  · rw [dif_pos h, dif_pos h]
    pointwise
  · rw [dif_neg h, dif_neg h]
    by_cases h2 : (e : Nat) % 80 = 64
    · rw [if_pos h2]
      pointwise
      rw [dif_pos (by omega)]
    · rw [if_neg h2]
      pointwise
      rw [dif_neg (by omega)]

end Cert.Attn

end
-- ==== Proof.AttnBlk.lean ====
/-
  The attention's input blocks read off its operands.
-/
module

public import proofs.«01_k».proof.Proof.AttnRun
public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem lt1 (t : Fin cfg0.N) : (grid0.coords t 1).val < 4 := (grid0.coords t 1).isLt
theorem lt2 (t : Fin cfg0.N) : (grid0.coords t 2).val < 2 := (grid0.coords t 2).isLt

/-- A block of the queries' array. -/
theorem blk0 (t : Fin cfg0.N) (d : Vec Ideal S1x256x1024 .bf16) (A : FVec Ideal S8x1024x2304 .bf16) (e : Fin 256) (j : Fin 1024) :
    (cfg0.win 0).fill (cfg0.grid.coords t) d (((cfg0.win 0).blk t).view.read (Elt Ideal) A) (ix3 (0 : Fin 1) e j : S1x256x1024.Idx)
      = A (ix3 (grid0.coords t 0) ⟨256 * (grid0.coords t 1).val + e, by have := lt1 t; omega⟩
          ⟨1024 * (grid0.coords t 2).val + j, by have := lt2 t; omega⟩) := by
  have i0 := (idx t).1
  unfold Pipeline.Window.fill
  rw [dif_pos (moved0_0 t _)]
  blk_ext [i0]

/-- A block of the keys' array. -/
theorem blk1 (t : Fin cfg0.N) (A : FVec Ideal S8x2304x1024 .bf16) (j : Fin 2304) (e : Fin 256) :
    ((cfg0.win 1).blk t).view.read (Elt Ideal) A (ix3 (0 : Fin 1) j e : S1x2304x256.Idx)
      = A (ix3 (grid0.coords t 0) j ⟨256 * (grid0.coords t 1).val + e, by have := lt1 t; omega⟩) := by
  have i1 := (idx t).2.1
  blk_ext [i1]

/-- A block of the values' array. -/
theorem blk2 (t : Fin cfg0.N) (A : FVec Ideal S8x640x2304 .bf16) (e : Fin 160) (j : Fin 2304) :
    ((cfg0.win 2).blk t).view.read (Elt Ideal) A (ix3 (0 : Fin 1) e j : S1x160x2304.Idx)
      = A (ix3 (grid0.coords t 0) ⟨160 * (grid0.coords t 1).val + e, by have := lt1 t; omega⟩ j) := by
  have i2 := (idx t).2.2.1
  blk_ext [i2]

/-- A block of the result's array. -/
theorem blk3 (t : Fin cfg0.N) (A : FVec Ideal S8x2048x512 .bf16) (j : Fin 1024) (n : Fin 128) :
    A (((cfg0.win 3).blk t).view.emb (ix3 (0 : Fin 1) j n : S1x1024x128.Idx))
      = A (ix3 (grid0.coords t 0) ⟨1024 * (grid0.coords t 2).val + j, by have := lt2 t; omega⟩
          ⟨128 * (grid0.coords t 1).val + n, by have := lt1 t; omega⟩) := by
  have i3 := (idx t).2.2.2
  blk_ext [i3]

theorem x0_eq (c : Dev nD) (t : Fin cfg0.N) :
    X0_0 m c t = (cfg0.win 0).fill (cfg0.grid.coords t) dflt0_0 (((cfg0.win 0).blk t).view.read (Elt Ideal) (oq m c)) := by
  rw [X0_0, iblk]
theorem x1_eq (c : Dev nD) (t : Fin cfg0.N) : iblk m c 1 t = ((cfg0.win 1).blk t).view.read (Elt Ideal) (ok m c) := by
  rw [iblk]
theorem x2_eq (c : Dev nD) (t : Fin cfg0.N) : iblk m c 2 t = ((cfg0.win 2).blk t).view.read (Elt Ideal) (ov m c) := by
  rw [iblk]

end Cert.Attn

end
-- ==== Proof.AttnHead.lean ====
/-
  A head's output block as a softmax over all 2304 keys: the nine blocks put together, and the quotient of the weighted
  sums by the sum of the weights read in base e.
-/
module

public import proofs.«01_k».proof.Proof.Attn

@[expose] public section

set_option maxRecDepth 16384

noncomputable section

namespace Cert.Attn

open Cert.KernelIdeal Cert.KernelIdeal.Gen Idealize.ShloMosaic Idealize.ShloMosaic.TcCoe Idealize.SL.Sem

theorem sum_nine (f : Fin 9 → EReal) :
    ∑ b, f b = f 0 + (f 1 + (f 2 + (f 3 + (f 4 + (f 5 + (f 6 + (f 7 + (f 8 + 0)))))))) := by
  rw [Fin.sum_univ_succ, Fin.sum_univ_succ, Fin.sum_univ_succ, Fin.sum_univ_succ, Fin.sum_univ_succ, Fin.sum_univ_succ,
    Fin.sum_univ_succ, Fin.sum_univ_succ, Fin.sum_univ_succ, Fin.sum_univ_zero]
  rfl

/-- A sum over 2304 keys as nine sums over 256. -/
theorem sum_blocks (f : Fin 2304 → EReal) :
    ∑ k, f k = ∑ k : Fin 256, f ⟨k, by omega⟩ + (∑ k : Fin 256, f ⟨256 + k, by omega⟩
      + (∑ k : Fin 256, f ⟨512 + k, by omega⟩ + (∑ k : Fin 256, f ⟨768 + k, by omega⟩
      + (∑ k : Fin 256, f ⟨1024 + k, by omega⟩ + (∑ k : Fin 256, f ⟨1280 + k, by omega⟩
      + (∑ k : Fin 256, f ⟨1536 + k, by omega⟩ + (∑ k : Fin 256, f ⟨1792 + k, by omega⟩
      + (∑ k : Fin 256, f ⟨2048 + k, by omega⟩ + 0)))))))) := by
  have e : ∑ k, f k = ∑ p : Fin 9 × Fin 256, f ⟨256 * p.1 + p.2, by omega⟩ := by
    rw [← (finProdFinEquiv (m := 9) (n := 256)).sum_comp]
    refine Finset.sum_congr rfl fun p _ => congrArg f (Fin.ext ?_)
    show (p.2 : Nat) + 256 * p.1 = 256 * p.1 + p.2
    omega
  rw [e, Fintype.sum_prod_type, sum_nine]
  simp only [Fin.val_zero, Fin.val_one, Fin.val_two, Nat.mul_zero, Nat.zero_add, Nat.mul_one]
  rfl

theorem tot0 (Q : FVec Ideal S128x1024 .bf16) (x1 : Vec Ideal S1x2304x256 .bf16) (x2 : Vec Ideal S1x160x2304 .bf16)
    (m : EReal) (r : Fin 80) (j : Fin 1024) :
    tot Q (f0 x1 x2 :: kv0 x1 x2) m r j
      = ∑ k : Fin 2304, Ideal.exp2 ((∑ d : Fin 128, x1 (ix3 0 k ⟨d, by omega⟩) * Q (ix2 d j)) - m) * x2 (ix3 0 ⟨r, by omega⟩ k) := by
  rw [sum_blocks]
  simp only [tot, f0, kv0, List.map_cons, List.map_nil, List.sum_cons, List.sum_nil]
  pointwise [S]

theorem tot1 (Q : FVec Ideal S128x1024 .bf16) (x1 : Vec Ideal S1x2304x256 .bf16) (x2 : Vec Ideal S1x160x2304 .bf16)
    (m : EReal) (r : Fin 80) (j : Fin 1024) :
    tot Q (f1 x1 x2 :: kv1 x1 x2) m r j
      = ∑ k : Fin 2304, Ideal.exp2 ((∑ d : Fin 128, x1 (ix3 0 k ⟨128 + d, by omega⟩) * Q (ix2 d j)) - m) * x2 (ix3 0 ⟨80 + r, by omega⟩ k) := by
  rw [sum_blocks]
  simp only [tot, f1, kv1, List.map_cons, List.map_nil, List.sum_cons, List.sum_nil]
  pointwise [S]

theorem real0 (Q : FVec Ideal S128x1024 .bf16) (x1 : Vec Ideal S1x2304x256 .bf16) (x2 : Vec Ideal S1x160x2304 .bf16)
    (j : Fin 1024) (h : ∀ k : Fin 2304, ∃ r : ℝ, ∑ d : Fin 128, x1 (ix3 0 k ⟨d, by omega⟩) * Q (ix2 d j) = r) :
    ∀ y ∈ f0 x1 x2 :: kv0 x1 x2, ∀ k, ∃ r : ℝ, S Q y k j = r := by
  simp only [f0, kv0, List.forall_mem_cons]
  refine ⟨?_, ?_, ?_, ?_, ?_, ?_, ?_, ?_, ?_, nofun⟩ <;> intro k
  · obtain ⟨r, e⟩ := h ⟨k, by omega⟩
    refine ⟨r, Eq.trans ?_ e⟩
    pointwise [S]
  · obtain ⟨r, e⟩ := h ⟨256 + k, by omega⟩
    refine ⟨r, Eq.trans ?_ e⟩
    pointwise [S]
  · obtain ⟨r, e⟩ := h ⟨512 + k, by omega⟩
    refine ⟨r, Eq.trans ?_ e⟩
    pointwise [S]
  · obtain ⟨r, e⟩ := h ⟨768 + k, by omega⟩
    refine ⟨r, Eq.trans ?_ e⟩
    pointwise [S]
  · obtain ⟨r, e⟩ := h ⟨1024 + k, by omega⟩
    refine ⟨r, Eq.trans ?_ e⟩
    pointwise [S]
  · obtain ⟨r, e⟩ := h ⟨1280 + k, by omega⟩
    refine ⟨r, Eq.trans ?_ e⟩
    pointwise [S]
  · obtain ⟨r, e⟩ := h ⟨1536 + k, by omega⟩
    refine ⟨r, Eq.trans ?_ e⟩
    pointwise [S]
  · obtain ⟨r, e⟩ := h ⟨1792 + k, by omega⟩
    refine ⟨r, Eq.trans ?_ e⟩
    pointwise [S]
  · obtain ⟨r, e⟩ := h ⟨2048 + k, by omega⟩
    refine ⟨r, Eq.trans ?_ e⟩
    pointwise [S]

theorem real1 (Q : FVec Ideal S128x1024 .bf16) (x1 : Vec Ideal S1x2304x256 .bf16) (x2 : Vec Ideal S1x160x2304 .bf16)
    (j : Fin 1024) (h : ∀ k : Fin 2304, ∃ r : ℝ, ∑ d : Fin 128, x1 (ix3 0 k ⟨128 + d, by omega⟩) * Q (ix2 d j) = r) :
    ∀ y ∈ f1 x1 x2 :: kv1 x1 x2, ∀ k, ∃ r : ℝ, S Q y k j = r := by
  simp only [f1, kv1, List.forall_mem_cons]
  refine ⟨?_, ?_, ?_, ?_, ?_, ?_, ?_, ?_, ?_, nofun⟩ <;> intro k
  · obtain ⟨r, e⟩ := h ⟨k, by omega⟩
    refine ⟨r, Eq.trans ?_ e⟩
    pointwise [S]
  · obtain ⟨r, e⟩ := h ⟨256 + k, by omega⟩
    refine ⟨r, Eq.trans ?_ e⟩
    pointwise [S]
  · obtain ⟨r, e⟩ := h ⟨512 + k, by omega⟩
    refine ⟨r, Eq.trans ?_ e⟩
    pointwise [S]
  · obtain ⟨r, e⟩ := h ⟨768 + k, by omega⟩
    refine ⟨r, Eq.trans ?_ e⟩
    pointwise [S]
  · obtain ⟨r, e⟩ := h ⟨1024 + k, by omega⟩
    refine ⟨r, Eq.trans ?_ e⟩
    pointwise [S]
  · obtain ⟨r, e⟩ := h ⟨1280 + k, by omega⟩
    refine ⟨r, Eq.trans ?_ e⟩
    pointwise [S]
  · obtain ⟨r, e⟩ := h ⟨1536 + k, by omega⟩
    refine ⟨r, Eq.trans ?_ e⟩
    pointwise [S]
  · obtain ⟨r, e⟩ := h ⟨1792 + k, by omega⟩
    refine ⟨r, Eq.trans ?_ e⟩
    pointwise [S]
  · obtain ⟨r, e⟩ := h ⟨2048 + k, by omega⟩
    refine ⟨r, Eq.trans ?_ e⟩
    pointwise [S]

/-- A HEAD'S OUTPUT at an index: from its blocks' contributions as one sum over all keys, a row of ones among the values. -/
theorem head_value (Q : FVec Ideal S128x1024 .bf16) (x : KV) (xs : List KV) (j : Fin 1024) (r : Fin 64)
    (hreal : ∀ y ∈ x :: xs, ∀ k, ∃ a : ℝ, S Q y k j = a) (s : Fin 2304 → ℝ) (v : Fin 2304 → EReal)
    (hr : ∀ m, tot Q (x :: xs) m ⟨r, by omega⟩ j
      = ∑ k, Ideal.exp2 (((s k * (Real.log 2)⁻¹ : ℝ) : EReal) - m) * v k)
    (h1 : ∀ m, tot Q (x :: xs) m 64 j = ∑ k, Ideal.exp2 (((s k * (Real.log 2)⁻¹ : ℝ) : EReal) - m)) (M : ℝ) :
    fin (sums Q x xs) (ix2 j r)
      = ∑ k, Ideal.div (Ideal.exp ((s k : EReal) - (M : EReal))) (∑ k', Ideal.exp ((s k' : EReal) - (M : EReal))) * v k := by
  obtain ⟨m, -, h⟩ := fold_inv Q j xs x (hreal x (by simp)) fun y hy => hreal y (by simp [hy])
  haveI : Nonempty (Fin 2304) := ⟨0⟩
  rw [fin_apply, sums, h, h, hr, h1]
  exact softmax_base s m M v

theorem q0_apply (x0 : Vec Ideal S1x256x1024 .bf16) (d : Fin 128) (j : Fin 1024) :
    q0 x0 (ix2 d j) = x0 (ix3 0 ⟨d, by omega⟩ j) * (((Real.sqrt 96)⁻¹ * (Real.log 2)⁻¹ : ℝ) : EReal) := by
  pointwise [q0, k0_pay2]
  rfl
theorem q1_apply (x0 : Vec Ideal S1x256x1024 .bf16) (d : Fin 128) (j : Fin 1024) :
    q1 x0 (ix2 d j) = x0 (ix3 0 ⟨128 + d, by omega⟩ j) * (((Real.sqrt 96)⁻¹ * (Real.log 2)⁻¹ : ℝ) : EReal) := by
  pointwise [q1, k0_pay3]
  rfl

end Cert.Attn

end
-- ==== Proof.AttnRef.lean ====
/-
  The reference of the attention read at an index, and the two programs' results compared: `reference`'s softmax in base
  e over `√96` against the kernel's in base two with the scale folded in, for real scores.
-/
module

public import proofs.«01_k».proof.Proof.Softmax
public import proofs.«01_k».proof.Proof.Gen.ReferenceIdeal.Run

@[expose] public section

set_option maxRecDepth 16384

noncomputable section

namespace Cert.AttnRef

open Cert.ReferenceIdeal Cert.ReferenceIdeal.Gen Idealize.ShloMosaic Idealize.ShloMosaic.TcCoe Idealize.SL.Sem Cert.Attn

/-- The scores. -/
def SR (q k : FVec Ideal S8x8x2304x96 .f32) : FVec Ideal S8x8x2048x2304 .f32 :=
  Host.divf (Host.dotGeneral dot_S8x8x2048x96_S8x8x2304x96_S8x8x2048x2304_3_3_2_2_01_01 none
    (extractStridedSlice S8x8x2048x96 ![0, 0, 0, 0] q slices_S8x8x2304x96_S8x8x2048x96_0_0_0_0) k)
    (broadcastInDim S8x8x2048x2304 ![] bcast_S_S8x8x2048x2304 (Host.sqrt (constant S_ .f32 0x42C00000#32)))

/-- The largest score of a query. -/
def MX (s : FVec Ideal S8x8x2048x2304 .f32) : FVec Ideal S8x8x2048 .f32 :=
  maximumf (broadcastInDim S8x8x2048 ![] bcast_S_S8x8x2048 (constant S_ .f32 0xFF800000#32))
    (Host.reduce FloatOps.maximumf s (constant S_ .f32 0xFF800000#32) reducesTo_S8x8x2048x2304_S8x8x2048_d3 h_S_)

/-- A number per query, at each of its keys. -/
def UP (y : FVec Ideal S8x8x2048 .f32) : FVec Ideal S8x8x2048x2304 .f32 :=
  broadcastInDim S8x8x2048x2304 ![0, 1, 2, 3] bcast_S8x8x2048x1_S8x8x2048x2304_0_1_2_3
    (broadcastInDim S8x8x2048x1 ![0, 1, 2] bcast_S8x8x2048_S8x8x2048x1_0_1_2 y)

/-- The weights. -/
def WT (s : FVec Ideal S8x8x2048x2304 .f32) : FVec Ideal S8x8x2048x2304 .f32 := Host.exp (subf s (UP (MX s)))

/-- The weights over their sum. -/
def PR (w : FVec Ideal S8x8x2048x2304 .f32) : FVec Ideal S8x8x2048x2304 .f32 :=
  Host.divf w (UP (Host.reduceAdd w (constant S_ .f32 0x00000000#32) reducesTo_S8x8x2048x2304_S8x8x2048_d3 h_S_))

/-- The weighted means of the values, the heads side by side. -/
def OT (p : FVec Ideal S8x8x2048x2304 .f32) (v : FVec Ideal S8x8x2304x64 .f32) : FVec Ideal S8x2048x512 .bf16 :=
  truncf .bf16 (shapeCast S8x2048x512 (transpose S8x2048x8x64 [0, 2, 1, 3]
    (Host.dotGeneral dot_S8x8x2048x2304_S8x8x2304x64_S8x8x2048x64_3_2_2_3_01_01 none p v)
    transposes_S8x8x2048x64_S8x2048x8x64_0_2_1_3) shapeCasts_S8x2048x8x64_S8x2048x512) bitsLt_bf16_f32

/-- The reference's result, of the queries, the keys and the values. -/
def REF (q k : FVec Ideal S8x8x2304x96 .f32) (v : FVec Ideal S8x8x2304x64 .f32) : FVec Ideal S8x2048x512 .bf16 :=
  OT (PR (WT (SR q k))) v

theorem SR_apply (q k : FVec Ideal S8x8x2304x96 .f32) (b h : Fin 8) (t : Fin 2048) (j : Fin 2304) :
    SR q k (ix4 b h t j) = Ideal.div (∑ d : Fin 96, q (ix4 b h ⟨t, by omega⟩ d) * k (ix4 b h j d))
      (Ideal.sqrt (Ideal.ofBits .f32 0x42C00000#32)) := by
  pointwise [SR]

theorem MX_reduces : S8x8x2048x2304.Reduces [3] S8x8x2048 := by decide

theorem lift_last {n0 n1 n2 n3 : Nat} (hr : (⟨4, ![n0, n1, n2, n3]⟩ : Shape).Reduces [3] (⟨3, ![n0, n1, n2]⟩ : Shape))
    (b : Fin n0) (h : Fin n1) (t : Fin n2) (j : Fin n3) : hr.lift (ix3 b h t) j = ix4 b h t j := by
  funext c; apply Fin.ext
  fin_cases c <;> rfl

/-- The host's maximum over the last axis of real numbers, against −∞, is real. -/
theorem max_real {n0 n1 n2 n3 : Nat} (s : FVec Ideal (⟨4, ![n0, n1, n2, n3]⟩ : Shape) .f32)
    (hr : (⟨4, ![n0, n1, n2, n3]⟩ : Shape).Reduces [3] (⟨3, ![n0, n1, n2]⟩ : Shape))
    (hr' : (⟨4, ![n0, n1, n2, n3]⟩ : Shape).ReducesTo [3] (⟨3, ![n0, n1, n2]⟩ : Shape)) (hu : 0 < S_.numel)
    (j0 : Fin n3) (b : Fin n0) (h : Fin n1) (t : Fin n2) (hs : ∀ j : Fin n3, ∃ r : ℝ, s (ix4 b h t j) = r) :
    ∃ M : ℝ, Host.reduce FloatOps.maximumf s (constant S_ .f32 0xFF800000#32) hr' hu (ix3 b h t) = M := by
  have hb : Ideal.ofBits .f32 0xFF800000#32 = (⊥ : EReal) := by simp [Ideal.ofBits, Ideal.ieee]
  rw [Host.reduce_eq_fold_single FloatOps.maximumf s _ _ hr]
  obtain ⟨M, e⟩ := exists_fold_max (Finset.univ : Finset (Fin n3)) ⟨j0, Finset.mem_univ _⟩ (s ∘ hr.lift (ix3 b h t)) fun j => by
    obtain ⟨r, e⟩ := hs j
    exact ⟨r, (congrArg s (lift_last hr b h t j)).trans e⟩
  refine ⟨M, Eq.trans ?_ e⟩
  rw [← hb]
  rfl

theorem MX_split (s : FVec Ideal S8x8x2048x2304 .f32) (j : S8x8x2048.Idx) :
    MX s j = max (Ideal.ofBits .f32 0xFF800000#32)
      (Host.reduce FloatOps.maximumf s (constant S_ .f32 0xFF800000#32) reducesTo_S8x8x2048x2304_S8x8x2048_d3 h_S_ j) := by
  rw [MX]
  exact maximumf_apply _ _ _

/-- The largest of real scores is real. -/
theorem MX_real (s : FVec Ideal S8x8x2048x2304 .f32) (b h : Fin 8) (t : Fin 2048)
    (hs : ∀ j : Fin 2304, ∃ r : ℝ, s (ix4 b h t j) = r) : ∃ M : ℝ, MX s (ix3 b h t) = M := by
  have hb : Ideal.ofBits .f32 0xFF800000#32 = (⊥ : EReal) := by simp [Ideal.ofBits, Ideal.ieee]
  rw [MX_split, hb, bot_sup_eq]
  exact max_real s MX_reduces _ _ ⟨0, by norm_num⟩ b h t hs

theorem UP_apply (y : FVec Ideal S8x8x2048 .f32) (b h : Fin 8) (t : Fin 2048) (j : Fin 2304) :
    UP y (ix4 b h t j) = y (ix3 b h t) := by
  pointwise [UP]

theorem WT_apply (s : FVec Ideal S8x8x2048x2304 .f32) (b h : Fin 8) (t : Fin 2048) (j : Fin 2304) :
    WT s (ix4 b h t j) = Ideal.exp (s (ix4 b h t j) - MX s (ix3 b h t)) := by
  pointwise [WT]
  rw [UP_apply]

theorem PR_apply (w : FVec Ideal S8x8x2048x2304 .f32) (b h : Fin 8) (t : Fin 2048) (j : Fin 2304) :
    PR w (ix4 b h t j) = Ideal.div (w (ix4 b h t j)) (∑ j' : Fin 2304, w (ix4 b h t j')) := by
  pointwise [PR]
  rw [UP_apply]
  pointwise

theorem OT_apply (p : FVec Ideal S8x8x2048x2304 .f32) (v : FVec Ideal S8x8x2304x64 .f32) (b : Fin 8) (t : Fin 2048) (n : Fin 512) :
    OT p v (ix3 b t n) = ∑ j : Fin 2304, p (ix4 b ⟨n / 64, by omega⟩ t j) * v (ix4 b ⟨n / 64, by omega⟩ j ⟨n % 64, by omega⟩) := by
  pointwise [OT]

theorem REF_apply (q k : FVec Ideal S8x8x2304x96 .f32) (v : FVec Ideal S8x8x2304x64 .f32) (b : Fin 8) (t : Fin 2048) (n : Fin 512) :
    REF q k v (ix3 b t n) = ∑ j : Fin 2304, Ideal.div
        (Ideal.exp (SR q k (ix4 b ⟨n / 64, by omega⟩ t j) - MX (SR q k) (ix3 b ⟨n / 64, by omega⟩ t)))
        (∑ j' : Fin 2304, Ideal.exp (SR q k (ix4 b ⟨n / 64, by omega⟩ t j') - MX (SR q k) (ix3 b ⟨n / 64, by omega⟩ t)))
      * v (ix4 b ⟨n / 64, by omega⟩ j ⟨n % 64, by omega⟩) := by
  rw [REF, OT_apply]
  refine Finset.sum_congr rfl fun j _ => ?_
  rw [PR_apply, WT_apply]
  simp only [WT_apply]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.ReferenceIdeal.Value.run m ρ)

/-! ## The two softmaxes -/

theorem ofBits_96 : Ideal.ofBits .f32 0x42C00000#32 = ((96 : ℝ) : EReal) := by
  simp [Ideal.ofBits, Ideal.ieee, -EReal.coe_mul]
  norm_num

/-- The kernel's score of real queries and keys: the padding adds nothing, and the scale comes out of the sum. -/
theorem score_pad (q k : Fin 96 → ℝ) (a : ℝ) :
    ∑ d : Fin 128, (if h : (d : Nat) < 96 then ((k ⟨d, h⟩ : ℝ) : EReal) else 0)
        * ((if h : (d : Nat) < 96 then ((q ⟨d, h⟩ : ℝ) : EReal) else 0) * (a : EReal))
      = (((∑ d : Fin 96, q d * k d) * a : ℝ) : EReal) := by
  have e : ∀ d : Fin 128, (if h : (d : Nat) < 96 then ((k ⟨d, h⟩ : ℝ) : EReal) else 0)
        * ((if h : (d : Nat) < 96 then ((q ⟨d, h⟩ : ℝ) : EReal) else 0) * (a : EReal))
      = ((if h : (d : Nat) < 96 then k ⟨d, h⟩ * (q ⟨d, h⟩ * a) else 0 : ℝ) : EReal) := fun d => by
    by_cases h : (d : Nat) < 96
    · simp only [h, dite_true, EReal.coe_mul]
    · simp only [h, dite_false, zero_mul, EReal.coe_zero]
  simp only [e]
  rw [coe_sum]
  congr 1
  rw [Finset.sum_mul]
  refine (Fin.sum_univ_add (fun d : Fin (96 + 32) => if h : (d : Nat) < 96 then k ⟨d, h⟩ * (q ⟨d, h⟩ * a) else 0)).trans ?_
  have z : ∑ i : Fin 32, (if h : ((Fin.natAdd 96 i : Fin (96 + 32)) : Nat) < 96 then k ⟨_, h⟩ * (q ⟨_, h⟩ * a) else 0) = 0 :=
    Finset.sum_eq_zero fun i _ => dif_neg (by simp)
  rw [z, add_zero]
  refine Finset.sum_congr rfl fun d _ => ?_
  rw [dif_pos (by simp)]
  simp only [Fin.val_castAdd, Fin.eta]
  ring

/-- The reference's score of real queries and keys. -/
theorem score_ref (q k : Fin 96 → ℝ) :
    Ideal.div (∑ d : Fin 96, ((q d : ℝ) : EReal) * ((k d : ℝ) : EReal)) (Ideal.sqrt (Ideal.ofBits .f32 0x42C00000#32))
      = (((∑ d : Fin 96, q d * k d) * (Real.sqrt 96)⁻¹ : ℝ) : EReal) := by
  rw [ofBits_96, Ideal.sqrt_coe, if_neg (by norm_num), Ideal.div_coe (by positivity)]
  simp only [← EReal.coe_mul]
  rw [coe_sum, ← EReal.coe_mul, one_div]

end Cert.AttnRef

end
-- ==== Proof.AttnVal.lean ====
/-
  The attention's result array: each written block as the reference's result read through it, for finite queries and keys.
-/
module

public import proofs.«01_k».proof.Proof.AttnBlk
public import proofs.«01_k».proof.Proof.AttnHead
public import proofs.«01_k».proof.Proof.AttnRef
public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

/-! ## A block's value -/

theorem halves (y z : FVec Ideal S1024x64 .f32) (j : Fin 1024) (n : Fin 128) :
    (shapeCast S1x1024x128 (truncf .bf16 (concatenate S1024x128 1 [⟨S1024x64, y⟩, ⟨S1024x64, z⟩]
        concatenates_S1024x64_S1024x64_S1024x128_d1) bitsLt_bf16_f32 : FVec Ideal S1024x128 .bf16) shapeCasts_S1024x128_S1x1024x128
        : FVec Ideal S1x1024x128 .bf16) (ix3 0 j n)
      = if h : (n : Nat) < 64 then y (ix2 j ⟨n, h⟩) else z (ix2 j ⟨n - 64, by omega⟩) := by
  pointwise

/-- The reference's result for one head and query, in real scores. -/
theorem ref_head (q k : FVec Ideal S8x8x2304x96 .f32) (v : FVec Ideal S8x8x2304x64 .f32) (b : Fin 8) (t : Fin 2048) (n : Fin 512)
    (Q : Fin 96 → ℝ) (K : Fin 2304 → Fin 96 → ℝ)
    (hQ : ∀ d, q (ix4 b ⟨n / 64, by omega⟩ ⟨t, by omega⟩ d) = Q d) (hK : ∀ j d, k (ix4 b ⟨n / 64, by omega⟩ j d) = K j d) :
    ∃ M : ℝ, Cert.AttnRef.REF q k v (ix3 b t n) = ∑ j : Fin 2304,
      Ideal.div (Ideal.exp ((((∑ d, Q d * K j d) * (Real.sqrt 96)⁻¹ : ℝ) : EReal) - (M : EReal)))
        (∑ j' : Fin 2304, Ideal.exp ((((∑ d, Q d * K j' d) * (Real.sqrt 96)⁻¹ : ℝ) : EReal) - (M : EReal)))
      * v (ix4 b ⟨n / 64, by omega⟩ j ⟨n % 64, by omega⟩) := by
  have e : ∀ j : Fin 2304, Cert.AttnRef.SR q k (ix4 b ⟨n / 64, by omega⟩ t j) = (((∑ d, Q d * K j d) * (Real.sqrt 96)⁻¹ : ℝ) : EReal) := fun j => by
    rw [Cert.AttnRef.SR_apply]
    simp only [hQ, hK]
    exact Cert.AttnRef.score_ref Q (K j)
  obtain ⟨M, hM⟩ := Cert.AttnRef.MX_real (Cert.AttnRef.SR q k) b ⟨n / 64, by omega⟩ t fun j => ⟨_, e j⟩
  refine ⟨M, ?_⟩
  rw [Cert.AttnRef.REF_apply, hM]
  simp only [e]

theorem block_value (q k : FVec Ideal S8x8x2304x96 .f32) (v : FVec Ideal S8x8x2304x64 .f32)
    (x0 : Vec Ideal S1x256x1024 .bf16) (x1 : Vec Ideal S1x2304x256 .bf16) (x2 : Vec Ideal S1x160x2304 .bf16)
    (b : Fin 8) (g : Fin 4) (r : Fin 2)
    (h0 : ∀ (e : Fin 256) (j : Fin 1024), x0 (ix3 0 e j) = mkq q (ix3 b ⟨256 * g + e, by omega⟩ ⟨1024 * r + j, by omega⟩))
    (h1 : ∀ (j : Fin 2304) (e : Fin 256), x1 (ix3 0 j e) = mkk k (ix3 b j ⟨256 * g + e, by omega⟩))
    (h2 : ∀ (e : Fin 160) (j : Fin 2304), x2 (ix3 0 e j) = mkv v (ix3 b ⟨160 * g + e, by omega⟩ j))
    (Q : Fin 8 → Fin 2048 → Fin 96 → ℝ) (K : Fin 8 → Fin 2304 → Fin 96 → ℝ)
    (hQ : ∀ h (t : Fin 2048) d, q (ix4 b h ⟨t, by omega⟩ d) = Q h t d) (hK : ∀ h j d, k (ix4 b h j d) = K h j d)
    (j : Fin 1024) (n : Fin 128) :
    (shapeCast S1x1024x128 (truncf .bf16 (concatenate S1024x128 1
          [⟨S1024x64, fin (sums (q0 x0) (f0 x1 x2) (kv0 x1 x2))⟩, ⟨S1024x64, fin (sums (q1 x0) (f1 x1 x2) (kv1 x1 x2))⟩]
          concatenates_S1024x64_S1024x64_S1024x128_d1) bitsLt_bf16_f32 : FVec Ideal S1024x128 .bf16) shapeCasts_S1024x128_S1x1024x128
        : FVec Ideal S1x1024x128 .bf16) (ix3 0 j n)
      = Cert.AttnRef.REF q k v (ix3 b ⟨1024 * r + j, by omega⟩ ⟨128 * g + n, by omega⟩) := by
  rw [halves]
  set T : Fin 2048 := ⟨1024 * r + j, by omega⟩ with hT
  by_cases hn : (n : Nat) < 64
  · rw [dif_pos hn]
    have hh : (⟨((⟨128 * g + n, by omega⟩ : Fin 512) : Nat) / 64, by omega⟩ : Fin 8) = ⟨2 * g, by omega⟩ := Fin.ext (by show (128 * (g : Nat) + n) / 64 = 2 * g; omega)
    have hc : (⟨((⟨128 * g + n, by omega⟩ : Fin 512) : Nat) % 64, by omega⟩ : Fin 64) = ⟨n, hn⟩ := Fin.ext (by show (128 * (g : Nat) + n) % 64 = n; omega)
    obtain ⟨M, e⟩ := ref_head q k v b T ⟨128 * g + n, by omega⟩ (Q ⟨2 * g, by omega⟩ T) (K ⟨2 * g, by omega⟩)
      (fun d => by rw [hh]; exact hQ _ T d) (fun i d => by rw [hh]; exact hK _ i d)
    rw [hh, hc] at e
    have hs : ∀ i : Fin 2304, ∑ d : Fin 128, x1 (ix3 0 i ⟨d, by omega⟩) * q0 x0 (ix2 d j)
        = ((((∑ d, Q ⟨2 * g, by omega⟩ T d * K ⟨2 * g, by omega⟩ i d) * (Real.sqrt 96)⁻¹) * (Real.log 2)⁻¹ : ℝ) : EReal) := fun i => by
      rw [mul_assoc, ← Cert.AttnRef.score_pad]
      refine Finset.sum_congr rfl fun d _ => ?_
      rw [q0_apply, h0, h1, mkq_apply, mkk_apply]
      have hm : (256 * (g : Nat) + d) % 128 = d := by omega
      have hd : (256 * (g : Nat) + d) / 128 = 2 * g := by omega
      simp only [hm, hd]
      by_cases hl : (d : Nat) < 96
      · simp only [dif_pos hl, hK]
        rw [show q (ix4 b ⟨2 * g, by omega⟩ ⟨1024 * r + j, by omega⟩ ⟨d, hl⟩) = _ from hQ ⟨2 * g, by omega⟩ T ⟨d, hl⟩]
      · simp only [dif_neg hl]
    rw [head_value (q0 x0) (f0 x1 x2) (kv0 x1 x2) j ⟨n, hn⟩ (real0 _ _ _ _ fun i => ⟨_, hs i⟩)
      (fun i => (∑ d, Q ⟨2 * g, by omega⟩ T d * K ⟨2 * g, by omega⟩ i d) * (Real.sqrt 96)⁻¹)
      (fun i => v (ix4 b ⟨2 * g, by omega⟩ i ⟨n, hn⟩)) ?_ ?_ M]
    · exact e.symm
    · intro m
      rw [tot0]
      simp only [hs]
      refine Finset.sum_congr rfl fun i _ => congrArg _ ?_
      rw [h2, mkv_apply]
      have hm : (160 * (g : Nat) + n) % 80 = n := by omega
      have hd : (160 * (g : Nat) + n) / 80 = 2 * g := by omega
      simp only [hm, hd, dif_pos hn]
    · intro m
      rw [tot0]
      simp only [hs]
      refine Finset.sum_congr rfl fun i _ => ?_
      rw [h2, mkv_apply]
      have hm : (160 * (g : Nat) + 64) % 80 = 64 := by omega
      have h64 : ((64 : Fin 80) : Nat) = 64 := rfl
      simp only [h64, hm, lt_irrefl, dite_false, if_true, mul_one]
  · rw [dif_neg hn]
    have hh : (⟨((⟨128 * g + n, by omega⟩ : Fin 512) : Nat) / 64, by omega⟩ : Fin 8) = ⟨2 * g + 1, by omega⟩ := Fin.ext (by show (128 * (g : Nat) + n) / 64 = 2 * g + 1; omega)
    have hc : (⟨((⟨128 * g + n, by omega⟩ : Fin 512) : Nat) % 64, by omega⟩ : Fin 64) = ⟨n - 64, by omega⟩ := Fin.ext (by show (128 * (g : Nat) + n) % 64 = n - 64; omega)
    obtain ⟨M, e⟩ := ref_head q k v b T ⟨128 * g + n, by omega⟩ (Q ⟨2 * g + 1, by omega⟩ T) (K ⟨2 * g + 1, by omega⟩)
      (fun d => by rw [hh]; exact hQ _ T d) (fun i d => by rw [hh]; exact hK _ i d)
    rw [hh, hc] at e
    have hs : ∀ i : Fin 2304, ∑ d : Fin 128, x1 (ix3 0 i ⟨128 + d, by omega⟩) * q1 x0 (ix2 d j)
        = ((((∑ d, Q ⟨2 * g + 1, by omega⟩ T d * K ⟨2 * g + 1, by omega⟩ i d) * (Real.sqrt 96)⁻¹) * (Real.log 2)⁻¹ : ℝ) : EReal) := fun i => by
      rw [mul_assoc, ← Cert.AttnRef.score_pad]
      refine Finset.sum_congr rfl fun d _ => ?_
      rw [q1_apply, h0, h1, mkq_apply, mkk_apply]
      have hm : (256 * (g : Nat) + (128 + d)) % 128 = d := by omega
      have hd : (256 * (g : Nat) + (128 + d)) / 128 = 2 * g + 1 := by omega
      simp only [hm, hd]
      by_cases hl : (d : Nat) < 96
      · simp only [dif_pos hl, hK]
        rw [show q (ix4 b ⟨2 * g + 1, by omega⟩ ⟨1024 * r + j, by omega⟩ ⟨d, hl⟩) = _ from hQ ⟨2 * g + 1, by omega⟩ T ⟨d, hl⟩]
      · simp only [dif_neg hl]
    rw [head_value (q1 x0) (f1 x1 x2) (kv1 x1 x2) j ⟨n - 64, by omega⟩ (real1 _ _ _ _ fun i => ⟨_, hs i⟩)
      (fun i => (∑ d, Q ⟨2 * g + 1, by omega⟩ T d * K ⟨2 * g + 1, by omega⟩ i d) * (Real.sqrt 96)⁻¹)
      (fun i => v (ix4 b ⟨2 * g + 1, by omega⟩ i ⟨n - 64, by omega⟩)) ?_ ?_ M]
    · exact e.symm
    · intro m
      rw [tot1]
      simp only [hs]
      refine Finset.sum_congr rfl fun i _ => congrArg _ ?_
      rw [h2, mkv_apply]
      have hm : (160 * (g : Nat) + (80 + (n - 64))) % 80 = n - 64 := by omega
      have hd : (160 * (g : Nat) + (80 + (n - 64))) / 80 = 2 * g + 1 := by omega
      have hl : (n : Nat) - 64 < 64 := by omega
      simp only [hm, hd, dif_pos hl]
    · intro m
      rw [tot1]
      simp only [hs]
      refine Finset.sum_congr rfl fun i _ => ?_
      rw [h2, mkv_apply]
      have hm : (160 * (g : Nat) + (80 + 64)) % 80 = 64 := by omega
      have h64 : ((64 : Fin 80) : Nat) = 64 := rfl
      simp only [h64, hm, lt_irrefl, dite_false, if_true, mul_one]

/-! ## The result's array -/

variable (m : (ℓ : Loc nD τ sig) → Buf (Elt Ideal) ℓ)

/-- The result's array, for real queries and keys. -/
theorem final (c : Dev nD) (Q : Fin 8 → Fin 8 → Fin 2048 → Fin 96 → ℝ) (K : Fin 8 → Fin 8 → Fin 2304 → Fin 96 → ℝ)
    (hQ : ∀ b h (t : Fin 2048) d, aq m c (ix4 b h ⟨t, by omega⟩ d) = Q b h t d) (hK : ∀ b h j d, ak m c (ix4 b h j d) = K b h j d) :
    (dats m 0 c).arrAt 3 cfg0.N = Cert.AttnRef.REF (aq m c) (ak m c) (av m c) := by
  refine (dats m 0 c).arrAt_eq_of_covers 3 _ (by decide +kernel) fun t hf y => ?_
  have key : ∀ (j : Fin 1024) (n : Fin 128), out0_A_3 c (grid0.coords t) (ms0_0 t) (hs0_0 t) (ms0_1 t) (hs0_1 t) (ms0_2 t) (hs0_2 t) (ms0_3 t) (hs0_3 t)
      (X0_0 m c t) (iblk m c 1 t) (iblk m c 2 t) (ix3 (0 : Fin 1) j n : S1x1024x128.Idx)
      = Cert.AttnRef.REF (aq m c) (ak m c) (av m c) (((cfg0.win 3).blk t).view.emb (ix3 (0 : Fin 1) j n : S1x1024x128.Idx)) := fun j n => by
    rw [out_eq]
    refine Eq.trans ?_ (blk3 t (Cert.AttnRef.REF (aq m c) (ak m c) (av m c)) j n).symm
    refine block_value (aq m c) (ak m c) (av m c) _ _ _ (grid0.coords t 0) (grid0.coords t 1) (grid0.coords t 2) ?_ ?_ ?_
      (Q (grid0.coords t 0)) (K (grid0.coords t 0)) (fun h t d => hQ _ h t d) (fun h j d => hK _ h j d) j n
    · intro e j
      rw [x0_eq, blk0, oq_eq]
    · intro j e
      rw [x1_eq, blk1, ok_eq]
    · intro e j
      rw [x2_eq, blk2, ov_eq]
  obtain ⟨j, n, rfl⟩ : ∃ (j : Fin 1024) (n : Fin 128), y = (ix3 (0 : Fin 1) j n : S1x1024x128.Idx) := by
    refine ⟨y 1, y 2, ?_⟩
    have h0 : (y 0).val < 1 := (y 0).isLt
    funext a
    fin_cases a
    · exact Fin.ext (Nat.lt_one_iff.mp h0)
    · rfl
    · rfl
  refine Eq.trans ?_ (key j n)
  rw [cast_eq, after0_3, outsAt0]
  rfl

end Cert.Attn

end
-- ==== Proof.AttnClaims.lean ====
/-
  The attention's claims: its frames, the sanctioned constant, and its value against the reference's for finite queries and
  keys.
-/
module

public import proofs.«01_k».proof.Defs
public import proofs.«01_k».proof.Proof.AttnVal
public import proofs.«01_k».proof.Proof.Gen.Kernel.Frame
public import proofs.«01_k».proof.Proof.Gen.Pre_finite_scores

@[expose] public section

set_option maxRecDepth 16384

noncomputable section

namespace Cert.AttnClaims

open Idealize.ShloMosaic Idealize.ShloMosaic.TcCoe Idealize.SL.Sem
open Cert.Pre_finite_scores (S8x8x2304x96 S8x8x2304x64 S8x8x2048x96 S8x8x4352x96 S_)

/-! ## The precondition read -/

theorem rows (y : IVec S8x8x2048x96 1) (z : IVec S8x8x2304x96 1)
    (hc : Shape.Concatenates [S8x8x2048x96, S8x8x2304x96] S8x8x4352x96 2) (b h : Fin 8) (t : Fin 4352) (d : Fin 96) :
    concatenate S8x8x4352x96 2 [⟨S8x8x2048x96, y⟩, ⟨S8x8x2304x96, z⟩] hc (ix4 b h t d)
      = if e : (t : Nat) < 2048 then y (ix4 b h ⟨t, e⟩ d) else z (ix4 b h ⟨t - 2048, by omega⟩ d) := by
  pointwise

/-- A number below +∞ in absolute value is real. -/
theorem real_of_lt (x : EReal) (h : FloatOps.cmpf (F := Ideal) (φ := .f32) .olt (FloatOps.hostAbsf (F := Ideal) (φ := .f32) x) (Ideal.ofBits .f32 0x7F800000#32) = 1#1) : ∃ r : ℝ, x = r := by
  have hb : Ideal.ofBits .f32 0x7F800000#32 = (⊤ : EReal) := by simp [Ideal.ofBits, Ideal.ieee]
  rw [hb] at h
  change Ideal.cmp .olt (max x (-x)) ⊤ = 1#1 at h
  induction x using EReal.rec with
  | coe r => exact ⟨r, rfl⟩
  | bot => simp [Ideal.cmp] at h
  | top => simp [Ideal.cmp] at h

theorem finite (h : Cert.Pre_finite_scores.Facts) (q k : FVec Ideal S8x8x2304x96 .f32) (v : FVec Ideal S8x8x2304x64 .f32)
    (e : Cert.Pre_finite_scores.fn q k v = fun _ => 1#1) :
    (∀ (b h : Fin 8) (t : Fin 2048) (d : Fin 96), ∃ r : ℝ, q (ix4 b h ⟨t, by omega⟩ d) = r)
    ∧ ∀ (b h : Fin 8) (t : Fin 2304) (d : Fin 96), ∃ r : ℝ, k (ix4 b h t d) = r := by
  constructor
  · intro b h t d
    have e := congrFun e (ix4 b h (⟨t, by omega⟩ : Fin 4352) d)
    unfold Cert.Pre_finite_scores.fn at e
    replace e := (rows _ _ _ b h _ d).symm.trans e
    rw [dif_pos t.isLt] at e
    refine real_of_lt _ (Eq.trans ?_ e)
    symm
    pointwise
  · intro b h t d
    have e := congrFun e (ix4 b h (⟨2048 + t, by omega⟩ : Fin 4352) d)
    unfold Cert.Pre_finite_scores.fn at e
    replace e := (rows _ _ _ b h _ d).symm.trans e
    rw [dif_neg (by simp)] at e
    refine real_of_lt _ (Eq.trans ?_ e)
    symm
    pointwise

/-! ## The claims -/

theorem frame : Cert.quiescent_Kernel := fun m ρ _ => Cert.Kernel.Gen.frame m ρ
theorem frameI : Cert.quiescent_KernelIdeal := fun m ρ _ => Cert.KernelIdeal.Gen.frame m ρ
theorem frameI' : Cert.quiescent_KernelIdeal_pre_finite_scores := fun m ρ _ => Cert.KernelIdeal.Gen.frame m ρ
theorem frameR : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frameR' : Cert.quiescent_ReferenceIdeal_pre_finite_scores := fun m ρ _ => frameR m ρ trivial

theorem preserves : Cert.preserves_Kernel_KernelIdeal :=
  IdealRules.named_const.statement Cert.KernelIdeal.κ "scale_log2e" .f32 0x3E16C740#32 (((Real.sqrt 96)⁻¹ * (Real.log 2)⁻¹ : ℝ) : EReal) rfl

theorem algebraic : Cert.algebraic_KernelIdeal_ReferenceIdeal_pre_finite_scores := by
  intro m g m' g' hpre hargs
  refine ⟨fun c => Cert.AttnRef.REF (Cert.Attn.aq m c) (Cert.Attn.ak m c) (Cert.Attn.av m c), ?_, ?_⟩
  · refine (θ_run Cert.KernelIdeal.defs _ _).mono (fun _ h c => ⟨(h c).1.trans ?_, (h c).2⟩) (Cert.KernelIdeal.Value.run_blocks (F := Ideal) m g)
    obtain ⟨hq, hk⟩ := finite _ _ _ _ (hpre c)
    choose Q hQ using hq
    choose K hK using hk
    exact Cert.Attn.final m c Q K hQ hK
  · refine (θ_run Cert.ReferenceIdeal.defs _ _).mono (fun _ h c => ⟨(h c).1.trans ?_, (h c).2⟩) (Cert.AttnRef.run m' g')
    obtain ⟨e0, e1, e2⟩ := hargs c
    rw [e0, e1, e2]

end Cert.AttnClaims

end
-- ==== Proof.Merge.lean ====
/-
  What the merge and MLP body leaves in its output block, as a composition of small pieces: the gated norm of a head,
  the output product, the gated residual, the modulated norm, a chunk of the hidden layer, the last norm.
-/
module

public import proofs.«01_k».proof.Proof.Gen.Kernel2Ideal.Value
public import Idealize.ShloMosaic.Lib.Pipeline.ValueKit

@[expose] public section

set_option maxRecDepth 16384

noncomputable section

namespace Cert.Merge

open Cert.Kernel2Ideal Cert.Kernel2Ideal.Gen Idealize.ShloMosaic Idealize.ShloMosaic.TcCoe Idealize.SL.Sem

/-- The mean of the squares of a head's rows, plus the small constant. -/
def hvar (x : FVec Ideal S256x128 .f32) : FVec Ideal S256x1 .f32 :=
  addf (divf (shapeCast S256x1 (multiReduction .add [1] S256 (mulf x x) 0x00000000#32 reduces_S256x128_S256 (.inl rfl) rfl)
      shapeCasts_S256_S256x1) (broadcast S256x1 (Scalar.ofBits .f32 0x43000000#32)))
    (broadcast S256x1 (Scalar.ofBits .f32 0x358637BD#32))

/-- The gate. -/
def silu (g : FVec Ideal S256x128 .f32) : FVec Ideal S256x128 .f32 :=
  mulf g (divf (broadcast S256x128 (Scalar.ofBits .f32 0x3F800000#32))
    (addf (broadcast S256x128 (Scalar.ofBits .f32 0x3F800000#32))
      (exp (subf (broadcast S256x128 (Scalar.ofBits .f32 0x00000000#32)) g))))

/-- A head's rows, normed and gated. -/
def hn (x g : FVec Ideal S256x128 .f32) (w : Vec Ideal S1x128 .f32) : FVec Ideal S256x128 .f32 :=
  mulf (mulf (mulf x (broadcastTo S256x128 (rsqrt (hvar x)) broadcasts_S256x1_S256x128))
      (broadcastTo S256x128 (shapeCast S1x128 w shapeCasts_S1x128_S1x128 : FVec Ideal S1x128 .f32) broadcasts_S1x128_S256x128))
    (silu g)

/-- The eight heads side by side. -/
def ys (x g : FVec Ideal S256x1024 .f32) (w : Vec Ideal S1x128 .f32) : FVec Ideal S256x1024 .f32 :=
  concatenate S256x1024 1
    [⟨S256x128, hn (extractStridedSlice S256x128 ![0, 0] x slices_S256x1024_o0_0_S256x128)
        (extractStridedSlice S256x128 ![0, 0] g slices_S256x1024_o0_0_S256x128) w⟩,
     ⟨S256x128, hn (extractStridedSlice S256x128 ![0, 128] x slices_S256x1024_o0_128_S256x128)
        (extractStridedSlice S256x128 ![0, 128] g slices_S256x1024_o0_128_S256x128) w⟩,
     ⟨S256x128, hn (extractStridedSlice S256x128 ![0, 256] x slices_S256x1024_o0_256_S256x128)
        (extractStridedSlice S256x128 ![0, 256] g slices_S256x1024_o0_256_S256x128) w⟩,
     ⟨S256x128, hn (extractStridedSlice S256x128 ![0, 384] x slices_S256x1024_o0_384_S256x128)
        (extractStridedSlice S256x128 ![0, 384] g slices_S256x1024_o0_384_S256x128) w⟩,
     ⟨S256x128, hn (extractStridedSlice S256x128 ![0, 512] x slices_S256x1024_o0_512_S256x128)
        (extractStridedSlice S256x128 ![0, 512] g slices_S256x1024_o0_512_S256x128) w⟩,
     ⟨S256x128, hn (extractStridedSlice S256x128 ![0, 640] x slices_S256x1024_o0_640_S256x128)
        (extractStridedSlice S256x128 ![0, 640] g slices_S256x1024_o0_640_S256x128) w⟩,
     ⟨S256x128, hn (extractStridedSlice S256x128 ![0, 768] x slices_S256x1024_o0_768_S256x128)
        (extractStridedSlice S256x128 ![0, 768] g slices_S256x1024_o0_768_S256x128) w⟩,
     ⟨S256x128, hn (extractStridedSlice S256x128 ![0, 896] x slices_S256x1024_o0_896_S256x128)
        (extractStridedSlice S256x128 ![0, 896] g slices_S256x1024_o0_896_S256x128) w⟩]
    concatenates_S256x128_S256x128_S256x128_S256x128_S256x128_S256x128_S256x128_S256x128_S256x1024_d1

/-- The two batches' rows, one below the other, times the output weights. -/
def wo (y z : FVec Ideal S256x1024 .f32) (w : Vec Ideal S1024x1024 .bf16) : FVec Ideal S512x1024 .f32 :=
  matmul dot_S512x1024_S1024x1024_S512x1024_1_0_0_1_n_n none
    (truncf .bf16 (concatenate S512x1024 0 [⟨S256x1024, y⟩, ⟨S256x1024, z⟩] concatenates_S256x1024_S256x1024_S512x1024_d0)
      bitsLt_bf16_f32)
    (shapeCast S1024x1024 w shapeCasts_S1024x1024_S1024x1024 : FVec Ideal S1024x1024 .bf16)
    (constant S512x1024 .f32 0x00000000#32)

/-- The rows of the first and of the second batch. -/
def lo (o : FVec Ideal S512x1024 .f32) : FVec Ideal S256x1024 .f32 :=
  extractStridedSlice S256x1024 ![0, 0] o slices_S512x1024_o0_0_S256x1024
def hi (o : FVec Ideal S512x1024 .f32) : FVec Ideal S256x1024 .f32 :=
  extractStridedSlice S256x1024 ![256, 0] o slices_S512x1024_o256_0_S256x1024

/-- The residual, its increment times row 2 or row 5 of the modulation. -/
def res2 (h : FVec Ideal S256x1024 .f32) (md : FVec Ideal S6x1024 .f32) (o : FVec Ideal S256x1024 .f32) :
    FVec Ideal S256x1024 .f32 :=
  addf h (mulf (broadcastTo S256x1024 (extractStridedSlice S1x1024 ![2, 0] md slices_S6x1024_o2_0_S1x1024)
    broadcasts_S1x1024_S256x1024) o)
def res5 (h : FVec Ideal S256x1024 .f32) (md : FVec Ideal S6x1024 .f32) (o : FVec Ideal S256x1024 .f32) :
    FVec Ideal S256x1024 .f32 :=
  addf h (mulf (broadcastTo S256x1024 (extractStridedSlice S1x1024 ![5, 0] md slices_S6x1024_o5_0_S1x1024)
    broadcasts_S1x1024_S256x1024) o)

/-- The norm of the stream's rows. -/
def rn (x : FVec Ideal S256x1024 .f32) (w : Vec Ideal S1x1024 .f32) : FVec Ideal S256x1024 .f32 :=
  mulf (mulf x (broadcastTo S256x1024 (rsqrt (addf (divf
      (shapeCast S256x1 (multiReduction .add [1] S256 (mulf x x) 0x00000000#32 reduces_S256x1024_S256 (.inl rfl) rfl)
        shapeCasts_S256_S256x1) (broadcast S256x1 (Scalar.ofBits .f32 0x44800000#32)))
      (broadcast S256x1 (Scalar.ofBits .f32 0x358637BD#32)))) broadcasts_S256x1_S256x1024))
    (broadcastTo S256x1024 (shapeCast S1x1024 w shapeCasts_S1x1024_S1x1024 : FVec Ideal S1x1024 .f32) broadcasts_S1x1024_S256x1024)

/-- The scale and the shift, rows 4 and 3 of the modulation. -/
def md43 (x : FVec Ideal S256x1024 .f32) (md : FVec Ideal S6x1024 .f32) : FVec Ideal S256x1024 .f32 :=
  addf (mulf x (broadcastTo S256x1024 (addf (broadcast S1x1024 (Scalar.ofBits .f32 0x3F800000#32))
      (extractStridedSlice S1x1024 ![4, 0] md slices_S6x1024_o4_0_S1x1024)) broadcasts_S1x1024_S256x1024))
    (broadcastTo S256x1024 (extractStridedSlice S1x1024 ![3, 0] md slices_S6x1024_o3_0_S1x1024) broadcasts_S1x1024_S256x1024)

/-- The two batches' rows as the MLP takes them. -/
def cat (a b : FVec Ideal S256x1024 .f32) : FVec Ideal S512x1024 .bf16 :=
  concatenate S512x1024 0 [⟨S256x1024, truncf .bf16 a bitsLt_bf16_f32⟩, ⟨S256x1024, truncf .bf16 b bitsLt_bf16_f32⟩]
    concatenates_S256x1024_S256x1024_S512x1024_d0

/-- The part of the MLP that goes through 1024 hidden units. -/
def chunk (a : FVec Ideal S512x1024 .bf16) (u v : Vec Ideal S1x1024x1024 .bf16) : FVec Ideal S512x1024 .f32 :=
  matmul dot_S512x1024_S1024x1024_S512x1024_1_0_0_1_n_n none
    (truncf .bf16 (mulf
        (maximumf (matmul dot_S512x1024_S1024x1024_S512x1024_1_0_0_1_n_n none a
          (shapeCast S1024x1024 u shapeCasts_S1x1024x1024_S1024x1024 : FVec Ideal S1024x1024 .bf16)
          (constant S512x1024 .f32 0x00000000#32)) (broadcast S512x1024 (Scalar.ofBits .f32 0x00000000#32)))
        (maximumf (matmul dot_S512x1024_S1024x1024_S512x1024_1_0_0_1_n_n none a
          (shapeCast S1024x1024 u shapeCasts_S1x1024x1024_S1024x1024 : FVec Ideal S1024x1024 .bf16)
          (constant S512x1024 .f32 0x00000000#32)) (broadcast S512x1024 (Scalar.ofBits .f32 0x00000000#32))))
      bitsLt_bf16_f32)
    (shapeCast S1024x1024 v shapeCasts_S1x1024x1024_S1024x1024 : FVec Ideal S1024x1024 .bf16)
    (constant S512x1024 .f32 0x00000000#32)

/-- The four parts. -/
def mlp (a : FVec Ideal S512x1024 .bf16) (u1 v1 u2 v2 u3 v3 u4 v4 : Vec Ideal S1x1024x1024 .bf16) : FVec Ideal S512x1024 .f32 :=
  addf (addf (addf (chunk a u1 v1) (chunk a u2 v2)) (chunk a u3 v3)) (chunk a u4 v4)

section blocks

variable (x0 x1 x2 x3 : Vec Ideal S2x256x1024 .f32) (x4 : Vec Ideal S1x128 .f32) (x5 : Vec Ideal S1024x1024 .bf16)
  (x6 : Vec Ideal S2x1x6x1024 .f32) (x7 : Vec Ideal S1x1024 .f32) (x8 : Vec Ideal S1x1024x4096 .bf16)
  (x9 : Vec Ideal S1x4096x1024 .bf16) (x10 : Vec Ideal S1x1024 .f32)

/-- The first and the second batch's part of a block. -/
def b0 (x : Vec Ideal S2x256x1024 .f32) : FVec Ideal S256x1024 .f32 :=
  shapeCast S256x1024 (View.ld x r0_2) shapeCasts_S1x256x1024_S256x1024
def b1 (x : Vec Ideal S2x256x1024 .f32) : FVec Ideal S256x1024 .f32 :=
  shapeCast S256x1024 (View.ld x r0_4) shapeCasts_S1x256x1024_S256x1024
def m0 : FVec Ideal S6x1024 .f32 := shapeCast S6x1024 (View.ld x6 r0_0) shapeCasts_S1x1x6x1024_S6x1024
def m1 : FVec Ideal S6x1024 .f32 := shapeCast S6x1024 (View.ld x6 r0_1) shapeCasts_S1x1x6x1024_S6x1024

/-- The body's output product, its stream after the first residual, its MLP. -/
def o : FVec Ideal S512x1024 .f32 :=
  wo (ys (addf (b0 x0) (b0 x1)) (b0 x2) (View.ld x4 r0_3)) (ys (addf (b1 x0) (b1 x1)) (b1 x2) (View.ld x4 r0_3)) (View.ld x5 r0_5)
def h0 : FVec Ideal S256x1024 .f32 := res2 (b0 x3) (m0 x6) (lo (o x0 x1 x2 x4 x5))
def h1 : FVec Ideal S256x1024 .f32 := res2 (b1 x3) (m1 x6) (hi (o x0 x1 x2 x4 x5))
def a : FVec Ideal S512x1024 .bf16 :=
  cat (md43 (rn (h0 x0 x1 x2 x3 x4 x5 x6) (View.ld x7 r0_6)) (m0 x6)) (md43 (rn (h1 x0 x1 x2 x3 x4 x5 x6) (View.ld x7 r0_6)) (m1 x6))
def f : FVec Ideal S512x1024 .f32 :=
  mlp (a x0 x1 x2 x3 x4 x5 x6 x7) (View.ld x8 r0_7) (View.ld x9 r0_8) (View.ld x8 r0_9) (View.ld x9 r0_10)
    (View.ld x8 r0_11) (View.ld x9 r0_12) (View.ld x8 r0_13) (View.ld x9 r0_14)
def r0 : FVec Ideal S256x1024 .f32 :=
  rn (res5 (h0 x0 x1 x2 x3 x4 x5 x6) (m0 x6) (lo (f x0 x1 x2 x3 x4 x5 x6 x7 x8 x9))) (View.ld x10 r0_6)
def r1 : FVec Ideal S256x1024 .f32 :=
  rn (res5 (h1 x0 x1 x2 x3 x4 x5 x6) (m1 x6) (hi (f x0 x1 x2 x3 x4 x5 x6 x7 x8 x9))) (View.ld x10 r0_6)

theorem p63 : k0_pay63 x0 x1 x2 x3 x4 x5 x6 x7 x8 x9 x10 = ys (addf (b0 x0) (b0 x1)) (b0 x2) (View.ld x4 r0_3) := rfl
theorem p76 : k0_pay76 x0 x1 x2 x3 x4 x5 x6 x7 x8 x9 x10 = o x0 x1 x2 x4 x5 := rfl
theorem p78 : k0_pay78 x0 x1 x2 x3 x4 x5 x6 x7 x8 x9 x10 = h0 x0 x1 x2 x3 x4 x5 x6 := by
  show res2 (b0 x3) (m0 x6) (lo (k0_pay76 x0 x1 x2 x3 x4 x5 x6 x7 x8 x9 x10)) = _
  rw [p76]; rfl
theorem p48 : k0_pay48 (k0_pay76 x0 x1 x2 x3 x4 x5 x6 x7 x8 x9 x10) (k0_pay77 x0 x1 x2 x3 x4 x5 x6 x7 x8 x9 x10)
    (k0_pay79 x0 x1 x2 x3 x4 x5 x6 x7 x8 x9 x10) = h1 x0 x1 x2 x3 x4 x5 x6 := by
  rw [p76]; rfl
theorem p84 : k0_pay84 x0 x1 x2 x3 x4 x5 x6 x7 x8 x9 x10 = a x0 x1 x2 x3 x4 x5 x6 x7 := by
  show cat (md43 (rn (k0_pay78 x0 x1 x2 x3 x4 x5 x6 x7 x8 x9 x10) (View.ld x7 r0_6)) (m0 x6))
    (md43 (rn (k0_pay48 (k0_pay76 x0 x1 x2 x3 x4 x5 x6 x7 x8 x9 x10) (k0_pay77 x0 x1 x2 x3 x4 x5 x6 x7 x8 x9 x10)
    (k0_pay79 x0 x1 x2 x3 x4 x5 x6 x7 x8 x9 x10)) (View.ld x7 r0_6)) (m1 x6)) = _
  rw [p78, p48]; rfl

theorem mlp_eq (A : FVec Ideal S256x1024 .bf16) (B C : FVec Ideal S256x1024 .f32) (u1 v1 u2 v2 u3 v3 u4 v4 : Vec Ideal S1x1024x1024 .bf16) :
    k0_pay56 (k0_pay52 A B C) (k0_pay53 A B C u1 v1 u2 v2) (k0_pay54 v3) (k0_pay55 A B C u3)
      (constant S512x1024 .f32 0x00000000#32) u4 v4 = mlp (k0_pay52 A B C) u1 v1 u2 v2 u3 v3 u4 v4 := rfl

theorem pf : k0_pay56 (k0_pay84 x0 x1 x2 x3 x4 x5 x6 x7 x8 x9 x10) (k0_pay85 x0 x1 x2 x3 x4 x5 x6 x7 x8 x9 x10)
    (k0_pay86 x0 x1 x2 x3 x4 x5 x6 x7 x8 x9 x10) (k0_pay87 x0 x1 x2 x3 x4 x5 x6 x7 x8 x9 x10)
    (k0_pay83 x0 x1 x2 x3 x4 x5 x6 x7 x8 x9 x10) (View.ld x8 r0_13) (View.ld x9 r0_14)
    = f x0 x1 x2 x3 x4 x5 x6 x7 x8 x9 := by
  unfold k0_pay85 k0_pay86 k0_pay87 k0_pay83
  have e := p84 x0 x1 x2 x3 x4 x5 x6 x7 x8 x9 x10
  unfold k0_pay84 at e ⊢
  rw [mlp_eq, e]
  rfl

theorem out_eq : out0_11 x0 x1 x2 x3 x4 x5 x6 x7 x8 x9 x10
    = View.canon [⟨r0_4, shapeCast S1x256x1024 (r1 x0 x1 x2 x3 x4 x5 x6 x7 x8 x9 x10) shapeCasts_S256x1024_S1x256x1024⟩,
        ⟨r0_2, shapeCast S1x256x1024 (r0 x0 x1 x2 x3 x4 x5 x6 x7 x8 x9 x10) shapeCasts_S256x1024_S1x256x1024⟩] := by
  unfold out0_11 k0_pay57 k0_pay58
  rw [pf, p78, p48]
  rfl

end blocks

end Cert.Merge

end
-- ==== Proof.MergeRow.lean ====
/-
  The merge and MLP of one token: functions of its rows (`yrow`, `post`, `rms`).
-/
module

public import Idealize.ShloMosaic.Lib.Pointwise

@[expose] public section

noncomputable section

namespace Cert.Merge

open Idealize.ShloMosaic

/-- A row's norm: over the square root of the mean of its squares, times a weight. -/
def rms {n : Nat} (c : EReal) (x w : Fin n → EReal) (k : Fin n) : EReal :=
  x k * Ideal.rsqrt (Ideal.div (∑ j, x j * x j) c + Ideal.ofBits FTy.f32 897988541#32) * w k

abbrev c128 : EReal := Ideal.ofBits FTy.f32 1124073472#32
abbrev c1024 : EReal := Ideal.ofBits FTy.f32 1149239296#32

/-- The gate of a number. -/
def gate (g : EReal) : EReal := g * Ideal.div 1 (1 + Ideal.exp (-g))

/-- Column `e` of the head that column `k` lies in. -/
abbrev hcol {n : Nat} (k : Fin (128 * n)) (e : Fin 128) : Fin (128 * n) := ⟨128 * (k / 128) + e, by omega⟩

/-- The heads of a row, each normed and gated. -/
def yrow (x g : Fin 1024 → EReal) (w : Fin 128 → EReal) (k : Fin 1024) : EReal :=
  rms c128 (fun e : Fin 128 => x ⟨128 * (k / 128) + e, by omega⟩) w ⟨k % 128, by omega⟩ * gate (g k)

/-- A row times a matrix. -/
def prod {a b : Nat} (y : Fin a → EReal) (w : Fin a → Fin b → EReal) (n : Fin b) : EReal := ∑ k, y k * w k n

/-- The square of what is positive of a number. -/
def sqr (x : EReal) : EReal := max x 0 * max x 0

/-- The hidden layer of a row. -/
def mlpr (a : Fin 1024 → EReal) (w1 : Fin 1024 → Fin 4096 → EReal) (w2 : Fin 4096 → Fin 1024 → EReal) (n : Fin 1024) : EReal :=
  ∑ f, sqr (prod a w1 f) * w2 f n

/-- The scale and the shift of a row. -/
def mod43 (x : Fin 1024 → EReal) (md : Fin 6 → Fin 1024 → EReal) (k : Fin 1024) : EReal := x k * (1 + md 4 k) + md 3 k

/-- The stream after the merge. -/
def mid (h o : Fin 1024 → EReal) (md : Fin 6 → Fin 1024 → EReal) (k : Fin 1024) : EReal := h k + md 2 k * o k

/-- The stream after the MLP. -/
def post (s : Fin 1024 → EReal) (md : Fin 6 → Fin 1024 → EReal) (n2 : Fin 1024 → EReal)
    (w1 : Fin 1024 → Fin 4096 → EReal) (w2 : Fin 4096 → Fin 1024 → EReal) (k : Fin 1024) : EReal :=
  s k + md 5 k * mlpr (mod43 (rms c1024 s n2) md) w1 w2 k

/-- A sum over 4096 in four parts. -/
theorem sum_four (g : Fin 4096 → EReal) :
    ((∑ k : Fin 1024, g ⟨k, by omega⟩) + ∑ k : Fin 1024, g ⟨1024 + k, by omega⟩) + (∑ k : Fin 1024, g ⟨2048 + k, by omega⟩)
      + (∑ k : Fin 1024, g ⟨3072 + k, by omega⟩) = ∑ k, g k := by
  refine Eq.symm ((Fin.sum_univ_add (a := 3072) (b := 1024) g).trans ?_)
  refine congrArg₂ (· + ·) ?_ rfl
  refine (Fin.sum_univ_add (a := 2048) (b := 1024) _).trans ?_
  refine congrArg₂ (· + ·) ?_ rfl
  exact (Fin.sum_univ_add (a := 1024) (b := 1024) _).trans rfl

end Cert.Merge

end
-- ==== Proof.MergeApply.lean ====
/-
  The merge and MLP body's pieces read at an index, and with them its output block: for each batch and each token the
  functions of that token's rows.
-/
module

public import proofs.«01_k».proof.Proof.Merge
public import proofs.«01_k».proof.Proof.MergeRow

@[expose] public section

set_option maxRecDepth 16384

noncomputable section

namespace Cert.Merge

open Cert.Kernel2Ideal Cert.Kernel2Ideal.Gen Idealize.ShloMosaic Idealize.ShloMosaic.TcCoe Idealize.SL.Sem

theorem hn_apply (x g : FVec Ideal S256x128 .f32) (w : Vec Ideal S1x128 .f32) (i : Fin 256) (d : Fin 128) :
    hn x g w (ix2 i d) = rms c128 (fun e => x (ix2 i e)) (fun e => w (ix2 0 e)) d * gate (g (ix2 i d)) := by
  pointwise [hn, hvar, silu]
  rw [zero_sub]
  rfl

/-- Eight heads side by side, read in each. -/
theorem cat8_0 (y0 y1 y2 y3 y4 y5 y6 y7 : FVec Ideal S256x128 .f32) (i : Fin 256) (d : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩]
      concatenates_S256x128_S256x128_S256x128_S256x128_S256x128_S256x128_S256x128_S256x128_S256x1024_d1 (ix2 i ⟨d, by omega⟩ : S256x1024.Idx) = y0 (ix2 i d) := by
  pointwise
theorem cat8_1 (y0 y1 y2 y3 y4 y5 y6 y7 : FVec Ideal S256x128 .f32) (i : Fin 256) (d : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩]
      concatenates_S256x128_S256x128_S256x128_S256x128_S256x128_S256x128_S256x128_S256x128_S256x1024_d1 (ix2 i ⟨128 + d, by omega⟩ : S256x1024.Idx) = y1 (ix2 i d) := by
  pointwise
theorem cat8_2 (y0 y1 y2 y3 y4 y5 y6 y7 : FVec Ideal S256x128 .f32) (i : Fin 256) (d : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩]
      concatenates_S256x128_S256x128_S256x128_S256x128_S256x128_S256x128_S256x128_S256x128_S256x1024_d1 (ix2 i ⟨256 + d, by omega⟩ : S256x1024.Idx) = y2 (ix2 i d) := by
  pointwise
  repeat rw [dif_neg (by omega)]
  rw [dif_pos (by omega)]
  exact congrArg (fun z => y2 (ix2 i z)) (Fin.ext (by simp only; omega))
theorem cat8_3 (y0 y1 y2 y3 y4 y5 y6 y7 : FVec Ideal S256x128 .f32) (i : Fin 256) (d : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩]
      concatenates_S256x128_S256x128_S256x128_S256x128_S256x128_S256x128_S256x128_S256x128_S256x1024_d1 (ix2 i ⟨384 + d, by omega⟩ : S256x1024.Idx) = y3 (ix2 i d) := by
  pointwise
  repeat rw [dif_neg (by omega)]
  rw [dif_pos (by omega)]
  exact congrArg (fun z => y3 (ix2 i z)) (Fin.ext (by simp only; omega))
theorem cat8_4 (y0 y1 y2 y3 y4 y5 y6 y7 : FVec Ideal S256x128 .f32) (i : Fin 256) (d : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩]
      concatenates_S256x128_S256x128_S256x128_S256x128_S256x128_S256x128_S256x128_S256x128_S256x1024_d1 (ix2 i ⟨512 + d, by omega⟩ : S256x1024.Idx) = y4 (ix2 i d) := by
  pointwise
  repeat rw [dif_neg (by omega)]
  rw [dif_pos (by omega)]
  exact congrArg (fun z => y4 (ix2 i z)) (Fin.ext (by simp only; omega))
theorem cat8_5 (y0 y1 y2 y3 y4 y5 y6 y7 : FVec Ideal S256x128 .f32) (i : Fin 256) (d : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩]
      concatenates_S256x128_S256x128_S256x128_S256x128_S256x128_S256x128_S256x128_S256x128_S256x1024_d1 (ix2 i ⟨640 + d, by omega⟩ : S256x1024.Idx) = y5 (ix2 i d) := by
  pointwise
  repeat rw [dif_neg (by omega)]
  rw [dif_pos (by omega)]
  exact congrArg (fun z => y5 (ix2 i z)) (Fin.ext (by simp only; omega))
theorem cat8_6 (y0 y1 y2 y3 y4 y5 y6 y7 : FVec Ideal S256x128 .f32) (i : Fin 256) (d : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩]
      concatenates_S256x128_S256x128_S256x128_S256x128_S256x128_S256x128_S256x128_S256x128_S256x1024_d1 (ix2 i ⟨768 + d, by omega⟩ : S256x1024.Idx) = y6 (ix2 i d) := by
  pointwise
  repeat rw [dif_neg (by omega)]
  rw [dif_pos (by omega)]
  exact congrArg (fun z => y6 (ix2 i z)) (Fin.ext (by simp only; omega))
theorem cat8_7 (y0 y1 y2 y3 y4 y5 y6 y7 : FVec Ideal S256x128 .f32) (i : Fin 256) (d : Fin 128) :
    concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩]
      concatenates_S256x128_S256x128_S256x128_S256x128_S256x128_S256x128_S256x128_S256x128_S256x1024_d1 (ix2 i ⟨896 + d, by omega⟩ : S256x1024.Idx) = y7 (ix2 i d) := by
  pointwise
  repeat rw [dif_neg (by omega)]
  exact congrArg (fun z => y7 (ix2 i z)) (Fin.ext (by simp only; omega))

theorem ys_head (x g : FVec Ideal S256x1024 .f32) (w : Vec Ideal S1x128 .f32) (i : Fin 256) (hd : Fin 8) (d : Fin 128) :
    ys x g w (ix2 i ⟨128 * hd + d, by omega⟩) = rms c128 (fun e : Fin 128 => x (ix2 i ⟨128 * hd + e, by omega⟩)) (fun e => w (ix2 0 e)) d
      * gate (g (ix2 i ⟨128 * hd + d, by omega⟩)) := by
  have key : ∀ (a b : FVec Ideal S256x128 .f32) (p : Fin 128 → EReal) (q : EReal), (∀ e, a (ix2 i e) = p e) → b (ix2 i d) = q →
      hn a b w (ix2 i d) = rms c128 p (fun e => w (ix2 0 e)) d * gate q := by
    intro a b p q hp hq
    rw [hn_apply, hq, funext hp]
  unfold ys
  match hd with
  | ⟨0, _⟩ =>
    have q := @cat8_0
    simp only [Nat.mul_zero, Nat.zero_add, Nat.reduceMul] at q ⊢
    refine (q _ _ _ _ _ _ _ _ i d).trans (key _ _ _ _ (fun e => ?_) ?_)
    all_goals pointwise
  | ⟨1, _⟩ =>
    have q := @cat8_1
    simp only [Nat.mul_zero, Nat.zero_add, Nat.reduceMul] at q ⊢
    refine (q _ _ _ _ _ _ _ _ i d).trans (key _ _ _ _ (fun e => ?_) ?_)
    all_goals pointwise
  | ⟨2, _⟩ =>
    have q := @cat8_2
    simp only [Nat.mul_zero, Nat.zero_add, Nat.reduceMul] at q ⊢
    refine (q _ _ _ _ _ _ _ _ i d).trans (key _ _ _ _ (fun e => ?_) ?_)
    all_goals pointwise
  | ⟨3, _⟩ =>
    have q := @cat8_3
    simp only [Nat.mul_zero, Nat.zero_add, Nat.reduceMul] at q ⊢
    refine (q _ _ _ _ _ _ _ _ i d).trans (key _ _ _ _ (fun e => ?_) ?_)
    all_goals pointwise
  | ⟨4, _⟩ =>
    have q := @cat8_4
    simp only [Nat.mul_zero, Nat.zero_add, Nat.reduceMul] at q ⊢
    refine (q _ _ _ _ _ _ _ _ i d).trans (key _ _ _ _ (fun e => ?_) ?_)
    all_goals pointwise
  | ⟨5, _⟩ =>
    have q := @cat8_5
    simp only [Nat.mul_zero, Nat.zero_add, Nat.reduceMul] at q ⊢
    refine (q _ _ _ _ _ _ _ _ i d).trans (key _ _ _ _ (fun e => ?_) ?_)
    all_goals pointwise
  | ⟨6, _⟩ =>
    have q := @cat8_6
    simp only [Nat.mul_zero, Nat.zero_add, Nat.reduceMul] at q ⊢
    refine (q _ _ _ _ _ _ _ _ i d).trans (key _ _ _ _ (fun e => ?_) ?_)
    all_goals pointwise
  | ⟨7, _⟩ =>
    have q := @cat8_7
    simp only [Nat.mul_zero, Nat.zero_add, Nat.reduceMul] at q ⊢
    refine (q _ _ _ _ _ _ _ _ i d).trans (key _ _ _ _ (fun e => ?_) ?_)
    all_goals pointwise

theorem ys_apply (x g : FVec Ideal S256x1024 .f32) (w : Vec Ideal S1x128 .f32) (i : Fin 256) (k : Fin 1024) :
    ys x g w (ix2 i k) = yrow (fun e => x (ix2 i e)) (fun e => g (ix2 i e)) (fun e => w (ix2 0 e)) k := by
  have hk : k = ⟨128 * (k / 128) + k % 128, by omega⟩ := Fin.ext (by simp only; omega)
  have e := ys_head x g w i ⟨k / 128, by omega⟩ ⟨k % 128, by omega⟩
  simp only [← hk] at e
  exact e

theorem lo_wo (y z : FVec Ideal S256x1024 .f32) (w : Vec Ideal S1024x1024 .bf16) (i : Fin 256) (n : Fin 1024) :
    lo (wo y z w) (ix2 i n) = prod (fun k => y (ix2 i k)) (fun k n => w (ix2 k n)) n := by
  pointwise [lo, wo, prod]
theorem hi_wo (y z : FVec Ideal S256x1024 .f32) (w : Vec Ideal S1024x1024 .bf16) (i : Fin 256) (n : Fin 1024) :
    hi (wo y z w) (ix2 i n) = prod (fun k => z (ix2 i k)) (fun k n => w (ix2 k n)) n := by
  pointwise [hi, wo, prod]
theorem res2_apply (h : FVec Ideal S256x1024 .f32) (md : FVec Ideal S6x1024 .f32) (o : FVec Ideal S256x1024 .f32)
    (i : Fin 256) (n : Fin 1024) : res2 h md o (ix2 i n) = h (ix2 i n) + md (ix2 2 n) * o (ix2 i n) := by
  pointwise [res2]
theorem res5_apply (h : FVec Ideal S256x1024 .f32) (md : FVec Ideal S6x1024 .f32) (o : FVec Ideal S256x1024 .f32)
    (i : Fin 256) (n : Fin 1024) : res5 h md o (ix2 i n) = h (ix2 i n) + md (ix2 5 n) * o (ix2 i n) := by
  pointwise [res5]
theorem rn_apply (x : FVec Ideal S256x1024 .f32) (w : Vec Ideal S1x1024 .f32) (i : Fin 256) (n : Fin 1024) :
    rn x w (ix2 i n) = rms c1024 (fun k => x (ix2 i k)) (fun k => w (ix2 0 k)) n := by
  pointwise [rn, rms]
theorem md43_apply (x : FVec Ideal S256x1024 .f32) (md : FVec Ideal S6x1024 .f32) (i : Fin 256) (n : Fin 1024) :
    md43 x md (ix2 i n) = mod43 (fun k => x (ix2 i k)) (fun r k => md (ix2 r k)) n := by
  pointwise [md43, mod43]
theorem cat_lo (a b : FVec Ideal S256x1024 .f32) (i : Fin 256) (n : Fin 1024) :
    cat a b (ix2 ⟨i, by omega⟩ n) = a (ix2 i n) := by
  pointwise [cat]
theorem cat_hi (a b : FVec Ideal S256x1024 .f32) (i : Fin 256) (n : Fin 1024) :
    cat a b (ix2 ⟨256 + i, by omega⟩ n) = b (ix2 i n) := by
  pointwise [cat]
theorem chunk_apply (a : FVec Ideal S512x1024 .bf16) (u v : Vec Ideal S1x1024x1024 .bf16) (i : Fin 512) (n : Fin 1024) :
    chunk a u v (ix2 i n) = ∑ f, sqr (∑ k, a (ix2 i k) * u (ix3 0 k f)) * v (ix3 0 f n) := by
  pointwise [chunk, sqr]
theorem lo_apply (o : FVec Ideal S512x1024 .f32) (i : Fin 256) (n : Fin 1024) : lo o (ix2 i n) = o (ix2 ⟨i, by omega⟩ n) := by
  pointwise [lo]
theorem hi_apply (o : FVec Ideal S512x1024 .f32) (i : Fin 256) (n : Fin 1024) : hi o (ix2 i n) = o (ix2 ⟨256 + i, by omega⟩ n) := by
  pointwise [hi]

section loads

variable (u : Vec Ideal S1x1024x4096 .bf16) (v : Vec Ideal S1x4096x1024 .bf16)

theorem u1 (k f : Fin 1024) : View.ld u r0_7 (ix3 (0 : Fin 1) k f : S1x1024x1024.Idx) = u (ix3 0 k ⟨f, by omega⟩) := by pointwise
theorem u2 (k f : Fin 1024) : View.ld u r0_9 (ix3 (0 : Fin 1) k f : S1x1024x1024.Idx) = u (ix3 0 k ⟨1024 + f, by omega⟩) := by pointwise
theorem u3 (k f : Fin 1024) : View.ld u r0_11 (ix3 (0 : Fin 1) k f : S1x1024x1024.Idx) = u (ix3 0 k ⟨2048 + f, by omega⟩) := by pointwise
theorem u4 (k f : Fin 1024) : View.ld u r0_13 (ix3 (0 : Fin 1) k f : S1x1024x1024.Idx) = u (ix3 0 k ⟨3072 + f, by omega⟩) := by pointwise
theorem v1 (k f : Fin 1024) : View.ld v r0_8 (ix3 (0 : Fin 1) f k : S1x1024x1024.Idx) = v (ix3 0 ⟨f, by omega⟩ k) := by pointwise
theorem v2 (k f : Fin 1024) : View.ld v r0_10 (ix3 (0 : Fin 1) f k : S1x1024x1024.Idx) = v (ix3 0 ⟨1024 + f, by omega⟩ k) := by pointwise
theorem v3 (k f : Fin 1024) : View.ld v r0_12 (ix3 (0 : Fin 1) f k : S1x1024x1024.Idx) = v (ix3 0 ⟨2048 + f, by omega⟩ k) := by pointwise
theorem v4 (k f : Fin 1024) : View.ld v r0_14 (ix3 (0 : Fin 1) f k : S1x1024x1024.Idx) = v (ix3 0 ⟨3072 + f, by omega⟩ k) := by pointwise

/-- The four chunks are the hidden layer. -/
theorem mlp_apply (a : FVec Ideal S512x1024 .bf16) (i : Fin 512) (n : Fin 1024) :
    mlp a (View.ld u r0_7) (View.ld v r0_8) (View.ld u r0_9) (View.ld v r0_10) (View.ld u r0_11) (View.ld v r0_12)
      (View.ld u r0_13) (View.ld v r0_14) (ix2 i n)
      = mlpr (fun k => a (ix2 i k)) (fun k f => u (ix3 0 k f)) (fun f n => v (ix3 0 f n)) n := by
  refine Eq.trans ?_ (sum_four _)
  pointwise [mlp]
  rw [chunk_apply, chunk_apply, chunk_apply, chunk_apply]
  refine congrArg₂ (· + ·) (congrArg₂ (· + ·) (congrArg₂ (· + ·) ?_ ?_) ?_) ?_
  all_goals refine Finset.sum_congr rfl fun f _ => ?_
  · rw [v1]; refine congrArg (fun z => sqr z * _) (Finset.sum_congr rfl fun k _ => ?_); rw [u1]
  · rw [v2]; refine congrArg (fun z => sqr z * _) (Finset.sum_congr rfl fun k _ => ?_); rw [u2]
  · rw [v3]; refine congrArg (fun z => sqr z * _) (Finset.sum_congr rfl fun k _ => ?_); rw [u3]
  · rw [v4]; refine congrArg (fun z => sqr z * _) (Finset.sum_congr rfl fun k _ => ?_); rw [u4]

end loads

end Cert.Merge

end
-- ==== Proof.MergeOut.lean ====
/-
  The merge and MLP body's output block read at an index.
-/
module

public import proofs.«01_k».proof.Proof.MergeApply

@[expose] public section

set_option maxRecDepth 16384

noncomputable section

namespace Cert.Merge

open Cert.Kernel2Ideal Cert.Kernel2Ideal.Gen Idealize.ShloMosaic Idealize.ShloMosaic.TcCoe Idealize.SL.Sem

/-- The merge and MLP of a token, from its rows of a block. -/
def row (X G H : Fin 1024 → EReal) (w : Fin 128 → EReal) (W : Fin 1024 → Fin 1024 → EReal) (md : Fin 6 → Fin 1024 → EReal)
    (n2 : Fin 1024 → EReal) (w1 : Fin 1024 → Fin 4096 → EReal) (w2 : Fin 4096 → Fin 1024 → EReal) : Fin 1024 → EReal :=
  post (mid H (prod (yrow X G w) W) md) md n2 w1 w2

variable (x0 x1 x2 x3 : Vec Ideal S2x256x1024 .f32) (x4 : Vec Ideal S1x128 .f32) (x5 : Vec Ideal S1024x1024 .bf16)
  (x6 : Vec Ideal S2x1x6x1024 .f32) (x7 : Vec Ideal S1x1024 .f32) (x8 : Vec Ideal S1x1024x4096 .bf16)
  (x9 : Vec Ideal S1x4096x1024 .bf16) (x10 : Vec Ideal S1x1024 .f32) (i : Fin 256) (n : Fin 1024)

theorem b0_apply (x : Vec Ideal S2x256x1024 .f32) : b0 x (ix2 i n) = x (ix3 0 i n) := by pointwise [b0]
theorem b1_apply (x : Vec Ideal S2x256x1024 .f32) : b1 x (ix2 i n) = x (ix3 1 i n) := by pointwise [b1]
theorem m0_apply (r : Fin 6) : m0 x6 (ix2 r n) = x6 (ix4 0 0 r n) := by pointwise [m0]
theorem m1_apply (r : Fin 6) : m1 x6 (ix2 r n) = x6 (ix4 1 0 r n) := by pointwise [m1]
theorem l4 (d : Fin 128) : View.ld x4 r0_3 (ix2 (0 : Fin 1) d : S1x128.Idx) = x4 (ix2 0 d) := by pointwise
theorem l5 (k : Fin 1024) : View.ld x5 r0_5 (ix2 k n : S1024x1024.Idx) = x5 (ix2 k n) := by pointwise
theorem l7 : View.ld x7 r0_6 (ix2 (0 : Fin 1) n : S1x1024.Idx) = x7 (ix2 0 n) := by pointwise
theorem add_apply' (x y : FVec Ideal S256x1024 .f32) : addf x y (ix2 i n) = x (ix2 i n) + y (ix2 i n) := by pointwise

/-- The stream after the merge, per batch of the block. -/
theorem h0_apply : h0 x0 x1 x2 x3 x4 x5 x6 (ix2 i n)
    = mid (fun k => x3 (ix3 0 i k)) (prod (yrow (fun k => x0 (ix3 0 i k) + x1 (ix3 0 i k)) (fun k => x2 (ix3 0 i k)) (fun e => x4 (ix2 0 e)))
        (fun k n => x5 (ix2 k n))) (fun r k => x6 (ix4 0 0 r k)) n := by
  rw [h0, res2_apply, b0_apply, m0_apply, o, lo_wo]
  simp only [ys_apply, add_apply', b0_apply]
  refine congrArg (fun z => x3 (ix3 0 i n) + x6 (ix4 0 0 2 n) * z) ?_
  exact congrArg₂ (fun w W => prod (yrow (fun k => x0 (ix3 0 i k) + x1 (ix3 0 i k)) (fun k => x2 (ix3 0 i k)) w) W n)
    (funext fun d => l4 x4 d) (funext fun k => funext fun n => l5 x5 n k)
theorem h1_apply : h1 x0 x1 x2 x3 x4 x5 x6 (ix2 i n)
    = mid (fun k => x3 (ix3 1 i k)) (prod (yrow (fun k => x0 (ix3 1 i k) + x1 (ix3 1 i k)) (fun k => x2 (ix3 1 i k)) (fun e => x4 (ix2 0 e)))
        (fun k n => x5 (ix2 k n))) (fun r k => x6 (ix4 1 0 r k)) n := by
  rw [h1, res2_apply, b1_apply, m1_apply, o, hi_wo]
  simp only [ys_apply, add_apply', b1_apply]
  refine congrArg (fun z => x3 (ix3 1 i n) + x6 (ix4 1 0 2 n) * z) ?_
  exact congrArg₂ (fun w W => prod (yrow (fun k => x0 (ix3 1 i k) + x1 (ix3 1 i k)) (fun k => x2 (ix3 1 i k)) w) W n)
    (funext fun d => l4 x4 d) (funext fun k => funext fun n => l5 x5 n k)

/-- The MLP's input, per batch of the block. -/
theorem a_lo (s : Fin 1024 → EReal) (hs : ∀ n, h0 x0 x1 x2 x3 x4 x5 x6 (ix2 i n) = s n) :
    a x0 x1 x2 x3 x4 x5 x6 x7 (ix2 ⟨i, by omega⟩ n)
      = mod43 (rms c1024 s (fun k => x7 (ix2 0 k))) (fun r k => x6 (ix4 0 0 r k)) n := by
  rw [a, cat_lo, md43_apply]
  simp only [rn_apply, m0_apply, hs]
  exact congrArg (fun w => mod43 (rms c1024 s w) (fun r k => x6 (ix4 0 0 r k)) n) (funext fun k => l7 x7 k)
theorem a_hi (s : Fin 1024 → EReal) (hs : ∀ n, h1 x0 x1 x2 x3 x4 x5 x6 (ix2 i n) = s n) :
    a x0 x1 x2 x3 x4 x5 x6 x7 (ix2 ⟨256 + i, by omega⟩ n)
      = mod43 (rms c1024 s (fun k => x7 (ix2 0 k))) (fun r k => x6 (ix4 1 0 r k)) n := by
  rw [a, cat_hi, md43_apply]
  simp only [rn_apply, m1_apply, hs]
  exact congrArg (fun w => mod43 (rms c1024 s w) (fun r k => x6 (ix4 1 0 r k)) n) (funext fun k => l7 x7 k)

theorem r0_apply : r0 x0 x1 x2 x3 x4 x5 x6 x7 x8 x9 x10 (ix2 i n)
    = rms c1024 (row (fun k => x0 (ix3 0 i k) + x1 (ix3 0 i k)) (fun k => x2 (ix3 0 i k)) (fun k => x3 (ix3 0 i k))
        (fun e => x4 (ix2 0 e)) (fun k n => x5 (ix2 k n)) (fun r k => x6 (ix4 0 0 r k)) (fun k => x7 (ix2 0 k))
        (fun k f => x8 (ix3 0 k f)) (fun f n => x9 (ix3 0 f n))) (fun k => x10 (ix2 0 k)) n := by
  rw [r0, rn_apply]
  simp only [res5_apply, m0_apply, l7, lo_apply, f, mlp_apply]
  simp only [a_lo x0 x1 x2 x3 x4 x5 x6 x7 i _ _ fun n => h0_apply x0 x1 x2 x3 x4 x5 x6 i n, h0_apply]
  exact congrArg (fun w => rms c1024 _ w n) (funext fun k => l7 x10 k)
theorem r1_apply : r1 x0 x1 x2 x3 x4 x5 x6 x7 x8 x9 x10 (ix2 i n)
    = rms c1024 (row (fun k => x0 (ix3 1 i k) + x1 (ix3 1 i k)) (fun k => x2 (ix3 1 i k)) (fun k => x3 (ix3 1 i k))
        (fun e => x4 (ix2 0 e)) (fun k n => x5 (ix2 k n)) (fun r k => x6 (ix4 1 0 r k)) (fun k => x7 (ix2 0 k))
        (fun k f => x8 (ix3 0 k f)) (fun f n => x9 (ix3 0 f n))) (fun k => x10 (ix2 0 k)) n := by
  rw [r1, rn_apply]
  simp only [res5_apply, m1_apply, l7, hi_apply, f, mlp_apply]
  simp only [a_hi x0 x1 x2 x3 x4 x5 x6 x7 i _ _ fun n => h1_apply x0 x1 x2 x3 x4 x5 x6 i n, h1_apply]
  exact congrArg (fun w => rms c1024 _ w n) (funext fun k => l7 x10 k)

theorem emb0 : r0_2.emb (ix3 (0 : Fin 1) i n : S1x256x1024.Idx) = (ix3 0 i n : S2x256x1024.Idx) := by
  funext x; apply Fin.ext
  fin_cases x
  · rfl
  · show 0 + 1 * i.val = i.val; omega
  · show 0 + 1 * n.val = n.val; omega
theorem emb1 : r0_4.emb (ix3 (0 : Fin 1) i n : S1x256x1024.Idx) = (ix3 1 i n : S2x256x1024.Idx) := by
  funext x; apply Fin.ext
  fin_cases x
  · rfl
  · show 0 + 1 * i.val = i.val; omega
  · show 0 + 1 * n.val = n.val; omega

theorem canon_one (y z : FVec Ideal S1x256x1024 .f32) :
    (View.canon [⟨r0_4, y⟩, ⟨r0_2, z⟩] : Vec Ideal S2x256x1024 .f32) (ix3 1 i n) = y (ix3 0 i n) := by
  exact (congrArg (View.canon [⟨r0_4, y⟩, ⟨r0_2, z⟩] : Vec Ideal S2x256x1024 .f32) (emb1 i n).symm).trans
    (View.canon_cons_emb (Val := Elt Ideal) (e := .f32) r0_4 y [⟨r0_2, z⟩] (ix3 (0 : Fin 1) i n : S1x256x1024.Idx))
theorem canon_zero (y z : FVec Ideal S1x256x1024 .f32) :
    (View.canon [⟨r0_4, y⟩, ⟨r0_2, z⟩] : Vec Ideal S2x256x1024 .f32) (ix3 0 i n) = z (ix3 0 i n) := by
  refine (View.canon_cons_of_not_mem (Val := Elt Ideal) (e := .f32) ⟨r0_4, y⟩ [⟨r0_2, z⟩] (y := (ix3 0 i n : S2x256x1024.Idx)) fun hm => ?_).trans ?_
  · obtain ⟨j, _, he⟩ := (LoadRect.mem_set _).mp hm (0 : Fin 3)
    have he' : 0 = 1 + 1 * j := he
    omega
  · exact (congrArg (View.canon [⟨r0_2, z⟩] : Vec Ideal S2x256x1024 .f32) (emb0 i n).symm).trans
      (View.canon_cons_emb (Val := Elt Ideal) (e := .f32) r0_2 z [] (ix3 (0 : Fin 1) i n : S1x256x1024.Idx))

theorem sc_apply (y : FVec Ideal S256x1024 .f32) :
    shapeCast S1x256x1024 y shapeCasts_S256x1024_S1x256x1024 (ix3 0 i n) = y (ix2 i n) := by pointwise

theorem out_apply (b : Fin 2) : out0_11 x0 x1 x2 x3 x4 x5 x6 x7 x8 x9 x10 (ix3 b i n)
    = rms c1024 (row (fun k => x0 (ix3 b i k) + x1 (ix3 b i k)) (fun k => x2 (ix3 b i k)) (fun k => x3 (ix3 b i k))
        (fun e => x4 (ix2 0 e)) (fun k n => x5 (ix2 k n)) (fun r k => x6 (ix4 b 0 r k)) (fun k => x7 (ix2 0 k))
        (fun k f => x8 (ix3 0 k f)) (fun f n => x9 (ix3 0 f n))) (fun k => x10 (ix2 0 k)) n := by
  rw [out_eq]
  match b with
  | ⟨0, _⟩ => exact (canon_zero i n _ _).trans ((sc_apply i n _).trans (r0_apply x0 x1 x2 x3 x4 x5 x6 x7 x8 x9 x10 i n))
  | ⟨1, _⟩ => exact (canon_one i n _ _).trans ((sc_apply i n _).trans (r1_apply x0 x1 x2 x3 x4 x5 x6 x7 x8 x9 x10 i n))

end Cert.Merge

end
-- ==== Proof.MergeBlk.lean ====
/-
  The merge and MLP's operands as the host code before the call leaves them, and its blocks read off them.
-/
module

public import proofs.«01_k».proof.Proof.MergeOut
public import Idealize.ShloMosaic.Lib.Tactic.CleanTypes

@[expose] public section

set_option maxRecDepth 16384

noncomputable section

namespace Cert.Merge

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![0, 0]
    ∧ win0_5.index t = ![0, 0]
    ∧ win0_6.index t = ![(grid0.coords t 0).val, 0, 0, 0]
    ∧ win0_7.index t = ![0, 0]
    ∧ win0_8.index t = ![3, 0, 0]
    ∧ win0_9.index t = ![3, 0, 0]
    ∧ win0_10.index t = ![0, 0]
    ∧ win0_11.index t = ![(grid0.coords t 0).val, (grid0.coords t 1).val, 0] := by decide +kernel

/-- The arguments of device `c`. -/
abbrev a0 (c : Dev nD) : FVec Ideal S8x8x2304x128 .f32 := m ((c : Thread nD τ).loc main_arg0)
abbrev a1 (c : Dev nD) : FVec Ideal S8x8x2304x128 .f32 := m ((c : Thread nD τ).loc main_arg1)
abbrev a2 (c : Dev nD) : FVec Ideal S8x2304x1024 .f32 := m ((c : Thread nD τ).loc main_arg2)
abbrev a3 (c : Dev nD) : FVec Ideal S8x2304x1024 .f32 := m ((c : Thread nD τ).loc main_arg3)
abbrev a4 (c : Dev nD) : FVec Ideal S8x6x1024 .f32 := m ((c : Thread nD τ).loc main_arg4)
abbrev a5 (c : Dev nD) : FVec Ideal S6x1024 .f32 := m ((c : Thread nD τ).loc main_arg5)
abbrev a6 (c : Dev nD) : FVec Ideal S128 .f32 := m ((c : Thread nD τ).loc main_arg6)
abbrev a7 (c : Dev nD) : FVec Ideal S1024x1024 .f32 := m ((c : Thread nD τ).loc main_arg7)
abbrev a8 (c : Dev nD) : FVec Ideal S1024 .f32 := m ((c : Thread nD τ).loc main_arg8)
abbrev a9 (c : Dev nD) : FVec Ideal S4x1024x4096 .f32 := m ((c : Thread nD τ).loc main_arg9)
abbrev a10 (c : Dev nD) : FVec Ideal S4x4096x1024 .f32 := m ((c : Thread nD τ).loc main_arg10)
abbrev a11 (c : Dev nD) : FVec Ideal S1024 .f32 := m ((c : Thread nD τ).loc main_arg11)

/-- A scan's result with the heads side by side. -/
def mkO (x : FVec Ideal S8x8x2304x128 .f32) : FVec Ideal S8x2304x1024 .f32 :=
  shapeCast S8x2304x1024 (transpose S8x2304x8x128 [0, 2, 1, 3] x transposes_S8x8x2304x128_S8x2304x8x128_0_2_1_3)
    shapeCasts_S8x2304x8x128_S8x2304x1024

/-- The modulations of the latents and of the context. -/
def mkM (x : FVec Ideal S8x6x1024 .f32) (y : FVec Ideal S6x1024 .f32) : FVec Ideal S8x2x6x1024 .f32 :=
  concatenate S8x2x6x1024 1
    [⟨S8x1x6x1024, broadcastInDim S8x1x6x1024 ![0, 2, 3] bcast_S8x6x1024_S8x1x6x1024_0_2_3 x⟩,
     ⟨S8x1x6x1024, broadcastInDim S8x1x6x1024 ![0, 2, 3] bcast_S8x6x1024_S8x1x6x1024_0_2_3
        (broadcastInDim S8x6x1024 ![1, 2] bcast_S6x1024_S8x6x1024_1_2 y)⟩]
    concatenates_S8x1x6x1024_S8x1x6x1024_S8x2x6x1024_d1

/-- The call's operands as the host code before it leaves them. -/
theorem op0 (c : Dev nD) : (V m c main_v5 : FVec Ideal S8x2304x1024 .f32) = mkO (a0 m c) := by
  unfold V
  simp only [hostOps0, List.flatten_cons, List.flatten_nil, List.cons_append, List.nil_append, List.append_nil]
  entry_read
  rfl
theorem op1 (c : Dev nD) : (V m c main_v7 : FVec Ideal S8x2304x1024 .f32) = mkO (a1 m c) := by
  unfold V
  simp only [hostOps0, List.flatten_cons, List.flatten_nil, List.cons_append, List.nil_append, List.append_nil]
  entry_read
  rfl
theorem op2 (c : Dev nD) : (V m c main_arg2 : FVec Ideal S8x2304x1024 .f32) = a2 m c := by
  unfold V
  simp only [hostOps0, List.flatten_cons, List.flatten_nil, List.cons_append, List.nil_append, List.append_nil]
  entry_read
  rfl
theorem op3 (c : Dev nD) : (V m c main_arg3 : FVec Ideal S8x2304x1024 .f32) = a3 m c := by
  unfold V
  simp only [hostOps0, List.flatten_cons, List.flatten_nil, List.cons_append, List.nil_append, List.append_nil]
  entry_read
  rfl
theorem op4 (c : Dev nD) : (V m c main_v8 : FVec Ideal S1x128 .f32) = broadcastInDim S1x128 ![1] bcast_S128_S1x128_1 (a6 m c) := by
  unfold V
  simp only [hostOps0, List.flatten_cons, List.flatten_nil, List.cons_append, List.nil_append, List.append_nil]
  entry_read
  rfl
theorem op5 (c : Dev nD) : (V m c main_v9 : FVec Ideal S1024x1024 .bf16) = truncf .bf16 (a7 m c) bitsLt_bf16_f32 := by
  unfold V
  simp only [hostOps0, List.flatten_cons, List.flatten_nil, List.cons_append, List.nil_append, List.append_nil]
  entry_read
  rfl
theorem op6 (c : Dev nD) : (V m c main_v3 : FVec Ideal S8x2x6x1024 .f32) = mkM (a4 m c) (a5 m c) := by
  unfold V
  simp only [hostOps0, List.flatten_cons, List.flatten_nil, List.cons_append, List.nil_append, List.append_nil]
  entry_read
  rfl
theorem op7 (c : Dev nD) : (V m c main_v10 : FVec Ideal S1x1024 .f32) = broadcastInDim S1x1024 ![1] bcast_S1024_S1x1024_1 (a8 m c) := by
  unfold V
  simp only [hostOps0, List.flatten_cons, List.flatten_nil, List.cons_append, List.nil_append, List.append_nil]
  entry_read
  rfl
theorem op8 (c : Dev nD) : (V m c main_v11 : FVec Ideal S4x1024x4096 .bf16) = truncf .bf16 (a9 m c) bitsLt_bf16_f32 := by
  unfold V
  simp only [hostOps0, List.flatten_cons, List.flatten_nil, List.cons_append, List.nil_append, List.append_nil]
  entry_read
  rfl
theorem op9 (c : Dev nD) : (V m c main_v12 : FVec Ideal S4x4096x1024 .bf16) = truncf .bf16 (a10 m c) bitsLt_bf16_f32 := by
  unfold V
  simp only [hostOps0, List.flatten_cons, List.flatten_nil, List.cons_append, List.nil_append, List.append_nil]
  entry_read
  rfl
theorem op10 (c : Dev nD) : (V m c main_v13 : FVec Ideal S1x1024 .f32) = broadcastInDim S1x1024 ![1] bcast_S1024_S1x1024_1 (a11 m c) := by
  unfold V
  simp only [hostOps0, List.flatten_cons, List.flatten_nil, List.cons_append, List.nil_append, List.append_nil]
  entry_read
  rfl

theorem mkO_apply (x : FVec Ideal S8x8x2304x128 .f32) (b : Fin 8) (t : Fin 2304) (k : Fin 1024) :
    mkO x (ix3 b t k) = x (ix4 b ⟨k / 128, by omega⟩ t ⟨k % 128, by omega⟩) := by
  pointwise [mkO]
theorem mkM_apply (x : FVec Ideal S8x6x1024 .f32) (y : FVec Ideal S6x1024 .f32) (b : Fin 8) (r : Fin 6) (k : Fin 1024) :
    mkM x y (ix4 b 0 r k) = x (ix3 b r k) := by
  pointwise [mkM]
theorem row128 (x : FVec Ideal S128 .f32) (k : Fin 128) : broadcastInDim S1x128 ![1] bcast_S128_S1x128_1 x (ix2 0 k) = x (ix1 k) := by
  pointwise
theorem row1024 (x : FVec Ideal S1024 .f32) (k : Fin 1024) : broadcastInDim S1x1024 ![1] bcast_S1024_S1x1024_1 x (ix2 0 k) = x (ix1 k) := by
  pointwise

theorem lt0 (t : Fin cfg0.N) : (grid0.coords t 0).val < 4 := (grid0.coords t 0).isLt
theorem lt1 (t : Fin cfg0.N) : (grid0.coords t 1).val < 8 := (grid0.coords t 1).isLt

/-- The batch and the token of a block's row. -/
abbrev bat (t : Fin cfg0.N) (b : Fin 2) : Fin 8 := ⟨2 * (grid0.coords t 0).val + b, by have := lt0 t; omega⟩
abbrev tok (t : Fin cfg0.N) (i : Fin 256) : Fin 2048 := ⟨256 * (grid0.coords t 1).val + i, by have := lt1 t; omega⟩
abbrev tok' (t : Fin cfg0.N) (i : Fin 256) : Fin 2304 := ⟨256 * (grid0.coords t 1).val + i, by have := lt1 t; omega⟩

section blocks

variable (t : Fin cfg0.N) (b : Fin 2) (i : Fin 256) (k : Fin 1024)

theorem blk0 (A : FVec Ideal S8x2304x1024 .f32) : ((cfg0.win 0).blk t).view.read (Elt Ideal) A (ix3 b i k : S2x256x1024.Idx)
      = A (ix3 (bat t b) (tok' t i) k) := by
  have e := (idx t).1
  blk_ext [e]
theorem blk1 (A : FVec Ideal S8x2304x1024 .f32) : ((cfg0.win 1).blk t).view.read (Elt Ideal) A (ix3 b i k : S2x256x1024.Idx)
      = A (ix3 (bat t b) (tok' t i) k) := by
  have e := (idx t).2.1
  blk_ext [e]
theorem blk2 (A : FVec Ideal S8x2304x1024 .f32) : ((cfg0.win 2).blk t).view.read (Elt Ideal) A (ix3 b i k : S2x256x1024.Idx)
      = A (ix3 (bat t b) (tok' t i) k) := by
  have e := (idx t).2.2.1
  blk_ext [e]
theorem blk3 (A : FVec Ideal S8x2304x1024 .f32) : ((cfg0.win 3).blk t).view.read (Elt Ideal) A (ix3 b i k : S2x256x1024.Idx)
      = A (ix3 (bat t b) (tok' t i) k) := by
  have e := (idx t).2.2.2.1
  blk_ext [e]
theorem blk4 (A : FVec Ideal S1x128 .f32) (d : Fin 128) : ((cfg0.win 4).blk t).view.read (Elt Ideal) A (ix2 (0 : Fin 1) d : S1x128.Idx)
      = A (ix2 0 d) := by
  have e := (idx t).2.2.2.2.1
  blk_ext [e]
theorem blk5 (A : FVec Ideal S1024x1024 .bf16) (n : Fin 1024) : ((cfg0.win 5).blk t).view.read (Elt Ideal) A (ix2 k n : S1024x1024.Idx)
      = A (ix2 k n) := by
  have e := (idx t).2.2.2.2.2.1
  blk_ext [e]
theorem blk6 (A : FVec Ideal S8x2x6x1024 .f32) (r : Fin 6) : ((cfg0.win 6).blk t).view.read (Elt Ideal) A (ix4 b (0 : Fin 1) r k : S2x1x6x1024.Idx)
      = A (ix4 (bat t b) 0 r k) := by
  have e := (idx t).2.2.2.2.2.2.1
  blk_ext [e]
theorem blk7 (A : FVec Ideal S1x1024 .f32) : ((cfg0.win 7).blk t).view.read (Elt Ideal) A (ix2 (0 : Fin 1) k : S1x1024.Idx)
      = A (ix2 0 k) := by
  have e := (idx t).2.2.2.2.2.2.2.1
  blk_ext [e]
theorem blk8 (A : FVec Ideal S4x1024x4096 .bf16) (f : Fin 4096) : ((cfg0.win 8).blk t).view.read (Elt Ideal) A (ix3 (0 : Fin 1) k f : S1x1024x4096.Idx)
      = A (ix3 3 k f) := by
  have e := (idx t).2.2.2.2.2.2.2.2.1
  blk_ext [e]
theorem blk9 (A : FVec Ideal S4x4096x1024 .bf16) (f : Fin 4096) : ((cfg0.win 9).blk t).view.read (Elt Ideal) A (ix3 (0 : Fin 1) f k : S1x4096x1024.Idx)
      = A (ix3 3 f k) := by
  have e := (idx t).2.2.2.2.2.2.2.2.2.1
  blk_ext [e]
theorem blk10 (A : FVec Ideal S1x1024 .f32) : ((cfg0.win 10).blk t).view.read (Elt Ideal) A (ix2 (0 : Fin 1) k : S1x1024.Idx)
      = A (ix2 0 k) := by
  have e := (idx t).2.2.2.2.2.2.2.2.2.2.1
  blk_ext [e]
theorem blk11 (A : FVec Ideal S8x2048x1024 .f32) : A (((cfg0.win 11).blk t).view.emb (ix3 b i k : S2x256x1024.Idx))
      = A (ix3 (bat t b) (tok t i) k) := by
  have e := (idx t).2.2.2.2.2.2.2.2.2.2.2
  blk_ext [e]

end blocks

/-- The blocks of the call's operands. -/
theorem x0_eq (c : Dev nD) (t : Fin cfg0.N) (b : Fin 2) (i : Fin 256) (k : Fin 1024) :
    (iblk m c 0 t : Vec Ideal S2x256x1024 .f32) (ix3 b i k) = a0 m c (ix4 (bat t b) ⟨k / 128, by omega⟩ (tok' t i) ⟨k % 128, by omega⟩) := by
  have e : iblk m c 0 t = ((cfg0.win 0).blk t).view.read (Elt Ideal) (V m c main_v5 : FVec Ideal S8x2304x1024 .f32) := by rw [iblk]
  rw [e, blk0, op0, mkO_apply]
theorem x1_eq (c : Dev nD) (t : Fin cfg0.N) (b : Fin 2) (i : Fin 256) (k : Fin 1024) :
    (iblk m c 1 t : Vec Ideal S2x256x1024 .f32) (ix3 b i k) = a1 m c (ix4 (bat t b) ⟨k / 128, by omega⟩ (tok' t i) ⟨k % 128, by omega⟩) := by
  have e : iblk m c 1 t = ((cfg0.win 1).blk t).view.read (Elt Ideal) (V m c main_v7 : FVec Ideal S8x2304x1024 .f32) := by rw [iblk]
  rw [e, blk1, op1, mkO_apply]
theorem x2_eq (c : Dev nD) (t : Fin cfg0.N) (b : Fin 2) (i : Fin 256) (k : Fin 1024) :
    (iblk m c 2 t : Vec Ideal S2x256x1024 .f32) (ix3 b i k) = a2 m c (ix3 (bat t b) (tok' t i) k) := by
  have e : iblk m c 2 t = ((cfg0.win 2).blk t).view.read (Elt Ideal) (V m c main_arg2 : FVec Ideal S8x2304x1024 .f32) := by rw [iblk]
  rw [e, blk2, op2]
theorem x3_eq (c : Dev nD) (t : Fin cfg0.N) (b : Fin 2) (i : Fin 256) (k : Fin 1024) :
    (iblk m c 3 t : Vec Ideal S2x256x1024 .f32) (ix3 b i k) = a3 m c (ix3 (bat t b) (tok' t i) k) := by
  have e : iblk m c 3 t = ((cfg0.win 3).blk t).view.read (Elt Ideal) (V m c main_arg3 : FVec Ideal S8x2304x1024 .f32) := by rw [iblk]
  rw [e, blk3, op3]
theorem x4_eq (c : Dev nD) (t : Fin cfg0.N) (d : Fin 128) : (iblk m c 4 t : Vec Ideal S1x128 .f32) (ix2 0 d) = a6 m c (ix1 d) := by
  have e : iblk m c 4 t = ((cfg0.win 4).blk t).view.read (Elt Ideal) (V m c main_v8 : FVec Ideal S1x128 .f32) := by rw [iblk]
  rw [e, blk4, op4, row128]
theorem x5_eq (c : Dev nD) (t : Fin cfg0.N) (k n : Fin 1024) : (iblk m c 5 t : Vec Ideal S1024x1024 .bf16) (ix2 k n) = a7 m c (ix2 k n) := by
  have e : iblk m c 5 t = ((cfg0.win 5).blk t).view.read (Elt Ideal) (V m c main_v9 : FVec Ideal S1024x1024 .bf16) := by rw [iblk]
  rw [e, blk5, op5]; rfl
theorem x6_eq (c : Dev nD) (t : Fin cfg0.N) (b : Fin 2) (r : Fin 6) (k : Fin 1024) :
    (iblk m c 6 t : Vec Ideal S2x1x6x1024 .f32) (ix4 b 0 r k) = a4 m c (ix3 (bat t b) r k) := by
  have e : iblk m c 6 t = ((cfg0.win 6).blk t).view.read (Elt Ideal) (V m c main_v3 : FVec Ideal S8x2x6x1024 .f32) := by rw [iblk]
  rw [e, blk6, op6, mkM_apply]
theorem x7_eq (c : Dev nD) (t : Fin cfg0.N) (k : Fin 1024) : (iblk m c 7 t : Vec Ideal S1x1024 .f32) (ix2 0 k) = a8 m c (ix1 k) := by
  have e : iblk m c 7 t = ((cfg0.win 7).blk t).view.read (Elt Ideal) (V m c main_v10 : FVec Ideal S1x1024 .f32) := by rw [iblk]
  rw [e, blk7, op7, row1024]
theorem x8_eq (c : Dev nD) (t : Fin cfg0.N) (k : Fin 1024) (f : Fin 4096) :
    (iblk m c 8 t : Vec Ideal S1x1024x4096 .bf16) (ix3 0 k f) = a9 m c (ix3 3 k f) := by
  have e : iblk m c 8 t = ((cfg0.win 8).blk t).view.read (Elt Ideal) (V m c main_v11 : FVec Ideal S4x1024x4096 .bf16) := by rw [iblk]
  rw [e, blk8, op8]; rfl
theorem x9_eq (c : Dev nD) (t : Fin cfg0.N) (k : Fin 1024) (f : Fin 4096) :
    (iblk m c 9 t : Vec Ideal S1x4096x1024 .bf16) (ix3 0 f k) = a10 m c (ix3 3 f k) := by
  have e : iblk m c 9 t = ((cfg0.win 9).blk t).view.read (Elt Ideal) (V m c main_v12 : FVec Ideal S4x4096x1024 .bf16) := by rw [iblk]
  rw [e, blk9, op9]; rfl
theorem x10_eq (c : Dev nD) (t : Fin cfg0.N) (k : Fin 1024) : (iblk m c 10 t : Vec Ideal S1x1024 .f32) (ix2 0 k) = a11 m c (ix1 k) := by
  have e : iblk m c 10 t = ((cfg0.win 10).blk t).view.read (Elt Ideal) (V m c main_v13 : FVec Ideal S1x1024 .f32) := by rw [iblk]
  rw [e, blk10, op10, row1024]

end Cert.Merge

end
-- ==== Proof.MergeRef.lean ====
/-
  The reference of the last layer's merge and MLP read at an index: the same functions of a token's rows.
-/
module

public import proofs.«01_k».proof.Proof.MergeRow
public import proofs.«01_k».proof.Proof.Gen.Reference2Ideal.Run

@[expose] public section

set_option maxRecDepth 16384

noncomputable section

namespace Cert.MergeRef

open Cert.Reference2Ideal Cert.Reference2Ideal.Gen Idealize.ShloMosaic Idealize.ShloMosaic.TcCoe Idealize.SL.Sem Cert.Merge

/-- The sum of the two scans, heads last. -/
def OS (x y : FVec Ideal S8x8x2304x128 .f32) : FVec Ideal S8x2048x8x128 .f32 :=
  transpose S8x2048x8x128 [0, 2, 1, 3] (extractStridedSlice S8x8x2048x128 ![0, 0, 0, 0] (addf x y)
    slices_S8x8x2304x128_S8x8x2048x128_0_0_0_0) transposes_S8x8x2048x128_S8x2048x8x128_0_2_1_3

/-- The gate's input, per head. -/
def GS (g : FVec Ideal S8x2304x1024 .f32) : FVec Ideal S8x2048x8x128 .f32 :=
  shapeCast S8x2048x8x128 (extractStridedSlice S8x2048x1024 ![0, 0, 0] g slices_S8x2304x1024_S8x2048x1024_0_0_0)
    shapeCasts_S8x2048x1024_S8x2048x8x128

/-- The norm of each head. -/
def HNR (x : FVec Ideal S8x2048x8x128 .f32) (w : FVec Ideal S128 .f32) : FVec Ideal S8x2048x8x128 .f32 :=
  mulf (mulf x (broadcastInDim S8x2048x8x128 ![0, 1, 2, 3] bcast_S8x2048x8x1_S8x2048x8x128_0_1_2_3
      (Host.rsqrt (addf (Host.divf (broadcastInDim S8x2048x8x1 ![0, 1, 2] bcast_S8x2048x8_S8x2048x8x1_0_1_2
          (Host.reduceAdd (mulf x x) (constant S_ .f32 0x00000000#32) reducesTo_S8x2048x8x128_S8x2048x8_d3 h_S_))
        (broadcastInDim S8x2048x8x1 ![] bcast_S_S8x2048x8x1 (constant S_ .f32 0x43000000#32)))
        (broadcastInDim S8x2048x8x1 ![] bcast_S_S8x2048x8x1 (constant S_ .f32 0x358637BD#32))))))
    (broadcastInDim S8x2048x8x128 ![0, 1, 2, 3] bcast_S1x1x1x128_S8x2048x8x128_0_1_2_3
      (broadcastInDim S1x1x1x128 ![3] bcast_S128_S1x1x1x128_3 w))

/-- The gate. -/
def SL (g : FVec Ideal S8x2048x8x128 .f32) : FVec Ideal S8x2048x8x128 .f32 :=
  mulf g (Host.divf (broadcastInDim S8x2048x8x128 ![] bcast_S_S8x2048x8x128 (constant S_ .f32 0x3F800000#32))
    (addf (broadcastInDim S8x2048x8x128 ![] bcast_S_S8x2048x8x128 (constant S_ .f32 0x3F800000#32)) (Host.exp (Host.negf g))))

/-- The heads side by side. -/
def YR (x g : FVec Ideal S8x2048x8x128 .f32) (w : FVec Ideal S128 .f32) : FVec Ideal S8x2048x1024 .f32 :=
  shapeCast S8x2048x1024 (mulf (HNR x w) (SL g)) shapeCasts_S8x2048x8x128_S8x2048x1024

/-- The rows 2, 3, 4 and 5 of the modulation. -/
def ML (md : FVec Ideal S8x6x1024 .f32) : FVec Ideal S8x6x1x1024 .f32 :=
  broadcastInDim S8x6x1x1024 ![0, 1, 3] bcast_S8x6x1024_S8x6x1x1024_0_1_3 md
def M2 (md : FVec Ideal S8x6x1024 .f32) : FVec Ideal S8x2048x1024 .f32 :=
  broadcastInDim S8x2048x1024 ![0, 1, 2] bcast_S8x1x1024_S8x2048x1024_0_1_2 (shapeCast S8x1x1024
    (extractStridedSlice S8x1x1x1024 ![0, 2, 0, 0] (ML md) slices_S8x6x1x1024_S8x1x1x1024_0_2_0_0) shapeCasts_S8x1x1x1024_S8x1x1024)
def M3 (md : FVec Ideal S8x6x1024 .f32) : FVec Ideal S8x2048x1024 .f32 :=
  broadcastInDim S8x2048x1024 ![0, 1, 2] bcast_S8x1x1024_S8x2048x1024_0_1_2 (shapeCast S8x1x1024
    (extractStridedSlice S8x1x1x1024 ![0, 3, 0, 0] (ML md) slices_S8x6x1x1024_S8x1x1x1024_0_3_0_0) shapeCasts_S8x1x1x1024_S8x1x1024)
def M4 (md : FVec Ideal S8x6x1024 .f32) : FVec Ideal S8x2048x1024 .f32 :=
  broadcastInDim S8x2048x1024 ![0, 1, 2] bcast_S8x1x1024_S8x2048x1024_0_1_2
    (addf (broadcastInDim S8x1x1024 ![] bcast_S_S8x1x1024 (constant S_ .f32 0x3F800000#32)) (shapeCast S8x1x1024
    (extractStridedSlice S8x1x1x1024 ![0, 4, 0, 0] (ML md) slices_S8x6x1x1024_S8x1x1x1024_0_4_0_0) shapeCasts_S8x1x1x1024_S8x1x1024))
def M5 (md : FVec Ideal S8x6x1024 .f32) : FVec Ideal S8x2048x1024 .f32 :=
  broadcastInDim S8x2048x1024 ![0, 1, 2] bcast_S8x1x1024_S8x2048x1024_0_1_2 (shapeCast S8x1x1024
    (extractStridedSlice S8x1x1x1024 ![0, 5, 0, 0] (ML md) slices_S8x6x1x1024_S8x1x1x1024_0_5_0_0) shapeCasts_S8x1x1x1024_S8x1x1024)

/-- The stream after the merge. -/
def ST (h : FVec Ideal S8x2304x1024 .f32) (md : FVec Ideal S8x6x1024 .f32) (y : FVec Ideal S8x2048x1024 .f32)
    (w : FVec Ideal S1024x1024 .f32) : FVec Ideal S8x2048x1024 .f32 :=
  addf (extractStridedSlice S8x2048x1024 ![0, 0, 0] h slices_S8x2304x1024_S8x2048x1024_0_0_0)
    (mulf (M2 md) (Host.dotGeneral dot_S8x2048x1024_S1024x1024_S8x2048x1024_2_0_01_1_n_n none y w))

/-- The norm of the stream. -/
def RN (x : FVec Ideal S8x2048x1024 .f32) (w : FVec Ideal S1024 .f32) : FVec Ideal S8x2048x1024 .f32 :=
  mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 w))

/-- The scale and the shift. -/
def MD (x : FVec Ideal S8x2048x1024 .f32) (md : FVec Ideal S8x6x1024 .f32) : FVec Ideal S8x2048x1024 .f32 :=
  addf (mulf x (M4 md)) (M3 md)

/-- The hidden layer. -/
def HD (a : FVec Ideal S8x2048x1024 .f32) (w : FVec Ideal S4x1024x4096 .f32) : FVec Ideal S8x2048x4096 .f32 :=
  maximumf (Host.dotGeneral dot_S8x2048x1024_S1024x4096_S8x2048x4096_2_0_01_1_n_n none a
    (shapeCast S1024x4096 (extractStridedSlice S1x1024x4096 ![3, 0, 0] w slices_S4x1024x4096_S1x1024x4096_3_0_0) shapeCasts_S1x1024x4096_S1024x4096))
    (broadcastInDim S8x2048x4096 ![] bcast_S_S8x2048x4096 (constant S_ .f32 0x00000000#32))

/-- The stream after the MLP. -/
def PO (s : FVec Ideal S8x2048x1024 .f32) (md : FVec Ideal S8x6x1024 .f32) (z : FVec Ideal S8x2048x4096 .f32)
    (w : FVec Ideal S4x4096x1024 .f32) : FVec Ideal S8x2048x1024 .f32 :=
  addf s (mulf (M5 md) (Host.dotGeneral dot_S8x2048x4096_S4096x1024_S8x2048x1024_2_0_01_1_n_n none (mulf z z)
    (shapeCast S4096x1024 (extractStridedSlice S1x4096x1024 ![3, 0, 0] w slices_S4x4096x1024_S1x4096x1024_3_0_0) shapeCasts_S1x4096x1024_S4096x1024)))

/-- The reference's result, of the scans, the gate's input, the stream, the modulation and the weights. -/
def S (o1 o2 : FVec Ideal S8x8x2304x128 .f32) (g h : FVec Ideal S8x2304x1024 .f32) (md : FVec Ideal S8x6x1024 .f32)
    (on : FVec Ideal S128 .f32) (wo : FVec Ideal S1024x1024 .f32) : FVec Ideal S8x2048x1024 .f32 :=
  ST h md (YR (OS o1 o2) (GS g) on) wo
def PS (s : FVec Ideal S8x2048x1024 .f32) (md : FVec Ideal S8x6x1024 .f32) (n2 : FVec Ideal S1024 .f32)
    (w1 : FVec Ideal S4x1024x4096 .f32) (w2 : FVec Ideal S4x4096x1024 .f32) : FVec Ideal S8x2048x1024 .f32 :=
  PO s md (HD (MD (RN s n2) md) w1) w2
def REF (o1 o2 : FVec Ideal S8x8x2304x128 .f32) (g h : FVec Ideal S8x2304x1024 .f32) (md : FVec Ideal S8x6x1024 .f32)
    (on : FVec Ideal S128 .f32) (wo : FVec Ideal S1024x1024 .f32) (n2 : FVec Ideal S1024 .f32) (w1 : FVec Ideal S4x1024x4096 .f32)
    (w2 : FVec Ideal S4x4096x1024 .f32) (fn : FVec Ideal S1024 .f32) : FVec Ideal S8x2048x1024 .f32 :=
  RN (PS (S o1 o2 g h md on wo) md n2 w1 w2) fn

section apply

variable (b : Fin 8) (t : Fin 2048) (n : Fin 1024)

theorem OS_apply (x y : FVec Ideal S8x8x2304x128 .f32) (hd : Fin 8) (d : Fin 128) :
    OS x y (ix4 b t hd d) = x (ix4 b hd ⟨t, by omega⟩ d) + y (ix4 b hd ⟨t, by omega⟩ d) := by
  pointwise [OS]
theorem GS_apply (g : FVec Ideal S8x2304x1024 .f32) (hd : Fin 8) (d : Fin 128) :
    GS g (ix4 b t hd d) = g (ix3 b ⟨t, by omega⟩ ⟨128 * hd + d, by omega⟩) := by
  pointwise [GS]
  refine congrArg (fun z => g (ix3 b _ z)) (Fin.ext ?_)
  simp only; omega
theorem HNR_apply (x : FVec Ideal S8x2048x8x128 .f32) (w : FVec Ideal S128 .f32) (hd : Fin 8) (d : Fin 128) :
    HNR x w (ix4 b t hd d) = rms c128 (fun e => x (ix4 b t hd e)) (fun e => w (ix1 e)) d := by
  pointwise [HNR, rms]
theorem SL_apply (g : FVec Ideal S8x2048x8x128 .f32) (hd : Fin 8) (d : Fin 128) :
    SL g (ix4 b t hd d) = gate (g (ix4 b t hd d)) := by
  pointwise [SL, gate]
theorem YR_apply (x g : FVec Ideal S8x2048x8x128 .f32) (w : FVec Ideal S128 .f32) :
    YR x g w (ix3 b t n) = HNR x w (ix4 b t ⟨n / 128, by omega⟩ ⟨n % 128, by omega⟩) * SL g (ix4 b t ⟨n / 128, by omega⟩ ⟨n % 128, by omega⟩) := by
  pointwise [YR]
theorem M2_apply (md : FVec Ideal S8x6x1024 .f32) : M2 md (ix3 b t n) = md (ix3 b 2 n) := by
  pointwise [M2, ML]
theorem M3_apply (md : FVec Ideal S8x6x1024 .f32) : M3 md (ix3 b t n) = md (ix3 b 3 n) := by
  pointwise [M3, ML]
theorem M4_apply (md : FVec Ideal S8x6x1024 .f32) : M4 md (ix3 b t n) = 1 + md (ix3 b 4 n) := by
  pointwise [M4, ML]
theorem M5_apply (md : FVec Ideal S8x6x1024 .f32) : M5 md (ix3 b t n) = md (ix3 b 5 n) := by
  pointwise [M5, ML]
theorem ST_apply (h : FVec Ideal S8x2304x1024 .f32) (md : FVec Ideal S8x6x1024 .f32) (y : FVec Ideal S8x2048x1024 .f32)
    (w : FVec Ideal S1024x1024 .f32) : ST h md y w (ix3 b t n)
      = mid (fun k => h (ix3 b ⟨t, by omega⟩ k)) (prod (fun k => y (ix3 b t k)) fun k n => w (ix2 k n)) (fun r k => md (ix3 b r k)) n := by
  pointwise [ST, mid, prod]
  rw [M2_apply]
theorem RN_apply (x : FVec Ideal S8x2048x1024 .f32) (w : FVec Ideal S1024 .f32) :
    RN x w (ix3 b t n) = rms c1024 (fun k => x (ix3 b t k)) (fun k => w (ix1 k)) n := by
  pointwise [RN, rms]
theorem MD_apply (x : FVec Ideal S8x2048x1024 .f32) (md : FVec Ideal S8x6x1024 .f32) :
    MD x md (ix3 b t n) = mod43 (fun k => x (ix3 b t k)) (fun r k => md (ix3 b r k)) n := by
  pointwise [MD, mod43]
  rw [M4_apply, M3_apply]
theorem HD_apply (x : FVec Ideal S8x2048x1024 .f32) (w : FVec Ideal S4x1024x4096 .f32) (f : Fin 4096) :
    HD x w (ix3 b t f) = max (prod (fun k => x (ix3 b t k)) (fun k f => w (ix3 3 k f)) f) 0 := by
  pointwise [HD, prod]
theorem PO_apply (s : FVec Ideal S8x2048x1024 .f32) (md : FVec Ideal S8x6x1024 .f32) (z : FVec Ideal S8x2048x4096 .f32)
    (w : FVec Ideal S4x4096x1024 .f32) : PO s md z w (ix3 b t n)
      = s (ix3 b t n) + md (ix3 b 5 n) * ∑ f, z (ix3 b t f) * z (ix3 b t f) * w (ix3 3 f n) := by
  pointwise [PO]
  rw [M5_apply]

theorem S_apply (o1 o2 : FVec Ideal S8x8x2304x128 .f32) (g h : FVec Ideal S8x2304x1024 .f32) (md : FVec Ideal S8x6x1024 .f32)
    (on : FVec Ideal S128 .f32) (wo : FVec Ideal S1024x1024 .f32) :
    S o1 o2 g h md on wo (ix3 b t n) = mid (fun k => h (ix3 b ⟨t, by omega⟩ k))
      (prod (yrow (fun k => o1 (ix4 b ⟨k / 128, by omega⟩ ⟨t, by omega⟩ ⟨k % 128, by omega⟩)
          + o2 (ix4 b ⟨k / 128, by omega⟩ ⟨t, by omega⟩ ⟨k % 128, by omega⟩)) (fun k => g (ix3 b ⟨t, by omega⟩ k)) (fun e => on (ix1 e)))
        fun k n => wo (ix2 k n)) (fun r k => md (ix3 b r k)) n := by
  rw [S, ST_apply]
  refine congrArg (fun y => mid _ (prod y _) _ n) (funext fun k => ?_)
  rw [YR_apply, HNR_apply, SL_apply, GS_apply, yrow]
  refine congrArg₂ (· * ·) (congrArg (fun z => rms c128 z _ _) (funext fun e => ?_)) (congrArg gate ?_)
  · rw [OS_apply]
    have e1 : (128 * ((k : Nat) / 128) + e) / 128 = k / 128 := by omega
    have e2 : (128 * ((k : Nat) / 128) + e) % 128 = e := by omega
    simp only [e1, e2]
  · refine congrArg (fun z => g (ix3 b _ z)) (Fin.ext ?_)
    simp only; omega

theorem PS_apply (s : FVec Ideal S8x2048x1024 .f32) (md : FVec Ideal S8x6x1024 .f32) (n2 : FVec Ideal S1024 .f32)
    (w1 : FVec Ideal S4x1024x4096 .f32) (w2 : FVec Ideal S4x4096x1024 .f32) :
    PS s md n2 w1 w2 (ix3 b t n) = post (fun k => s (ix3 b t k)) (fun r k => md (ix3 b r k)) (fun k => n2 (ix1 k))
      (fun k f => w1 (ix3 3 k f)) (fun f n => w2 (ix3 3 f n)) n := by
  rw [PS, PO_apply]
  simp only [HD_apply, MD_apply, RN_apply]
  rfl

end apply

end Cert.MergeRef

end
-- ==== Proof.MergeVal.lean ====
/-
  The merge and MLP's result array against the reference's.
-/
module

public import proofs.«01_k».proof.Proof.MergeBlk
public import proofs.«01_k».proof.Proof.MergeRef

@[expose] public section

set_option maxRecDepth 16384

noncomputable section

namespace Cert.Merge

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The result of device `c`. -/
def res (c : Dev nD) : FVec Ideal S8x2048x1024 .f32 :=
  Cert.MergeRef.REF (a0 m c) (a1 m c) (a2 m c) (a3 m c) (a4 m c) (a6 m c) (a7 m c) (a8 m c) (a9 m c) (a10 m c) (a11 m c)

theorem row_eq {X X' G G' h h' : Fin 1024 → EReal} {w w' : Fin 128 → EReal} {W W' : Fin 1024 → Fin 1024 → EReal}
    {md md' : Fin 6 → Fin 1024 → EReal} {n2 n2' : Fin 1024 → EReal} {w1 w1' : Fin 1024 → Fin 4096 → EReal}
    {w2 w2' : Fin 4096 → Fin 1024 → EReal} {fn fn' : Fin 1024 → EReal} (n : Fin 1024)
    (h1 : X = X') (h2 : G = G') (h3 : h = h') (h4 : w = w') (h5 : W = W') (h6 : md = md') (h7 : n2 = n2') (h8 : w1 = w1')
    (h9 : w2 = w2') (h10 : fn = fn') :
    rms c1024 (row X G h w W md n2 w1 w2) fn n = rms c1024 (row X' G' h' w' W' md' n2' w1' w2') fn' n := by
  subst h1 h2 h3 h4 h5 h6 h7 h8 h9 h10
  rfl

theorem ref_apply (c : Dev nD) (b : Fin 8) (t : Fin 2048) (n : Fin 1024) : res m c (ix3 b t n)
    = rms c1024 (row (fun k => a0 m c (ix4 b ⟨k / 128, by omega⟩ ⟨t, by omega⟩ ⟨k % 128, by omega⟩)
          + a1 m c (ix4 b ⟨k / 128, by omega⟩ ⟨t, by omega⟩ ⟨k % 128, by omega⟩))
        (fun k => a2 m c (ix3 b ⟨t, by omega⟩ k)) (fun k => a3 m c (ix3 b ⟨t, by omega⟩ k)) (fun e => a6 m c (ix1 e))
        (fun k n => a7 m c (ix2 k n)) (fun r k => a4 m c (ix3 b r k)) (fun k => a8 m c (ix1 k))
        (fun k f => a9 m c (ix3 3 k f)) (fun f n => a10 m c (ix3 3 f n))) (fun k => a11 m c (ix1 k)) n := by
  rw [res, Cert.MergeRef.REF, Cert.MergeRef.RN_apply]
  simp only [Cert.MergeRef.PS_apply, Cert.MergeRef.S_apply]
  rfl

/-- The result's array. -/
theorem final (c : Dev nD) : (dats m 0 c).arrAt 11 cfg0.N = res m c := by
  refine (dats m 0 c).arrAt_eq_of_covers 11 _ (by decide +kernel) fun t hf y => ?_
  have key : ∀ (b : Fin 2) (i : Fin 256) (n : Fin 1024),
      out0_11 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix3 b i n)
      = res m c (((cfg0.win 11).blk t).view.emb (ix3 b i n : S2x256x1024.Idx)) := fun b i n => by
    refine Eq.trans ?_ (blk11 t b i n (res m c)).symm
    rw [out_apply, ref_apply]
    refine row_eq n ?_ ?_ ?_ ?_ ?_ ?_ ?_ ?_ ?_ ?_
    · funext k; exact congrArg₂ (· + ·) (x0_eq m c t b i k) (x1_eq m c t b i k)
    · funext k; exact x2_eq m c t b i k
    · funext k; exact x3_eq m c t b i k
    · funext e; exact x4_eq m c t e
    · funext k n; exact x5_eq m c t k n
    · funext r k; exact x6_eq m c t b r k
    · funext k; exact x7_eq m c t k
    · funext k f; exact x8_eq m c t k f
    · funext f k; exact x9_eq m c t k f
    · funext k; exact x10_eq m c t k
  obtain ⟨b, i, n, rfl⟩ : ∃ (b : Fin 2) (i : Fin 256) (n : Fin 1024), y = (ix3 b i n : S2x256x1024.Idx) := by
    refine ⟨y 0, y 1, y 2, ?_⟩
    funext a
    fin_cases a <;> rfl
  refine Eq.trans ?_ (key b i n)
  rw [cast_eq, after0_11]
  rfl

end Cert.Merge

end
-- ==== Proof.MergeClaims.lean ====
/-
  The merge and MLP's claims: its frames, and its value against the reference's.
-/
module

public import proofs.«01_k».proof.Defs
public import proofs.«01_k».proof.Proof.MergeVal
public import proofs.«01_k».proof.Proof.Gen.Kernel2.Frame

@[expose] public section

set_option maxRecDepth 16384

noncomputable section

namespace Cert.MergeClaims

open Idealize.ShloMosaic Idealize.ShloMosaic.TcCoe Idealize.SL.Sem

theorem frame : Cert.quiescent_Kernel2 := fun m ρ _ => Cert.Kernel2.Gen.frame m ρ
theorem frameI : Cert.quiescent_Kernel2Ideal := fun m ρ _ => Cert.Kernel2Ideal.Gen.frame m ρ
theorem frameR : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m g m' g' _ hargs
  refine ⟨fun c => Cert.Merge.res m c, ?_, ?_⟩
  · exact (θ_run Cert.Kernel2Ideal.defs _ _).mono (fun _ h c => ⟨(h c).1.trans (Cert.Merge.final m c), (h c).2⟩)
      (Cert.Kernel2Ideal.Value.run_blocks (F := Ideal) m g)
  · refine (θ_run Cert.Reference2Ideal.defs _ _).mono (fun _ h c => ⟨(h c).1.trans ?_, (h c).2⟩) (Cert.Reference2Ideal.Value.run (F := Ideal) m' g')
    obtain ⟨e0, e1, e2, e3, e4, e5, e6, e7, e8, e9, e10, e11⟩ := hargs c
    refine Eq.trans (b := Cert.MergeRef.REF
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg6))
        (m' ((c.tc : Thread Cert.Reference2Ideal.nD Cert.Reference2Ideal.τ).loc Cert.Reference2Ideal.main_arg7))
        (m' ((c.tc : Thread Cert.Reference2Ideal.nD Cert.Reference2Ideal.τ).loc Cert.Reference2Ideal.main_arg8))
        (m' ((c.tc : Thread Cert.Reference2Ideal.nD Cert.Reference2Ideal.τ).loc Cert.Reference2Ideal.main_arg9))
        (m' ((c.tc : Thread Cert.Reference2Ideal.nD Cert.Reference2Ideal.τ).loc Cert.Reference2Ideal.main_arg10))
        (m' ((c.tc : Thread Cert.Reference2Ideal.nD Cert.Reference2Ideal.τ).loc Cert.Reference2Ideal.main_arg11))) rfl ?_
    rw [e0, e1, e2, e3, e4, e6, e7, e8, e9, e10, e11]
    rfl

end Cert.MergeClaims

end
-- ==== Proof.Merge3.lean ====
/-
  The second layer's merge and MLP: the body's output block, of the pieces of the last layer's without the final norm.
-/
module

public import proofs.«01_k».proof.Proof.MergeOut
public import proofs.«01_k».proof.Proof.Gen.Kernel3Ideal.Value

@[expose] public section

set_option maxRecDepth 16384

noncomputable section

namespace Cert.Merge3

open Cert.Kernel3Ideal Cert.Kernel3Ideal.Gen Idealize.ShloMosaic Idealize.ShloMosaic.TcCoe Idealize.SL.Sem Cert.Merge

variable (x0 x1 x2 x3 : Vec Ideal S2x256x1024 .f32) (x4 : Vec Ideal S1x128 .f32) (x5 : Vec Ideal S1024x1024 .bf16)
  (x6 : Vec Ideal S2x1x6x1024 .f32) (x7 : Vec Ideal S1x1024 .f32) (x8 : Vec Ideal S1x1024x4096 .bf16)
  (x9 : Vec Ideal S1x4096x1024 .bf16)

/-- The stream after the MLP, per batch of the block. -/
def q0 : FVec Ideal S256x1024 .f32 := res5 (h0 x0 x1 x2 x3 x4 x5 x6) (m0 x6) (lo (f x0 x1 x2 x3 x4 x5 x6 x7 x8 x9))
def q1 : FVec Ideal S256x1024 .f32 := res5 (h1 x0 x1 x2 x3 x4 x5 x6) (m1 x6) (hi (f x0 x1 x2 x3 x4 x5 x6 x7 x8 x9))

theorem p62 : k0_pay62 x0 x1 x2 x3 x4 x5 x6 x7 x8 x9 = ys (addf (b0 x0) (b0 x1)) (b0 x2) (View.ld x4 r0_3) := rfl
theorem p75 : k0_pay75 x0 x1 x2 x3 x4 x5 x6 x7 x8 x9 = o x0 x1 x2 x4 x5 := rfl
theorem p77 : k0_pay77 x0 x1 x2 x3 x4 x5 x6 x7 x8 x9 = h0 x0 x1 x2 x3 x4 x5 x6 := by
  show res2 (b0 x3) (m0 x6) (lo (k0_pay75 x0 x1 x2 x3 x4 x5 x6 x7 x8 x9)) = _
  rw [p75]; rfl
theorem p50 : k0_pay50 (k0_pay75 x0 x1 x2 x3 x4 x5 x6 x7 x8 x9) (k0_pay76 x0 x1 x2 x3 x4 x5 x6 x7 x8 x9)
    (k0_pay78 x0 x1 x2 x3 x4 x5 x6 x7 x8 x9) = h1 x0 x1 x2 x3 x4 x5 x6 := by
  rw [p75]; rfl
theorem p83 : k0_pay83 x0 x1 x2 x3 x4 x5 x6 x7 x8 x9 = a x0 x1 x2 x3 x4 x5 x6 x7 := by
  show cat (md43 (rn (k0_pay77 x0 x1 x2 x3 x4 x5 x6 x7 x8 x9) (View.ld x7 r0_6)) (m0 x6))
    (md43 (rn (k0_pay50 (k0_pay75 x0 x1 x2 x3 x4 x5 x6 x7 x8 x9) (k0_pay76 x0 x1 x2 x3 x4 x5 x6 x7 x8 x9)
    (k0_pay78 x0 x1 x2 x3 x4 x5 x6 x7 x8 x9)) (View.ld x7 r0_6)) (m1 x6)) = _
  rw [p77, p50]; rfl

theorem mlp_eq (A : FVec Ideal S256x1024 .bf16) (B C : FVec Ideal S256x1024 .f32) (u1 v1 u2 v2 u3 v3 u4 v4 : Vec Ideal S1x1024x1024 .bf16) :
    k0_pay1 (k0_pay54 A B C) (k0_pay55 A B C u1 v1 u2 v2) (k0_pay56 v3) (k0_pay57 A B C u3)
      (constant S512x1024 .f32 0x00000000#32) u4 v4 = mlp (k0_pay54 A B C) u1 v1 u2 v2 u3 v3 u4 v4 := rfl

theorem pf : k0_pay1 (k0_pay83 x0 x1 x2 x3 x4 x5 x6 x7 x8 x9) (k0_pay84 x0 x1 x2 x3 x4 x5 x6 x7 x8 x9)
    (k0_pay85 x0 x1 x2 x3 x4 x5 x6 x7 x8 x9) (k0_pay86 x0 x1 x2 x3 x4 x5 x6 x7 x8 x9)
    (k0_pay82 x0 x1 x2 x3 x4 x5 x6 x7 x8 x9) (View.ld x8 r0_13) (View.ld x9 r0_14)
    = f x0 x1 x2 x3 x4 x5 x6 x7 x8 x9 := by
  unfold k0_pay84 k0_pay85 k0_pay86 k0_pay82
  have e := p83 x0 x1 x2 x3 x4 x5 x6 x7 x8 x9
  unfold k0_pay83 at e ⊢
  rw [mlp_eq, e]
  rfl

theorem out_eq : out0_10 x0 x1 x2 x3 x4 x5 x6 x7 x8 x9
    = View.canon [⟨r0_4, shapeCast S1x256x1024 (q1 x0 x1 x2 x3 x4 x5 x6 x7 x8 x9) shapeCasts_S256x1024_S1x256x1024⟩,
        ⟨r0_2, shapeCast S1x256x1024 (q0 x0 x1 x2 x3 x4 x5 x6 x7 x8 x9) shapeCasts_S256x1024_S1x256x1024⟩] := by
  unfold out0_10 k0_pay2 k0_pay3
  rw [pf, p77, p50]
  rfl

variable (i : Fin 256) (n : Fin 1024)

theorem q0_apply : q0 x0 x1 x2 x3 x4 x5 x6 x7 x8 x9 (ix2 i n)
    = row (fun k => x0 (ix3 0 i k) + x1 (ix3 0 i k)) (fun k => x2 (ix3 0 i k)) (fun k => x3 (ix3 0 i k))
        (fun e => x4 (ix2 0 e)) (fun k n => x5 (ix2 k n)) (fun r k => x6 (ix4 0 0 r k)) (fun k => x7 (ix2 0 k))
        (fun k f => x8 (ix3 0 k f)) (fun f n => x9 (ix3 0 f n)) n := by
  simp only [q0, res5_apply, m0_apply, l7, lo_apply, f, mlp_apply]
  simp only [a_lo x0 x1 x2 x3 x4 x5 x6 x7 i _ _ fun n => h0_apply x0 x1 x2 x3 x4 x5 x6 i n, h0_apply]
  rfl
theorem q1_apply : q1 x0 x1 x2 x3 x4 x5 x6 x7 x8 x9 (ix2 i n)
    = row (fun k => x0 (ix3 1 i k) + x1 (ix3 1 i k)) (fun k => x2 (ix3 1 i k)) (fun k => x3 (ix3 1 i k))
        (fun e => x4 (ix2 0 e)) (fun k n => x5 (ix2 k n)) (fun r k => x6 (ix4 1 0 r k)) (fun k => x7 (ix2 0 k))
        (fun k f => x8 (ix3 0 k f)) (fun f n => x9 (ix3 0 f n)) n := by
  simp only [q1, res5_apply, m1_apply, l7, hi_apply, f, mlp_apply]
  simp only [a_hi x0 x1 x2 x3 x4 x5 x6 x7 i _ _ fun n => h1_apply x0 x1 x2 x3 x4 x5 x6 i n, h1_apply]
  rfl

theorem out_apply (b : Fin 2) : out0_10 x0 x1 x2 x3 x4 x5 x6 x7 x8 x9 (ix3 b i n)
    = row (fun k => x0 (ix3 b i k) + x1 (ix3 b i k)) (fun k => x2 (ix3 b i k)) (fun k => x3 (ix3 b i k))
        (fun e => x4 (ix2 0 e)) (fun k n => x5 (ix2 k n)) (fun r k => x6 (ix4 b 0 r k)) (fun k => x7 (ix2 0 k))
        (fun k f => x8 (ix3 0 k f)) (fun f n => x9 (ix3 0 f n)) n := by
  rw [out_eq]
  match b with
  | ⟨0, _⟩ => exact (canon_zero i n _ _).trans ((sc_apply i n _).trans (q0_apply x0 x1 x2 x3 x4 x5 x6 x7 x8 x9 i n))
  | ⟨1, _⟩ => exact (canon_one i n _ _).trans ((sc_apply i n _).trans (q1_apply x0 x1 x2 x3 x4 x5 x6 x7 x8 x9 i n))

end Cert.Merge3

end
-- ==== Proof.Merge3Blk.lean ====
/-
  The second layer's merge: the call's operands as the host code before it leaves them, and its blocks read off them.
-/
module

public import proofs.«01_k».proof.Proof.Merge3
public import proofs.«01_k».proof.Proof.MergeBlk
public import Idealize.ShloMosaic.Lib.Tactic.CleanTypes

@[expose] public section

set_option maxRecDepth 16384

noncomputable section

namespace Cert.Merge3

open Cert.Kernel3Ideal Cert.Kernel3Ideal.Gen Idealize.ShloMosaic Idealize.ShloMosaic.TcCoe Idealize.SL.Sem
open Idealize.ShloMosaic.Pipeline (Dat)
open Cert.Merge (mkO mkM mkO_apply mkM_apply row128 row1024 row)

variable (m : (ℓ : Loc nD τ sig) → Buf (Elt Ideal) ℓ)

theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![0, 0]
    ∧ win0_5.index t = ![0, 0]
    ∧ win0_6.index t = ![(grid0.coords t 0).val, (grid0.coords t 1).val / 8, 0, 0]
    ∧ win0_7.index t = ![0, 0]
    ∧ win0_8.index t = ![1, 0, 0]
    ∧ win0_9.index t = ![1, 0, 0]
    ∧ win0_10.index t = ![(grid0.coords t 0).val, (grid0.coords t 1).val, 0] := by decide +kernel

/-- The arguments of device `c`. -/
abbrev a0 (c : Dev nD) : FVec Ideal S8x8x2304x128 .f32 := m ((c : Thread nD τ).loc main_arg0)
abbrev a1 (c : Dev nD) : FVec Ideal S8x8x2304x128 .f32 := m ((c : Thread nD τ).loc main_arg1)
abbrev a2 (c : Dev nD) : FVec Ideal S8x2304x1024 .f32 := m ((c : Thread nD τ).loc main_arg2)
abbrev a3 (c : Dev nD) : FVec Ideal S8x2304x1024 .f32 := m ((c : Thread nD τ).loc main_arg3)
abbrev a4 (c : Dev nD) : FVec Ideal S8x6x1024 .f32 := m ((c : Thread nD τ).loc main_arg4)
abbrev a5 (c : Dev nD) : FVec Ideal S6x1024 .f32 := m ((c : Thread nD τ).loc main_arg5)
abbrev a6 (c : Dev nD) : FVec Ideal S128 .f32 := m ((c : Thread nD τ).loc main_arg6)
abbrev a7 (c : Dev nD) : FVec Ideal S1024x1024 .f32 := m ((c : Thread nD τ).loc main_arg7)
abbrev a8 (c : Dev nD) : FVec Ideal S1024 .f32 := m ((c : Thread nD τ).loc main_arg8)
abbrev a9 (c : Dev nD) : FVec Ideal S4x1024x4096 .f32 := m ((c : Thread nD τ).loc main_arg9)
abbrev a10 (c : Dev nD) : FVec Ideal S4x4096x1024 .f32 := m ((c : Thread nD τ).loc main_arg10)

/-- The call's operands as the host code before it leaves them. -/
theorem op0 (c : Dev nD) : (V m c main_v5 : FVec Ideal S8x2304x1024 .f32) = mkO (a0 m c) := by
  unfold V
  simp only [hostOps0, List.flatten_cons, List.flatten_nil, List.cons_append, List.nil_append, List.append_nil]
  entry_read
  rfl
theorem op1 (c : Dev nD) : (V m c main_v7 : FVec Ideal S8x2304x1024 .f32) = mkO (a1 m c) := by
  unfold V
  simp only [hostOps0, List.flatten_cons, List.flatten_nil, List.cons_append, List.nil_append, List.append_nil]
  entry_read
  rfl
theorem op2 (c : Dev nD) : (V m c main_arg2 : FVec Ideal S8x2304x1024 .f32) = a2 m c := by
  unfold V
  simp only [hostOps0, List.flatten_cons, List.flatten_nil, List.cons_append, List.nil_append, List.append_nil]
  entry_read
  rfl
theorem op3 (c : Dev nD) : (V m c main_arg3 : FVec Ideal S8x2304x1024 .f32) = a3 m c := by
  unfold V
  simp only [hostOps0, List.flatten_cons, List.flatten_nil, List.cons_append, List.nil_append, List.append_nil]
  entry_read
  rfl
theorem op4 (c : Dev nD) : (V m c main_v8 : FVec Ideal S1x128 .f32) = broadcastInDim S1x128 ![1] bcast_S128_S1x128_1 (a6 m c) := by
  unfold V
  simp only [hostOps0, List.flatten_cons, List.flatten_nil, List.cons_append, List.nil_append, List.append_nil]
  entry_read
  rfl
theorem op5 (c : Dev nD) : (V m c main_v9 : FVec Ideal S1024x1024 .bf16) = truncf .bf16 (a7 m c) bitsLt_bf16_f32 := by
  unfold V
  simp only [hostOps0, List.flatten_cons, List.flatten_nil, List.cons_append, List.nil_append, List.append_nil]
  entry_read
  rfl
theorem op6 (c : Dev nD) : (V m c main_v3 : FVec Ideal S8x2x6x1024 .f32) = mkM (a4 m c) (a5 m c) := by
  unfold V
  simp only [hostOps0, List.flatten_cons, List.flatten_nil, List.cons_append, List.nil_append, List.append_nil]
  entry_read
  rfl
theorem op7 (c : Dev nD) : (V m c main_v10 : FVec Ideal S1x1024 .f32) = broadcastInDim S1x1024 ![1] bcast_S1024_S1x1024_1 (a8 m c) := by
  unfold V
  simp only [hostOps0, List.flatten_cons, List.flatten_nil, List.cons_append, List.nil_append, List.append_nil]
  entry_read
  rfl
theorem op8 (c : Dev nD) : (V m c main_v11 : FVec Ideal S4x1024x4096 .bf16) = truncf .bf16 (a9 m c) bitsLt_bf16_f32 := by
  unfold V
  simp only [hostOps0, List.flatten_cons, List.flatten_nil, List.cons_append, List.nil_append, List.append_nil]
  entry_read
  rfl
theorem op9 (c : Dev nD) : (V m c main_v12 : FVec Ideal S4x4096x1024 .bf16) = truncf .bf16 (a10 m c) bitsLt_bf16_f32 := by
  unfold V
  simp only [hostOps0, List.flatten_cons, List.flatten_nil, List.cons_append, List.nil_append, List.append_nil]
  entry_read
  rfl
/-- The modulation of a block's tile: the latents' above tile 8, the context's from there. -/
def mdt (x : FVec Ideal S8x6x1024 .f32) (y : FVec Ideal S6x1024 .f32) (j : Nat) (b : Fin 8) (r : Fin 6) (k : Fin 1024) : EReal :=
  if j < 8 then x (ix3 b r k) else y (ix2 r k)
theorem mkM_ctx (x : FVec Ideal S8x6x1024 .f32) (y : FVec Ideal S6x1024 .f32) (b : Fin 8) (r : Fin 6) (k : Fin 1024) :
    mkM x y (ix4 b 1 r k) = y (ix2 r k) := by
  pointwise [mkM]
theorem mkM_mdt (x : FVec Ideal S8x6x1024 .f32) (y : FVec Ideal S6x1024 .f32) (j : Nat) (hj : j < 9) (b : Fin 8) (r : Fin 6)
    (k : Fin 1024) : mkM x y (ix4 b ⟨j / 8, by omega⟩ r k) = mdt x y j b r k := by
  rw [mdt]
  split
  · have e : (⟨j / 8, by omega⟩ : Fin 2) = 0 := Fin.ext (show j / 8 = 0 by omega)
    rw [e, mkM_apply]
  · have e : (⟨j / 8, by omega⟩ : Fin 2) = 1 := Fin.ext (show j / 8 = 1 by omega)
    rw [e, mkM_ctx]

theorem lt0 (t : Fin cfg0.N) : (grid0.coords t 0).val < 4 := (grid0.coords t 0).isLt
theorem lt1 (t : Fin cfg0.N) : (grid0.coords t 1).val < 9 := (grid0.coords t 1).isLt

/-- The batch and the token of a block's row. -/
abbrev bat (t : Fin cfg0.N) (b : Fin 2) : Fin 8 := ⟨2 * (grid0.coords t 0).val + b, by have := lt0 t; omega⟩
abbrev tok (t : Fin cfg0.N) (i : Fin 256) : Fin 2304 := ⟨256 * (grid0.coords t 1).val + i, by have := lt1 t; omega⟩

section blocks

variable (t : Fin cfg0.N) (b : Fin 2) (i : Fin 256) (k : Fin 1024)

theorem blk0 (A : FVec Ideal S8x2304x1024 .f32) : ((cfg0.win 0).blk t).view.read (Elt Ideal) A (ix3 b i k : S2x256x1024.Idx)
      = A (ix3 (bat t b) (tok t i) k) := by
  have e := (idx t).1
  blk_ext [e]
theorem blk1 (A : FVec Ideal S8x2304x1024 .f32) : ((cfg0.win 1).blk t).view.read (Elt Ideal) A (ix3 b i k : S2x256x1024.Idx)
      = A (ix3 (bat t b) (tok t i) k) := by
  have e := (idx t).2.1
  blk_ext [e]
theorem blk2 (A : FVec Ideal S8x2304x1024 .f32) : ((cfg0.win 2).blk t).view.read (Elt Ideal) A (ix3 b i k : S2x256x1024.Idx)
      = A (ix3 (bat t b) (tok t i) k) := by
  have e := (idx t).2.2.1
  blk_ext [e]
theorem blk3 (A : FVec Ideal S8x2304x1024 .f32) : ((cfg0.win 3).blk t).view.read (Elt Ideal) A (ix3 b i k : S2x256x1024.Idx)
      = A (ix3 (bat t b) (tok t i) k) := by
  have e := (idx t).2.2.2.1
  blk_ext [e]
theorem blk4 (A : FVec Ideal S1x128 .f32) (d : Fin 128) : ((cfg0.win 4).blk t).view.read (Elt Ideal) A (ix2 (0 : Fin 1) d : S1x128.Idx)
      = A (ix2 0 d) := by
  have e := (idx t).2.2.2.2.1
  blk_ext [e]
theorem blk5 (A : FVec Ideal S1024x1024 .bf16) (n : Fin 1024) : ((cfg0.win 5).blk t).view.read (Elt Ideal) A (ix2 k n : S1024x1024.Idx)
      = A (ix2 k n) := by
  have e := (idx t).2.2.2.2.2.1
  blk_ext [e]
theorem blk6 (A : FVec Ideal S8x2x6x1024 .f32) (r : Fin 6) : ((cfg0.win 6).blk t).view.read (Elt Ideal) A (ix4 b (0 : Fin 1) r k : S2x1x6x1024.Idx)
      = A (ix4 (bat t b) ⟨(grid0.coords t 1).val / 8, by have := lt1 t; omega⟩ r k) := by
  have e := (idx t).2.2.2.2.2.2.1
  blk_ext [e]
theorem blk7 (A : FVec Ideal S1x1024 .f32) : ((cfg0.win 7).blk t).view.read (Elt Ideal) A (ix2 (0 : Fin 1) k : S1x1024.Idx)
      = A (ix2 0 k) := by
  have e := (idx t).2.2.2.2.2.2.2.1
  blk_ext [e]
theorem blk8 (A : FVec Ideal S4x1024x4096 .bf16) (f : Fin 4096) : ((cfg0.win 8).blk t).view.read (Elt Ideal) A (ix3 (0 : Fin 1) k f : S1x1024x4096.Idx)
      = A (ix3 1 k f) := by
  have e := (idx t).2.2.2.2.2.2.2.2.1
  blk_ext [e]
theorem blk9 (A : FVec Ideal S4x4096x1024 .bf16) (f : Fin 4096) : ((cfg0.win 9).blk t).view.read (Elt Ideal) A (ix3 (0 : Fin 1) f k : S1x4096x1024.Idx)
      = A (ix3 1 f k) := by
  have e := (idx t).2.2.2.2.2.2.2.2.2.1
  blk_ext [e]
theorem blk10 (A : FVec Ideal S8x2304x1024 .f32) : A (((cfg0.win 10).blk t).view.emb (ix3 b i k : S2x256x1024.Idx))
      = A (ix3 (bat t b) (tok t i) k) := by
  have e := (idx t).2.2.2.2.2.2.2.2.2.2
  blk_ext [e]

end blocks

/-- The blocks of the call's operands. -/
theorem x0_eq (c : Dev nD) (t : Fin cfg0.N) (b : Fin 2) (i : Fin 256) (k : Fin 1024) :
    (iblk m c 0 t : Vec Ideal S2x256x1024 .f32) (ix3 b i k) = a0 m c (ix4 (bat t b) ⟨k / 128, by omega⟩ (tok t i) ⟨k % 128, by omega⟩) := by
  have e : iblk m c 0 t = ((cfg0.win 0).blk t).view.read (Elt Ideal) (V m c main_v5 : FVec Ideal S8x2304x1024 .f32) := by rw [iblk]
  rw [e, blk0, op0, mkO_apply]
theorem x1_eq (c : Dev nD) (t : Fin cfg0.N) (b : Fin 2) (i : Fin 256) (k : Fin 1024) :
    (iblk m c 1 t : Vec Ideal S2x256x1024 .f32) (ix3 b i k) = a1 m c (ix4 (bat t b) ⟨k / 128, by omega⟩ (tok t i) ⟨k % 128, by omega⟩) := by
  have e : iblk m c 1 t = ((cfg0.win 1).blk t).view.read (Elt Ideal) (V m c main_v7 : FVec Ideal S8x2304x1024 .f32) := by rw [iblk]
  rw [e, blk1, op1, mkO_apply]
theorem x2_eq (c : Dev nD) (t : Fin cfg0.N) (b : Fin 2) (i : Fin 256) (k : Fin 1024) :
    (iblk m c 2 t : Vec Ideal S2x256x1024 .f32) (ix3 b i k) = a2 m c (ix3 (bat t b) (tok t i) k) := by
  have e : iblk m c 2 t = ((cfg0.win 2).blk t).view.read (Elt Ideal) (V m c main_arg2 : FVec Ideal S8x2304x1024 .f32) := by rw [iblk]
  rw [e, blk2, op2]
theorem x3_eq (c : Dev nD) (t : Fin cfg0.N) (b : Fin 2) (i : Fin 256) (k : Fin 1024) :
    (iblk m c 3 t : Vec Ideal S2x256x1024 .f32) (ix3 b i k) = a3 m c (ix3 (bat t b) (tok t i) k) := by
  have e : iblk m c 3 t = ((cfg0.win 3).blk t).view.read (Elt Ideal) (V m c main_arg3 : FVec Ideal S8x2304x1024 .f32) := by rw [iblk]
  rw [e, blk3, op3]
theorem x4_eq (c : Dev nD) (t : Fin cfg0.N) (d : Fin 128) : (iblk m c 4 t : Vec Ideal S1x128 .f32) (ix2 0 d) = a6 m c (ix1 d) := by
  have e : iblk m c 4 t = ((cfg0.win 4).blk t).view.read (Elt Ideal) (V m c main_v8 : FVec Ideal S1x128 .f32) := by rw [iblk]
  rw [e, blk4, op4, row128]
theorem x5_eq (c : Dev nD) (t : Fin cfg0.N) (k n : Fin 1024) : (iblk m c 5 t : Vec Ideal S1024x1024 .bf16) (ix2 k n) = a7 m c (ix2 k n) := by
  have e : iblk m c 5 t = ((cfg0.win 5).blk t).view.read (Elt Ideal) (V m c main_v9 : FVec Ideal S1024x1024 .bf16) := by rw [iblk]
  rw [e, blk5, op5]; rfl
theorem x6_eq (c : Dev nD) (t : Fin cfg0.N) (b : Fin 2) (r : Fin 6) (k : Fin 1024) :
    (iblk m c 6 t : Vec Ideal S2x1x6x1024 .f32) (ix4 b 0 r k) = mdt (a4 m c) (a5 m c) (grid0.coords t 1).val (bat t b) r k := by
  have e : iblk m c 6 t = ((cfg0.win 6).blk t).view.read (Elt Ideal) (V m c main_v3 : FVec Ideal S8x2x6x1024 .f32) := by rw [iblk]
  rw [e, blk6, op6]; exact mkM_mdt _ _ _ (lt1 t) _ _ _
theorem x7_eq (c : Dev nD) (t : Fin cfg0.N) (k : Fin 1024) : (iblk m c 7 t : Vec Ideal S1x1024 .f32) (ix2 0 k) = a8 m c (ix1 k) := by
  have e : iblk m c 7 t = ((cfg0.win 7).blk t).view.read (Elt Ideal) (V m c main_v10 : FVec Ideal S1x1024 .f32) := by rw [iblk]
  rw [e, blk7, op7, row1024]
theorem x8_eq (c : Dev nD) (t : Fin cfg0.N) (k : Fin 1024) (f : Fin 4096) :
    (iblk m c 8 t : Vec Ideal S1x1024x4096 .bf16) (ix3 0 k f) = a9 m c (ix3 1 k f) := by
  have e : iblk m c 8 t = ((cfg0.win 8).blk t).view.read (Elt Ideal) (V m c main_v11 : FVec Ideal S4x1024x4096 .bf16) := by rw [iblk]
  rw [e, blk8, op8]; rfl
theorem x9_eq (c : Dev nD) (t : Fin cfg0.N) (k : Fin 1024) (f : Fin 4096) :
    (iblk m c 9 t : Vec Ideal S1x4096x1024 .bf16) (ix3 0 f k) = a10 m c (ix3 1 f k) := by
  have e : iblk m c 9 t = ((cfg0.win 9).blk t).view.read (Elt Ideal) (V m c main_v12 : FVec Ideal S4x4096x1024 .bf16) := by rw [iblk]
  rw [e, blk9, op9]; rfl

end Cert.Merge3

end
-- ==== Proof.MergeRefC.lean ====
/-
  The pieces of the references of the first three layers' merges: the MLP of the latent rows with weights of any layer, and
  the same functions for the context's rows.
-/
module

public import proofs.«01_k».proof.Proof.MergeRef
public import proofs.«01_k».proof.Proof.Gen.Reference3Ideal.Run

@[expose] public section

set_option maxRecDepth 16384

noncomputable section

namespace Cert.MergeRef

open Cert.Reference3Ideal Cert.Reference3Ideal.Gen Idealize.ShloMosaic Idealize.ShloMosaic.TcCoe Idealize.SL.Sem Cert.Merge

/-! ## The latent rows -/

/-- The stream after the merge, from the rows before it. -/
def ADD (h : FVec Ideal S8x2048x1024 .f32) (md : FVec Ideal S8x6x1024 .f32) (y : FVec Ideal S8x2048x1024 .f32)
    (w : FVec Ideal S1024x1024 .f32) : FVec Ideal S8x2048x1024 .f32 :=
  addf h (mulf (M2 md) (Host.dotGeneral dot_S8x2048x1024_S1024x1024_S8x2048x1024_2_0_01_1_n_n none y w))

/-- The latent rows of the stream. -/
def HL (h : FVec Ideal S8x2304x1024 .f32) : FVec Ideal S8x2048x1024 .f32 :=
  extractStridedSlice S8x2048x1024 ![0, 0, 0] h slices_S8x2304x1024_S8x2048x1024_0_0_0

/-- The MLP with its layer's weights. -/
def HDW (a : FVec Ideal S8x2048x1024 .f32) (w : FVec Ideal S1024x4096 .f32) : FVec Ideal S8x2048x4096 .f32 :=
  maximumf (Host.dotGeneral dot_S8x2048x1024_S1024x4096_S8x2048x4096_2_0_01_1_n_n none a w)
    (broadcastInDim S8x2048x4096 ![] bcast_S_S8x2048x4096 (constant S_ .f32 0x00000000#32))
def POW (s : FVec Ideal S8x2048x1024 .f32) (md : FVec Ideal S8x6x1024 .f32) (z : FVec Ideal S8x2048x4096 .f32)
    (w : FVec Ideal S4096x1024 .f32) : FVec Ideal S8x2048x1024 .f32 :=
  addf s (mulf (M5 md) (Host.dotGeneral dot_S8x2048x4096_S4096x1024_S8x2048x1024_2_0_01_1_n_n none (mulf z z) w))
def PSW (s : FVec Ideal S8x2048x1024 .f32) (md : FVec Ideal S8x6x1024 .f32) (n2 : FVec Ideal S1024 .f32)
    (w1 : FVec Ideal S1024x4096 .f32) (w2 : FVec Ideal S4096x1024 .f32) : FVec Ideal S8x2048x1024 .f32 :=
  POW s md (HDW (MD (RN s n2) md) w1) w2

/-! ## The context's rows -/

/-- The sum of the two scans, heads last. -/
def OSC (x y : FVec Ideal S8x8x2304x128 .f32) : FVec Ideal S8x256x8x128 .f32 :=
  transpose S8x256x8x128 [0, 2, 1, 3] (extractStridedSlice S8x8x256x128 ![0, 0, 2048, 0] (addf x y)
    slices_S8x8x2304x128_S8x8x256x128_0_0_2048_0) transposes_S8x8x256x128_S8x256x8x128_0_2_1_3

/-- The gate's input, per head. -/
def GSC (g : FVec Ideal S8x2304x1024 .f32) : FVec Ideal S8x256x8x128 .f32 :=
  shapeCast S8x256x8x128 (extractStridedSlice S8x256x1024 ![0, 2048, 0] g slices_S8x2304x1024_S8x256x1024_0_2048_0)
    shapeCasts_S8x256x1024_S8x256x8x128

/-- The norm of each head. -/
def HNRC (x : FVec Ideal S8x256x8x128 .f32) (w : FVec Ideal S128 .f32) : FVec Ideal S8x256x8x128 .f32 :=
  mulf (mulf x (broadcastInDim S8x256x8x128 ![0, 1, 2, 3] bcast_S8x256x8x1_S8x256x8x128_0_1_2_3
      (Host.rsqrt (addf (Host.divf (broadcastInDim S8x256x8x1 ![0, 1, 2] bcast_S8x256x8_S8x256x8x1_0_1_2
          (Host.reduceAdd (mulf x x) (constant S_ .f32 0x00000000#32) reducesTo_S8x256x8x128_S8x256x8_d3 h_S_))
        (broadcastInDim S8x256x8x1 ![] bcast_S_S8x256x8x1 (constant S_ .f32 0x43000000#32)))
        (broadcastInDim S8x256x8x1 ![] bcast_S_S8x256x8x1 (constant S_ .f32 0x358637BD#32))))))
    (broadcastInDim S8x256x8x128 ![0, 1, 2, 3] bcast_S1x1x1x128_S8x256x8x128_0_1_2_3
      (broadcastInDim S1x1x1x128 ![3] bcast_S128_S1x1x1x128_3 w))

/-- The gate. -/
def SLC (g : FVec Ideal S8x256x8x128 .f32) : FVec Ideal S8x256x8x128 .f32 :=
  mulf g (Host.divf (broadcastInDim S8x256x8x128 ![] bcast_S_S8x256x8x128 (constant S_ .f32 0x3F800000#32))
    (addf (broadcastInDim S8x256x8x128 ![] bcast_S_S8x256x8x128 (constant S_ .f32 0x3F800000#32)) (Host.exp (Host.negf g))))

/-- The heads side by side. -/
def YRC (x g : FVec Ideal S8x256x8x128 .f32) (w : FVec Ideal S128 .f32) : FVec Ideal S8x256x1024 .f32 :=
  shapeCast S8x256x1024 (mulf (HNRC x w) (SLC g)) shapeCasts_S8x256x8x128_S8x256x1024

/-- A row of all samples, and the rows 2, 3, 4 and 5 of the context's modulation. -/
def RW (v : FVec Ideal S1024 .f32) : FVec Ideal S8x256x1024 .f32 :=
  broadcastInDim S8x256x1024 ![0, 1, 2] bcast_S1x1x1024_S8x256x1024_0_1_2 (broadcastInDim S1x1x1024 ![2] bcast_S1024_S1x1x1024_2 v)
def C2 (md : FVec Ideal S6x1024 .f32) : FVec Ideal S8x256x1024 .f32 :=
  RW (shapeCast S1024 (extractStridedSlice S1x1024 ![2, 0] md slices_S6x1024_S1x1024_2_0) shapeCasts_S1x1024_S1024)
def C3 (md : FVec Ideal S6x1024 .f32) : FVec Ideal S8x256x1024 .f32 :=
  RW (shapeCast S1024 (extractStridedSlice S1x1024 ![3, 0] md slices_S6x1024_S1x1024_3_0) shapeCasts_S1x1024_S1024)
def C4 (md : FVec Ideal S6x1024 .f32) : FVec Ideal S8x256x1024 .f32 :=
  RW (addf (broadcastInDim S1024 ![] bcast_S_S1024 (constant S_ .f32 0x3F800000#32))
    (shapeCast S1024 (extractStridedSlice S1x1024 ![4, 0] md slices_S6x1024_S1x1024_4_0) shapeCasts_S1x1024_S1024))
def C5 (md : FVec Ideal S6x1024 .f32) : FVec Ideal S8x256x1024 .f32 :=
  RW (shapeCast S1024 (extractStridedSlice S1x1024 ![5, 0] md slices_S6x1024_S1x1024_5_0) shapeCasts_S1x1024_S1024)

/-- The context's rows of the stream. -/
def HC (h : FVec Ideal S8x2304x1024 .f32) : FVec Ideal S8x256x1024 .f32 :=
  extractStridedSlice S8x256x1024 ![0, 2048, 0] h slices_S8x2304x1024_S8x256x1024_0_2048_0

/-- The stream after the merge, from the rows before it. -/
def ADDC (h : FVec Ideal S8x256x1024 .f32) (md : FVec Ideal S6x1024 .f32) (y : FVec Ideal S8x256x1024 .f32)
    (w : FVec Ideal S1024x1024 .f32) : FVec Ideal S8x256x1024 .f32 :=
  addf h (mulf (C2 md) (Host.dotGeneral dot_S8x256x1024_S1024x1024_S8x256x1024_2_0_01_1_n_n none y w))

/-- The norm of the stream. -/
def RNC (x : FVec Ideal S8x256x1024 .f32) (w : FVec Ideal S1024 .f32) : FVec Ideal S8x256x1024 .f32 :=
  mulf (mulf x (broadcastInDim S8x256x1024 ![0, 1, 2] bcast_S8x256x1_S8x256x1024_0_1_2
      (Host.rsqrt (addf (Host.divf (broadcastInDim S8x256x1 ![0, 1] bcast_S8x256_S8x256x1_0_1
          (Host.reduceAdd (mulf x x) (constant S_ .f32 0x00000000#32) reducesTo_S8x256x1024_S8x256_d2 h_S_))
        (broadcastInDim S8x256x1 ![] bcast_S_S8x256x1 (constant S_ .f32 0x44800000#32)))
        (broadcastInDim S8x256x1 ![] bcast_S_S8x256x1 (constant S_ .f32 0x358637BD#32)))))) (RW w)

/-- The scale and the shift, the hidden layer, the stream after the MLP. -/
def MDC (x : FVec Ideal S8x256x1024 .f32) (md : FVec Ideal S6x1024 .f32) : FVec Ideal S8x256x1024 .f32 :=
  addf (mulf x (C4 md)) (C3 md)
def HDC (a : FVec Ideal S8x256x1024 .f32) (w : FVec Ideal S1024x4096 .f32) : FVec Ideal S8x256x4096 .f32 :=
  maximumf (Host.dotGeneral dot_S8x256x1024_S1024x4096_S8x256x4096_2_0_01_1_n_n none a w)
    (broadcastInDim S8x256x4096 ![] bcast_S_S8x256x4096 (constant S_ .f32 0x00000000#32))
def POC (s : FVec Ideal S8x256x1024 .f32) (md : FVec Ideal S6x1024 .f32) (z : FVec Ideal S8x256x4096 .f32)
    (w : FVec Ideal S4096x1024 .f32) : FVec Ideal S8x256x1024 .f32 :=
  addf s (mulf (C5 md) (Host.dotGeneral dot_S8x256x4096_S4096x1024_S8x256x1024_2_0_01_1_n_n none (mulf z z) w))
def PSC (s : FVec Ideal S8x256x1024 .f32) (md : FVec Ideal S6x1024 .f32) (n2 : FVec Ideal S1024 .f32)
    (w1 : FVec Ideal S1024x4096 .f32) (w2 : FVec Ideal S4096x1024 .f32) : FVec Ideal S8x256x1024 .f32 :=
  POC s md (HDC (MDC (RNC s n2) md) w1) w2

/-- The latent rows above the context's. -/
def CAT (x : FVec Ideal S8x2048x1024 .f32) (y : FVec Ideal S8x256x1024 .f32) : FVec Ideal S8x2304x1024 .f32 :=
  concatenate S8x2304x1024 1 [⟨S8x2048x1024, x⟩, ⟨S8x256x1024, y⟩] concatenates_S8x2048x1024_S8x256x1024_S8x2304x1024_d1

/-! ## Read at an index -/

section latent

variable (b : Fin 8) (t : Fin 2048) (n : Fin 1024)

theorem ADD_apply (h : FVec Ideal S8x2048x1024 .f32) (md : FVec Ideal S8x6x1024 .f32) (y : FVec Ideal S8x2048x1024 .f32)
    (w : FVec Ideal S1024x1024 .f32) : ADD h md y w (ix3 b t n)
      = mid (fun k => h (ix3 b t k)) (prod (fun k => y (ix3 b t k)) fun k n => w (ix2 k n)) (fun r k => md (ix3 b r k)) n := by
  pointwise [ADD, mid, prod]
  rw [M2_apply]
theorem HL_apply (h : FVec Ideal S8x2304x1024 .f32) : HL h (ix3 b t n) = h (ix3 b ⟨t, by omega⟩ n) := by
  pointwise [HL]
theorem HDW_apply (x : FVec Ideal S8x2048x1024 .f32) (w : FVec Ideal S1024x4096 .f32) (f : Fin 4096) :
    HDW x w (ix3 b t f) = max (prod (fun k => x (ix3 b t k)) (fun k f => w (ix2 k f)) f) 0 := by
  pointwise [HDW, prod]
theorem POW_apply (s : FVec Ideal S8x2048x1024 .f32) (md : FVec Ideal S8x6x1024 .f32) (z : FVec Ideal S8x2048x4096 .f32)
    (w : FVec Ideal S4096x1024 .f32) : POW s md z w (ix3 b t n)
      = s (ix3 b t n) + md (ix3 b 5 n) * ∑ f, z (ix3 b t f) * z (ix3 b t f) * w (ix2 f n) := by
  pointwise [POW]
  rw [M5_apply]
theorem PSW_apply (s : FVec Ideal S8x2048x1024 .f32) (md : FVec Ideal S8x6x1024 .f32) (n2 : FVec Ideal S1024 .f32)
    (w1 : FVec Ideal S1024x4096 .f32) (w2 : FVec Ideal S4096x1024 .f32) :
    PSW s md n2 w1 w2 (ix3 b t n) = post (fun k => s (ix3 b t k)) (fun r k => md (ix3 b r k)) (fun k => n2 (ix1 k))
      (fun k f => w1 (ix2 k f)) (fun f n => w2 (ix2 f n)) n := by
  rw [PSW, POW_apply]
  simp only [HDW_apply, MD_apply, RN_apply]
  rfl

/-- The heads of an odd layer's latent token. -/
theorem YO_apply (o1 o2 : FVec Ideal S8x8x2304x128 .f32) (g : FVec Ideal S8x2304x1024 .f32) (on : FVec Ideal S128 .f32) (k : Fin 1024) :
    YR (OS o1 o2) (GS g) on (ix3 b t k) = yrow (fun k => o1 (ix4 b ⟨k / 128, by omega⟩ ⟨t, by omega⟩ ⟨k % 128, by omega⟩)
          + o2 (ix4 b ⟨k / 128, by omega⟩ ⟨t, by omega⟩ ⟨k % 128, by omega⟩)) (fun k => g (ix3 b ⟨t, by omega⟩ k)) (fun e => on (ix1 e)) k := by
  rw [YR_apply, HNR_apply, SL_apply, GS_apply, yrow]
  refine congrArg₂ (· * ·) (congrArg (fun z => rms c128 z _ _) (funext fun e => ?_)) (congrArg gate ?_)
  · rw [OS_apply]
    have e1 : (128 * ((k : Nat) / 128) + e) / 128 = k / 128 := by omega
    have e2 : (128 * ((k : Nat) / 128) + e) % 128 = e := by omega
    simp only [e1, e2]
  · refine congrArg (fun z => g (ix3 b _ z)) (Fin.ext ?_)
    simp only; omega

end latent

section context

variable (b : Fin 8) (t : Fin 256) (n : Fin 1024)

theorem OSC_apply (x y : FVec Ideal S8x8x2304x128 .f32) (hd : Fin 8) (d : Fin 128) :
    OSC x y (ix4 b t hd d) = x (ix4 b hd ⟨2048 + t, by omega⟩ d) + y (ix4 b hd ⟨2048 + t, by omega⟩ d) := by
  pointwise [OSC]
theorem GSC_apply (g : FVec Ideal S8x2304x1024 .f32) (hd : Fin 8) (d : Fin 128) :
    GSC g (ix4 b t hd d) = g (ix3 b ⟨2048 + t, by omega⟩ ⟨128 * hd + d, by omega⟩) := by
  pointwise [GSC]
  refine congrArg (fun z => g (ix3 b _ z)) (Fin.ext ?_)
  simp only; omega
theorem HNRC_apply (x : FVec Ideal S8x256x8x128 .f32) (w : FVec Ideal S128 .f32) (hd : Fin 8) (d : Fin 128) :
    HNRC x w (ix4 b t hd d) = rms c128 (fun e => x (ix4 b t hd e)) (fun e => w (ix1 e)) d := by
  pointwise [HNRC, rms]
theorem SLC_apply (g : FVec Ideal S8x256x8x128 .f32) (hd : Fin 8) (d : Fin 128) :
    SLC g (ix4 b t hd d) = gate (g (ix4 b t hd d)) := by
  pointwise [SLC, gate]
theorem YRC_apply (x g : FVec Ideal S8x256x8x128 .f32) (w : FVec Ideal S128 .f32) :
    YRC x g w (ix3 b t n) = HNRC x w (ix4 b t ⟨n / 128, by omega⟩ ⟨n % 128, by omega⟩) * SLC g (ix4 b t ⟨n / 128, by omega⟩ ⟨n % 128, by omega⟩) := by
  pointwise [YRC]
theorem RW_apply (v : FVec Ideal S1024 .f32) : RW v (ix3 b t n) = v (ix1 n) := by
  pointwise [RW]
theorem C2_apply (md : FVec Ideal S6x1024 .f32) : C2 md (ix3 b t n) = md (ix2 2 n) := by
  rw [C2, RW_apply]; pointwise
theorem C3_apply (md : FVec Ideal S6x1024 .f32) : C3 md (ix3 b t n) = md (ix2 3 n) := by
  rw [C3, RW_apply]; pointwise
theorem C4_apply (md : FVec Ideal S6x1024 .f32) : C4 md (ix3 b t n) = 1 + md (ix2 4 n) := by
  rw [C4, RW_apply]; pointwise
theorem C5_apply (md : FVec Ideal S6x1024 .f32) : C5 md (ix3 b t n) = md (ix2 5 n) := by
  rw [C5, RW_apply]; pointwise
theorem HC_apply (h : FVec Ideal S8x2304x1024 .f32) : HC h (ix3 b t n) = h (ix3 b ⟨2048 + t, by omega⟩ n) := by
  pointwise [HC]
theorem ADDC_apply (h : FVec Ideal S8x256x1024 .f32) (md : FVec Ideal S6x1024 .f32) (y : FVec Ideal S8x256x1024 .f32)
    (w : FVec Ideal S1024x1024 .f32) : ADDC h md y w (ix3 b t n)
      = mid (fun k => h (ix3 b t k)) (prod (fun k => y (ix3 b t k)) fun k n => w (ix2 k n)) (fun r k => md (ix2 r k)) n := by
  pointwise [ADDC, mid, prod]
  rw [C2_apply]
theorem RNC_apply (x : FVec Ideal S8x256x1024 .f32) (w : FVec Ideal S1024 .f32) :
    RNC x w (ix3 b t n) = rms c1024 (fun k => x (ix3 b t k)) (fun k => w (ix1 k)) n := by
  pointwise [RNC, rms]
  rw [RW_apply]
theorem MDC_apply (x : FVec Ideal S8x256x1024 .f32) (md : FVec Ideal S6x1024 .f32) :
    MDC x md (ix3 b t n) = mod43 (fun k => x (ix3 b t k)) (fun r k => md (ix2 r k)) n := by
  pointwise [MDC, mod43]
  rw [C4_apply, C3_apply]
theorem HDC_apply (x : FVec Ideal S8x256x1024 .f32) (w : FVec Ideal S1024x4096 .f32) (f : Fin 4096) :
    HDC x w (ix3 b t f) = max (prod (fun k => x (ix3 b t k)) (fun k f => w (ix2 k f)) f) 0 := by
  pointwise [HDC, prod]
theorem POC_apply (s : FVec Ideal S8x256x1024 .f32) (md : FVec Ideal S6x1024 .f32) (z : FVec Ideal S8x256x4096 .f32)
    (w : FVec Ideal S4096x1024 .f32) : POC s md z w (ix3 b t n)
      = s (ix3 b t n) + md (ix2 5 n) * ∑ f, z (ix3 b t f) * z (ix3 b t f) * w (ix2 f n) := by
  pointwise [POC]
  rw [C5_apply]
theorem PSC_apply (s : FVec Ideal S8x256x1024 .f32) (md : FVec Ideal S6x1024 .f32) (n2 : FVec Ideal S1024 .f32)
    (w1 : FVec Ideal S1024x4096 .f32) (w2 : FVec Ideal S4096x1024 .f32) :
    PSC s md n2 w1 w2 (ix3 b t n) = post (fun k => s (ix3 b t k)) (fun r k => md (ix2 r k)) (fun k => n2 (ix1 k))
      (fun k f => w1 (ix2 k f)) (fun f n => w2 (ix2 f n)) n := by
  rw [PSC, POC_apply]
  simp only [HDC_apply, MDC_apply, RNC_apply]
  rfl

/-- The heads of an odd layer's context token. -/
theorem YOC_apply (o1 o2 : FVec Ideal S8x8x2304x128 .f32) (g : FVec Ideal S8x2304x1024 .f32) (on : FVec Ideal S128 .f32) (k : Fin 1024) :
    YRC (OSC o1 o2) (GSC g) on (ix3 b t k) = yrow (fun k => o1 (ix4 b ⟨k / 128, by omega⟩ ⟨2048 + t, by omega⟩ ⟨k % 128, by omega⟩)
          + o2 (ix4 b ⟨k / 128, by omega⟩ ⟨2048 + t, by omega⟩ ⟨k % 128, by omega⟩)) (fun k => g (ix3 b ⟨2048 + t, by omega⟩ k))
        (fun e => on (ix1 e)) k := by
  rw [YRC_apply, HNRC_apply, SLC_apply, GSC_apply, yrow]
  refine congrArg₂ (· * ·) (congrArg (fun z => rms c128 z _ _) (funext fun e => ?_)) (congrArg gate ?_)
  · rw [OSC_apply]
    have e1 : (128 * ((k : Nat) / 128) + e) / 128 = k / 128 := by omega
    have e2 : (128 * ((k : Nat) / 128) + e) % 128 = e := by omega
    simp only [e1, e2]
  · refine congrArg (fun z => g (ix3 b _ z)) (Fin.ext ?_)
    simp only; omega

end context

theorem CAT_lat (x : FVec Ideal S8x2048x1024 .f32) (y : FVec Ideal S8x256x1024 .f32) (b : Fin 8) (t : Fin 2048) (n : Fin 1024) :
    CAT x y (ix3 b ⟨t, by omega⟩ n) = x (ix3 b t n) := by
  pointwise [CAT]
theorem CAT_ctx (x : FVec Ideal S8x2048x1024 .f32) (y : FVec Ideal S8x256x1024 .f32) (b : Fin 8) (t : Fin 256) (n : Fin 1024) :
    CAT x y (ix3 b ⟨2048 + t, by omega⟩ n) = y (ix3 b t n) := by
  pointwise [CAT]

end Cert.MergeRef

end
-- ==== Proof.Merge3Val.lean ====
/-
  The second layer's merge: its result array against the reference's, latent rows and context rows.
-/
module

public import proofs.«01_k».proof.Proof.Merge3Blk
public import proofs.«01_k».proof.Proof.MergeRefC

@[expose] public section

set_option maxRecDepth 16384

noncomputable section

namespace Cert.MergeRef

open Cert.Reference3Ideal Cert.Reference3Ideal.Gen Idealize.ShloMosaic Idealize.ShloMosaic.TcCoe Idealize.SL.Sem Cert.Merge

/-- The second layer's MLP weights. -/
def W13 (w : FVec Ideal S4x1024x4096 .f32) : FVec Ideal S1024x4096 .f32 :=
  shapeCast S1024x4096 (extractStridedSlice S1x1024x4096 ![1, 0, 0] w slices_S4x1024x4096_S1x1024x4096_1_0_0) shapeCasts_S1x1024x4096_S1024x4096
def W23 (w : FVec Ideal S4x4096x1024 .f32) : FVec Ideal S4096x1024 .f32 :=
  shapeCast S4096x1024 (extractStridedSlice S1x4096x1024 ![1, 0, 0] w slices_S4x4096x1024_S1x4096x1024_1_0_0) shapeCasts_S1x4096x1024_S4096x1024
theorem W13_apply (w : FVec Ideal S4x1024x4096 .f32) (k : Fin 1024) (f : Fin 4096) : W13 w (ix2 k f) = w (ix3 1 k f) := by
  pointwise [W13]
theorem W23_apply (w : FVec Ideal S4x4096x1024 .f32) (k : Fin 1024) (f : Fin 4096) : W23 w (ix2 f k) = w (ix3 1 f k) := by
  pointwise [W23]

/-- The second layer's merge as the reference writes it. -/
def REF3 (o1 o2 : FVec Ideal S8x8x2304x128 .f32) (g h : FVec Ideal S8x2304x1024 .f32) (ml : FVec Ideal S8x6x1024 .f32)
    (mc : FVec Ideal S6x1024 .f32) (on : FVec Ideal S128 .f32) (wo : FVec Ideal S1024x1024 .f32) (n2 : FVec Ideal S1024 .f32)
    (w1 : FVec Ideal S4x1024x4096 .f32) (w2 : FVec Ideal S4x4096x1024 .f32) : FVec Ideal S8x2304x1024 .f32 :=
  CAT (PSW (ADD (HL h) ml (YR (OS o1 o2) (GS g) on) wo) ml n2 (W13 w1) (W23 w2))
    (PSC (ADDC (HC h) mc (YRC (OSC o1 o2) (GSC g) on) wo) mc n2 (W13 w1) (W23 w2))

end Cert.MergeRef

namespace Cert.Merge3

open Cert.Kernel3Ideal Cert.Kernel3Ideal.Gen Idealize.ShloMosaic Idealize.ShloMosaic.TcCoe Idealize.SL.Sem
open Idealize.ShloMosaic.Pipeline (Dat)
open Cert.Merge (row)

variable (m : (ℓ : Loc nD τ sig) → Buf (Elt Ideal) ℓ)

/-- The result of device `c`. -/
def res (c : Dev nD) : FVec Ideal S8x2304x1024 .f32 :=
  Cert.MergeRef.REF3 (a0 m c) (a1 m c) (a2 m c) (a3 m c) (a4 m c) (a5 m c) (a6 m c) (a7 m c) (a8 m c) (a9 m c) (a10 m c)

theorem row_eq {X X' G G' h h' : Fin 1024 → EReal} {w w' : Fin 128 → EReal} {W W' : Fin 1024 → Fin 1024 → EReal}
    {md md' : Fin 6 → Fin 1024 → EReal} {n2 n2' : Fin 1024 → EReal} {w1 w1' : Fin 1024 → Fin 4096 → EReal}
    {w2 w2' : Fin 4096 → Fin 1024 → EReal} (n : Fin 1024)
    (h1 : X = X') (h2 : G = G') (h3 : h = h') (h4 : w = w') (h5 : W = W') (h6 : md = md') (h7 : n2 = n2') (h8 : w1 = w1')
    (h9 : w2 = w2') : row X G h w W md n2 w1 w2 n = row X' G' h' w' W' md' n2' w1' w2' n := by
  subst h1 h2 h3 h4 h5 h6 h7 h8 h9
  rfl

/-- The row of a token. -/
def trow (c : Dev nD) (b : Fin 8) (t : Fin 2304) (j : Nat) : Fin 1024 → EReal :=
  row (fun k => a0 m c (ix4 b ⟨k / 128, by omega⟩ t ⟨k % 128, by omega⟩) + a1 m c (ix4 b ⟨k / 128, by omega⟩ t ⟨k % 128, by omega⟩))
    (fun k => a2 m c (ix3 b t k)) (fun k => a3 m c (ix3 b t k)) (fun e => a6 m c (ix1 e))
    (fun k n => a7 m c (ix2 k n)) (fun r k => mdt (a4 m c) (a5 m c) j b r k) (fun k => a8 m c (ix1 k))
    (fun k f => a9 m c (ix3 1 k f)) (fun f n => a10 m c (ix3 1 f n))

theorem ref_lat (c : Dev nD) (b : Fin 8) (t : Fin 2048) (n : Fin 1024) (j : Nat) (hj : j < 8) :
    res m c (ix3 b ⟨t, by omega⟩ n) = trow m c b ⟨t, by omega⟩ j n := by
  rw [res, Cert.MergeRef.REF3, Cert.MergeRef.CAT_lat, Cert.MergeRef.PSW_apply]
  simp only [Cert.MergeRef.ADD_apply, Cert.MergeRef.YO_apply, Cert.MergeRef.HL_apply, Cert.MergeRef.W13_apply, Cert.MergeRef.W23_apply]
  simp only [trow, mdt, if_pos hj]
  rfl
theorem ref_ctx (c : Dev nD) (b : Fin 8) (t : Fin 256) (n : Fin 1024) (j : Nat) (hj : ¬ j < 8) :
    res m c (ix3 b ⟨2048 + t, by omega⟩ n) = trow m c b ⟨2048 + t, by omega⟩ j n := by
  rw [res, Cert.MergeRef.REF3, Cert.MergeRef.CAT_ctx, Cert.MergeRef.PSC_apply]
  simp only [Cert.MergeRef.ADDC_apply, Cert.MergeRef.YOC_apply, Cert.MergeRef.HC_apply, Cert.MergeRef.W13_apply, Cert.MergeRef.W23_apply]
  simp only [trow, mdt, if_neg hj]
  rfl

theorem ref_apply (c : Dev nD) (t : Fin cfg0.N) (b : Fin 2) (i : Fin 256) (n : Fin 1024) :
    res m c (ix3 (bat t b) (tok t i) n) = trow m c (bat t b) (tok t i) (grid0.coords t 1).val n := by
  have h9 := lt1 t
  by_cases hj : (grid0.coords t 1).val < 8
  · exact ref_lat m c (bat t b) ⟨256 * (grid0.coords t 1).val + i, by omega⟩ n _ hj
  · have e : tok t i = (⟨2048 + i, by omega⟩ : Fin 2304) := Fin.ext (show 256 * (grid0.coords t 1).val + (i : Nat) = 2048 + i by omega)
    rw [e]
    exact ref_ctx m c (bat t b) i n _ hj

/-- The result's array. -/
theorem final (c : Dev nD) : (dats m 0 c).arrAt 10 cfg0.N = res m c := by
  refine (dats m 0 c).arrAt_eq_of_covers 10 _ (by decide +kernel) fun t hf y => ?_
  have key : ∀ (b : Fin 2) (i : Fin 256) (n : Fin 1024),
      out0_10 (iblk m c 0 t) (iblk m c 1 t) (iblk m c 2 t) (iblk m c 3 t) (iblk m c 4 t) (iblk m c 5 t) (iblk m c 6 t) (iblk m c 7 t)
        (iblk m c 8 t) (iblk m c 9 t) (ix3 b i n)
      = res m c (((cfg0.win 10).blk t).view.emb (ix3 b i n : S2x256x1024.Idx)) := fun b i n => by
    refine Eq.trans ?_ (blk10 t b i n (res m c)).symm
    rw [out_apply, ref_apply, trow]
    refine row_eq n ?_ ?_ ?_ ?_ ?_ ?_ ?_ ?_ ?_
    · funext k; exact congrArg₂ (· + ·) (x0_eq m c t b i k) (x1_eq m c t b i k)
    · funext k; exact x2_eq m c t b i k
    · funext k; exact x3_eq m c t b i k
    · funext e; exact x4_eq m c t e
    · funext k n; exact x5_eq m c t k n
    · funext r k; exact x6_eq m c t b r k
    · funext k; exact x7_eq m c t k
    · funext k f; exact x8_eq m c t k f
    · funext f k; exact x9_eq m c t k f
  obtain ⟨b, i, n, rfl⟩ : ∃ (b : Fin 2) (i : Fin 256) (n : Fin 1024), y = (ix3 b i n : S2x256x1024.Idx) := by
    refine ⟨y 0, y 1, y 2, ?_⟩
    funext a
    fin_cases a <;> rfl
  refine Eq.trans ?_ (key b i n)
  rw [cast_eq, after0_10]
  rfl

end Cert.Merge3

end
-- ==== Proof.Merge3Claims.lean ====
/-
  The second layer's merge: its frames, and its value against the reference's.
-/
module

public import proofs.«01_k».proof.Defs
public import proofs.«01_k».proof.Proof.Merge3Val
public import proofs.«01_k».proof.Proof.Gen.Kernel3.Frame

@[expose] public section

set_option maxRecDepth 16384

noncomputable section

namespace Cert.Merge3Claims

open Idealize.ShloMosaic Idealize.ShloMosaic.TcCoe Idealize.SL.Sem

theorem frame : Cert.quiescent_Kernel3 := fun m ρ _ => Cert.Kernel3.Gen.frame m ρ
theorem frameI : Cert.quiescent_Kernel3Ideal := fun m ρ _ => Cert.Kernel3Ideal.Gen.frame m ρ
theorem frameR : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m g m' g' _ hargs
  refine ⟨fun c => Cert.Merge3.res m c, ?_, ?_⟩
  · exact (θ_run Cert.Kernel3Ideal.defs _ _).mono (fun _ h c => ⟨(h c).1.trans (Cert.Merge3.final m c), (h c).2⟩)
      (Cert.Kernel3Ideal.Value.run_blocks (F := Ideal) m g)
  · refine (θ_run Cert.Reference3Ideal.defs _ _).mono (fun _ h c => ⟨(h c).1.trans ?_, (h c).2⟩) (Cert.Reference3Ideal.Value.run (F := Ideal) m' g')
    obtain ⟨e0, e1, e2, e3, e4, e5, e6, e7, e8, e9, e10⟩ := hargs c
    refine Eq.trans (b := Cert.MergeRef.REF3
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5))
        (m' ((c.tc : Thread Cert.Reference3Ideal.nD Cert.Reference3Ideal.τ).loc Cert.Reference3Ideal.main_arg6))
        (m' ((c.tc : Thread Cert.Reference3Ideal.nD Cert.Reference3Ideal.τ).loc Cert.Reference3Ideal.main_arg7))
        (m' ((c.tc : Thread Cert.Reference3Ideal.nD Cert.Reference3Ideal.τ).loc Cert.Reference3Ideal.main_arg8))
        (m' ((c.tc : Thread Cert.Reference3Ideal.nD Cert.Reference3Ideal.τ).loc Cert.Reference3Ideal.main_arg9))
        (m' ((c.tc : Thread Cert.Reference3Ideal.nD Cert.Reference3Ideal.τ).loc Cert.Reference3Ideal.main_arg10))) rfl ?_
    rw [e0, e1, e2, e3, e4, e5, e6, e7, e8, e9, e10]
    rfl

end Cert.Merge3Claims

end
-- ==== Proof.MergeE.lean ====
/-
  The pieces of an even layer's merge body: four gated heads beside the attention's rows, the output product in two parts,
  the stream's MLP from its rows.
-/
module

public import proofs.«01_k».proof.Proof.MergeOut
public import proofs.«01_k».proof.Proof.Gen.Kernel4Ideal.Value

@[expose] public section

set_option maxRecDepth 16384

noncomputable section

namespace Cert.MergeE

open Cert.Kernel4Ideal Cert.Kernel4Ideal.Gen Idealize.ShloMosaic Idealize.ShloMosaic.TcCoe Idealize.SL.Sem Cert.Merge

/-! ## Rows -/

/-- The heads of a row, each normed and gated. -/
def yrow (x g : Fin 512 → EReal) (w : Fin 128 → EReal) (k : Fin 512) : EReal :=
  rms c128 (fun e : Fin 128 => x ⟨128 * (k / 128) + e, by omega⟩) w ⟨k % 128, by omega⟩ * gate (g k)

/-- Two rows beside each other. -/
def side (x y : Fin 512 → EReal) (k : Fin 1024) : EReal := if h : (k : Nat) < 512 then x ⟨k, h⟩ else y ⟨k - 512, by omega⟩

theorem side_sum (x y : Fin 512 → EReal) (W : Fin 1024 → Fin 1024 → EReal) (n : Fin 1024) :
    (∑ k, x k * W ⟨k, by omega⟩ n) + (∑ k, y k * W ⟨512 + k, by omega⟩ n) = prod (side x y) W n := by
  refine Eq.symm ((Fin.sum_univ_add (a := 512) (b := 512) fun k => side x y k * W k n).trans ?_)
  refine congrArg₂ (· + ·) (Finset.sum_congr rfl fun k _ => ?_) (Finset.sum_congr rfl fun k _ => ?_)
  · have h : ((Fin.castAdd 512 k : Fin 1024) : Nat) < 512 := k.isLt
    rw [side, dif_pos h]
    rfl
  · have h : ¬ ((Fin.natAdd 512 k : Fin 1024) : Nat) < 512 := by simp
    rw [side, dif_neg h]
    refine congrArg₂ (fun a b => y a * W b n) (Fin.ext ?_) rfl
    simp

/-- The merge and MLP of a token of an even layer. -/
def row (A X G : Fin 512 → EReal) (H : Fin 1024 → EReal) (w : Fin 128 → EReal) (W : Fin 1024 → Fin 1024 → EReal)
    (md : Fin 6 → Fin 1024 → EReal) (n2 : Fin 1024 → EReal) (w1 : Fin 1024 → Fin 4096 → EReal)
    (w2 : Fin 4096 → Fin 1024 → EReal) : Fin 1024 → EReal :=
  post (mid H (prod (side A (yrow X G w)) W) md) md n2 w1 w2

/-! ## Pieces -/

/-- The four heads side by side. -/
def ys (x g : FVec Ideal S256x512 .f32) (w : Vec Ideal S1x128 .f32) : FVec Ideal S256x512 .f32 :=
  concatenate S256x512 1
    [⟨S256x128, hn (extractStridedSlice S256x128 ![0, 0] x slices_S256x512_o0_0_S256x128)
        (extractStridedSlice S256x128 ![0, 0] g slices_S256x512_o0_0_S256x128) w⟩,
     ⟨S256x128, hn (extractStridedSlice S256x128 ![0, 128] x slices_S256x512_o0_128_S256x128)
        (extractStridedSlice S256x128 ![0, 128] g slices_S256x512_o0_128_S256x128) w⟩,
     ⟨S256x128, hn (extractStridedSlice S256x128 ![0, 256] x slices_S256x512_o0_256_S256x128)
        (extractStridedSlice S256x128 ![0, 256] g slices_S256x512_o0_256_S256x128) w⟩,
     ⟨S256x128, hn (extractStridedSlice S256x128 ![0, 384] x slices_S256x512_o0_384_S256x128)
        (extractStridedSlice S256x128 ![0, 384] g slices_S256x512_o0_384_S256x128) w⟩]
    concatenates_S256x128_S256x128_S256x128_S256x128_S256x512_d1

/-- The context's rows on the context's tiles, the latents' rows on the others. -/
def sel (j : Nat) (x y : FVec Ideal S256x512 .bf16) : FVec Ideal S256x512 .bf16 :=
  Scalar.select (Scalar.cmpi .sge (BitVec.ofNat 32 j) 8#32) x y

/-- The output product: the attention's part and the heads' part, two batches one below the other. -/
def wo (p q : FVec Ideal S256x512 .bf16) (y z : FVec Ideal S256x512 .f32) (u v : Vec Ideal S512x1024 .bf16) : FVec Ideal S512x1024 .f32 :=
  addf (matmul dot_S512x512_S512x1024_S512x1024_1_0_0_1_n_n none
      (concatenate S512x512 0 [⟨S256x512, p⟩, ⟨S256x512, q⟩] concatenates_S256x512_S256x512_S512x512_d0 : FVec Ideal S512x512 .bf16)
      (shapeCast S512x1024 u shapeCasts_S512x1024_S512x1024 : FVec Ideal S512x1024 .bf16) (constant S512x1024 .f32 0x00000000#32))
    (matmul dot_S512x512_S512x1024_S512x1024_1_0_0_1_n_n none
      (truncf .bf16 (concatenate S512x512 0 [⟨S256x512, y⟩, ⟨S256x512, z⟩] concatenates_S256x512_S256x512_S512x512_d0) bitsLt_bf16_f32)
      (shapeCast S512x1024 v shapeCasts_S512x1024_S512x1024 : FVec Ideal S512x1024 .bf16) (constant S512x1024 .f32 0x00000000#32))

/-- The first and the second batch's part of a block. -/
def d0 (x : Vec Ideal S2x256x512 .f32) : FVec Ideal S256x512 .f32 :=
  shapeCast S256x512 (View.ld x r0_2) shapeCasts_S1x256x512_S256x512
def d1 (x : Vec Ideal S2x256x512 .f32) : FVec Ideal S256x512 .f32 :=
  shapeCast S256x512 (View.ld x r0_4) shapeCasts_S1x256x512_S256x512
def e0 (x : Vec Ideal S2x256x512 .bf16) : FVec Ideal S256x512 .bf16 :=
  shapeCast S256x512 (View.ld x r0_2) shapeCasts_S1x256x512_S256x512
def e1 (x : Vec Ideal S2x256x512 .bf16) : FVec Ideal S256x512 .bf16 :=
  shapeCast S256x512 (View.ld x r0_4) shapeCasts_S1x256x512_S256x512

/-- The body's output product. -/
def o (j : Nat) (x0 x1 : Vec Ideal S2x256x512 .bf16) (x2 x3 x4 : Vec Ideal S2x256x512 .f32) (x6 : Vec Ideal S1x128 .f32)
    (x7 : Vec Ideal S1024x1024 .bf16) : FVec Ideal S512x1024 .f32 :=
  wo (sel j (e0 x1) (e0 x0)) (sel j (e1 x1) (e1 x0)) (ys (addf (d0 x2) (d0 x3)) (d0 x4) (View.ld x6 r0_3))
    (ys (addf (d1 x2) (d1 x3)) (d1 x4) (View.ld x6 r0_3)) (View.ld x7 r0_5) (View.ld x7 r0_6)

section tail

variable (s0 s1 : FVec Ideal S256x1024 .f32) (x8 : Vec Ideal S2x1x6x1024 .f32) (x9 : Vec Ideal S1x1024 .f32)
  (x10 : Vec Ideal S1x1024x4096 .bf16) (x11 : Vec Ideal S1x4096x1024 .bf16)

/-- The MLP's input, the MLP, and the stream after it, from the streams before. -/
def a : FVec Ideal S512x1024 .bf16 :=
  cat (md43 (rn s0 (View.ld x9 r0_9)) (m0 x8)) (md43 (rn s1 (View.ld x9 r0_9)) (m1 x8))
def f : FVec Ideal S512x1024 .f32 :=
  mlp (a s0 s1 x8 x9) (View.ld x10 r0_10) (View.ld x11 r0_11) (View.ld x10 r0_12) (View.ld x11 r0_13)
    (View.ld x10 r0_14) (View.ld x11 r0_15) (View.ld x10 r0_16) (View.ld x11 r0_17)
def t0 : FVec Ideal S256x1024 .f32 := res5 s0 (m0 x8) (lo (f s0 s1 x8 x9 x10 x11))
def t1 : FVec Ideal S256x1024 .f32 := res5 s1 (m1 x8) (hi (f s0 s1 x8 x9 x10 x11))

variable (i : Fin 256) (n : Fin 1024)

theorem a_lo (k : Fin 1024) : a s0 s1 x8 x9 (ix2 ⟨i, by omega⟩ k)
    = mod43 (rms c1024 (fun k => s0 (ix2 i k)) (fun k => x9 (ix2 0 k))) (fun r k => x8 (ix4 0 0 r k)) k := by
  rw [a, cat_lo, md43_apply]
  simp only [rn_apply, m0_apply]
  exact congrArg (fun w => mod43 (rms c1024 (fun k => s0 (ix2 i k)) w) (fun r k => x8 (ix4 0 0 r k)) k) (funext fun k => l7 x9 k)
theorem a_hi (k : Fin 1024) : a s0 s1 x8 x9 (ix2 ⟨256 + i, by omega⟩ k)
    = mod43 (rms c1024 (fun k => s1 (ix2 i k)) (fun k => x9 (ix2 0 k))) (fun r k => x8 (ix4 1 0 r k)) k := by
  rw [a, cat_hi, md43_apply]
  simp only [rn_apply, m1_apply]
  exact congrArg (fun w => mod43 (rms c1024 (fun k => s1 (ix2 i k)) w) (fun r k => x8 (ix4 1 0 r k)) k) (funext fun k => l7 x9 k)

theorem f_apply (i : Fin 512) : f s0 s1 x8 x9 x10 x11 (ix2 i n)
    = mlpr (fun k => a s0 s1 x8 x9 (ix2 i k)) (fun k f => x10 (ix3 0 k f)) (fun f n => x11 (ix3 0 f n)) n :=
  mlp_apply x10 x11 (a s0 s1 x8 x9) i n

theorem t0_apply : t0 s0 s1 x8 x9 x10 x11 (ix2 i n)
    = post (fun k => s0 (ix2 i k)) (fun r k => x8 (ix4 0 0 r k)) (fun k => x9 (ix2 0 k)) (fun k f => x10 (ix3 0 k f))
        (fun f n => x11 (ix3 0 f n)) n := by
  simp only [t0, res5_apply, m0_apply, lo_apply, f_apply, a_lo]
  rfl
theorem t1_apply : t1 s0 s1 x8 x9 x10 x11 (ix2 i n)
    = post (fun k => s1 (ix2 i k)) (fun r k => x8 (ix4 1 0 r k)) (fun k => x9 (ix2 0 k)) (fun k f => x10 (ix3 0 k f))
        (fun f n => x11 (ix3 0 f n)) n := by
  simp only [t1, res5_apply, m1_apply, hi_apply, f_apply, a_hi]
  rfl

end tail

/-! ## Read at an index -/

theorem sel_apply (j : Nat) (hj : j < 9) (x y : FVec Ideal S256x512 .bf16) (i : Fin 256) (k : Fin 512) :
    sel j x y (ix2 i k) = if j < 8 then y (ix2 i k) else x (ix2 i k) := by
  interval_cases j <;> rfl

theorem cat4_0 (y0 y1 y2 y3 : FVec Ideal S256x128 .f32) (i : Fin 256) (d : Fin 128) :
    concatenate S256x512 1 [⟨S256x128, y0⟩, ⟨S256x128, y1⟩, ⟨S256x128, y2⟩, ⟨S256x128, y3⟩]
      concatenates_S256x128_S256x128_S256x128_S256x128_S256x512_d1 (ix2 i ⟨d, by omega⟩ : S256x512.Idx) = y0 (ix2 i d) := by
  pointwise
theorem cat4_1 (y0 y1 y2 y3 : FVec Ideal S256x128 .f32) (i : Fin 256) (d : Fin 128) :
    concatenate S256x512 1 [⟨S256x128, y0⟩, ⟨S256x128, y1⟩, ⟨S256x128, y2⟩, ⟨S256x128, y3⟩]
      concatenates_S256x128_S256x128_S256x128_S256x128_S256x512_d1 (ix2 i ⟨128 + d, by omega⟩ : S256x512.Idx) = y1 (ix2 i d) := by
  pointwise
theorem cat4_2 (y0 y1 y2 y3 : FVec Ideal S256x128 .f32) (i : Fin 256) (d : Fin 128) :
    concatenate S256x512 1 [⟨S256x128, y0⟩, ⟨S256x128, y1⟩, ⟨S256x128, y2⟩, ⟨S256x128, y3⟩]
      concatenates_S256x128_S256x128_S256x128_S256x128_S256x512_d1 (ix2 i ⟨256 + d, by omega⟩ : S256x512.Idx) = y2 (ix2 i d) := by
  pointwise
  repeat rw [dif_neg (by omega)]
  rw [dif_pos (by omega)]
  exact congrArg (fun z => y2 (ix2 i z)) (Fin.ext (by simp only; omega))
theorem cat4_3 (y0 y1 y2 y3 : FVec Ideal S256x128 .f32) (i : Fin 256) (d : Fin 128) :
    concatenate S256x512 1 [⟨S256x128, y0⟩, ⟨S256x128, y1⟩, ⟨S256x128, y2⟩, ⟨S256x128, y3⟩]
      concatenates_S256x128_S256x128_S256x128_S256x128_S256x512_d1 (ix2 i ⟨384 + d, by omega⟩ : S256x512.Idx) = y3 (ix2 i d) := by
  pointwise
  repeat rw [dif_neg (by omega)]
  exact congrArg (fun z => y3 (ix2 i z)) (Fin.ext (by simp only; omega))

theorem ys_head (x g : FVec Ideal S256x512 .f32) (w : Vec Ideal S1x128 .f32) (i : Fin 256) (hd : Fin 4) (d : Fin 128) :
    ys x g w (ix2 i ⟨128 * hd + d, by omega⟩) = rms c128 (fun e : Fin 128 => x (ix2 i ⟨128 * hd + e, by omega⟩)) (fun e => w (ix2 0 e)) d
      * gate (g (ix2 i ⟨128 * hd + d, by omega⟩)) := by
  have key : ∀ (a b : FVec Ideal S256x128 .f32) (p : Fin 128 → EReal) (q : EReal), (∀ e, a (ix2 i e) = p e) → b (ix2 i d) = q →
      hn a b w (ix2 i d) = rms c128 p (fun e => w (ix2 0 e)) d * gate q := by
    intro a b p q hp hq
    rw [hn_apply, hq, funext hp]
  unfold ys
  match hd with
  | ⟨0, _⟩ =>
    have q := @cat4_0
    simp only [Nat.mul_zero, Nat.zero_add, Nat.reduceMul] at q ⊢
    refine (q _ _ _ _ i d).trans (key _ _ _ _ (fun e => ?_) ?_)
    all_goals pointwise
  | ⟨1, _⟩ =>
    have q := @cat4_1
    simp only [Nat.mul_zero, Nat.zero_add, Nat.reduceMul] at q ⊢
    refine (q _ _ _ _ i d).trans (key _ _ _ _ (fun e => ?_) ?_)
    all_goals pointwise
  | ⟨2, _⟩ =>
    have q := @cat4_2
    simp only [Nat.mul_zero, Nat.zero_add, Nat.reduceMul] at q ⊢
    refine (q _ _ _ _ i d).trans (key _ _ _ _ (fun e => ?_) ?_)
    all_goals pointwise
  | ⟨3, _⟩ =>
    have q := @cat4_3
    simp only [Nat.mul_zero, Nat.zero_add, Nat.reduceMul] at q ⊢
    refine (q _ _ _ _ i d).trans (key _ _ _ _ (fun e => ?_) ?_)
    all_goals pointwise

theorem ys_apply (x g : FVec Ideal S256x512 .f32) (w : Vec Ideal S1x128 .f32) (i : Fin 256) (k : Fin 512) :
    ys x g w (ix2 i k) = yrow (fun e => x (ix2 i e)) (fun e => g (ix2 i e)) (fun e => w (ix2 0 e)) k := by
  have hk : k = ⟨128 * (k / 128) + k % 128, by omega⟩ := Fin.ext (by simp only; omega)
  have e := ys_head x g w i ⟨k / 128, by omega⟩ ⟨k % 128, by omega⟩
  simp only [← hk] at e
  exact e

theorem lo_wo (p q : FVec Ideal S256x512 .bf16) (y z : FVec Ideal S256x512 .f32) (u v : Vec Ideal S512x1024 .bf16) (i : Fin 256)
    (n : Fin 1024) : lo (wo p q y z u v) (ix2 i n)
      = (∑ k, p (ix2 i k) * u (ix2 k n)) + ∑ k, y (ix2 i k) * v (ix2 k n) := by
  pointwise [lo, wo]
theorem hi_wo (p q : FVec Ideal S256x512 .bf16) (y z : FVec Ideal S256x512 .f32) (u v : Vec Ideal S512x1024 .bf16) (i : Fin 256)
    (n : Fin 1024) : hi (wo p q y z u v) (ix2 i n)
      = (∑ k, q (ix2 i k) * u (ix2 k n)) + ∑ k, z (ix2 i k) * v (ix2 k n) := by
  pointwise [hi, wo]

theorem d0_apply (x : Vec Ideal S2x256x512 .f32) (i : Fin 256) (k : Fin 512) : d0 x (ix2 i k) = x (ix3 0 i k) := by pointwise [d0]
theorem d1_apply (x : Vec Ideal S2x256x512 .f32) (i : Fin 256) (k : Fin 512) : d1 x (ix2 i k) = x (ix3 1 i k) := by pointwise [d1]
theorem e0_apply (x : Vec Ideal S2x256x512 .bf16) (i : Fin 256) (k : Fin 512) : e0 x (ix2 i k) = x (ix3 0 i k) := by pointwise [e0]
theorem e1_apply (x : Vec Ideal S2x256x512 .bf16) (i : Fin 256) (k : Fin 512) : e1 x (ix2 i k) = x (ix3 1 i k) := by pointwise [e1]
theorem wlo (x : Vec Ideal S1024x1024 .bf16) (k : Fin 512) (n : Fin 1024) :
    View.ld x r0_5 (ix2 k n : S512x1024.Idx) = x (ix2 ⟨k, by omega⟩ n) := by pointwise
theorem whi (x : Vec Ideal S1024x1024 .bf16) (k : Fin 512) (n : Fin 1024) :
    View.ld x r0_6 (ix2 k n : S512x1024.Idx) = x (ix2 ⟨512 + k, by omega⟩ n) := by pointwise
theorem add_apply' (x y : FVec Ideal S256x512 .f32) (i : Fin 256) (k : Fin 512) : addf x y (ix2 i k) = x (ix2 i k) + y (ix2 i k) := by
  pointwise

section product

variable (j : Nat) (hj : j < 9) (x0 x1 : Vec Ideal S2x256x512 .bf16) (x2 x3 x4 : Vec Ideal S2x256x512 .f32) (x6 : Vec Ideal S1x128 .f32)
    (x7 : Vec Ideal S1024x1024 .bf16) (i : Fin 256) (n : Fin 1024)

/-- The output product's row, per batch of the block. -/
def orow (b : Fin 2) : Fin 1024 → EReal :=
  prod (side (fun k => if j < 8 then x0 (ix3 b i k) else x1 (ix3 b i k))
    (yrow (fun k => x2 (ix3 b i k) + x3 (ix3 b i k)) (fun k => x4 (ix3 b i k)) fun e => x6 (ix2 0 e))) fun k n => x7 (ix2 k n)

include hj in
theorem lo_o : lo (o j x0 x1 x2 x3 x4 x6 x7) (ix2 i n) = orow j x0 x1 x2 x3 x4 x6 x7 i 0 n := by
  rw [o, lo_wo, orow, ← side_sum]
  refine congrArg₂ (· + ·) (Finset.sum_congr rfl fun k _ => ?_) (Finset.sum_congr rfl fun k _ => ?_)
  · rw [sel_apply j hj, e0_apply, e0_apply]
    exact congrArg (fun z => _ * z) (wlo x7 k n)
  · rw [ys_apply]
    simp only [add_apply', d0_apply]
    exact congrArg₂ (fun w z => yrow (fun k => x2 (ix3 0 i k) + x3 (ix3 0 i k)) (fun k => x4 (ix3 0 i k)) w k * z)
      (funext fun d => l4 x6 d) (whi x7 k n)
include hj in
theorem hi_o : hi (o j x0 x1 x2 x3 x4 x6 x7) (ix2 i n) = orow j x0 x1 x2 x3 x4 x6 x7 i 1 n := by
  rw [o, hi_wo, orow, ← side_sum]
  refine congrArg₂ (· + ·) (Finset.sum_congr rfl fun k _ => ?_) (Finset.sum_congr rfl fun k _ => ?_)
  · rw [sel_apply j hj, e1_apply, e1_apply]
    exact congrArg (fun z => _ * z) (wlo x7 k n)
  · rw [ys_apply]
    simp only [add_apply', d1_apply]
    exact congrArg₂ (fun w z => yrow (fun k => x2 (ix3 1 i k) + x3 (ix3 1 i k)) (fun k => x4 (ix3 1 i k)) w k * z)
      (funext fun d => l4 x6 d) (whi x7 k n)

end product

end Cert.MergeE

end
-- ==== Proof.Merge4.lean ====
/-
  The third layer's merge and MLP: the body's output block.
-/
module

public import proofs.«01_k».proof.Proof.MergeE

@[expose] public section

set_option maxRecDepth 16384

noncomputable section

namespace Cert.Merge4

open Cert.Kernel4Ideal Cert.Kernel4Ideal.Gen Idealize.ShloMosaic Idealize.ShloMosaic.TcCoe Idealize.SL.Sem Cert.MergeE
open Cert.Merge (b0 b1 b0_apply b1_apply m0 m1 m0_apply m1_apply res2 res2_apply rn cat md43 lo hi mlp canon_zero canon_one sc_apply mid post)

variable (g : grid0.Coords) (x0 x1 : Vec Ideal S2x256x512 .bf16) (x2 x3 x4 : Vec Ideal S2x256x512 .f32) (x5 : Vec Ideal S2x256x1024 .f32)
  (x6 : Vec Ideal S1x128 .f32) (x7 : Vec Ideal S1024x1024 .bf16) (x8 : Vec Ideal S2x1x6x1024 .f32) (x9 : Vec Ideal S1x1024 .f32)
  (x10 : Vec Ideal S1x1024x4096 .bf16) (x11 : Vec Ideal S1x4096x1024 .bf16)

/-- The stream after the first residual, per batch of the block. -/
def s0 : FVec Ideal S256x1024 .f32 := res2 (b0 x5) (m0 x8) (lo (o (g 1).val x0 x1 x2 x3 x4 x6 x7))
def s1 : FVec Ideal S256x1024 .f32 := res2 (b1 x5) (m1 x8) (hi (o (g 1).val x0 x1 x2 x3 x4 x6 x7))

theorem p45 : k0_pay45 g x0 x1 x2 x3 x4 x5 x6 x7 x8 x9 x10 x11 = o (g 1).val x0 x1 x2 x3 x4 x6 x7 := rfl
theorem p27 : k0_pay27 (k0_pay37 g x0 x1 x2 x3 x4 x5 x6 x7 x8 x9 x10 x11) (k0_pay45 g x0 x1 x2 x3 x4 x5 x6 x7 x8 x9 x10 x11)
    (k0_pay46 g x0 x1 x2 x3 x4 x5 x6 x7 x8 x9 x10 x11) = s0 g x0 x1 x2 x3 x4 x5 x6 x7 x8 := by
  rw [p45]; rfl
theorem p28 : k0_pay28 (k0_pay38 g x0 x1 x2 x3 x4 x5 x6 x7 x8 x9 x10 x11) (k0_pay45 g x0 x1 x2 x3 x4 x5 x6 x7 x8 x9 x10 x11)
    (View.ld x5 r0_8) = s1 g x0 x1 x2 x3 x4 x5 x6 x7 x8 := by
  rw [p45]; rfl
theorem p49 : k0_pay49 g x0 x1 x2 x3 x4 x5 x6 x7 x8 x9 x10 x11
    = a (s0 g x0 x1 x2 x3 x4 x5 x6 x7 x8) (s1 g x0 x1 x2 x3 x4 x5 x6 x7 x8) x8 x9 := by
  show cat (md43 (rn (k0_pay27 (k0_pay37 g x0 x1 x2 x3 x4 x5 x6 x7 x8 x9 x10 x11) (k0_pay45 g x0 x1 x2 x3 x4 x5 x6 x7 x8 x9 x10 x11)
      (k0_pay46 g x0 x1 x2 x3 x4 x5 x6 x7 x8 x9 x10 x11)) (View.ld x9 r0_9)) (m0 x8))
    (md43 (rn (k0_pay28 (k0_pay38 g x0 x1 x2 x3 x4 x5 x6 x7 x8 x9 x10 x11) (k0_pay45 g x0 x1 x2 x3 x4 x5 x6 x7 x8 x9 x10 x11)
      (View.ld x5 r0_8)) (View.ld x9 r0_9)) (m1 x8)) = _
  rw [p27, p28]; rfl

theorem mlp_eq (V : FVec Ideal S6x1024 .f32) (A : FVec Ideal S256x1024 .bf16) (B : FVec Ideal S256x1024 .f32)
    (u1 v1 u2 v2 u3 v3 u4 v4 : Vec Ideal S1x1024x1024 .bf16) :
    k0_pay34 (k0_pay31 V A B) (k0_pay32 V A B u1 v1 u2 v2) (k0_pay33 V A B u3) v3 u4 v4 = mlp (k0_pay31 V A B) u1 v1 u2 v2 u3 v3 u4 v4 := rfl

theorem pf : k0_pay34 (k0_pay49 g x0 x1 x2 x3 x4 x5 x6 x7 x8 x9 x10 x11) (k0_pay50 g x0 x1 x2 x3 x4 x5 x6 x7 x8 x9 x10 x11)
    (k0_pay51 g x0 x1 x2 x3 x4 x5 x6 x7 x8 x9 x10 x11) (View.ld x11 r0_15) (View.ld x10 r0_16) (View.ld x11 r0_17)
    = f (s0 g x0 x1 x2 x3 x4 x5 x6 x7 x8) (s1 g x0 x1 x2 x3 x4 x5 x6 x7 x8) x8 x9 x10 x11 := by
  unfold k0_pay50 k0_pay51
  have e := p49 g x0 x1 x2 x3 x4 x5 x6 x7 x8 x9 x10 x11
  unfold k0_pay49 at e ⊢
  rw [mlp_eq, e]
  rfl

theorem out_eq : out0_12 g x0 x1 x2 x3 x4 x5 x6 x7 x8 x9 x10 x11
    = View.canon [⟨r0_8, shapeCast S1x256x1024 (t1 (s0 g x0 x1 x2 x3 x4 x5 x6 x7 x8) (s1 g x0 x1 x2 x3 x4 x5 x6 x7 x8) x8 x9 x10 x11)
          shapeCasts_S256x1024_S1x256x1024⟩,
        ⟨r0_7, shapeCast S1x256x1024 (t0 (s0 g x0 x1 x2 x3 x4 x5 x6 x7 x8) (s1 g x0 x1 x2 x3 x4 x5 x6 x7 x8) x8 x9 x10 x11)
          shapeCasts_S256x1024_S1x256x1024⟩] := by
  unfold out0_12 k0_pay1 k0_pay35 k0_pay36
  rw [pf, p27, p28]
  rfl

variable (i : Fin 256) (n : Fin 1024)

theorem s0_apply : s0 g x0 x1 x2 x3 x4 x5 x6 x7 x8 (ix2 i n)
    = mid (fun k => x5 (ix3 0 i k)) (orow (g 1).val x0 x1 x2 x3 x4 x6 x7 i 0) (fun r k => x8 (ix4 0 0 r k)) n := by
  rw [s0, res2_apply, b0_apply, m0_apply, lo_o (g 1).val (g 1).isLt]
  rfl
theorem s1_apply : s1 g x0 x1 x2 x3 x4 x5 x6 x7 x8 (ix2 i n)
    = mid (fun k => x5 (ix3 1 i k)) (orow (g 1).val x0 x1 x2 x3 x4 x6 x7 i 1) (fun r k => x8 (ix4 1 0 r k)) n := by
  rw [s1, res2_apply, b1_apply, m1_apply, hi_o (g 1).val (g 1).isLt]
  rfl

theorem out_apply (b : Fin 2) : out0_12 g x0 x1 x2 x3 x4 x5 x6 x7 x8 x9 x10 x11 (ix3 b i n)
    = row (fun k => if (g 1).val < 8 then x0 (ix3 b i k) else x1 (ix3 b i k)) (fun k => x2 (ix3 b i k) + x3 (ix3 b i k))
        (fun k => x4 (ix3 b i k)) (fun k => x5 (ix3 b i k)) (fun e => x6 (ix2 0 e)) (fun k n => x7 (ix2 k n))
        (fun r k => x8 (ix4 b 0 r k)) (fun k => x9 (ix2 0 k)) (fun k f => x10 (ix3 0 k f)) (fun f n => x11 (ix3 0 f n)) n := by
  rw [out_eq]
  match b with
  | ⟨0, _⟩ =>
    refine (canon_zero i n _ _).trans ((sc_apply i n _).trans ?_)
    rw [t0_apply]
    simp only [s0_apply]
    rfl
  | ⟨1, _⟩ =>
    refine (canon_one i n _ _).trans ((sc_apply i n _).trans ?_)
    rw [t1_apply]
    simp only [s1_apply]
    rfl

end Cert.Merge4

end
-- ==== Proof.MergeEBlk.lean ====
/-
  The host code before an even layer's merge: the attention's heads and the scans' heads side by side.
-/
module

public import proofs.«01_k».proof.Proof.MergeE
public import proofs.«01_k».proof.Proof.Merge3Blk

@[expose] public section

set_option maxRecDepth 16384

noncomputable section

namespace Cert.MergeE

open Cert.Kernel4Ideal Cert.Kernel4Ideal.Gen Idealize.ShloMosaic Idealize.ShloMosaic.TcCoe Idealize.SL.Sem Cert.Merge

/-- The attention's heads side by side: of the latents and of the context. -/
def mkA (x : FVec Ideal S8x8x2048x64 .f32) : FVec Ideal S8x2048x512 .bf16 :=
  truncf .bf16 (shapeCast S8x2048x512 (transpose S8x2048x8x64 [0, 2, 1, 3] x transposes_S8x8x2048x64_S8x2048x8x64_0_2_1_3)
    shapeCasts_S8x2048x8x64_S8x2048x512) bitsLt_bf16_f32
def mkC (x : FVec Ideal S8x8x256x64 .f32) : FVec Ideal S8x256x512 .bf16 :=
  truncf .bf16 (shapeCast S8x256x512 (transpose S8x256x8x64 [0, 2, 1, 3] x transposes_S8x8x256x64_S8x256x8x64_0_2_1_3)
    shapeCasts_S8x256x8x64_S8x256x512) bitsLt_bf16_f32

/-- The heads of a scan side by side. -/
def mkO4 (x : FVec Ideal S8x4x2304x128 .f32) : FVec Ideal S8x2304x512 .f32 :=
  shapeCast S8x2304x512 (transpose S8x2304x4x128 [0, 2, 1, 3] x transposes_S8x4x2304x128_S8x2304x4x128_0_2_1_3)
    shapeCasts_S8x2304x4x128_S8x2304x512

theorem mkA_apply (x : FVec Ideal S8x8x2048x64 .f32) (b : Fin 8) (t : Fin 2048) (k : Fin 512) :
    mkA x (ix3 b t k) = x (ix4 b ⟨k / 64, by omega⟩ t ⟨k % 64, by omega⟩) := by
  pointwise [mkA]
theorem mkC_apply (x : FVec Ideal S8x8x256x64 .f32) (b : Fin 8) (t : Fin 256) (k : Fin 512) :
    mkC x (ix3 b t k) = x (ix4 b ⟨k / 64, by omega⟩ t ⟨k % 64, by omega⟩) := by
  pointwise [mkC]
theorem mkO4_apply (x : FVec Ideal S8x4x2304x128 .f32) (b : Fin 8) (t : Fin 2304) (k : Fin 512) :
    mkO4 x (ix3 b t k) = x (ix4 b ⟨k / 128, by omega⟩ t ⟨k % 128, by omega⟩) := by
  pointwise [mkO4]

theorem row_eq {A A' X X' G G' : Fin 512 → EReal} {h h' : Fin 1024 → EReal} {w w' : Fin 128 → EReal}
    {W W' : Fin 1024 → Fin 1024 → EReal} {md md' : Fin 6 → Fin 1024 → EReal} {n2 n2' : Fin 1024 → EReal}
    {w1 w1' : Fin 1024 → Fin 4096 → EReal} {w2 w2' : Fin 4096 → Fin 1024 → EReal} (n : Fin 1024)
    (h0 : A = A') (h1 : X = X') (h2 : G = G') (h3 : h = h') (h4 : w = w') (h5 : W = W') (h6 : md = md') (h7 : n2 = n2')
    (h8 : w1 = w1') (h9 : w2 = w2') : row A X G h w W md n2 w1 w2 n = row A' X' G' h' w' W' md' n2' w1' w2' n := by
  subst h0 h1 h2 h3 h4 h5 h6 h7 h8 h9
  rfl

end Cert.MergeE

end
-- ==== Proof.Merge4Blk.lean ====
/-
  The third layer's merge: the call's operands as the host code before it leaves them, and its blocks read off them.
-/
module

public import proofs.«01_k».proof.Proof.Merge4
public import proofs.«01_k».proof.Proof.MergeEBlk
public import Idealize.ShloMosaic.Lib.Tactic.CleanTypes

@[expose] public section

set_option maxRecDepth 16384

noncomputable section

namespace Cert.Merge4

open Cert.Kernel4Ideal Cert.Kernel4Ideal.Gen Idealize.ShloMosaic Idealize.ShloMosaic.TcCoe Idealize.SL.Sem
open Idealize.ShloMosaic.Pipeline (Dat)
open Cert.Merge (mkM row128 row1024)
open Cert.Merge3 (mdt mkM_mdt)
open Cert.MergeE (mkA mkC mkO4 mkA_apply mkC_apply mkO4_apply row)

variable (m : (ℓ : Loc nD τ sig) → Buf (Elt Ideal) ℓ)

theorem idx : ∀ t : Fin cfg0.N,
    win0_0.index t = ![(grid0.coords t 0).val, min (grid0.coords t 1).val 7, 0]
    ∧ win0_1.index t = ![(grid0.coords t 0).val, (grid0.coords t 1).val - 8, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![0, 0]
    ∧ win0_7.index t = ![0, 0]
    ∧ win0_8.index t = ![(grid0.coords t 0).val, (grid0.coords t 1).val / 8, 0, 0]
    ∧ win0_9.index t = ![0, 0]
    ∧ win0_10.index t = ![2, 0, 0]
    ∧ win0_11.index t = ![2, 0, 0]
    ∧ win0_12.index t = ![(grid0.coords t 0).val, (grid0.coords t 1).val, 0] := by decide +kernel

/-- The arguments of device `c`. -/
abbrev a0 (c : Dev nD) : FVec Ideal S8x8x2048x64 .f32 := m ((c : Thread nD τ).loc main_arg0)
abbrev a1 (c : Dev nD) : FVec Ideal S8x8x256x64 .f32 := m ((c : Thread nD τ).loc main_arg1)
abbrev a2 (c : Dev nD) : FVec Ideal S8x4x2304x128 .f32 := m ((c : Thread nD τ).loc main_arg2)
abbrev a3 (c : Dev nD) : FVec Ideal S8x4x2304x128 .f32 := m ((c : Thread nD τ).loc main_arg3)
abbrev a4 (c : Dev nD) : FVec Ideal S8x2304x512 .f32 := m ((c : Thread nD τ).loc main_arg4)
abbrev a5 (c : Dev nD) : FVec Ideal S8x2304x1024 .f32 := m ((c : Thread nD τ).loc main_arg5)
abbrev a6 (c : Dev nD) : FVec Ideal S8x6x1024 .f32 := m ((c : Thread nD τ).loc main_arg6)
abbrev a7 (c : Dev nD) : FVec Ideal S6x1024 .f32 := m ((c : Thread nD τ).loc main_arg7)
abbrev a8 (c : Dev nD) : FVec Ideal S128 .f32 := m ((c : Thread nD τ).loc main_arg8)
abbrev a9 (c : Dev nD) : FVec Ideal S1024x1024 .f32 := m ((c : Thread nD τ).loc main_arg9)
abbrev a10 (c : Dev nD) : FVec Ideal S1024 .f32 := m ((c : Thread nD τ).loc main_arg10)
abbrev a11 (c : Dev nD) : FVec Ideal S4x1024x4096 .f32 := m ((c : Thread nD τ).loc main_arg11)
abbrev a12 (c : Dev nD) : FVec Ideal S4x4096x1024 .f32 := m ((c : Thread nD τ).loc main_arg12)

/-- The call's operands as the host code before it leaves them. -/
theorem op0 (c : Dev nD) : (V m c main_v2 : FVec Ideal S8x2048x512 .bf16) = mkA (a0 m c) := by
  unfold V
  simp only [hostOps0, List.flatten_cons, List.flatten_nil, List.cons_append, List.nil_append, List.append_nil]
  entry_read
  rfl
theorem op1 (c : Dev nD) : (V m c main_v5 : FVec Ideal S8x256x512 .bf16) = mkC (a1 m c) := by
  unfold V
  simp only [hostOps0, List.flatten_cons, List.flatten_nil, List.cons_append, List.nil_append, List.append_nil]
  entry_read
  rfl
theorem op2 (c : Dev nD) : (V m c main_v7 : FVec Ideal S8x2304x512 .f32) = mkO4 (a2 m c) := by
  unfold V
  simp only [hostOps0, List.flatten_cons, List.flatten_nil, List.cons_append, List.nil_append, List.append_nil]
  entry_read
  rfl
theorem op3 (c : Dev nD) : (V m c main_v9 : FVec Ideal S8x2304x512 .f32) = mkO4 (a3 m c) := by
  unfold V
  simp only [hostOps0, List.flatten_cons, List.flatten_nil, List.cons_append, List.nil_append, List.append_nil]
  entry_read
  rfl
theorem op4 (c : Dev nD) : (V m c main_arg4 : FVec Ideal S8x2304x512 .f32) = a4 m c := by
  unfold V
  simp only [hostOps0, List.flatten_cons, List.flatten_nil, List.cons_append, List.nil_append, List.append_nil]
  entry_read
  rfl
theorem op5 (c : Dev nD) : (V m c main_arg5 : FVec Ideal S8x2304x1024 .f32) = a5 m c := by
  unfold V
  simp only [hostOps0, List.flatten_cons, List.flatten_nil, List.cons_append, List.nil_append, List.append_nil]
  entry_read
  rfl
theorem op6 (c : Dev nD) : (V m c main_v14 : FVec Ideal S1x128 .f32) = broadcastInDim S1x128 ![1] bcast_S128_S1x128_1 (a8 m c) := by
  unfold V
  simp only [hostOps0, List.flatten_cons, List.flatten_nil, List.cons_append, List.nil_append, List.append_nil]
  entry_read
  rfl
theorem op7 (c : Dev nD) : (V m c main_v15 : FVec Ideal S1024x1024 .bf16) = truncf .bf16 (a9 m c) bitsLt_bf16_f32 := by
  unfold V
  simp only [hostOps0, List.flatten_cons, List.flatten_nil, List.cons_append, List.nil_append, List.append_nil]
  entry_read
  rfl
theorem op8 (c : Dev nD) : (V m c main_v13 : FVec Ideal S8x2x6x1024 .f32) = mkM (a6 m c) (a7 m c) := by
  unfold V
  simp only [hostOps0, List.flatten_cons, List.flatten_nil, List.cons_append, List.nil_append, List.append_nil]
  entry_read
  rfl
theorem op9 (c : Dev nD) : (V m c main_v16 : FVec Ideal S1x1024 .f32) = broadcastInDim S1x1024 ![1] bcast_S1024_S1x1024_1 (a10 m c) := by
  unfold V
  simp only [hostOps0, List.flatten_cons, List.flatten_nil, List.cons_append, List.nil_append, List.append_nil]
  entry_read
  rfl
theorem op10 (c : Dev nD) : (V m c main_v17 : FVec Ideal S4x1024x4096 .bf16) = truncf .bf16 (a11 m c) bitsLt_bf16_f32 := by
  unfold V
  simp only [hostOps0, List.flatten_cons, List.flatten_nil, List.cons_append, List.nil_append, List.append_nil]
  entry_read
  rfl
theorem op11 (c : Dev nD) : (V m c main_v18 : FVec Ideal S4x4096x1024 .bf16) = truncf .bf16 (a12 m c) bitsLt_bf16_f32 := by
  unfold V
  simp only [hostOps0, List.flatten_cons, List.flatten_nil, List.cons_append, List.nil_append, List.append_nil]
  entry_read
  rfl

theorem lt0 (t : Fin cfg0.N) : (grid0.coords t 0).val < 4 := (grid0.coords t 0).isLt
theorem lt1 (t : Fin cfg0.N) : (grid0.coords t 1).val < 9 := (grid0.coords t 1).isLt

/-- The batch and the token of a block's row, the token among the latents and the token of the context. -/
abbrev bat (t : Fin cfg0.N) (b : Fin 2) : Fin 8 := ⟨2 * (grid0.coords t 0).val + b, by have := lt0 t; omega⟩
abbrev tok (t : Fin cfg0.N) (i : Fin 256) : Fin 2304 := ⟨256 * (grid0.coords t 1).val + i, by have := lt1 t; omega⟩
abbrev tokl (t : Fin cfg0.N) (i : Fin 256) : Fin 2048 := ⟨256 * min (grid0.coords t 1).val 7 + i, by omega⟩
abbrev tokc (t : Fin cfg0.N) (i : Fin 256) : Fin 256 := ⟨256 * ((grid0.coords t 1).val - 8) + i, by have := lt1 t; omega⟩

section blocks

variable (t : Fin cfg0.N) (b : Fin 2) (i : Fin 256)

theorem blk0 (A : FVec Ideal S8x2048x512 .bf16) (k : Fin 512) : ((cfg0.win 0).blk t).view.read (Elt Ideal) A (ix3 b i k : S2x256x512.Idx)
      = A (ix3 (bat t b) (tokl t i) k) := by
  have e := (idx t).1
  blk_ext [e]
theorem blk1 (A : FVec Ideal S8x256x512 .bf16) (k : Fin 512) : ((cfg0.win 1).blk t).view.read (Elt Ideal) A (ix3 b i k : S2x256x512.Idx)
      = A (ix3 (bat t b) (tokc t i) k) := by
  have e := (idx t).2.1
  blk_ext [e]
theorem blk2 (A : FVec Ideal S8x2304x512 .f32) (k : Fin 512) : ((cfg0.win 2).blk t).view.read (Elt Ideal) A (ix3 b i k : S2x256x512.Idx)
      = A (ix3 (bat t b) (tok t i) k) := by
  have e := (idx t).2.2.1
  blk_ext [e]
theorem blk3 (A : FVec Ideal S8x2304x512 .f32) (k : Fin 512) : ((cfg0.win 3).blk t).view.read (Elt Ideal) A (ix3 b i k : S2x256x512.Idx)
      = A (ix3 (bat t b) (tok t i) k) := by
  have e := (idx t).2.2.2.1
  blk_ext [e]
theorem blk4 (A : FVec Ideal S8x2304x512 .f32) (k : Fin 512) : ((cfg0.win 4).blk t).view.read (Elt Ideal) A (ix3 b i k : S2x256x512.Idx)
      = A (ix3 (bat t b) (tok t i) k) := by
  have e := (idx t).2.2.2.2.1
  blk_ext [e]
theorem blk5 (A : FVec Ideal S8x2304x1024 .f32) (k : Fin 1024) : ((cfg0.win 5).blk t).view.read (Elt Ideal) A (ix3 b i k : S2x256x1024.Idx)
      = A (ix3 (bat t b) (tok t i) k) := by
  have e := (idx t).2.2.2.2.2.1
  blk_ext [e]
theorem blk6 (A : FVec Ideal S1x128 .f32) (k : Fin 128) : ((cfg0.win 6).blk t).view.read (Elt Ideal) A (ix2 (0 : Fin 1) k : S1x128.Idx)
      = A (ix2 0 k) := by
  have e := (idx t).2.2.2.2.2.2.1
  blk_ext [e]
theorem blk7 (A : FVec Ideal S1024x1024 .bf16) (k n : Fin 1024) : ((cfg0.win 7).blk t).view.read (Elt Ideal) A (ix2 k n : S1024x1024.Idx)
      = A (ix2 k n) := by
  have e := (idx t).2.2.2.2.2.2.2.1
  blk_ext [e]
theorem blk8 (A : FVec Ideal S8x2x6x1024 .f32) (r : Fin 6) (k : Fin 1024) : ((cfg0.win 8).blk t).view.read (Elt Ideal) A (ix4 b (0 : Fin 1) r k : S2x1x6x1024.Idx)
      = A (ix4 (bat t b) ⟨(grid0.coords t 1).val / 8, by have := lt1 t; omega⟩ r k) := by
  have e := (idx t).2.2.2.2.2.2.2.2.1
  blk_ext [e]
theorem blk9 (A : FVec Ideal S1x1024 .f32) (k : Fin 1024) : ((cfg0.win 9).blk t).view.read (Elt Ideal) A (ix2 (0 : Fin 1) k : S1x1024.Idx)
      = A (ix2 0 k) := by
  have e := (idx t).2.2.2.2.2.2.2.2.2.1
  blk_ext [e]
theorem blk10 (A : FVec Ideal S4x1024x4096 .bf16) (k : Fin 1024) (f : Fin 4096) : ((cfg0.win 10).blk t).view.read (Elt Ideal) A (ix3 (0 : Fin 1) k f : S1x1024x4096.Idx)
      = A (ix3 2 k f) := by
  have e := (idx t).2.2.2.2.2.2.2.2.2.2.1
  blk_ext [e]
theorem blk11 (A : FVec Ideal S4x4096x1024 .bf16) (k : Fin 1024) (f : Fin 4096) : ((cfg0.win 11).blk t).view.read (Elt Ideal) A (ix3 (0 : Fin 1) f k : S1x4096x1024.Idx)
      = A (ix3 2 f k) := by
  have e := (idx t).2.2.2.2.2.2.2.2.2.2.2.1
  blk_ext [e]
theorem blk12 (A : FVec Ideal S8x2304x1024 .f32) (k : Fin 1024) : A (((cfg0.win 12).blk t).view.emb (ix3 b i k : S2x256x1024.Idx))
      = A (ix3 (bat t b) (tok t i) k) := by
  have e := (idx t).2.2.2.2.2.2.2.2.2.2.2.2
  blk_ext [e]

end blocks

/-- The blocks of the call's operands. -/
theorem x0_eq (c : Dev nD) (t : Fin cfg0.N) (b : Fin 2) (i : Fin 256) (k : Fin 512) :
    (iblk m c 0 t : Vec Ideal S2x256x512 .bf16) (ix3 b i k) = a0 m c (ix4 (bat t b) ⟨k / 64, by omega⟩ (tokl t i) ⟨k % 64, by omega⟩) := by
  have e : iblk m c 0 t = ((cfg0.win 0).blk t).view.read (Elt Ideal) (V m c main_v2 : FVec Ideal S8x2048x512 .bf16) := by rw [iblk]
  rw [e, blk0, op0, mkA_apply]
theorem x1_eq (c : Dev nD) (t : Fin cfg0.N) (b : Fin 2) (i : Fin 256) (k : Fin 512) :
    (iblk m c 1 t : Vec Ideal S2x256x512 .bf16) (ix3 b i k) = a1 m c (ix4 (bat t b) ⟨k / 64, by omega⟩ (tokc t i) ⟨k % 64, by omega⟩) := by
  have e : iblk m c 1 t = ((cfg0.win 1).blk t).view.read (Elt Ideal) (V m c main_v5 : FVec Ideal S8x256x512 .bf16) := by rw [iblk]
  rw [e, blk1, op1, mkC_apply]
theorem x2_eq (c : Dev nD) (t : Fin cfg0.N) (b : Fin 2) (i : Fin 256) (k : Fin 512) :
    (iblk m c 2 t : Vec Ideal S2x256x512 .f32) (ix3 b i k) = a2 m c (ix4 (bat t b) ⟨k / 128, by omega⟩ (tok t i) ⟨k % 128, by omega⟩) := by
  have e : iblk m c 2 t = ((cfg0.win 2).blk t).view.read (Elt Ideal) (V m c main_v7 : FVec Ideal S8x2304x512 .f32) := by rw [iblk]
  rw [e, blk2, op2, mkO4_apply]
theorem x3_eq (c : Dev nD) (t : Fin cfg0.N) (b : Fin 2) (i : Fin 256) (k : Fin 512) :
    (iblk m c 3 t : Vec Ideal S2x256x512 .f32) (ix3 b i k) = a3 m c (ix4 (bat t b) ⟨k / 128, by omega⟩ (tok t i) ⟨k % 128, by omega⟩) := by
  have e : iblk m c 3 t = ((cfg0.win 3).blk t).view.read (Elt Ideal) (V m c main_v9 : FVec Ideal S8x2304x512 .f32) := by rw [iblk]
  rw [e, blk3, op3, mkO4_apply]
theorem x4_eq (c : Dev nD) (t : Fin cfg0.N) (b : Fin 2) (i : Fin 256) (k : Fin 512) :
    (iblk m c 4 t : Vec Ideal S2x256x512 .f32) (ix3 b i k) = a4 m c (ix3 (bat t b) (tok t i) k) := by
  have e : iblk m c 4 t = ((cfg0.win 4).blk t).view.read (Elt Ideal) (V m c main_arg4 : FVec Ideal S8x2304x512 .f32) := by rw [iblk]
  rw [e, blk4, op4]
theorem x5_eq (c : Dev nD) (t : Fin cfg0.N) (b : Fin 2) (i : Fin 256) (k : Fin 1024) :
    (iblk m c 5 t : Vec Ideal S2x256x1024 .f32) (ix3 b i k) = a5 m c (ix3 (bat t b) (tok t i) k) := by
  have e : iblk m c 5 t = ((cfg0.win 5).blk t).view.read (Elt Ideal) (V m c main_arg5 : FVec Ideal S8x2304x1024 .f32) := by rw [iblk]
  rw [e, blk5, op5]
theorem x6_eq (c : Dev nD) (t : Fin cfg0.N) (k : Fin 128) :
    (iblk m c 6 t : Vec Ideal S1x128 .f32) (ix2 (0 : Fin 1) k) = a8 m c (ix1 k) := by
  have e : iblk m c 6 t = ((cfg0.win 6).blk t).view.read (Elt Ideal) (V m c main_v14 : FVec Ideal S1x128 .f32) := by rw [iblk]
  rw [e, blk6, op6, row128]
theorem x7_eq (c : Dev nD) (t : Fin cfg0.N) (k n : Fin 1024) :
    (iblk m c 7 t : Vec Ideal S1024x1024 .bf16) (ix2 k n) = a9 m c (ix2 k n) := by
  have e : iblk m c 7 t = ((cfg0.win 7).blk t).view.read (Elt Ideal) (V m c main_v15 : FVec Ideal S1024x1024 .bf16) := by rw [iblk]
  rw [e, blk7, op7]; rfl
theorem x8_eq (c : Dev nD) (t : Fin cfg0.N) (b : Fin 2) (r : Fin 6) (k : Fin 1024) :
    (iblk m c 8 t : Vec Ideal S2x1x6x1024 .f32) (ix4 b (0 : Fin 1) r k) = mdt (a6 m c) (a7 m c) (grid0.coords t 1).val (bat t b) r k := by
  have e : iblk m c 8 t = ((cfg0.win 8).blk t).view.read (Elt Ideal) (V m c main_v13 : FVec Ideal S8x2x6x1024 .f32) := by rw [iblk]
  rw [e, blk8, op8]; exact mkM_mdt _ _ _ (lt1 t) _ _ _
theorem x9_eq (c : Dev nD) (t : Fin cfg0.N) (k : Fin 1024) :
    (iblk m c 9 t : Vec Ideal S1x1024 .f32) (ix2 (0 : Fin 1) k) = a10 m c (ix1 k) := by
  have e : iblk m c 9 t = ((cfg0.win 9).blk t).view.read (Elt Ideal) (V m c main_v16 : FVec Ideal S1x1024 .f32) := by rw [iblk]
  rw [e, blk9, op9, row1024]
theorem x10_eq (c : Dev nD) (t : Fin cfg0.N) (k : Fin 1024) (f : Fin 4096) :
    (iblk m c 10 t : Vec Ideal S1x1024x4096 .bf16) (ix3 (0 : Fin 1) k f) = a11 m c (ix3 2 k f) := by
  have e : iblk m c 10 t = ((cfg0.win 10).blk t).view.read (Elt Ideal) (V m c main_v17 : FVec Ideal S4x1024x4096 .bf16) := by rw [iblk]
  rw [e, blk10, op10]; rfl
theorem x11_eq (c : Dev nD) (t : Fin cfg0.N) (k : Fin 1024) (f : Fin 4096) :
    (iblk m c 11 t : Vec Ideal S1x4096x1024 .bf16) (ix3 (0 : Fin 1) f k) = a12 m c (ix3 2 f k) := by
  have e : iblk m c 11 t = ((cfg0.win 11).blk t).view.read (Elt Ideal) (V m c main_v18 : FVec Ideal S4x4096x1024 .bf16) := by rw [iblk]
  rw [e, blk11, op11]; rfl

end Cert.Merge4

end
-- ==== Proof.MergeRefE.lean ====
/-
  The pieces of the references of an even layer's merge: the attention's heads beside four gated heads, for the latent
  tokens and for the context's.
-/
module

public import proofs.«01_k».proof.Proof.MergeRefC
public import proofs.«01_k».proof.Proof.MergeE
public import proofs.«01_k».proof.Proof.Gen.Reference4Ideal.Run

@[expose] public section

set_option maxRecDepth 16384

noncomputable section

namespace Cert.MergeRef

open Cert.Reference4Ideal Cert.Reference4Ideal.Gen Idealize.ShloMosaic Idealize.ShloMosaic.TcCoe Idealize.SL.Sem
open Cert.Merge (rms c128 gate)
open Cert.MergeE (yrow side)

/-! ## The latent tokens -/

/-- The attention's heads side by side. -/
def ATE (x : FVec Ideal S8x8x2048x64 .f32) : FVec Ideal S8x2048x512 .f32 :=
  shapeCast S8x2048x512 (transpose S8x2048x8x64 [0, 2, 1, 3] x transposes_S8x8x2048x64_S8x2048x8x64_0_2_1_3) shapeCasts_S8x2048x8x64_S8x2048x512

/-- The sum of the two scans, heads last. -/
def OSE (x y : FVec Ideal S8x4x2304x128 .f32) : FVec Ideal S8x2048x4x128 .f32 :=
  transpose S8x2048x4x128 [0, 2, 1, 3] (extractStridedSlice S8x4x2048x128 ![0, 0, 0, 0] (addf x y)
    slices_S8x4x2304x128_S8x4x2048x128_0_0_0_0) transposes_S8x4x2048x128_S8x2048x4x128_0_2_1_3

/-- The gate's input, per head. -/
def GSE (g : FVec Ideal S8x2304x512 .f32) : FVec Ideal S8x2048x4x128 .f32 :=
  shapeCast S8x2048x4x128 (extractStridedSlice S8x2048x512 ![0, 0, 0] g slices_S8x2304x512_S8x2048x512_0_0_0)
    shapeCasts_S8x2048x512_S8x2048x4x128

/-- The norm of each head. -/
def HNRE (x : FVec Ideal S8x2048x4x128 .f32) (w : FVec Ideal S128 .f32) : FVec Ideal S8x2048x4x128 .f32 :=
  mulf (mulf x (broadcastInDim S8x2048x4x128 ![0, 1, 2, 3] bcast_S8x2048x4x1_S8x2048x4x128_0_1_2_3
      (Host.rsqrt (addf (Host.divf (broadcastInDim S8x2048x4x1 ![0, 1, 2] bcast_S8x2048x4_S8x2048x4x1_0_1_2
          (Host.reduceAdd (mulf x x) (constant S_ .f32 0x00000000#32) reducesTo_S8x2048x4x128_S8x2048x4_d3 h_S_))
        (broadcastInDim S8x2048x4x1 ![] bcast_S_S8x2048x4x1 (constant S_ .f32 0x43000000#32)))
        (broadcastInDim S8x2048x4x1 ![] bcast_S_S8x2048x4x1 (constant S_ .f32 0x358637BD#32))))))
    (broadcastInDim S8x2048x4x128 ![0, 1, 2, 3] bcast_S1x1x1x128_S8x2048x4x128_0_1_2_3
      (broadcastInDim S1x1x1x128 ![3] bcast_S128_S1x1x1x128_3 w))

/-- The gate. -/
def SLE (g : FVec Ideal S8x2048x4x128 .f32) : FVec Ideal S8x2048x4x128 .f32 :=
  mulf g (Host.divf (broadcastInDim S8x2048x4x128 ![] bcast_S_S8x2048x4x128 (constant S_ .f32 0x3F800000#32))
    (addf (broadcastInDim S8x2048x4x128 ![] bcast_S_S8x2048x4x128 (constant S_ .f32 0x3F800000#32)) (Host.exp (Host.negf g))))

/-- The gated heads side by side. -/
def YRE (x g : FVec Ideal S8x2048x4x128 .f32) (w : FVec Ideal S128 .f32) : FVec Ideal S8x2048x512 .f32 :=
  shapeCast S8x2048x512 (mulf (HNRE x w) (SLE g)) shapeCasts_S8x2048x4x128_S8x2048x512

/-- The attention's heads beside the gated heads. -/
def YE (p : FVec Ideal S8x8x2048x64 .f32) (o1 o2 : FVec Ideal S8x4x2304x128 .f32) (g : FVec Ideal S8x2304x512 .f32)
    (on : FVec Ideal S128 .f32) : FVec Ideal S8x2048x1024 .f32 :=
  concatenate S8x2048x1024 2 [⟨S8x2048x512, ATE p⟩, ⟨S8x2048x512, YRE (OSE o1 o2) (GSE g) on⟩]
    concatenates_S8x2048x512_S8x2048x512_S8x2048x1024_d2

section

variable (b : Fin 8) (t : Fin 2048)

theorem ATE_apply (x : FVec Ideal S8x8x2048x64 .f32) (k : Fin 512) :
    ATE x (ix3 b t k) = x (ix4 b ⟨k / 64, by omega⟩ t ⟨k % 64, by omega⟩) := by
  pointwise [ATE]
theorem OSE_apply (x y : FVec Ideal S8x4x2304x128 .f32) (hd : Fin 4) (d : Fin 128) :
    OSE x y (ix4 b t hd d) = x (ix4 b hd ⟨t, by omega⟩ d) + y (ix4 b hd ⟨t, by omega⟩ d) := by
  pointwise [OSE]
theorem GSE_apply (g : FVec Ideal S8x2304x512 .f32) (hd : Fin 4) (d : Fin 128) :
    GSE g (ix4 b t hd d) = g (ix3 b ⟨t, by omega⟩ ⟨128 * hd + d, by omega⟩) := by
  pointwise [GSE]
  refine congrArg (fun z => g (ix3 b _ z)) (Fin.ext ?_)
  simp only; omega
theorem HNRE_apply (x : FVec Ideal S8x2048x4x128 .f32) (w : FVec Ideal S128 .f32) (hd : Fin 4) (d : Fin 128) :
    HNRE x w (ix4 b t hd d) = rms c128 (fun e => x (ix4 b t hd e)) (fun e => w (ix1 e)) d := by
  pointwise [HNRE, rms]
theorem SLE_apply (g : FVec Ideal S8x2048x4x128 .f32) (hd : Fin 4) (d : Fin 128) :
    SLE g (ix4 b t hd d) = gate (g (ix4 b t hd d)) := by
  pointwise [SLE, gate]
theorem YRE_apply (x g : FVec Ideal S8x2048x4x128 .f32) (w : FVec Ideal S128 .f32) (n : Fin 512) :
    YRE x g w (ix3 b t n) = HNRE x w (ix4 b t ⟨n / 128, by omega⟩ ⟨n % 128, by omega⟩)
      * SLE g (ix4 b t ⟨n / 128, by omega⟩ ⟨n % 128, by omega⟩) := by
  pointwise [YRE]

/-- The gated heads of an even layer's token. -/
theorem YOE_apply (o1 o2 : FVec Ideal S8x4x2304x128 .f32) (g : FVec Ideal S8x2304x512 .f32) (on : FVec Ideal S128 .f32) (k : Fin 512) :
    YRE (OSE o1 o2) (GSE g) on (ix3 b t k) = yrow (fun k => o1 (ix4 b ⟨k / 128, by omega⟩ ⟨t, by omega⟩ ⟨k % 128, by omega⟩)
          + o2 (ix4 b ⟨k / 128, by omega⟩ ⟨t, by omega⟩ ⟨k % 128, by omega⟩)) (fun k => g (ix3 b ⟨t, by omega⟩ k))
        (fun e => on (ix1 e)) k := by
  rw [YRE_apply, HNRE_apply, SLE_apply, GSE_apply, yrow]
  refine congrArg₂ (· * ·) (congrArg (fun z => rms c128 z _ _) (funext fun e => ?_)) (congrArg gate ?_)
  · rw [OSE_apply]
    have e1 : (128 * ((k : Nat) / 128) + e) / 128 = k / 128 := by omega
    have e2 : (128 * ((k : Nat) / 128) + e) % 128 = e := by omega
    simp only [e1, e2]
  · refine congrArg (fun z => g (ix3 b _ z)) (Fin.ext ?_)
    simp only; omega

theorem catE (x y : FVec Ideal S8x2048x512 .f32) (k : Fin 1024) :
    concatenate S8x2048x1024 2 [⟨S8x2048x512, x⟩, ⟨S8x2048x512, y⟩] concatenates_S8x2048x512_S8x2048x512_S8x2048x1024_d2 (ix3 b t k)
      = side (fun k => x (ix3 b t k)) (fun k => y (ix3 b t k)) k := by
  rw [side]
  by_cases h : (k : Nat) < 512
  · rw [dif_pos h]
    pointwise
    rw [dif_pos h]
  · rw [dif_neg h]
    pointwise
    rw [dif_neg h]

/-- The rows of an even layer's token. -/
theorem YE_apply (p : FVec Ideal S8x8x2048x64 .f32) (o1 o2 : FVec Ideal S8x4x2304x128 .f32) (g : FVec Ideal S8x2304x512 .f32)
    (on : FVec Ideal S128 .f32) (k : Fin 1024) :
    YE p o1 o2 g on (ix3 b t k) = side (fun k => p (ix4 b ⟨k / 64, by omega⟩ t ⟨k % 64, by omega⟩))
      (yrow (fun k => o1 (ix4 b ⟨k / 128, by omega⟩ ⟨t, by omega⟩ ⟨k % 128, by omega⟩)
          + o2 (ix4 b ⟨k / 128, by omega⟩ ⟨t, by omega⟩ ⟨k % 128, by omega⟩)) (fun k => g (ix3 b ⟨t, by omega⟩ k))
        (fun e => on (ix1 e))) k := by
  rw [YE, catE]
  exact congrArg₂ (fun x y => side x y k) (funext fun k => ATE_apply b t p k) (funext fun k => YOE_apply b t o1 o2 g on k)

end

/-! ## The context's tokens -/

/-- The attention's heads side by side. -/
def ATCE (x : FVec Ideal S8x8x256x64 .f32) : FVec Ideal S8x256x512 .f32 :=
  shapeCast S8x256x512 (transpose S8x256x8x64 [0, 2, 1, 3] x transposes_S8x8x256x64_S8x256x8x64_0_2_1_3) shapeCasts_S8x256x8x64_S8x256x512

/-- The sum of the two scans, heads last. -/
def OSCE (x y : FVec Ideal S8x4x2304x128 .f32) : FVec Ideal S8x256x4x128 .f32 :=
  transpose S8x256x4x128 [0, 2, 1, 3] (extractStridedSlice S8x4x256x128 ![0, 0, 2048, 0] (addf x y)
    slices_S8x4x2304x128_S8x4x256x128_0_0_2048_0) transposes_S8x4x256x128_S8x256x4x128_0_2_1_3

/-- The gate's input, per head. -/
def GSCE (g : FVec Ideal S8x2304x512 .f32) : FVec Ideal S8x256x4x128 .f32 :=
  shapeCast S8x256x4x128 (extractStridedSlice S8x256x512 ![0, 2048, 0] g slices_S8x2304x512_S8x256x512_0_2048_0)
    shapeCasts_S8x256x512_S8x256x4x128

/-- The norm of each head. -/
def HNRCE (x : FVec Ideal S8x256x4x128 .f32) (w : FVec Ideal S128 .f32) : FVec Ideal S8x256x4x128 .f32 :=
  mulf (mulf x (broadcastInDim S8x256x4x128 ![0, 1, 2, 3] bcast_S8x256x4x1_S8x256x4x128_0_1_2_3
      (Host.rsqrt (addf (Host.divf (broadcastInDim S8x256x4x1 ![0, 1, 2] bcast_S8x256x4_S8x256x4x1_0_1_2
          (Host.reduceAdd (mulf x x) (constant S_ .f32 0x00000000#32) reducesTo_S8x256x4x128_S8x256x4_d3 h_S_))
        (broadcastInDim S8x256x4x1 ![] bcast_S_S8x256x4x1 (constant S_ .f32 0x43000000#32)))
        (broadcastInDim S8x256x4x1 ![] bcast_S_S8x256x4x1 (constant S_ .f32 0x358637BD#32))))))
    (broadcastInDim S8x256x4x128 ![0, 1, 2, 3] bcast_S1x1x1x128_S8x256x4x128_0_1_2_3
      (broadcastInDim S1x1x1x128 ![3] bcast_S128_S1x1x1x128_3 w))

/-- The gate. -/
def SLCE (g : FVec Ideal S8x256x4x128 .f32) : FVec Ideal S8x256x4x128 .f32 :=
  mulf g (Host.divf (broadcastInDim S8x256x4x128 ![] bcast_S_S8x256x4x128 (constant S_ .f32 0x3F800000#32))
    (addf (broadcastInDim S8x256x4x128 ![] bcast_S_S8x256x4x128 (constant S_ .f32 0x3F800000#32)) (Host.exp (Host.negf g))))

/-- The gated heads side by side. -/
def YRCE (x g : FVec Ideal S8x256x4x128 .f32) (w : FVec Ideal S128 .f32) : FVec Ideal S8x256x512 .f32 :=
  shapeCast S8x256x512 (mulf (HNRCE x w) (SLCE g)) shapeCasts_S8x256x4x128_S8x256x512

/-- The attention's heads beside the gated heads. -/
def YCE (p : FVec Ideal S8x8x256x64 .f32) (o1 o2 : FVec Ideal S8x4x2304x128 .f32) (g : FVec Ideal S8x2304x512 .f32)
    (on : FVec Ideal S128 .f32) : FVec Ideal S8x256x1024 .f32 :=
  concatenate S8x256x1024 2 [⟨S8x256x512, ATCE p⟩, ⟨S8x256x512, YRCE (OSCE o1 o2) (GSCE g) on⟩]
    concatenates_S8x256x512_S8x256x512_S8x256x1024_d2

section

variable (b : Fin 8) (t : Fin 256)

theorem ATCE_apply (x : FVec Ideal S8x8x256x64 .f32) (k : Fin 512) :
    ATCE x (ix3 b t k) = x (ix4 b ⟨k / 64, by omega⟩ t ⟨k % 64, by omega⟩) := by
  pointwise [ATCE]
theorem OSCE_apply (x y : FVec Ideal S8x4x2304x128 .f32) (hd : Fin 4) (d : Fin 128) :
    OSCE x y (ix4 b t hd d) = x (ix4 b hd ⟨2048 + t, by omega⟩ d) + y (ix4 b hd ⟨2048 + t, by omega⟩ d) := by
  pointwise [OSCE]
theorem GSCE_apply (g : FVec Ideal S8x2304x512 .f32) (hd : Fin 4) (d : Fin 128) :
    GSCE g (ix4 b t hd d) = g (ix3 b ⟨2048 + t, by omega⟩ ⟨128 * hd + d, by omega⟩) := by
  pointwise [GSCE]
  refine congrArg (fun z => g (ix3 b _ z)) (Fin.ext ?_)
  simp only; omega
theorem HNRCE_apply (x : FVec Ideal S8x256x4x128 .f32) (w : FVec Ideal S128 .f32) (hd : Fin 4) (d : Fin 128) :
    HNRCE x w (ix4 b t hd d) = rms c128 (fun e => x (ix4 b t hd e)) (fun e => w (ix1 e)) d := by
  pointwise [HNRCE, rms]
theorem SLCE_apply (g : FVec Ideal S8x256x4x128 .f32) (hd : Fin 4) (d : Fin 128) :
    SLCE g (ix4 b t hd d) = gate (g (ix4 b t hd d)) := by
  pointwise [SLCE, gate]
theorem YRCE_apply (x g : FVec Ideal S8x256x4x128 .f32) (w : FVec Ideal S128 .f32) (n : Fin 512) :
    YRCE x g w (ix3 b t n) = HNRCE x w (ix4 b t ⟨n / 128, by omega⟩ ⟨n % 128, by omega⟩)
      * SLCE g (ix4 b t ⟨n / 128, by omega⟩ ⟨n % 128, by omega⟩) := by
  pointwise [YRCE]

/-- The gated heads of an even layer's token. -/
theorem YOCE_apply (o1 o2 : FVec Ideal S8x4x2304x128 .f32) (g : FVec Ideal S8x2304x512 .f32) (on : FVec Ideal S128 .f32) (k : Fin 512) :
    YRCE (OSCE o1 o2) (GSCE g) on (ix3 b t k) = yrow (fun k => o1 (ix4 b ⟨k / 128, by omega⟩ ⟨2048 + t, by omega⟩ ⟨k % 128, by omega⟩)
          + o2 (ix4 b ⟨k / 128, by omega⟩ ⟨2048 + t, by omega⟩ ⟨k % 128, by omega⟩)) (fun k => g (ix3 b ⟨2048 + t, by omega⟩ k))
        (fun e => on (ix1 e)) k := by
  rw [YRCE_apply, HNRCE_apply, SLCE_apply, GSCE_apply, yrow]
  refine congrArg₂ (· * ·) (congrArg (fun z => rms c128 z _ _) (funext fun e => ?_)) (congrArg gate ?_)
  · rw [OSCE_apply]
    have e1 : (128 * ((k : Nat) / 128) + e) / 128 = k / 128 := by omega
    have e2 : (128 * ((k : Nat) / 128) + e) % 128 = e := by omega
    simp only [e1, e2]
  · refine congrArg (fun z => g (ix3 b _ z)) (Fin.ext ?_)
    simp only; omega

theorem catCE (x y : FVec Ideal S8x256x512 .f32) (k : Fin 1024) :
    concatenate S8x256x1024 2 [⟨S8x256x512, x⟩, ⟨S8x256x512, y⟩] concatenates_S8x256x512_S8x256x512_S8x256x1024_d2 (ix3 b t k)
      = side (fun k => x (ix3 b t k)) (fun k => y (ix3 b t k)) k := by
  rw [side]
  by_cases h : (k : Nat) < 512
  · rw [dif_pos h]
    pointwise
    rw [dif_pos h]
  · rw [dif_neg h]
    pointwise
    rw [dif_neg h]

/-- The rows of an even layer's token. -/
theorem YCE_apply (p : FVec Ideal S8x8x256x64 .f32) (o1 o2 : FVec Ideal S8x4x2304x128 .f32) (g : FVec Ideal S8x2304x512 .f32)
    (on : FVec Ideal S128 .f32) (k : Fin 1024) :
    YCE p o1 o2 g on (ix3 b t k) = side (fun k => p (ix4 b ⟨k / 64, by omega⟩ t ⟨k % 64, by omega⟩))
      (yrow (fun k => o1 (ix4 b ⟨k / 128, by omega⟩ ⟨2048 + t, by omega⟩ ⟨k % 128, by omega⟩)
          + o2 (ix4 b ⟨k / 128, by omega⟩ ⟨2048 + t, by omega⟩ ⟨k % 128, by omega⟩)) (fun k => g (ix3 b ⟨2048 + t, by omega⟩ k))
        (fun e => on (ix1 e))) k := by
  rw [YCE, catCE]
  exact congrArg₂ (fun x y => side x y k) (funext fun k => ATCE_apply b t p k) (funext fun k => YOCE_apply b t o1 o2 g on k)

end

end Cert.MergeRef

end
-- ==== Proof.Merge4Val.lean ====
/-
  The third layer's merge: its result array against the reference's, latent rows and context rows.
-/
module

public import proofs.«01_k».proof.Proof.Merge4Blk
public import proofs.«01_k».proof.Proof.MergeRefE
public import proofs.«01_k».proof.Proof.Gen.Reference4Ideal.Run

@[expose] public section

set_option maxRecDepth 16384

noncomputable section

namespace Cert.MergeRef

open Cert.Reference4Ideal Cert.Reference4Ideal.Gen Idealize.ShloMosaic Idealize.ShloMosaic.TcCoe Idealize.SL.Sem Cert.Merge

/-- The third layer's MLP weights. -/
def W14 (w : FVec Ideal S4x1024x4096 .f32) : FVec Ideal S1024x4096 .f32 :=
  shapeCast S1024x4096 (extractStridedSlice S1x1024x4096 ![2, 0, 0] w slices_S4x1024x4096_S1x1024x4096_2_0_0) shapeCasts_S1x1024x4096_S1024x4096
def W24 (w : FVec Ideal S4x4096x1024 .f32) : FVec Ideal S4096x1024 .f32 :=
  shapeCast S4096x1024 (extractStridedSlice S1x4096x1024 ![2, 0, 0] w slices_S4x4096x1024_S1x4096x1024_2_0_0) shapeCasts_S1x4096x1024_S4096x1024
theorem W14_apply (w : FVec Ideal S4x1024x4096 .f32) (k : Fin 1024) (f : Fin 4096) : W14 w (ix2 k f) = w (ix3 2 k f) := by
  pointwise [W14]
theorem W24_apply (w : FVec Ideal S4x4096x1024 .f32) (k : Fin 1024) (f : Fin 4096) : W24 w (ix2 f k) = w (ix3 2 f k) := by
  pointwise [W24]

/-- The third layer's merge as the reference writes it. -/
def REF4 (p : FVec Ideal S8x8x2048x64 .f32) (q : FVec Ideal S8x8x256x64 .f32) (o1 o2 : FVec Ideal S8x4x2304x128 .f32)
    (g : FVec Ideal S8x2304x512 .f32) (h : FVec Ideal S8x2304x1024 .f32) (ml : FVec Ideal S8x6x1024 .f32)
    (mc : FVec Ideal S6x1024 .f32) (on : FVec Ideal S128 .f32) (wo : FVec Ideal S1024x1024 .f32) (n2 : FVec Ideal S1024 .f32)
    (w1 : FVec Ideal S4x1024x4096 .f32) (w2 : FVec Ideal S4x4096x1024 .f32) : FVec Ideal S8x2304x1024 .f32 :=
  CAT (PSW (ADD (HL h) ml (YE p o1 o2 g on) wo) ml n2 (W14 w1) (W24 w2))
    (PSC (ADDC (HC h) mc (YCE q o1 o2 g on) wo) mc n2 (W14 w1) (W24 w2))

end Cert.MergeRef

namespace Cert.Merge4

open Cert.Kernel4Ideal Cert.Kernel4Ideal.Gen Idealize.ShloMosaic Idealize.ShloMosaic.TcCoe Idealize.SL.Sem
open Idealize.ShloMosaic.Pipeline (Dat)
open Cert.Merge3 (mdt)
open Cert.MergeE (row row_eq)

variable (m : (ℓ : Loc nD τ sig) → Buf (Elt Ideal) ℓ)

/-- The result of device `c`. -/
def res (c : Dev nD) : FVec Ideal S8x2304x1024 .f32 :=
  Cert.MergeRef.REF4 (a0 m c) (a1 m c) (a2 m c) (a3 m c) (a4 m c) (a5 m c) (a6 m c) (a7 m c) (a8 m c) (a9 m c) (a10 m c) (a11 m c) (a12 m c)

/-- The row of a token, of its attention row and its stream. -/
def trow (c : Dev nD) (b : Fin 8) (t : Fin 2304) (j : Nat) (A : Fin 512 → EReal) (H : Fin 1024 → EReal) : Fin 1024 → EReal :=
  row A (fun k => a2 m c (ix4 b ⟨k / 128, by omega⟩ t ⟨k % 128, by omega⟩) + a3 m c (ix4 b ⟨k / 128, by omega⟩ t ⟨k % 128, by omega⟩))
    (fun k => a4 m c (ix3 b t k)) H (fun e => a8 m c (ix1 e))
    (fun k n => a9 m c (ix2 k n)) (fun r k => mdt (a6 m c) (a7 m c) j b r k) (fun k => a10 m c (ix1 k))
    (fun k f => a11 m c (ix3 2 k f)) (fun f n => a12 m c (ix3 2 f n))

theorem ref_lat (c : Dev nD) (b : Fin 8) (t : Fin 2048) (n : Fin 1024) (j : Nat) (hj : j < 8) :
    res m c (ix3 b ⟨t, by omega⟩ n) = trow m c b ⟨t, by omega⟩ j
      (fun k => a0 m c (ix4 b ⟨k / 64, by omega⟩ t ⟨k % 64, by omega⟩)) (fun k => a5 m c (ix3 b ⟨t, by omega⟩ k)) n := by
  rw [res, Cert.MergeRef.REF4, Cert.MergeRef.CAT_lat, Cert.MergeRef.PSW_apply]
  simp only [Cert.MergeRef.ADD_apply, Cert.MergeRef.YE_apply, Cert.MergeRef.HL_apply, Cert.MergeRef.W14_apply, Cert.MergeRef.W24_apply]
  simp only [trow, mdt, if_pos hj]
  rfl
theorem ref_ctx (c : Dev nD) (b : Fin 8) (t : Fin 256) (n : Fin 1024) (j : Nat) (hj : ¬ j < 8) :
    res m c (ix3 b ⟨2048 + t, by omega⟩ n) = trow m c b ⟨2048 + t, by omega⟩ j
      (fun k => a1 m c (ix4 b ⟨k / 64, by omega⟩ t ⟨k % 64, by omega⟩)) (fun k => a5 m c (ix3 b ⟨2048 + t, by omega⟩ k)) n := by
  rw [res, Cert.MergeRef.REF4, Cert.MergeRef.CAT_ctx, Cert.MergeRef.PSC_apply]
  simp only [Cert.MergeRef.ADDC_apply, Cert.MergeRef.YCE_apply, Cert.MergeRef.HC_apply, Cert.MergeRef.W14_apply, Cert.MergeRef.W24_apply]
  simp only [trow, mdt, if_neg hj]
  rfl

theorem ref_apply (c : Dev nD) (t : Fin cfg0.N) (b : Fin 2) (i : Fin 256) (n : Fin 1024) :
    res m c (ix3 (bat t b) (tok t i) n) = trow m c (bat t b) (tok t i) (grid0.coords t 1).val
      (fun k => if (grid0.coords t 1).val < 8 then a0 m c (ix4 (bat t b) ⟨k / 64, by omega⟩ (tokl t i) ⟨k % 64, by omega⟩)
        else a1 m c (ix4 (bat t b) ⟨k / 64, by omega⟩ (tokc t i) ⟨k % 64, by omega⟩))
      (fun k => a5 m c (ix3 (bat t b) (tok t i) k)) n := by
  have h9 := lt1 t
  by_cases hj : (grid0.coords t 1).val < 8
  · simp only [if_pos hj]
    have e : tok t i = (⟨tokl t i, by omega⟩ : Fin 2304) := Fin.ext
      (show 256 * (grid0.coords t 1).val + (i : Nat) = 256 * min (grid0.coords t 1).val 7 + i by omega)
    rw [e]
    exact ref_lat m c (bat t b) (tokl t i) n _ hj
  · simp only [if_neg hj]
    have e : tok t i = (⟨2048 + tokc t i, by omega⟩ : Fin 2304) := Fin.ext
      (show 256 * (grid0.coords t 1).val + (i : Nat) = 2048 + (256 * ((grid0.coords t 1).val - 8) + i) by omega)
    rw [e]
    exact ref_ctx m c (bat t b) (tokc t i) n _ hj

/-- The result's array. -/
theorem final (c : Dev nD) : (dats m 0 c).arrAt 12 cfg0.N = res m c := by
  refine (dats m 0 c).arrAt_eq_of_covers 12 _ (by decide +kernel) fun t hf y => ?_
  have key : ∀ (b : Fin 2) (i : Fin 256) (n : Fin 1024),
      out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 b i n)
      = res m c (((cfg0.win 12).blk t).view.emb (ix3 b i n : S2x256x1024.Idx)) := fun b i n => by
    refine Eq.trans ?_ (blk12 t b i (res m c) n).symm
    rw [out_apply, ref_apply, trow]
    refine row_eq n ?_ ?_ ?_ ?_ ?_ ?_ ?_ ?_ ?_ ?_
    · funext k
      exact congrArg₂ (fun x y => if (grid0.coords t 1).val < 8 then x else y) (x0_eq m c t b i k) (x1_eq m c t b i k)
    · funext k; exact congrArg₂ (· + ·) (x2_eq m c t b i k) (x3_eq m c t b i k)
    · funext k; exact x4_eq m c t b i k
    · funext k; exact x5_eq m c t b i k
    · funext e; exact x6_eq m c t e
    · funext k n; exact x7_eq m c t k n
    · funext r k; exact x8_eq m c t b r k
    · funext k; exact x9_eq m c t k
    · funext k f; exact x10_eq m c t k f
    · funext f k; exact x11_eq m c t k f
  obtain ⟨b, i, n, rfl⟩ : ∃ (b : Fin 2) (i : Fin 256) (n : Fin 1024), y = (ix3 b i n : S2x256x1024.Idx) := by
    refine ⟨y 0, y 1, y 2, ?_⟩
    funext a
    fin_cases a <;> rfl
  refine Eq.trans ?_ (key b i n)
  rw [cast_eq, after0_12]
  rfl

end Cert.Merge4

end
-- ==== Proof.Merge4Claims.lean ====
/-
  The third layer's merge: its frames, and its value against the reference's.
-/
module

public import proofs.«01_k».proof.Defs
public import proofs.«01_k».proof.Proof.Merge4Val
public import proofs.«01_k».proof.Proof.Gen.Kernel4.Frame

@[expose] public section

set_option maxRecDepth 16384

noncomputable section

namespace Cert.Merge4Claims

open Idealize.ShloMosaic Idealize.ShloMosaic.TcCoe Idealize.SL.Sem

theorem frame : Cert.quiescent_Kernel4 := fun m ρ _ => Cert.Kernel4.Gen.frame m ρ
theorem frameI : Cert.quiescent_Kernel4Ideal := fun m ρ _ => Cert.Kernel4Ideal.Gen.frame m ρ
theorem frameR : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m g m' g' _ hargs
  refine ⟨fun c => Cert.Merge4.res m c, ?_, ?_⟩
  · exact (θ_run Cert.Kernel4Ideal.defs _ _).mono (fun _ h c => ⟨(h c).1.trans (Cert.Merge4.final m c), (h c).2⟩)
      (Cert.Kernel4Ideal.Value.run_blocks (F := Ideal) m g)
  · refine (θ_run Cert.Reference4Ideal.defs _ _).mono (fun _ h c => ⟨(h c).1.trans ?_, (h c).2⟩) (Cert.Reference4Ideal.Value.run (F := Ideal) m' g')
    obtain ⟨e0, e1, e2, e3, e4, e5, e6, e7, e8, e9, e10, e11, e12⟩ := hargs c
    refine Eq.trans (b := Cert.MergeRef.REF4
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3))
        (m' ((c.tc : Thread Cert.Reference4Ideal.nD Cert.Reference4Ideal.τ).loc Cert.Reference4Ideal.main_arg4))
        (m' ((c.tc : Thread Cert.Reference4Ideal.nD Cert.Reference4Ideal.τ).loc Cert.Reference4Ideal.main_arg5))
        (m' ((c.tc : Thread Cert.Reference4Ideal.nD Cert.Reference4Ideal.τ).loc Cert.Reference4Ideal.main_arg6))
        (m' ((c.tc : Thread Cert.Reference4Ideal.nD Cert.Reference4Ideal.τ).loc Cert.Reference4Ideal.main_arg7))
        (m' ((c.tc : Thread Cert.Reference4Ideal.nD Cert.Reference4Ideal.τ).loc Cert.Reference4Ideal.main_arg8))
        (m' ((c.tc : Thread Cert.Reference4Ideal.nD Cert.Reference4Ideal.τ).loc Cert.Reference4Ideal.main_arg9))
        (m' ((c.tc : Thread Cert.Reference4Ideal.nD Cert.Reference4Ideal.τ).loc Cert.Reference4Ideal.main_arg10))
        (m' ((c.tc : Thread Cert.Reference4Ideal.nD Cert.Reference4Ideal.τ).loc Cert.Reference4Ideal.main_arg11))
        (m' ((c.tc : Thread Cert.Reference4Ideal.nD Cert.Reference4Ideal.τ).loc Cert.Reference4Ideal.main_arg12))) rfl ?_
    rw [e0, e1, e2, e3, e4, e5, e6, e7, e8, e9, e10, e11, e12]
    rfl

end Cert.Merge4Claims

end
-- ==== Proof.Merge5.lean ====
/-
  The first layer's merge and MLP: the body's output block, its stream in two parts.
-/
module

public import proofs.«01_k».proof.Proof.MergeE
public import proofs.«01_k».proof.Proof.Gen.Kernel5Ideal.Value

@[expose] public section

set_option maxRecDepth 16384

noncomputable section

namespace Cert.Merge5

open Cert.Kernel5Ideal Cert.Kernel5Ideal.Gen Idealize.ShloMosaic Idealize.ShloMosaic.TcCoe Idealize.SL.Sem Cert.MergeE
open Cert.Merge (b0 b1 b0_apply b1_apply m0 m1 m0_apply m1_apply res2 res2_apply rn cat md43 lo hi mlp canon_zero canon_one sc_apply mid post)

/-- The context's stream on the context's tiles, the latents' stream on the others. -/
def sels (j : Nat) (x y : FVec Ideal S256x1024 .f32) : FVec Ideal S256x1024 .f32 :=
  Scalar.select (Scalar.cmpi .sge (BitVec.ofNat 32 j) 8#32) x y
theorem sels_apply (j : Nat) (hj : j < 9) (x y : FVec Ideal S256x1024 .f32) (i : Fin 256) (k : Fin 1024) :
    sels j x y (ix2 i k) = if j < 8 then y (ix2 i k) else x (ix2 i k) := by
  interval_cases j <;> rfl

variable (g : grid0.Coords) (x0 x1 : Vec Ideal S2x256x512 .bf16) (x2 x3 x4 : Vec Ideal S2x256x512 .f32) (x5 x6 : Vec Ideal S2x256x1024 .f32)
  (x7 : Vec Ideal S1x128 .f32) (x8 : Vec Ideal S1024x1024 .bf16) (x9 : Vec Ideal S2x1x6x1024 .f32) (x10 : Vec Ideal S1x1024 .f32)
  (x11 : Vec Ideal S1x1024x4096 .bf16) (x12 : Vec Ideal S1x4096x1024 .bf16)

/-- The stream after the first residual, per batch of the block. -/
def s0 : FVec Ideal S256x1024 .f32 := res2 (sels (g 1).val (b0 x6) (b0 x5)) (m0 x9) (lo (o (g 1).val x0 x1 x2 x3 x4 x7 x8))
def s1 : FVec Ideal S256x1024 .f32 := res2 (sels (g 1).val (b1 x6) (b1 x5)) (m1 x9) (hi (o (g 1).val x0 x1 x2 x3 x4 x7 x8))

theorem p47 : k0_pay47 g x0 x1 x2 x3 x4 x5 x6 x7 x8 x9 x10 x11 x12 = o (g 1).val x0 x1 x2 x3 x4 x7 x8 := rfl
theorem p27 : k0_pay27 (Scalar.cmpi .sge (BitVec.ofNat 32 (g 1).val) 8#32) (k0_pay39 g x0 x1 x2 x3 x4 x5 x6 x7 x8 x9 x10 x11 x12)
    (k0_pay47 g x0 x1 x2 x3 x4 x5 x6 x7 x8 x9 x10 x11 x12) (k0_pay48 g x0 x1 x2 x3 x4 x5 x6 x7 x8 x9 x10 x11 x12) (View.ld x5 r0_7)
    = s0 g x0 x1 x2 x3 x4 x5 x6 x7 x8 x9 := by
  rw [p47]; rfl
theorem p28 : k0_pay28 (Scalar.cmpi .sge (BitVec.ofNat 32 (g 1).val) 8#32) (k0_pay40 g x0 x1 x2 x3 x4 x5 x6 x7 x8 x9 x10 x11 x12)
    (k0_pay47 g x0 x1 x2 x3 x4 x5 x6 x7 x8 x9 x10 x11 x12) (View.ld x6 r0_8) (View.ld x5 r0_8)
    = s1 g x0 x1 x2 x3 x4 x5 x6 x7 x8 x9 := by
  rw [p47]; rfl
theorem p54 : k0_pay54 g x0 x1 x2 x3 x4 x5 x6 x7 x8 x9 x10 x11 x12
    = a (s0 g x0 x1 x2 x3 x4 x5 x6 x7 x8 x9) (s1 g x0 x1 x2 x3 x4 x5 x6 x7 x8 x9) x9 x10 := by
  show cat (md43 (rn (k0_pay27 (Scalar.cmpi .sge (BitVec.ofNat 32 (g 1).val) 8#32) (k0_pay39 g x0 x1 x2 x3 x4 x5 x6 x7 x8 x9 x10 x11 x12)
      (k0_pay47 g x0 x1 x2 x3 x4 x5 x6 x7 x8 x9 x10 x11 x12) (k0_pay48 g x0 x1 x2 x3 x4 x5 x6 x7 x8 x9 x10 x11 x12) (View.ld x5 r0_7))
      (View.ld x10 r0_9)) (m0 x9))
    (md43 (rn (k0_pay28 (Scalar.cmpi .sge (BitVec.ofNat 32 (g 1).val) 8#32) (k0_pay40 g x0 x1 x2 x3 x4 x5 x6 x7 x8 x9 x10 x11 x12)
      (k0_pay47 g x0 x1 x2 x3 x4 x5 x6 x7 x8 x9 x10 x11 x12) (View.ld x6 r0_8) (View.ld x5 r0_8)) (View.ld x10 r0_9)) (m1 x9)) = _
  rw [p27, p28]; rfl

theorem mlp_eq (V : FVec Ideal S6x1024 .f32) (A : FVec Ideal S256x1024 .f32) (B : FVec Ideal S256x1024 .bf16) (C : FVec Ideal S1x1024 .f32)
    (D : FVec Ideal S256 .f32) (u1 v1 u2 v2 u3 v3 u4 v4 : Vec Ideal S1x1024x1024 .bf16) :
    k0_pay36 (k0_pay32 V A B C D) (k0_pay33 V A B C D u1 v1) (k0_pay34 v2) (k0_pay35 V A B C D u2)
      (constant S512x1024 .f32 0x00000000#32) u3 v3 u4 v4 = mlp (k0_pay32 V A B C D) u1 v1 u2 v2 u3 v3 u4 v4 := rfl

theorem pf : k0_pay36 (k0_pay54 g x0 x1 x2 x3 x4 x5 x6 x7 x8 x9 x10 x11 x12) (k0_pay55 g x0 x1 x2 x3 x4 x5 x6 x7 x8 x9 x10 x11 x12)
    (k0_pay56 g x0 x1 x2 x3 x4 x5 x6 x7 x8 x9 x10 x11 x12) (k0_pay57 g x0 x1 x2 x3 x4 x5 x6 x7 x8 x9 x10 x11 x12)
    (k0_pay53 g x0 x1 x2 x3 x4 x5 x6 x7 x8 x9 x10 x11 x12) (View.ld x11 r0_14) (View.ld x12 r0_15) (View.ld x11 r0_16) (View.ld x12 r0_17)
    = f (s0 g x0 x1 x2 x3 x4 x5 x6 x7 x8 x9) (s1 g x0 x1 x2 x3 x4 x5 x6 x7 x8 x9) x9 x10 x11 x12 := by
  unfold k0_pay55 k0_pay56 k0_pay57 k0_pay53
  have e := p54 g x0 x1 x2 x3 x4 x5 x6 x7 x8 x9 x10 x11 x12
  unfold k0_pay54 at e ⊢
  rw [mlp_eq, e]
  rfl

theorem out_eq : out0_13 g x0 x1 x2 x3 x4 x5 x6 x7 x8 x9 x10 x11 x12
    = View.canon [⟨r0_8, shapeCast S1x256x1024 (t1 (s0 g x0 x1 x2 x3 x4 x5 x6 x7 x8 x9) (s1 g x0 x1 x2 x3 x4 x5 x6 x7 x8 x9) x9 x10 x11 x12)
          shapeCasts_S256x1024_S1x256x1024⟩,
        ⟨r0_7, shapeCast S1x256x1024 (t0 (s0 g x0 x1 x2 x3 x4 x5 x6 x7 x8 x9) (s1 g x0 x1 x2 x3 x4 x5 x6 x7 x8 x9) x9 x10 x11 x12)
          shapeCasts_S256x1024_S1x256x1024⟩] := by
  have e : k0_pay49 g x0 x1 x2 x3 x4 x5 x6 x7 x8 x9 x10 x11 x12 = s1 g x0 x1 x2 x3 x4 x5 x6 x7 x8 x9 :=
    p28 g x0 x1 x2 x3 x4 x5 x6 x7 x8 x9 x10 x11 x12
  unfold out0_13 k0_pay1 k0_pay37 k0_pay38
  rw [pf, p27, e]
  rfl

variable (i : Fin 256) (n : Fin 1024)

theorem s0_apply : s0 g x0 x1 x2 x3 x4 x5 x6 x7 x8 x9 (ix2 i n)
    = mid (fun k => if (g 1).val < 8 then x5 (ix3 0 i k) else x6 (ix3 0 i k)) (orow (g 1).val x0 x1 x2 x3 x4 x7 x8 i 0)
        (fun r k => x9 (ix4 0 0 r k)) n := by
  rw [s0, res2_apply, sels_apply _ (g 1).isLt, b0_apply, b0_apply, m0_apply, lo_o (g 1).val (g 1).isLt]
  rfl
theorem s1_apply : s1 g x0 x1 x2 x3 x4 x5 x6 x7 x8 x9 (ix2 i n)
    = mid (fun k => if (g 1).val < 8 then x5 (ix3 1 i k) else x6 (ix3 1 i k)) (orow (g 1).val x0 x1 x2 x3 x4 x7 x8 i 1)
        (fun r k => x9 (ix4 1 0 r k)) n := by
  rw [s1, res2_apply, sels_apply _ (g 1).isLt, b1_apply, b1_apply, m1_apply, hi_o (g 1).val (g 1).isLt]
  rfl

theorem out_apply (b : Fin 2) : out0_13 g x0 x1 x2 x3 x4 x5 x6 x7 x8 x9 x10 x11 x12 (ix3 b i n)
    = row (fun k => if (g 1).val < 8 then x0 (ix3 b i k) else x1 (ix3 b i k)) (fun k => x2 (ix3 b i k) + x3 (ix3 b i k))
        (fun k => x4 (ix3 b i k)) (fun k => if (g 1).val < 8 then x5 (ix3 b i k) else x6 (ix3 b i k)) (fun e => x7 (ix2 0 e))
        (fun k n => x8 (ix2 k n)) (fun r k => x9 (ix4 b 0 r k)) (fun k => x10 (ix2 0 k)) (fun k f => x11 (ix3 0 k f))
        (fun f n => x12 (ix3 0 f n)) n := by
  rw [out_eq]
  match b with
  | ⟨0, _⟩ =>
    refine (canon_zero i n _ _).trans ((sc_apply i n _).trans ?_)
    rw [t0_apply]
    simp only [s0_apply]
    rfl
  | ⟨1, _⟩ =>
    refine (canon_one i n _ _).trans ((sc_apply i n _).trans ?_)
    rw [t1_apply]
    simp only [s1_apply]
    rfl

end Cert.Merge5

end
-- ==== Proof.Merge5Blk.lean ====
/-
  The first layer's merge: the call's operands as the host code before it leaves them, and its blocks read off them.
-/
module

public import proofs.«01_k».proof.Proof.Merge5
public import proofs.«01_k».proof.Proof.MergeEBlk
public import Idealize.ShloMosaic.Lib.Tactic.CleanTypes

@[expose] public section

set_option maxRecDepth 16384

noncomputable section

namespace Cert.Merge5

open Cert.Kernel5Ideal Cert.Kernel5Ideal.Gen Idealize.ShloMosaic Idealize.ShloMosaic.TcCoe Idealize.SL.Sem
open Idealize.ShloMosaic.Pipeline (Dat)
open Cert.Merge (mkM row128 row1024)
open Cert.Merge3 (mdt mkM_mdt)
open Cert.MergeE (mkA mkC mkO4 mkA_apply mkC_apply mkO4_apply row)

variable (m : (ℓ : Loc nD τ sig) → Buf (Elt Ideal) ℓ)

theorem idx : ∀ t : Fin cfg0.N,
    win0_0.index t = ![(grid0.coords t 0).val, min (grid0.coords t 1).val 7, 0]
    ∧ win0_1.index t = ![(grid0.coords t 0).val, (grid0.coords t 1).val - 8, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, min (grid0.coords t 1).val 7, 0]
    ∧ win0_6.index t = ![(grid0.coords t 0).val, (grid0.coords t 1).val - 8, 0]
    ∧ win0_7.index t = ![0, 0]
    ∧ win0_8.index t = ![0, 0]
    ∧ win0_9.index t = ![(grid0.coords t 0).val, (grid0.coords t 1).val / 8, 0, 0]
    ∧ win0_10.index t = ![0, 0]
    ∧ win0_11.index t = ![0, 0, 0]
    ∧ win0_12.index t = ![0, 0, 0]
    ∧ win0_13.index t = ![(grid0.coords t 0).val, (grid0.coords t 1).val, 0] := by decide +kernel

/-- The arguments of device `c`. -/
abbrev a0 (c : Dev nD) : FVec Ideal S8x8x2048x64 .f32 := m ((c : Thread nD τ).loc main_arg0)
abbrev a1 (c : Dev nD) : FVec Ideal S8x8x256x64 .f32 := m ((c : Thread nD τ).loc main_arg1)
abbrev a2 (c : Dev nD) : FVec Ideal S8x4x2304x128 .f32 := m ((c : Thread nD τ).loc main_arg2)
abbrev a3 (c : Dev nD) : FVec Ideal S8x4x2304x128 .f32 := m ((c : Thread nD τ).loc main_arg3)
abbrev a4 (c : Dev nD) : FVec Ideal S8x2304x512 .f32 := m ((c : Thread nD τ).loc main_arg4)
abbrev a5 (c : Dev nD) : FVec Ideal S8x2048x1024 .f32 := m ((c : Thread nD τ).loc main_arg5)
abbrev a6 (c : Dev nD) : FVec Ideal S8x256x1024 .f32 := m ((c : Thread nD τ).loc main_arg6)
abbrev a7 (c : Dev nD) : FVec Ideal S8x6x1024 .f32 := m ((c : Thread nD τ).loc main_arg7)
abbrev a8 (c : Dev nD) : FVec Ideal S6x1024 .f32 := m ((c : Thread nD τ).loc main_arg8)
abbrev a9 (c : Dev nD) : FVec Ideal S128 .f32 := m ((c : Thread nD τ).loc main_arg9)
abbrev a10 (c : Dev nD) : FVec Ideal S1024x1024 .f32 := m ((c : Thread nD τ).loc main_arg10)
abbrev a11 (c : Dev nD) : FVec Ideal S1024 .f32 := m ((c : Thread nD τ).loc main_arg11)
abbrev a12 (c : Dev nD) : FVec Ideal S4x1024x4096 .f32 := m ((c : Thread nD τ).loc main_arg12)
abbrev a13 (c : Dev nD) : FVec Ideal S4x4096x1024 .f32 := m ((c : Thread nD τ).loc main_arg13)

/-- The call's operands as the host code before it leaves them. -/
theorem op0 (c : Dev nD) : (V m c main_v2 : FVec Ideal S8x2048x512 .bf16) = mkA (a0 m c) := by
  unfold V
  simp only [hostOps0, List.flatten_cons, List.flatten_nil, List.cons_append, List.nil_append, List.append_nil]
  entry_read
  rfl
theorem op1 (c : Dev nD) : (V m c main_v5 : FVec Ideal S8x256x512 .bf16) = mkC (a1 m c) := by
  unfold V
  simp only [hostOps0, List.flatten_cons, List.flatten_nil, List.cons_append, List.nil_append, List.append_nil]
  entry_read
  rfl
theorem op2 (c : Dev nD) : (V m c main_v7 : FVec Ideal S8x2304x512 .f32) = mkO4 (a2 m c) := by
  unfold V
  simp only [hostOps0, List.flatten_cons, List.flatten_nil, List.cons_append, List.nil_append, List.append_nil]
  entry_read
  rfl
theorem op3 (c : Dev nD) : (V m c main_v9 : FVec Ideal S8x2304x512 .f32) = mkO4 (a3 m c) := by
  unfold V
  simp only [hostOps0, List.flatten_cons, List.flatten_nil, List.cons_append, List.nil_append, List.append_nil]
  entry_read
  rfl
theorem op4 (c : Dev nD) : (V m c main_arg4 : FVec Ideal S8x2304x512 .f32) = a4 m c := by
  unfold V
  simp only [hostOps0, List.flatten_cons, List.flatten_nil, List.cons_append, List.nil_append, List.append_nil]
  entry_read
  rfl
theorem op5 (c : Dev nD) : (V m c main_arg5 : FVec Ideal S8x2048x1024 .f32) = a5 m c := by
  unfold V
  simp only [hostOps0, List.flatten_cons, List.flatten_nil, List.cons_append, List.nil_append, List.append_nil]
  entry_read
  rfl
theorem op6 (c : Dev nD) : (V m c main_arg6 : FVec Ideal S8x256x1024 .f32) = a6 m c := by
  unfold V
  simp only [hostOps0, List.flatten_cons, List.flatten_nil, List.cons_append, List.nil_append, List.append_nil]
  entry_read
  rfl
theorem op7 (c : Dev nD) : (V m c main_v14 : FVec Ideal S1x128 .f32) = broadcastInDim S1x128 ![1] bcast_S128_S1x128_1 (a9 m c) := by
  unfold V
  simp only [hostOps0, List.flatten_cons, List.flatten_nil, List.cons_append, List.nil_append, List.append_nil]
  entry_read
  rfl
theorem op8 (c : Dev nD) : (V m c main_v15 : FVec Ideal S1024x1024 .bf16) = truncf .bf16 (a10 m c) bitsLt_bf16_f32 := by
  unfold V
  simp only [hostOps0, List.flatten_cons, List.flatten_nil, List.cons_append, List.nil_append, List.append_nil]
  entry_read
  rfl
theorem op9 (c : Dev nD) : (V m c main_v13 : FVec Ideal S8x2x6x1024 .f32) = mkM (a7 m c) (a8 m c) := by
  unfold V
  simp only [hostOps0, List.flatten_cons, List.flatten_nil, List.cons_append, List.nil_append, List.append_nil]
  entry_read
  rfl
theorem op10 (c : Dev nD) : (V m c main_v16 : FVec Ideal S1x1024 .f32) = broadcastInDim S1x1024 ![1] bcast_S1024_S1x1024_1 (a11 m c) := by
  unfold V
  simp only [hostOps0, List.flatten_cons, List.flatten_nil, List.cons_append, List.nil_append, List.append_nil]
  entry_read
  rfl
theorem op11 (c : Dev nD) : (V m c main_v17 : FVec Ideal S4x1024x4096 .bf16) = truncf .bf16 (a12 m c) bitsLt_bf16_f32 := by
  unfold V
  simp only [hostOps0, List.flatten_cons, List.flatten_nil, List.cons_append, List.nil_append, List.append_nil]
  entry_read
  rfl
theorem op12 (c : Dev nD) : (V m c main_v18 : FVec Ideal S4x4096x1024 .bf16) = truncf .bf16 (a13 m c) bitsLt_bf16_f32 := by
  unfold V
  simp only [hostOps0, List.flatten_cons, List.flatten_nil, List.cons_append, List.nil_append, List.append_nil]
  entry_read
  rfl

theorem lt0 (t : Fin cfg0.N) : (grid0.coords t 0).val < 4 := (grid0.coords t 0).isLt
theorem lt1 (t : Fin cfg0.N) : (grid0.coords t 1).val < 9 := (grid0.coords t 1).isLt

/-- The batch and the token of a block's row, the token among the latents and the token of the context. -/
abbrev bat (t : Fin cfg0.N) (b : Fin 2) : Fin 8 := ⟨2 * (grid0.coords t 0).val + b, by have := lt0 t; omega⟩
abbrev tok (t : Fin cfg0.N) (i : Fin 256) : Fin 2304 := ⟨256 * (grid0.coords t 1).val + i, by have := lt1 t; omega⟩
abbrev tokl (t : Fin cfg0.N) (i : Fin 256) : Fin 2048 := ⟨256 * min (grid0.coords t 1).val 7 + i, by omega⟩
abbrev tokc (t : Fin cfg0.N) (i : Fin 256) : Fin 256 := ⟨256 * ((grid0.coords t 1).val - 8) + i, by have := lt1 t; omega⟩

section blocks

variable (t : Fin cfg0.N) (b : Fin 2) (i : Fin 256)

theorem blk0 (A : FVec Ideal S8x2048x512 .bf16) (k : Fin 512) : ((cfg0.win 0).blk t).view.read (Elt Ideal) A (ix3 b i k : S2x256x512.Idx)
      = A (ix3 (bat t b) (tokl t i) k) := by
  have e := (idx t).1
  blk_ext [e]
theorem blk1 (A : FVec Ideal S8x256x512 .bf16) (k : Fin 512) : ((cfg0.win 1).blk t).view.read (Elt Ideal) A (ix3 b i k : S2x256x512.Idx)
      = A (ix3 (bat t b) (tokc t i) k) := by
  have e := (idx t).2.1
  blk_ext [e]
theorem blk2 (A : FVec Ideal S8x2304x512 .f32) (k : Fin 512) : ((cfg0.win 2).blk t).view.read (Elt Ideal) A (ix3 b i k : S2x256x512.Idx)
      = A (ix3 (bat t b) (tok t i) k) := by
  have e := (idx t).2.2.1
  blk_ext [e]
theorem blk3 (A : FVec Ideal S8x2304x512 .f32) (k : Fin 512) : ((cfg0.win 3).blk t).view.read (Elt Ideal) A (ix3 b i k : S2x256x512.Idx)
      = A (ix3 (bat t b) (tok t i) k) := by
  have e := (idx t).2.2.2.1
  blk_ext [e]
theorem blk4 (A : FVec Ideal S8x2304x512 .f32) (k : Fin 512) : ((cfg0.win 4).blk t).view.read (Elt Ideal) A (ix3 b i k : S2x256x512.Idx)
      = A (ix3 (bat t b) (tok t i) k) := by
  have e := (idx t).2.2.2.2.1
  blk_ext [e]
theorem blk5 (A : FVec Ideal S8x2048x1024 .f32) (k : Fin 1024) : ((cfg0.win 5).blk t).view.read (Elt Ideal) A (ix3 b i k : S2x256x1024.Idx)
      = A (ix3 (bat t b) (tokl t i) k) := by
  have e := (idx t).2.2.2.2.2.1
  blk_ext [e]
theorem blk6 (A : FVec Ideal S8x256x1024 .f32) (k : Fin 1024) : ((cfg0.win 6).blk t).view.read (Elt Ideal) A (ix3 b i k : S2x256x1024.Idx)
      = A (ix3 (bat t b) (tokc t i) k) := by
  have e := (idx t).2.2.2.2.2.2.1
  blk_ext [e]
theorem blk7 (A : FVec Ideal S1x128 .f32) (k : Fin 128) : ((cfg0.win 7).blk t).view.read (Elt Ideal) A (ix2 (0 : Fin 1) k : S1x128.Idx)
      = A (ix2 0 k) := by
  have e := (idx t).2.2.2.2.2.2.2.1
  blk_ext [e]
theorem blk8 (A : FVec Ideal S1024x1024 .bf16) (k n : Fin 1024) : ((cfg0.win 8).blk t).view.read (Elt Ideal) A (ix2 k n : S1024x1024.Idx)
      = A (ix2 k n) := by
  have e := (idx t).2.2.2.2.2.2.2.2.1
  blk_ext [e]
theorem blk9 (A : FVec Ideal S8x2x6x1024 .f32) (r : Fin 6) (k : Fin 1024) : ((cfg0.win 9).blk t).view.read (Elt Ideal) A (ix4 b (0 : Fin 1) r k : S2x1x6x1024.Idx)
      = A (ix4 (bat t b) ⟨(grid0.coords t 1).val / 8, by have := lt1 t; omega⟩ r k) := by
  have e := (idx t).2.2.2.2.2.2.2.2.2.1
  blk_ext [e]
theorem blk10 (A : FVec Ideal S1x1024 .f32) (k : Fin 1024) : ((cfg0.win 10).blk t).view.read (Elt Ideal) A (ix2 (0 : Fin 1) k : S1x1024.Idx)
      = A (ix2 0 k) := by
  have e := (idx t).2.2.2.2.2.2.2.2.2.2.1
  blk_ext [e]
theorem blk11 (A : FVec Ideal S4x1024x4096 .bf16) (k : Fin 1024) (f : Fin 4096) : ((cfg0.win 11).blk t).view.read (Elt Ideal) A (ix3 (0 : Fin 1) k f : S1x1024x4096.Idx)
      = A (ix3 0 k f) := by
  have e := (idx t).2.2.2.2.2.2.2.2.2.2.2.1
  blk_ext [e]
theorem blk12 (A : FVec Ideal S4x4096x1024 .bf16) (k : Fin 1024) (f : Fin 4096) : ((cfg0.win 12).blk t).view.read (Elt Ideal) A (ix3 (0 : Fin 1) f k : S1x4096x1024.Idx)
      = A (ix3 0 f k) := by
  have e := (idx t).2.2.2.2.2.2.2.2.2.2.2.2.1
  blk_ext [e]
theorem blk13 (A : FVec Ideal S8x2304x1024 .f32) (k : Fin 1024) : A (((cfg0.win 13).blk t).view.emb (ix3 b i k : S2x256x1024.Idx))
      = A (ix3 (bat t b) (tok t i) k) := by
  have e := (idx t).2.2.2.2.2.2.2.2.2.2.2.2.2
  blk_ext [e]

end blocks

/-- The blocks of the call's operands. -/
theorem x0_eq (c : Dev nD) (t : Fin cfg0.N) (b : Fin 2) (i : Fin 256) (k : Fin 512) :
    (iblk m c 0 t : Vec Ideal S2x256x512 .bf16) (ix3 b i k) = a0 m c (ix4 (bat t b) ⟨k / 64, by omega⟩ (tokl t i) ⟨k % 64, by omega⟩) := by
  have e : iblk m c 0 t = ((cfg0.win 0).blk t).view.read (Elt Ideal) (V m c main_v2 : FVec Ideal S8x2048x512 .bf16) := by rw [iblk]
  rw [e, blk0, op0, mkA_apply]
theorem x1_eq (c : Dev nD) (t : Fin cfg0.N) (b : Fin 2) (i : Fin 256) (k : Fin 512) :
    (iblk m c 1 t : Vec Ideal S2x256x512 .bf16) (ix3 b i k) = a1 m c (ix4 (bat t b) ⟨k / 64, by omega⟩ (tokc t i) ⟨k % 64, by omega⟩) := by
  have e : iblk m c 1 t = ((cfg0.win 1).blk t).view.read (Elt Ideal) (V m c main_v5 : FVec Ideal S8x256x512 .bf16) := by rw [iblk]
  rw [e, blk1, op1, mkC_apply]
theorem x2_eq (c : Dev nD) (t : Fin cfg0.N) (b : Fin 2) (i : Fin 256) (k : Fin 512) :
    (iblk m c 2 t : Vec Ideal S2x256x512 .f32) (ix3 b i k) = a2 m c (ix4 (bat t b) ⟨k / 128, by omega⟩ (tok t i) ⟨k % 128, by omega⟩) := by
  have e : iblk m c 2 t = ((cfg0.win 2).blk t).view.read (Elt Ideal) (V m c main_v7 : FVec Ideal S8x2304x512 .f32) := by rw [iblk]
  rw [e, blk2, op2, mkO4_apply]
theorem x3_eq (c : Dev nD) (t : Fin cfg0.N) (b : Fin 2) (i : Fin 256) (k : Fin 512) :
    (iblk m c 3 t : Vec Ideal S2x256x512 .f32) (ix3 b i k) = a3 m c (ix4 (bat t b) ⟨k / 128, by omega⟩ (tok t i) ⟨k % 128, by omega⟩) := by
  have e : iblk m c 3 t = ((cfg0.win 3).blk t).view.read (Elt Ideal) (V m c main_v9 : FVec Ideal S8x2304x512 .f32) := by rw [iblk]
  rw [e, blk3, op3, mkO4_apply]
theorem x4_eq (c : Dev nD) (t : Fin cfg0.N) (b : Fin 2) (i : Fin 256) (k : Fin 512) :
    (iblk m c 4 t : Vec Ideal S2x256x512 .f32) (ix3 b i k) = a4 m c (ix3 (bat t b) (tok t i) k) := by
  have e : iblk m c 4 t = ((cfg0.win 4).blk t).view.read (Elt Ideal) (V m c main_arg4 : FVec Ideal S8x2304x512 .f32) := by rw [iblk]
  rw [e, blk4, op4]
theorem x5_eq (c : Dev nD) (t : Fin cfg0.N) (b : Fin 2) (i : Fin 256) (k : Fin 1024) :
    (iblk m c 5 t : Vec Ideal S2x256x1024 .f32) (ix3 b i k) = a5 m c (ix3 (bat t b) (tokl t i) k) := by
  have e : iblk m c 5 t = ((cfg0.win 5).blk t).view.read (Elt Ideal) (V m c main_arg5 : FVec Ideal S8x2048x1024 .f32) := by rw [iblk]
  rw [e, blk5, op5]
theorem x6_eq (c : Dev nD) (t : Fin cfg0.N) (b : Fin 2) (i : Fin 256) (k : Fin 1024) :
    (iblk m c 6 t : Vec Ideal S2x256x1024 .f32) (ix3 b i k) = a6 m c (ix3 (bat t b) (tokc t i) k) := by
  have e : iblk m c 6 t = ((cfg0.win 6).blk t).view.read (Elt Ideal) (V m c main_arg6 : FVec Ideal S8x256x1024 .f32) := by rw [iblk]
  rw [e, blk6, op6]
theorem x7_eq (c : Dev nD) (t : Fin cfg0.N) (k : Fin 128) :
    (iblk m c 7 t : Vec Ideal S1x128 .f32) (ix2 (0 : Fin 1) k) = a9 m c (ix1 k) := by
  have e : iblk m c 7 t = ((cfg0.win 7).blk t).view.read (Elt Ideal) (V m c main_v14 : FVec Ideal S1x128 .f32) := by rw [iblk]
  rw [e, blk7, op7, row128]
theorem x8_eq (c : Dev nD) (t : Fin cfg0.N) (k n : Fin 1024) :
    (iblk m c 8 t : Vec Ideal S1024x1024 .bf16) (ix2 k n) = a10 m c (ix2 k n) := by
  have e : iblk m c 8 t = ((cfg0.win 8).blk t).view.read (Elt Ideal) (V m c main_v15 : FVec Ideal S1024x1024 .bf16) := by rw [iblk]
  rw [e, blk8, op8]; rfl
theorem x9_eq (c : Dev nD) (t : Fin cfg0.N) (b : Fin 2) (r : Fin 6) (k : Fin 1024) :
    (iblk m c 9 t : Vec Ideal S2x1x6x1024 .f32) (ix4 b (0 : Fin 1) r k) = mdt (a7 m c) (a8 m c) (grid0.coords t 1).val (bat t b) r k := by
  have e : iblk m c 9 t = ((cfg0.win 9).blk t).view.read (Elt Ideal) (V m c main_v13 : FVec Ideal S8x2x6x1024 .f32) := by rw [iblk]
  rw [e, blk9, op9]; exact mkM_mdt _ _ _ (lt1 t) _ _ _
theorem x10_eq (c : Dev nD) (t : Fin cfg0.N) (k : Fin 1024) :
    (iblk m c 10 t : Vec Ideal S1x1024 .f32) (ix2 (0 : Fin 1) k) = a11 m c (ix1 k) := by
  have e : iblk m c 10 t = ((cfg0.win 10).blk t).view.read (Elt Ideal) (V m c main_v16 : FVec Ideal S1x1024 .f32) := by rw [iblk]
  rw [e, blk10, op10, row1024]
theorem x11_eq (c : Dev nD) (t : Fin cfg0.N) (k : Fin 1024) (f : Fin 4096) :
    (iblk m c 11 t : Vec Ideal S1x1024x4096 .bf16) (ix3 (0 : Fin 1) k f) = a12 m c (ix3 0 k f) := by
  have e : iblk m c 11 t = ((cfg0.win 11).blk t).view.read (Elt Ideal) (V m c main_v17 : FVec Ideal S4x1024x4096 .bf16) := by rw [iblk]
  rw [e, blk11, op11]; rfl
theorem x12_eq (c : Dev nD) (t : Fin cfg0.N) (k : Fin 1024) (f : Fin 4096) :
    (iblk m c 12 t : Vec Ideal S1x4096x1024 .bf16) (ix3 (0 : Fin 1) f k) = a13 m c (ix3 0 f k) := by
  have e : iblk m c 12 t = ((cfg0.win 12).blk t).view.read (Elt Ideal) (V m c main_v18 : FVec Ideal S4x4096x1024 .bf16) := by rw [iblk]
  rw [e, blk12, op12]; rfl

end Cert.Merge5

end
-- ==== Proof.Merge5Val.lean ====
/-
  The first layer's merge: its result array against the reference's, latent rows and context rows.
-/
module

public import proofs.«01_k».proof.Proof.Merge5Blk
public import proofs.«01_k».proof.Proof.MergeRefE
public import proofs.«01_k».proof.Proof.Gen.Reference5Ideal.Run

@[expose] public section

set_option maxRecDepth 16384

noncomputable section

namespace Cert.MergeRef

open Cert.Reference5Ideal Cert.Reference5Ideal.Gen Idealize.ShloMosaic Idealize.ShloMosaic.TcCoe Idealize.SL.Sem Cert.Merge

/-- The first layer's MLP weights. -/
def W15 (w : FVec Ideal S4x1024x4096 .f32) : FVec Ideal S1024x4096 .f32 :=
  shapeCast S1024x4096 (extractStridedSlice S1x1024x4096 ![0, 0, 0] w slices_S4x1024x4096_S1x1024x4096_0_0_0) shapeCasts_S1x1024x4096_S1024x4096
def W25 (w : FVec Ideal S4x4096x1024 .f32) : FVec Ideal S4096x1024 .f32 :=
  shapeCast S4096x1024 (extractStridedSlice S1x4096x1024 ![0, 0, 0] w slices_S4x4096x1024_S1x4096x1024_0_0_0) shapeCasts_S1x4096x1024_S4096x1024
theorem W15_apply (w : FVec Ideal S4x1024x4096 .f32) (k : Fin 1024) (f : Fin 4096) : W15 w (ix2 k f) = w (ix3 0 k f) := by
  pointwise [W15]
theorem W25_apply (w : FVec Ideal S4x4096x1024 .f32) (k : Fin 1024) (f : Fin 4096) : W25 w (ix2 f k) = w (ix3 0 f k) := by
  pointwise [W25]

/-- The first layer's merge as the reference writes it. -/
def REF5 (p : FVec Ideal S8x8x2048x64 .f32) (q : FVec Ideal S8x8x256x64 .f32) (o1 o2 : FVec Ideal S8x4x2304x128 .f32)
    (g : FVec Ideal S8x2304x512 .f32) (h : FVec Ideal S8x2048x1024 .f32) (hc : FVec Ideal S8x256x1024 .f32) (ml : FVec Ideal S8x6x1024 .f32)
    (mc : FVec Ideal S6x1024 .f32) (on : FVec Ideal S128 .f32) (wo : FVec Ideal S1024x1024 .f32) (n2 : FVec Ideal S1024 .f32)
    (w1 : FVec Ideal S4x1024x4096 .f32) (w2 : FVec Ideal S4x4096x1024 .f32) : FVec Ideal S8x2304x1024 .f32 :=
  CAT (PSW (ADD h ml (YE p o1 o2 g on) wo) ml n2 (W15 w1) (W25 w2))
    (PSC (ADDC hc mc (YCE q o1 o2 g on) wo) mc n2 (W15 w1) (W25 w2))

end Cert.MergeRef

namespace Cert.Merge5

open Cert.Kernel5Ideal Cert.Kernel5Ideal.Gen Idealize.ShloMosaic Idealize.ShloMosaic.TcCoe Idealize.SL.Sem
open Idealize.ShloMosaic.Pipeline (Dat)
open Cert.Merge3 (mdt)
open Cert.MergeE (row row_eq)

variable (m : (ℓ : Loc nD τ sig) → Buf (Elt Ideal) ℓ)

/-- The result of device `c`. -/
def res (c : Dev nD) : FVec Ideal S8x2304x1024 .f32 :=
  Cert.MergeRef.REF5 (a0 m c) (a1 m c) (a2 m c) (a3 m c) (a4 m c) (a5 m c) (a6 m c) (a7 m c) (a8 m c) (a9 m c) (a10 m c) (a11 m c) (a12 m c) (a13 m c)

/-- The row of a token, of its attention row and its stream. -/
def trow (c : Dev nD) (b : Fin 8) (t : Fin 2304) (j : Nat) (A : Fin 512 → EReal) (H : Fin 1024 → EReal) : Fin 1024 → EReal :=
  row A (fun k => a2 m c (ix4 b ⟨k / 128, by omega⟩ t ⟨k % 128, by omega⟩) + a3 m c (ix4 b ⟨k / 128, by omega⟩ t ⟨k % 128, by omega⟩))
    (fun k => a4 m c (ix3 b t k)) H (fun e => a9 m c (ix1 e))
    (fun k n => a10 m c (ix2 k n)) (fun r k => mdt (a7 m c) (a8 m c) j b r k) (fun k => a11 m c (ix1 k))
    (fun k f => a12 m c (ix3 0 k f)) (fun f n => a13 m c (ix3 0 f n))

theorem ref_lat (c : Dev nD) (b : Fin 8) (t : Fin 2048) (n : Fin 1024) (j : Nat) (hj : j < 8) :
    res m c (ix3 b ⟨t, by omega⟩ n) = trow m c b ⟨t, by omega⟩ j
      (fun k => a0 m c (ix4 b ⟨k / 64, by omega⟩ t ⟨k % 64, by omega⟩)) (fun k => a5 m c (ix3 b t k)) n := by
  rw [res, Cert.MergeRef.REF5, Cert.MergeRef.CAT_lat, Cert.MergeRef.PSW_apply]
  simp only [Cert.MergeRef.ADD_apply, Cert.MergeRef.YE_apply, Cert.MergeRef.W15_apply, Cert.MergeRef.W25_apply]
  simp only [trow, mdt, if_pos hj]
  rfl
theorem ref_ctx (c : Dev nD) (b : Fin 8) (t : Fin 256) (n : Fin 1024) (j : Nat) (hj : ¬ j < 8) :
    res m c (ix3 b ⟨2048 + t, by omega⟩ n) = trow m c b ⟨2048 + t, by omega⟩ j
      (fun k => a1 m c (ix4 b ⟨k / 64, by omega⟩ t ⟨k % 64, by omega⟩)) (fun k => a6 m c (ix3 b t k)) n := by
  rw [res, Cert.MergeRef.REF5, Cert.MergeRef.CAT_ctx, Cert.MergeRef.PSC_apply]
  simp only [Cert.MergeRef.ADDC_apply, Cert.MergeRef.YCE_apply, Cert.MergeRef.W15_apply, Cert.MergeRef.W25_apply]
  simp only [trow, mdt, if_neg hj]
  rfl

theorem ref_apply (c : Dev nD) (t : Fin cfg0.N) (b : Fin 2) (i : Fin 256) (n : Fin 1024) :
    res m c (ix3 (bat t b) (tok t i) n) = trow m c (bat t b) (tok t i) (grid0.coords t 1).val
      (fun k => if (grid0.coords t 1).val < 8 then a0 m c (ix4 (bat t b) ⟨k / 64, by omega⟩ (tokl t i) ⟨k % 64, by omega⟩)
        else a1 m c (ix4 (bat t b) ⟨k / 64, by omega⟩ (tokc t i) ⟨k % 64, by omega⟩))
      (fun k => if (grid0.coords t 1).val < 8 then a5 m c (ix3 (bat t b) (tokl t i) k) else a6 m c (ix3 (bat t b) (tokc t i) k)) n := by
  have h9 := lt1 t
  by_cases hj : (grid0.coords t 1).val < 8
  · simp only [if_pos hj]
    have e : tok t i = (⟨tokl t i, by omega⟩ : Fin 2304) := Fin.ext
      (show 256 * (grid0.coords t 1).val + (i : Nat) = 256 * min (grid0.coords t 1).val 7 + i by omega)
    rw [e]
    exact ref_lat m c (bat t b) (tokl t i) n _ hj
  · simp only [if_neg hj]
    have e : tok t i = (⟨2048 + tokc t i, by omega⟩ : Fin 2304) := Fin.ext
      (show 256 * (grid0.coords t 1).val + (i : Nat) = 2048 + (256 * ((grid0.coords t 1).val - 8) + i) by omega)
    rw [e]
    exact ref_ctx m c (bat t b) (tokc t i) n _ hj

/-- The result's array. -/
theorem final (c : Dev nD) : (dats m 0 c).arrAt 13 cfg0.N = res m c := by
  refine (dats m 0 c).arrAt_eq_of_covers 13 _ (by decide +kernel) fun t hf y => ?_
  have key : ∀ (b : Fin 2) (i : Fin 256) (n : Fin 1024),
      out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 b i n)
      = res m c (((cfg0.win 13).blk t).view.emb (ix3 b i n : S2x256x1024.Idx)) := fun b i n => by
    refine Eq.trans ?_ (blk13 t b i (res m c) n).symm
    rw [out_apply, ref_apply, trow]
    refine row_eq n ?_ ?_ ?_ ?_ ?_ ?_ ?_ ?_ ?_ ?_
    · funext k
      exact congrArg₂ (fun x y => if (grid0.coords t 1).val < 8 then x else y) (x0_eq m c t b i k) (x1_eq m c t b i k)
    · funext k; exact congrArg₂ (· + ·) (x2_eq m c t b i k) (x3_eq m c t b i k)
    · funext k; exact x4_eq m c t b i k
    · funext k; exact congrArg₂ (fun x y => if (grid0.coords t 1).val < 8 then x else y) (x5_eq m c t b i k) (x6_eq m c t b i k)
    · funext e; exact x7_eq m c t e
    · funext k n; exact x8_eq m c t k n
    · funext r k; exact x9_eq m c t b r k
    · funext k; exact x10_eq m c t k
    · funext k f; exact x11_eq m c t k f
    · funext f k; exact x12_eq m c t k f
  obtain ⟨b, i, n, rfl⟩ : ∃ (b : Fin 2) (i : Fin 256) (n : Fin 1024), y = (ix3 b i n : S2x256x1024.Idx) := by
    refine ⟨y 0, y 1, y 2, ?_⟩
    funext a
    fin_cases a <;> rfl
  refine Eq.trans ?_ (key b i n)
  rw [cast_eq, after0_13]
  rfl

end Cert.Merge5

end
-- ==== Proof.Merge5Claims.lean ====
/-
  The first layer's merge: its frames, and its value against the reference's.
-/
module

public import proofs.«01_k».proof.Defs
public import proofs.«01_k».proof.Proof.Merge5Val
public import proofs.«01_k».proof.Proof.Gen.Kernel5.Frame

@[expose] public section

set_option maxRecDepth 16384

noncomputable section

namespace Cert.Merge5Claims

open Idealize.ShloMosaic Idealize.ShloMosaic.TcCoe Idealize.SL.Sem

theorem frame : Cert.quiescent_Kernel5 := fun m ρ _ => Cert.Kernel5.Gen.frame m ρ
theorem frameI : Cert.quiescent_Kernel5Ideal := fun m ρ _ => Cert.Kernel5Ideal.Gen.frame m ρ
theorem frameR : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m g m' g' _ hargs
  refine ⟨fun c => Cert.Merge5.res m c, ?_, ?_⟩
  · exact (θ_run Cert.Kernel5Ideal.defs _ _).mono (fun _ h c => ⟨(h c).1.trans (Cert.Merge5.final m c), (h c).2⟩)
      (Cert.Kernel5Ideal.Value.run_blocks (F := Ideal) m g)
  · refine (θ_run Cert.Reference5Ideal.defs _ _).mono (fun _ h c => ⟨(h c).1.trans ?_, (h c).2⟩) (Cert.Reference5Ideal.Value.run (F := Ideal) m' g')
    obtain ⟨e0, e1, e2, e3, e4, e5, e6, e7, e8, e9, e10, e11, e12, e13⟩ := hargs c
    refine Eq.trans (b := Cert.MergeRef.REF5
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3))
        (m' ((c.tc : Thread Cert.Reference5Ideal.nD Cert.Reference5Ideal.τ).loc Cert.Reference5Ideal.main_arg4))
        (m' ((c.tc : Thread Cert.Reference5Ideal.nD Cert.Reference5Ideal.τ).loc Cert.Reference5Ideal.main_arg5))
        (m' ((c.tc : Thread Cert.Reference5Ideal.nD Cert.Reference5Ideal.τ).loc Cert.Reference5Ideal.main_arg6))
        (m' ((c.tc : Thread Cert.Reference5Ideal.nD Cert.Reference5Ideal.τ).loc Cert.Reference5Ideal.main_arg7))
        (m' ((c.tc : Thread Cert.Reference5Ideal.nD Cert.Reference5Ideal.τ).loc Cert.Reference5Ideal.main_arg8))
        (m' ((c.tc : Thread Cert.Reference5Ideal.nD Cert.Reference5Ideal.τ).loc Cert.Reference5Ideal.main_arg9))
        (m' ((c.tc : Thread Cert.Reference5Ideal.nD Cert.Reference5Ideal.τ).loc Cert.Reference5Ideal.main_arg10))
        (m' ((c.tc : Thread Cert.Reference5Ideal.nD Cert.Reference5Ideal.τ).loc Cert.Reference5Ideal.main_arg11))
        (m' ((c.tc : Thread Cert.Reference5Ideal.nD Cert.Reference5Ideal.τ).loc Cert.Reference5Ideal.main_arg12))
        (m' ((c.tc : Thread Cert.Reference5Ideal.nD Cert.Reference5Ideal.τ).loc Cert.Reference5Ideal.main_arg13))) rfl ?_
    rw [e0, e1, e2, e3, e4, e5, e6, e7, e8, e9, e10, e11, e12, e13]
    rfl

end Cert.Merge5Claims

end
-- ==== Proof.OddRow.lean ====
/-
  The odd layers' input projection of one token: functions of its row and of its neighbours' rows (`pre`, `conv`, `unit`),
  and the kernel's sums over indicator matrices as those functions.
-/
module

public import proofs.«01_k».proof.Proof.MergeRow
public import Idealize.ShloMosaic.Lib.Pointwise
public import Idealize.ShloMosaic.Lib.IdealHost

@[expose] public section

noncomputable section

namespace Cert.Odd

open Idealize.ShloMosaic
open Cert.Merge (rms c1024 gate prod)

/-- A token's row, normed, scaled and shifted. -/
def pre (x n1 : Fin 1024 → EReal) (md : Fin 6 → Fin 1024 → EReal) (k : Fin 1024) : EReal :=
  rms c1024 x n1 k * (1 + md 1 k) + md 0 k

/-- The short convolution, gated, of a number and its two neighbours. -/
def conv (w : Fin 3 → EReal) (p x n : EReal) : EReal := gate (w 0 * p + w 1 * x + w 2 * n)

/-- The small constant, and an eighth. -/
abbrev eps : EReal := Ideal.ofBits FTy.f32 897988541#32
abbrev eighth : EReal := Ideal.ofBits FTy.f32 0x3E000000#32

/-- The inverse norm of a head. -/
def inv (s : Fin 512 → EReal) (h : Fin 8) : EReal :=
  Ideal.rsqrt ((∑ d : Fin 64, s ⟨64 * h + d, by omega⟩ * s ⟨64 * h + d, by omega⟩) + eps)

/-- A number's decay and its share. -/
def decay (a t : EReal) : EReal := -Ideal.exp a * (max t 0 + Ideal.log1p (Ideal.exp (-(max t (-t)))))
def share (t : EReal) : EReal := Ideal.div 1 (1 + Ideal.exp (-t))

theorem eps_pos : ∃ e : ℝ, 0 < e ∧ eps = (e : EReal) := by
  refine ⟨_, ?_, by simp [eps, Ideal.ofBits, Ideal.ieee, -EReal.coe_mul]; rfl⟩
  positivity

theorem eighth_eq : eighth = ((1 / 8 : ℝ) : EReal) := by
  simp [eighth, Ideal.ofBits, Ideal.ieee, -EReal.coe_mul]
  norm_num

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- An inverse norm is a real number. -/
theorem rsqrt_real (x : EReal) (h : 0 ≤ x) : ∃ r : ℝ, Ideal.rsqrt (x + eps) = (r : EReal) := by
  obtain ⟨e, he, h0⟩ := eps_pos
  rw [h0]
  induction x using EReal.rec with
  | bot => exact absurd h (by simp)
  | top => exact ⟨0, by rw [EReal.top_add_coe]; rfl⟩
  | coe r =>
    have hr : (0 : ℝ) ≤ r := by exact_mod_cast h
    refine ⟨(Real.sqrt (r + e))⁻¹, ?_⟩
    rw [← EReal.coe_add]
    show (if r + e < 0 then (⊥ : EReal) else if r + e = 0 then ⊤ else (((Real.sqrt (r + e))⁻¹ : ℝ) : EReal)) = _
    rw [if_neg (by linarith), if_neg (by linarith)]

/-- The sum over the columns of a head, by its indicator. -/
theorem hot (f : Fin 512 → EReal) (E : Fin 512 → EReal) (h : Fin 8) (hE : ∀ k, E k = if (k : Nat) / 64 = h then 1 else 0) :
    ∑ k, f k * E k = ∑ d : Fin 64, f ⟨64 * h + d, by omega⟩ := by
  have e1 : ∀ k : Fin 512, f k * E k = if (k : Nat) / 64 = h then f k else 0 := fun k => by
    rw [hE]; split <;> simp
  rw [Finset.sum_congr rfl fun k _ => e1 k, ← Finset.sum_filter]
  refine Finset.sum_nbij' (fun k => (⟨k % 64, by omega⟩ : Fin 64)) (fun d => ⟨64 * h + d, by omega⟩) ?_ ?_ ?_ ?_ ?_
  · intro k _; simp
  · intro d _
    simp only [Finset.mem_filter, Finset.mem_univ, true_and]
    omega
  · intro k hk
    simp only [Finset.mem_filter, Finset.mem_univ, true_and] at hk
    apply Fin.ext
    simp only
    omega
  · intro d _
    apply Fin.ext
    simp only
    omega
  · intro k hk
    simp only [Finset.mem_filter, Finset.mem_univ, true_and] at hk
    refine congrArg f (Fin.ext ?_)
    simp only
    omega

/-- The one entry an indicator keeps of a row. -/
theorem pick (r T : Fin 128 → EReal) (l : Fin 128) (hT : ∀ k, T k = if k = l then 1 else 0) : ∑ k, r k * T k = r l := by
  have e1 : ∀ k, r k * T k = if k = l then r k else 0 := fun k => by
    rw [hT]; split <;> simp
  rw [Finset.sum_congr rfl fun k _ => e1 k]
  simp

/-- The kernel's scaled inverse norms of all heads. -/
def invs (s : Fin 512 → EReal) (E : Fin 512 → Fin 128 → EReal) (rs : Fin 128 → EReal) (l : Fin 128) : EReal :=
  Ideal.rsqrt ((∑ k, s k * s k * E k l) + eps) * rs l

/-- The kernel's normed number: the inverse norm in two parts, spread by an indicator. -/
def spread (s : Fin 512 → EReal) (E : Fin 512 → Fin 128 → EReal) (rs : Fin 128 → EReal) (T : Fin 128 → EReal) (c : Fin 512) : EReal :=
  s c * ((∑ l, invs s E rs l * T l) + ∑ l, (invs s E rs l - invs s E rs l) * T l)

theorem spread_eq (s : Fin 512 → EReal) (E : Fin 512 → Fin 128 → EReal) (rs : Fin 128 → EReal) (T : Fin 128 → EReal) (c : Fin 512)
    (l : Fin 128) (hE : ∀ k, E k l = if (k : Nat) / 64 = c / 64 then 1 else 0) (hT : ∀ k, T k = if k = l then 1 else 0)
    (q : ℝ) (hq : rs l = (q : EReal)) : spread s E rs T c = s c * (inv s ⟨c / 64, by omega⟩ * (q : EReal)) := by
  have e1 : invs s E rs l = inv s ⟨c / 64, by omega⟩ * (q : EReal) := by
    rw [invs, hot (fun k => s k * s k) (fun k => E k l) ⟨c / 64, by omega⟩ hE, hq]
    rfl
  obtain ⟨r, hr⟩ := rsqrt_real (∑ d : Fin 64, s ⟨64 * (c / 64) + d, by omega⟩ * s ⟨64 * (c / 64) + d, by omega⟩)
    (Finset.sum_nonneg fun d _ => sq_nonneg' _)
  have e2 : inv s ⟨c / 64, by omega⟩ = (r : EReal) := hr
  rw [spread, pick (invs s E rs) T l hT, pick (fun l => invs s E rs l - invs s E rs l) T l hT, e1, e2, ← EReal.coe_mul,
    ← EReal.coe_sub, sub_self]
  simp

end Cert.Odd

end
-- ==== Proof.Odd.lean ====
/-
  What the odd layers' projection body leaves in its output blocks, as a composition of small pieces, each read at an index:
  the modulated norm, a tile with its neighbours' rows, a product, the short convolution, the heads' norms, the gates.
-/
module

public import proofs.«01_k».proof.Proof.OddRow
public import proofs.«01_k».proof.Proof.Gen.Kernel6Ideal.Value
public import Idealize.ShloMosaic.Lib.Pipeline.ValueKit
public import Idealize.ShloMosaic.Lib.KernelVsHost

@[expose] public section

set_option maxRecDepth 16384

noncomputable section

namespace Cert.Odd

open Cert.Kernel6Ideal Cert.Kernel6Ideal.Gen Idealize.ShloMosaic Idealize.ShloMosaic.TcCoe Idealize.SL.Sem
open Cert.Merge (rms c1024 gate prod)

/-! ## Pieces -/

/-- The scale and the shift of the modulation. -/
def sc (md : FVec Ideal S6x1024 .f32) : FVec Ideal S1x1024 .f32 :=
  addf (broadcast S1x1024 (Scalar.ofBits .f32 0x3F800000#32)) (extractStridedSlice S1x1024 ![1, 0] md slices_S6x1024_o1_0_S1x1024)
def sh (md : FVec Ideal S6x1024 .f32) : FVec Ideal S1x1024 .f32 :=
  extractStridedSlice S1x1024 ![0, 0] md slices_S6x1024_o0_0_S1x1024

/-- The modulated norm of a tile's rows. -/
def pr (x : FVec Ideal S256x1024 .f32) (w : FVec Ideal S1x1024 .f32) (md : FVec Ideal S6x1024 .f32) : FVec Ideal S256x1024 .bf16 :=
  truncf .bf16 (addf (mulf (mulf (mulf x (broadcastTo S256x1024 (rsqrt (addf (divf
      (shapeCast S256x1 (multiReduction .add [1] S256 (mulf x x) 0x00000000#32 reduces_S256x1024_S256 (.inl rfl) rfl)
        shapeCasts_S256_S256x1) (broadcast S256x1 (Scalar.ofBits .f32 0x44800000#32)))
      (broadcast S256x1 (Scalar.ofBits .f32 0x358637BD#32)))) broadcasts_S256x1_S256x1024))
    (broadcastTo S256x1024 w broadcasts_S1x1024_S256x1024))
    (broadcastTo S256x1024 (sc md) broadcasts_S1x1024_S256x1024))
    (broadcastTo S256x1024 (sh md) broadcasts_S1x1024_S256x1024)) bitsLt_bf16_f32

/-- The modulated norm of eight neighbouring rows. -/
def pr8 (x : FVec Ideal S8x1024 .f32) (w : FVec Ideal S1x1024 .f32) (md : FVec Ideal S6x1024 .f32) : FVec Ideal S8x1024 .bf16 :=
  truncf .bf16 (addf (mulf (mulf (mulf x (broadcastTo S8x1024 (rsqrt (addf (divf
      (shapeCast S8x1 (multiReduction .add [1] S8 (mulf x x) 0x00000000#32 reduces_S8x1024_S8 (.inl rfl) rfl)
        shapeCasts_S8_S8x1) (broadcast S8x1 (Scalar.ofBits .f32 0x44800000#32)))
      (broadcast S8x1 (Scalar.ofBits .f32 0x358637BD#32)))) broadcasts_S8x1_S8x1024))
    (broadcastTo S8x1024 w broadcasts_S1x1024_S8x1024))
    (broadcastTo S8x1024 (sc md) broadcasts_S1x1024_S8x1024))
    (broadcastTo S8x1024 (sh md) broadcasts_S1x1024_S8x1024)) bitsLt_bf16_f32

/-- Whether a tile opens a stream, whether it closes one. -/
def opens (j : Nat) : BitVec 1 := Scalar.ori (Scalar.cmpi .eq (BitVec.ofNat 32 j) 0#32) (Scalar.cmpi .eq (BitVec.ofNat 32 j) 8#32)
def closes (j : Nat) : BitVec 1 := Scalar.ori (Scalar.cmpi .eq (BitVec.ofNat 32 j) 7#32) (Scalar.cmpi .eq (BitVec.ofNat 32 j) 8#32)

/-- No rows. -/
def none8 : FVec Ideal S8x1024 .bf16 := broadcast S8x1024 (Scalar.ofBits .bf16 0x0000#16)

/-- A tile's rows, then the rows after it, then the rows before it. -/
def xe (x : FVec Ideal S256x1024 .bf16) (a : FVec Ideal S8x1024 .bf16) (b : FVec Ideal S8x1024 .bf16) : FVec Ideal S272x1024 .bf16 :=
  concatenate S272x1024 0 [⟨S256x1024, x⟩, ⟨S8x1024, a⟩, ⟨S8x1024, b⟩] concatenates_S256x1024_S8x1024_S8x1024_S272x1024_d0

def mm (x : FVec Ideal S272x1024 .bf16) (w : Vec Ideal S1024x512 .bf16) : FVec Ideal S272x512 .f32 :=
  matmul dot_S272x1024_S1024x512_S272x512_1_0_0_1_n_n none x
    (shapeCast S1024x512 w shapeCasts_S1024x512_S1024x512 : FVec Ideal S1024x512 .bf16) (constant S272x512 .f32 0x00000000#32)

/-- The row before and the row after. -/
def rot (x : FVec Ideal S272x512 .f32) (n : BitVec 32) : FVec Ideal S256x512 .f32 :=
  extractStridedSlice S256x512 ![0, 0] (dynamicRotate 0 n none x rotates_S272x512_d0 : FVec Ideal S272x512 .f32) slices_S272x512_o0_0_S256x512

/-- The short convolution. -/
def cv (x : FVec Ideal S272x512 .f32) (w : FVec Ideal S3x512 .f32) : FVec Ideal S256x512 .f32 :=
  addf (addf (mulf (broadcastTo S256x512 (extractStridedSlice S1x512 ![0, 0] w slices_S3x512_o0_0_S1x512) broadcasts_S1x512_S256x512) (rot x 1#32))
    (mulf (broadcastTo S256x512 (extractStridedSlice S1x512 ![1, 0] w slices_S3x512_o1_0_S1x512) broadcasts_S1x512_S256x512)
      (extractStridedSlice S256x512 ![0, 0] x slices_S272x512_o0_0_S256x512)))
    (mulf (broadcastTo S256x512 (extractStridedSlice S1x512 ![2, 0] w slices_S3x512_o2_0_S1x512) broadcasts_S1x512_S256x512) (rot x 271#32))

/-- The gate. -/
def gt (x : FVec Ideal S256x512 .f32) : FVec Ideal S256x512 .f32 :=
  mulf x (divf (broadcast S256x512 (Scalar.ofBits .f32 0x3F800000#32)) (addf (broadcast S256x512 (Scalar.ofBits .f32 0x3F800000#32))
    (exp (subf (broadcast S256x512 (Scalar.ofBits .f32 0x00000000#32)) x))))

/-- The scaled inverse norms of a tile's heads. -/
def iv (s : FVec Ideal S256x512 .f32) (e : FVec Ideal S512x128 .bf16) (rs : FVec Ideal S1x128 .f32) : FVec Ideal S256x128 .f32 :=
  mulf (rsqrt (addf (matmul dot_S256x512_S512x128_S256x128_1_0_0_1_n_n none (truncf .bf16 (mulf s s) bitsLt_bf16_f32)
      (shapeCast S512x128 e shapeCasts_S512x128_S512x128 : FVec Ideal S512x128 .bf16) (constant S256x128 .f32 0x00000000#32))
      (broadcast S256x128 (Scalar.ofBits .f32 0x358637BD#32))))
    (broadcastTo S256x128 (shapeCast S1x128 rs shapeCasts_S1x128_S1x128 : FVec Ideal S1x128 .f32) broadcasts_S1x128_S256x128)

/-- The heads, normed: the inverse norms spread in two parts. -/
def nm (s : FVec Ideal S256x512 .f32) (r : FVec Ideal S256x128 .f32) (et : FVec Ideal S128x512 .bf16) : FVec Ideal S256x512 .f32 :=
  mulf s (addf (addf (broadcast S256x512 (Scalar.ofBits .f32 0x00000000#32))
      (matmul dot_S256x128_S128x512_S256x512_1_0_0_1_n_n none (truncf .bf16 r bitsLt_bf16_f32)
        (shapeCast S128x512 et shapeCasts_S128x512_S128x512 : FVec Ideal S128x512 .bf16) (constant S256x512 .f32 0x00000000#32)))
    (matmul dot_S256x128_S128x512_S256x512_1_0_0_1_n_n none
      (truncf .bf16 (subf r (extf .f32 (truncf .bf16 r bitsLt_bf16_f32 : FVec Ideal S256x128 .bf16) bitsLt_bf16_f32)) bitsLt_bf16_f32)
      (shapeCast S128x512 et shapeCasts_S128x512_S128x512 : FVec Ideal S128x512 .bf16) (constant S256x512 .f32 0x00000000#32)))

def pg (x : FVec Ideal S256x1024 .bf16) (w : FVec Ideal S1024x1152 .bf16) : FVec Ideal S256x1152 .f32 :=
  matmul dot_S256x1024_S1024x1152_S256x1152_1_0_0_1_n_n none x
    (shapeCast S1024x1152 w shapeCasts_S1024x1152_S1024x1152 : FVec Ideal S1024x1152 .bf16) (constant S256x1152 .f32 0x00000000#32)

/-- The decays, and the shares. -/
def dc (t : FVec Ideal S256x128 .f32) (al : FVec Ideal S1x128 .f32) : FVec Ideal S256x128 .f32 :=
  mulf (broadcastTo S256x128 (subf (broadcast S1x128 (Scalar.ofBits .f32 0x00000000#32)) (exp al)) broadcasts_S1x128_S256x128)
    (addf (maximumf t (broadcast S256x128 (Scalar.ofBits .f32 0x00000000#32)))
      (log1p (exp (subf (broadcast S256x128 (Scalar.ofBits .f32 0x00000000#32)) (absf t)))))
def shr (t : FVec Ideal S256x128 .f32) : FVec Ideal S256x128 .f32 :=
  divf (broadcast S256x128 (Scalar.ofBits .f32 0x3F800000#32)) (addf (broadcast S256x128 (Scalar.ofBits .f32 0x3F800000#32))
    (exp (subf (broadcast S256x128 (Scalar.ofBits .f32 0x00000000#32)) t)))
def gts (t : FVec Ideal S256x128 .f32) (al dt : FVec Ideal S1x128 .f32) : FVec Ideal S256x128 .f32 :=
  select (cmpi .slt (iota .tc S256x128 32 [1] iota_S256x128_d1_w32) (broadcast S256x128 16#32) : IVec S256x128 1)
    (dc (addf t (broadcastTo S256x128 (shapeCast S1x128 dt shapeCasts_S1x128_S1x128 : FVec Ideal S1x128 .f32) broadcasts_S1x128_S256x128))
      (shapeCast S1x128 al shapeCasts_S1x128_S1x128 : FVec Ideal S1x128 .f32)) (shr t)

/-! ## The pieces, read at an index -/

theorem pr_apply (x : FVec Ideal S256x1024 .f32) (w : FVec Ideal S1x1024 .f32) (md : FVec Ideal S6x1024 .f32) (i : Fin 256) (k : Fin 1024) :
    pr x w md (ix2 i k) = pre (fun k => x (ix2 i k)) (fun k => w (ix2 0 k)) (fun r k => md (ix2 r k)) k := by
  pointwise [pr, sc, sh]
  rfl
theorem pr8_apply (x : FVec Ideal S8x1024 .f32) (w : FVec Ideal S1x1024 .f32) (md : FVec Ideal S6x1024 .f32) (i : Fin 8) (k : Fin 1024) :
    pr8 x w md (ix2 i k) = pre (fun k => x (ix2 i k)) (fun k => w (ix2 0 k)) (fun r k => md (ix2 r k)) k := by
  pointwise [pr8, sc, sh]
  rfl

section rows

variable (x : FVec Ideal S256x1024 .bf16) (a b : FVec Ideal S8x1024 .bf16) (k : Fin 1024)

theorem xe_mid (i : Fin 256) : xe x a b (ix2 ⟨i, by omega⟩ k) = x (ix2 i k) := by
  pointwise [xe]
theorem xe_next : xe x a b (ix2 ⟨256, by omega⟩ k) = a (ix2 0 k) := by
  pointwise [xe]
theorem xe_prev : xe x a b (ix2 ⟨271, by omega⟩ k) = b (ix2 7 k) := by
  pointwise [xe]

end rows

theorem mm_apply (x : FVec Ideal S272x1024 .bf16) (w : Vec Ideal S1024x512 .bf16) (i : Fin 272) (c : Fin 512) :
    mm x w (ix2 i c) = prod (fun k => x (ix2 i k)) (fun k n => w (ix2 k n)) c := by
  pointwise [mm, prod]

theorem rot_prev (x : FVec Ideal S272x512 .f32) (i : Fin 256) (c : Fin 512) :
    rot x 1#32 (ix2 i c) = x (ix2 ⟨(i + 271) % 272, Nat.mod_lt _ (by omega)⟩ c) := by
  have e : rot x 1#32 (ix2 i c) = (dynamicRotate 0 1#32 none x rotates_S272x512_d0 : FVec Ideal S272x512 .f32) (ix2 ⟨i, by omega⟩ c) := by
    rw [rot]
    pointwise
  rw [e]
  refine dynamicRotate_apply 0 1#32 x rotates_S272x512_d0 _ _ fun b => ?_
  match b with
  | ⟨0, _⟩ => rfl
  | ⟨1, _⟩ => rfl
theorem rot_next (x : FVec Ideal S272x512 .f32) (i : Fin 256) (c : Fin 512) :
    rot x 271#32 (ix2 i c) = x (ix2 ⟨i + 1, by omega⟩ c) := by
  have e : rot x 271#32 (ix2 i c) = (dynamicRotate 0 271#32 none x rotates_S272x512_d0 : FVec Ideal S272x512 .f32) (ix2 ⟨i, by omega⟩ c) := by
    rw [rot]
    pointwise
  rw [e]
  refine dynamicRotate_apply 0 271#32 x rotates_S272x512_d0 _ _ fun b => ?_
  match b with
  | ⟨0, _⟩ =>
    show (i : Nat) + 1 = (i + 272 - 271 % 272) % 272
    omega
  | ⟨1, _⟩ => rfl

theorem cv_apply (x : FVec Ideal S272x512 .f32) (w : FVec Ideal S3x512 .f32) (i : Fin 256) (c : Fin 512) :
    gt (cv x w) (ix2 i c) = conv (fun r => w (ix2 r c)) (x (ix2 ⟨(i + 271) % 272, Nat.mod_lt _ (by omega)⟩ c))
      (x (ix2 ⟨i, by omega⟩ c)) (x (ix2 ⟨i + 1, by omega⟩ c)) := by
  have e : cv x w (ix2 i c) = w (ix2 0 c) * x (ix2 ⟨(i + 271) % 272, Nat.mod_lt _ (by omega)⟩ c)
      + w (ix2 1 c) * x (ix2 ⟨i, by omega⟩ c) + w (ix2 2 c) * x (ix2 ⟨i + 1, by omega⟩ c) := by
    rw [← rot_prev x i c, ← rot_next x i c]
    pointwise [cv]
  have e1 : ∀ y : FVec Ideal S256x512 .f32, gt y (ix2 i c) = gate (y (ix2 i c)) := fun y => by
    pointwise [gt]
    rw [zero_sub]
    rfl
  rw [e1, e]
  rfl

theorem iv_apply (s : FVec Ideal S256x512 .f32) (e : FVec Ideal S512x128 .bf16) (rs : FVec Ideal S1x128 .f32) (i : Fin 256) (l : Fin 128) :
    iv s e rs (ix2 i l) = invs (fun k => s (ix2 i k)) (fun k l => e (ix2 k l)) (fun l => rs (ix2 0 l)) l := by
  pointwise [iv]
  rfl
theorem nm_apply (s : FVec Ideal S256x512 .f32) (r : FVec Ideal S256x128 .f32) (et : FVec Ideal S128x512 .bf16) (i : Fin 256) (c : Fin 512) :
    nm s r et (ix2 i c) = s (ix2 i c) * ((∑ l : Fin 128, r (ix2 i l) * et (ix2 l c)) + ∑ l : Fin 128, (r (ix2 i l) - r (ix2 i l)) * et (ix2 l c)) := by
  pointwise [nm]
theorem spread_apply (s : FVec Ideal S256x512 .f32) (e : FVec Ideal S512x128 .bf16) (rs : FVec Ideal S1x128 .f32) (et : FVec Ideal S128x512 .bf16)
    (i : Fin 256) (c : Fin 512) : nm s (iv s e rs) et (ix2 i c)
      = spread (fun k => s (ix2 i k)) (fun k l => e (ix2 k l)) (fun l => rs (ix2 0 l)) (fun l => et (ix2 l c)) c := by
  rw [nm_apply]
  simp only [iv_apply]
  rfl

theorem pg_apply (x : FVec Ideal S256x1024 .bf16) (w : FVec Ideal S1024x1152 .bf16) (i : Fin 256) (c : Fin 1152) :
    pg x w (ix2 i c) = prod (fun k => x (ix2 i k)) (fun k n => w (ix2 k n)) c := by
  pointwise [pg, prod]

theorem dc_apply (t : FVec Ideal S256x128 .f32) (al : FVec Ideal S1x128 .f32) (i : Fin 256) (l : Fin 128) :
    dc t al (ix2 i l) = decay (al (ix2 0 l)) (t (ix2 i l)) := by
  pointwise [dc]
  rw [zero_sub, zero_sub]
  rfl
theorem shr_apply (t : FVec Ideal S256x128 .f32) (i : Fin 256) (l : Fin 128) : shr t (ix2 i l) = share (t (ix2 i l)) := by
  pointwise [shr]
  rw [zero_sub]
  rfl
theorem lane : ∀ l : Fin 128, IntOp.cmpi .slt (BitVec.ofNat 32 (l : Nat)) 16#32 = if (l : Nat) < 16 then 1#1 else 0#1 := by
  decide +kernel
theorem gts_apply (t : FVec Ideal S256x128 .f32) (al dt : FVec Ideal S1x128 .f32) (i : Fin 256) (l : Fin 128) :
    gts t al dt (ix2 i l) = if (l : Nat) < 16 then decay (al (ix2 0 l)) (t (ix2 i l) + dt (ix2 0 l)) else share (t (ix2 i l)) := by
  have e : gts t al dt (ix2 i l) = Scalar.select (IntOp.cmpi .slt (BitVec.ofNat 32 (l : Nat)) 16#32)
      (dc (addf t (broadcastTo S256x128 (shapeCast S1x128 dt shapeCasts_S1x128_S1x128 : FVec Ideal S1x128 .f32) broadcasts_S1x128_S256x128))
        (shapeCast S1x128 al shapeCasts_S1x128_S1x128 : FVec Ideal S1x128 .f32) (ix2 i l)) (shr t (ix2 i l)) := by
    rw [gts]
    pointwise
  rw [e, lane, dc_apply, shr_apply]
  split
  · pointwise
  · rfl

end Cert.Odd

end
-- ==== Proof.OddOut.lean ====
/-
  The odd layers' projection body: its five output blocks of its input blocks, each a function of a token's row and of its
  neighbours' rows.
-/
module

public import proofs.«01_k».proof.Proof.Odd

@[expose] public section

set_option maxRecDepth 16384

noncomputable section

namespace Cert.Odd

open Cert.Kernel6Ideal Cert.Kernel6Ideal.Gen Idealize.ShloMosaic Idealize.ShloMosaic.TcCoe Idealize.SL.Sem
open Cert.Merge (rms c1024 gate prod)

/-- The convolved projection of a row with its neighbours. -/
def cvr (W : Fin 1024 → Fin 3200 → EReal) (cw : Fin 3 → Fin 2048 → EReal) (p x n : Fin 1024 → EReal) (c : Fin 2048) : EReal :=
  conv (fun r => cw r c) (prod p W ⟨c, by omega⟩) (prod x W ⟨c, by omega⟩) (prod n W ⟨c, by omega⟩)

variable (co : grid0.Coords) (x0 : Vec Ideal S1x256x1024 .f32) (x1 x2 : Vec Ideal S1x8x1024 .f32) (x3 : Vec Ideal S1x1x6x1024 .f32)
  (x4 : Vec Ideal S1x1024 .f32) (x5 : Vec Ideal S1024x3200 .bf16) (x6 : Vec Ideal S3x2048 .f32) (x7 : Vec Ideal S1024x128 .bf16)
  (x8 : Vec Ideal S128x1024 .bf16) (x9 x10 x11 : Vec Ideal S1x128 .f32)

/-- The blocks' parts. -/
def md0 : FVec Ideal S6x1024 .f32 := shapeCast S6x1024 (View.ld x3 r0_0) shapeCasts_S1x1x6x1024_S6x1024
def n10 : FVec Ideal S1x1024 .f32 := shapeCast S1x1024 (View.ld x4 r0_1) shapeCasts_S1x1024_S1x1024
def xs : FVec Ideal S256x1024 .f32 := shapeCast S256x1024 (View.ld x0 r0_2) shapeCasts_S1x256x1024_S256x1024
def hs (x : Vec Ideal S1x8x1024 .f32) : FVec Ideal S8x1024 .f32 := shapeCast S8x1024 (View.ld x r0_3) shapeCasts_S1x8x1024_S8x1024

/-- The tile's rows and its neighbours'. -/
def mid : FVec Ideal S256x1024 .bf16 := pr (xs x0) (n10 x4) (md0 x3)
def ext : FVec Ideal S272x1024 .bf16 :=
  xe (mid x0 x3 x4) (Scalar.select (closes (co 1).val) none8 (pr8 (hs x2) (n10 x4) (md0 x3)))
    (Scalar.select (opens (co 1).val) none8 (pr8 (hs x1) (n10 x4) (md0 x3)))

theorem p31 : k0_pay31 co x0 x1 x2 x3 x4 x5 x6 x7 x8 x9 x10 x11 = mid x0 x3 x4 := rfl
theorem p32 : k0_pay32 co x0 x1 x2 x3 x4 x5 x6 x7 x8 x9 x10 x11 = ext co x0 x1 x2 x3 x4 := rfl

theorem o12 : out0_12 co x0 x1 x2 x3 x4 x5 x6 x7 x8 x9 x10 x11
    = View.canon [⟨r0_10, shapeCast S1x256x512 (nm (gt (cv (mm (ext co x0 x1 x2 x3 x4) (View.ld x5 r0_4)) (View.ld x6 r0_6)))
        (iv (gt (cv (mm (ext co x0 x1 x2 x3 x4) (View.ld x5 r0_4)) (View.ld x6 r0_6))) (View.ld x7 r0_7) (View.ld x9 r0_8))
        (View.ld x8 r0_9)) shapeCasts_S256x512_S1x256x512⟩] := by
  unfold out0_12
  rw [p32]
  rfl
theorem o13 : out0_13 co x0 x1 x2 x3 x4 x5 x6 x7 x8 x9 x10 x11
    = View.canon [⟨r0_10, shapeCast S1x256x512 (nm (gt (cv (mm (ext co x0 x1 x2 x3 x4) (View.ld x5 r0_5)) (View.ld x6 r0_12)))
        (iv (gt (cv (mm (ext co x0 x1 x2 x3 x4) (View.ld x5 r0_5)) (View.ld x6 r0_12))) (View.ld x7 r0_13) (View.ld x9 r0_8))
        (View.ld x8 r0_14)) shapeCasts_S256x512_S1x256x512⟩] := by
  unfold out0_13 k0_pay33
  rw [p32]
  rfl
theorem o14 : out0_14 co x0 x1 x2 x3 x4 x5 x6 x7 x8 x9 x10 x11
    = View.canon [⟨r0_20, shapeCast S1x256x512 (gt (cv (mm (ext co x0 x1 x2 x3 x4) (View.ld x5 r0_15)) (View.ld x6 r0_19))) shapeCasts_S256x512_S1x256x512⟩,
        ⟨r0_17, shapeCast S1x256x512 (gt (cv (mm (ext co x0 x1 x2 x3 x4) (View.ld x5 r0_11)) (View.ld x6 r0_16))) shapeCasts_S256x512_S1x256x512⟩] := by
  unfold out0_14 k0_pay35 k0_pay34
  rw [p32]
  rfl
theorem o15 : out0_15 co x0 x1 x2 x3 x4 x5 x6 x7 x8 x9 x10 x11
    = View.canon [⟨r0_2, shapeCast S1x256x1024 (extractStridedSlice S256x1024 ![0, 0] (pg (mid x0 x3 x4) (View.ld x5 r0_18))
        slices_S256x1152_o0_0_S256x1024) shapeCasts_S256x1024_S1x256x1024⟩] := by
  unfold out0_15 k0_pay36
  rw [p31]
  rfl
theorem o16 : out0_16 co x0 x1 x2 x3 x4 x5 x6 x7 x8 x9 x10 x11
    = View.canon [⟨r0_21, shapeCast S1x256x128 (gts (extractStridedSlice S256x128 ![0, 1024] (pg (mid x0 x3 x4) (View.ld x5 r0_18))
        slices_S256x1152_o0_1024_S256x128) (View.ld x10 r0_8) (View.ld x11 r0_8)) shapeCasts_S256x128_S1x256x128⟩] := by
  unfold out0_16 k0_pay36
  rw [p31]
  rfl

/-! ## Rows -/

/-- A row of the tile, the row before it and the row after it. -/
def cur (i : Fin 256) : Fin 1024 → EReal :=
  pre (fun k => x0 (ix3 0 i k)) (fun k => x4 (ix2 0 k)) (fun r k => x3 (ix4 0 0 r k))
def bef (i : Fin 256) : Fin 1024 → EReal :=
  if h : (i : Nat) = 0 then
    if (co 1).val = 0 ∨ (co 1).val = 8 then fun _ => 0
    else pre (fun k => x1 (ix3 0 7 k)) (fun k => x4 (ix2 0 k)) (fun r k => x3 (ix4 0 0 r k))
  else cur x0 x3 x4 ⟨i - 1, by omega⟩
def aft (i : Fin 256) : Fin 1024 → EReal :=
  if h : (i : Nat) = 255 then
    if (co 1).val = 7 ∨ (co 1).val = 8 then fun _ => 0
    else pre (fun k => x2 (ix3 0 0 k)) (fun k => x4 (ix2 0 k)) (fun r k => x3 (ix4 0 0 r k))
  else cur x0 x3 x4 ⟨i + 1, by omega⟩

theorem opens_eq : ∀ j : Fin 9, opens j.val = if j.val = 0 ∨ j.val = 8 then 1#1 else 0#1 := by decide +kernel
theorem closes_eq : ∀ j : Fin 9, closes j.val = if j.val = 7 ∨ j.val = 8 then 1#1 else 0#1 := by decide +kernel

theorem md0_apply (r : Fin 6) (k : Fin 1024) : md0 x3 (ix2 r k) = x3 (ix4 0 0 r k) := by pointwise [md0]
theorem n10_apply (k : Fin 1024) : n10 x4 (ix2 0 k) = x4 (ix2 0 k) := by pointwise [n10]
theorem xs_apply (i : Fin 256) (k : Fin 1024) : xs x0 (ix2 i k) = x0 (ix3 0 i k) := by pointwise [xs]
theorem hs_apply (i : Fin 8) (k : Fin 1024) : hs x1 (ix2 i k) = x1 (ix3 0 i k) := by pointwise [hs]

variable (i : Fin 256) (k : Fin 1024)

theorem mid_apply : mid x0 x3 x4 (ix2 i k) = cur x0 x3 x4 i k := by
  rw [mid, pr_apply]
  simp only [md0_apply, n10_apply, xs_apply]
  rfl
theorem halo_apply (r : Fin 8) : pr8 (hs x1) (n10 x4) (md0 x3) (ix2 r k)
    = pre (fun k => x1 (ix3 0 r k)) (fun k => x4 (ix2 0 k)) (fun r k => x3 (ix4 0 0 r k)) k := by
  rw [pr8_apply]
  simp only [md0_apply, n10_apply, hs_apply]
theorem none8_apply (r : Fin 8) : none8 (ix2 r k) = 0 := by pointwise [none8]

theorem ext_cur : ext co x0 x1 x2 x3 x4 (ix2 ⟨i, by omega⟩ k) = cur x0 x3 x4 i k := by
  rw [ext, xe_mid, mid_apply]
theorem ext_bef : ext co x0 x1 x2 x3 x4 (ix2 ⟨(i + 271) % 272, Nat.mod_lt _ (by omega)⟩ k) = bef co x0 x1 x3 x4 i k := by
  rw [bef]
  split
  · next h =>
    have e : (⟨((i : Nat) + 271) % 272, Nat.mod_lt _ (by omega)⟩ : Fin 272) = ⟨271, by omega⟩ := Fin.ext (by simp only; omega)
    rw [e, ext, xe_prev, opens_eq (co 1)]
    split
    · exact none8_apply k 7
    · exact halo_apply x1 x3 x4 k 7
  · next h =>
    have e : (⟨((i : Nat) + 271) % 272, Nat.mod_lt _ (by omega)⟩ : Fin 272) = ⟨((⟨i - 1, by omega⟩ : Fin 256) : Nat), by simp only; omega⟩ :=
      Fin.ext (by simp only; omega)
    rw [e]
    exact ext_cur co x0 x1 x2 x3 x4 ⟨i - 1, by omega⟩ k
theorem ext_aft : ext co x0 x1 x2 x3 x4 (ix2 ⟨i + 1, by omega⟩ k) = aft co x0 x2 x3 x4 i k := by
  rw [aft]
  split
  · next h =>
    have e : (⟨(i : Nat) + 1, by omega⟩ : Fin 272) = ⟨256, by omega⟩ := Fin.ext (by simp only; omega)
    rw [e, ext, xe_next, closes_eq (co 1)]
    split
    · exact none8_apply k 0
    · exact halo_apply x2 x3 x4 k 0
  · next h => exact ext_cur co x0 x1 x2 x3 x4 ⟨i + 1, by omega⟩ k

/-- A token's convolved projection. -/
abbrev tc : Fin 2048 → EReal :=
  cvr (fun k n => x5 (ix2 k n)) (fun r n => x6 (ix2 r n)) (bef co x0 x1 x3 x4 i) (cur x0 x3 x4 i) (aft co x0 x2 x3 x4 i)

variable (c : Fin 512)

theorem conv_col (w : Vec Ideal S1024x512 .bf16) (u : Vec Ideal S3x512 .f32) (o : Fin 2048)
    (hw : ∀ k : Fin 1024, w (ix2 k c) = x5 (ix2 k ⟨o, by omega⟩)) (hu : ∀ r : Fin 3, u (ix2 r c) = x6 (ix2 r o)) :
    gt (cv (mm (ext co x0 x1 x2 x3 x4) w) u) (ix2 i c) = tc co x0 x1 x2 x3 x4 x5 x6 i o := by
  rw [cv_apply, mm_apply, mm_apply, mm_apply]
  simp only [ext_cur, ext_bef, ext_aft, prod, hw, hu]
  rfl

theorem w4 : View.ld x5 r0_4 (ix2 k c : S1024x512.Idx) = x5 (ix2 k ⟨c, by omega⟩) := by pointwise
theorem w5 : View.ld x5 r0_5 (ix2 k c : S1024x512.Idx) = x5 (ix2 k ⟨512 + c, by omega⟩) := by pointwise
theorem w11 : View.ld x5 r0_11 (ix2 k c : S1024x512.Idx) = x5 (ix2 k ⟨1024 + c, by omega⟩) := by pointwise
theorem w15 : View.ld x5 r0_15 (ix2 k c : S1024x512.Idx) = x5 (ix2 k ⟨1536 + c, by omega⟩) := by pointwise
theorem w18 (n : Fin 1152) : View.ld x5 r0_18 (ix2 k n : S1024x1152.Idx) = x5 (ix2 k ⟨2048 + n, by omega⟩) := by pointwise
variable (r : Fin 3) (l : Fin 128)
theorem u6 : View.ld x6 r0_6 (ix2 r c : S3x512.Idx) = x6 (ix2 r ⟨c, by omega⟩) := by pointwise
theorem u12 : View.ld x6 r0_12 (ix2 r c : S3x512.Idx) = x6 (ix2 r ⟨512 + c, by omega⟩) := by pointwise
theorem u16 : View.ld x6 r0_16 (ix2 r c : S3x512.Idx) = x6 (ix2 r ⟨1024 + c, by omega⟩) := by pointwise
theorem u19 : View.ld x6 r0_19 (ix2 r c : S3x512.Idx) = x6 (ix2 r ⟨1536 + c, by omega⟩) := by pointwise
theorem e7 : View.ld x7 r0_7 (ix2 c l : S512x128.Idx) = x7 (ix2 ⟨c, by omega⟩ l) := by pointwise
theorem e13 : View.ld x7 r0_13 (ix2 c l : S512x128.Idx) = x7 (ix2 ⟨512 + c, by omega⟩ l) := by pointwise
theorem t9 : View.ld x8 r0_9 (ix2 l c : S128x512.Idx) = x8 (ix2 l ⟨c, by omega⟩) := by pointwise
theorem t14 : View.ld x8 r0_14 (ix2 l c : S128x512.Idx) = x8 (ix2 l ⟨512 + c, by omega⟩) := by pointwise
theorem s8 : View.ld x9 r0_8 (ix2 (0 : Fin 1) l : S1x128.Idx) = x9 (ix2 0 l) := by pointwise

theorem sc512 (y : FVec Ideal S256x512 .f32) : shapeCast S1x256x512 y shapeCasts_S256x512_S1x256x512 (ix3 0 i c) = y (ix2 i c) := by pointwise
theorem sc1024 (y : FVec Ideal S256x1152 .f32) : shapeCast S1x256x1024 (extractStridedSlice S256x1024 ![0, 0] y
    slices_S256x1152_o0_0_S256x1024) shapeCasts_S256x1024_S1x256x1024 (ix3 0 i k) = y (ix2 i ⟨k, by omega⟩) := by pointwise
theorem sc128 (y : FVec Ideal S256x128 .f32) : shapeCast S1x256x128 y shapeCasts_S256x128_S1x256x128 (ix3 0 i l) = y (ix2 i l) := by pointwise

theorem emb10 : r0_10.emb (ix3 (0 : Fin 1) i c : S1x256x512.Idx) = (ix3 0 i c : S1x256x512.Idx) := by
  funext x; apply Fin.ext
  fin_cases x
  · rfl
  · show 0 + 1 * i.val = i.val; omega
  · show 0 + 1 * c.val = c.val; omega
theorem emb17 : r0_17.emb (ix3 (0 : Fin 1) i c : S1x256x512.Idx) = (ix3 0 i ⟨c, by omega⟩ : S1x256x1024.Idx) := by
  funext x; apply Fin.ext
  fin_cases x
  · rfl
  · show 0 + 1 * i.val = i.val; omega
  · show 0 + 1 * c.val = c.val; omega
theorem emb20 : r0_20.emb (ix3 (0 : Fin 1) i c : S1x256x512.Idx) = (ix3 0 i ⟨512 + c, by omega⟩ : S1x256x1024.Idx) := by
  funext x; apply Fin.ext
  fin_cases x
  · rfl
  · show 0 + 1 * i.val = i.val; omega
  · show 512 + 1 * c.val = 512 + c.val; omega
theorem emb2 : r0_2.emb (ix3 (0 : Fin 1) i k : S1x256x1024.Idx) = (ix3 0 i k : S1x256x1024.Idx) := by
  funext x; apply Fin.ext
  fin_cases x
  · rfl
  · show 0 + 1 * i.val = i.val; omega
  · show 0 + 1 * k.val = k.val; omega
theorem emb21 : r0_21.emb (ix3 (0 : Fin 1) i l : S1x256x128.Idx) = (ix3 0 i l : S1x256x128.Idx) := by
  funext x; apply Fin.ext
  fin_cases x
  · rfl
  · show 0 + 1 * i.val = i.val; omega
  · show 0 + 1 * l.val = l.val; omega
theorem can10 (y : FVec Ideal S1x256x512 .f32) : (View.canon [⟨r0_10, y⟩] : Vec Ideal S1x256x512 .f32) (ix3 0 i c) = y (ix3 0 i c) := by
  exact (congrArg (View.canon [⟨r0_10, y⟩] : Vec Ideal S1x256x512 .f32) (emb10 i c).symm).trans
    (View.canon_cons_emb (Val := Elt Ideal) (e := .f32) r0_10 y [] (ix3 (0 : Fin 1) i c : S1x256x512.Idx))
theorem can2 (y : FVec Ideal S1x256x1024 .f32) : (View.canon [⟨r0_2, y⟩] : Vec Ideal S1x256x1024 .f32) (ix3 0 i k) = y (ix3 0 i k) := by
  exact (congrArg (View.canon [⟨r0_2, y⟩] : Vec Ideal S1x256x1024 .f32) (emb2 i k).symm).trans
    (View.canon_cons_emb (Val := Elt Ideal) (e := .f32) r0_2 y [] (ix3 (0 : Fin 1) i k : S1x256x1024.Idx))
theorem can21 (y : FVec Ideal S1x256x128 .f32) : (View.canon [⟨r0_21, y⟩] : Vec Ideal S1x256x128 .f32) (ix3 0 i l) = y (ix3 0 i l) := by
  exact (congrArg (View.canon [⟨r0_21, y⟩] : Vec Ideal S1x256x128 .f32) (emb21 i l).symm).trans
    (View.canon_cons_emb (Val := Elt Ideal) (e := .f32) r0_21 y [] (ix3 (0 : Fin 1) i l : S1x256x128.Idx))
theorem can_hi (y z : FVec Ideal S1x256x512 .f32) :
    (View.canon [⟨r0_20, y⟩, ⟨r0_17, z⟩] : Vec Ideal S1x256x1024 .f32) (ix3 0 i ⟨512 + c, by omega⟩) = y (ix3 0 i c) := by
  exact (congrArg (View.canon [⟨r0_20, y⟩, ⟨r0_17, z⟩] : Vec Ideal S1x256x1024 .f32) (emb20 i c).symm).trans
    (View.canon_cons_emb (Val := Elt Ideal) (e := .f32) r0_20 y [⟨r0_17, z⟩] (ix3 (0 : Fin 1) i c : S1x256x512.Idx))
theorem can_lo (y z : FVec Ideal S1x256x512 .f32) :
    (View.canon [⟨r0_20, y⟩, ⟨r0_17, z⟩] : Vec Ideal S1x256x1024 .f32) (ix3 0 i ⟨c, by omega⟩) = z (ix3 0 i c) := by
  refine (View.canon_cons_of_not_mem (Val := Elt Ideal) (e := .f32) ⟨r0_20, y⟩ [⟨r0_17, z⟩] (y := (ix3 0 i ⟨c, by omega⟩ : S1x256x1024.Idx)) fun hm => ?_).trans ?_
  · obtain ⟨j, _, he⟩ := (LoadRect.mem_set _).mp hm (2 : Fin 3)
    have he' : (c : Nat) = 512 + 1 * j := he
    omega
  · exact (congrArg (View.canon [⟨r0_17, z⟩] : Vec Ideal S1x256x1024 .f32) (emb17 i c).symm).trans
      (View.canon_cons_emb (Val := Elt Ideal) (e := .f32) r0_17 z [] (ix3 (0 : Fin 1) i c : S1x256x512.Idx))

/-! ## The output blocks -/

theorem spread_congr {s s' : Fin 512 → EReal} {E E' : Fin 512 → Fin 128 → EReal} {rs rs' T T' : Fin 128 → EReal} (c : Fin 512)
    (h0 : s = s') (h1 : ∀ k l, E k l = E' k l) (h2 : ∀ l, rs l = rs' l) (h3 : ∀ l, T l = T' l) :
    spread s E rs T c = spread s' E' rs' T' c := by
  rw [h0, funext fun k => funext (h1 k), funext h2, funext h3]
theorem up_lt (c : Fin 512) : 512 + (c : Nat) < 1024 := by omega

theorem out12_apply : out0_12 co x0 x1 x2 x3 x4 x5 x6 x7 x8 x9 x10 x11 (ix3 0 i c)
    = spread (fun c => tc co x0 x1 x2 x3 x4 x5 x6 i ⟨c, by omega⟩) (fun k l => x7 (ix2 ⟨k, by omega⟩ l)) (fun l => x9 (ix2 0 l))
        (fun l => x8 (ix2 l ⟨c, by omega⟩)) c := by
  have e : ∀ c : Fin 512, gt (cv (mm (ext co x0 x1 x2 x3 x4) (View.ld x5 r0_4)) (View.ld x6 r0_6)) (ix2 i c)
      = tc co x0 x1 x2 x3 x4 x5 x6 i ⟨c, by omega⟩ := fun c =>
    conv_col co x0 x1 x2 x3 x4 x5 x6 i c (View.ld x5 r0_4) (View.ld x6 r0_6) ⟨c, by omega⟩ (fun k => w4 x5 k c) (fun r => u6 x6 c r)
  rw [o12, can10, sc512, spread_apply]
  simp only [e]
  exact spread_congr c rfl (fun k l => e7 x7 k l) (fun l => s8 x9 l) (fun l => t9 x8 c l)
theorem out13_apply : out0_13 co x0 x1 x2 x3 x4 x5 x6 x7 x8 x9 x10 x11 (ix3 0 i c)
    = spread (fun c => tc co x0 x1 x2 x3 x4 x5 x6 i ⟨512 + c, by omega⟩) (fun k l => x7 (ix2 ⟨512 + k, by omega⟩ l)) (fun l => x9 (ix2 0 l))
        (fun l => x8 (ix2 l ⟨512 + c, by omega⟩)) c := by
  have e : ∀ c : Fin 512, gt (cv (mm (ext co x0 x1 x2 x3 x4) (View.ld x5 r0_5)) (View.ld x6 r0_12)) (ix2 i c)
      = tc co x0 x1 x2 x3 x4 x5 x6 i ⟨512 + c, by omega⟩ := fun c =>
    conv_col co x0 x1 x2 x3 x4 x5 x6 i c (View.ld x5 r0_5) (View.ld x6 r0_12) ⟨512 + c, by omega⟩ (fun k => w5 x5 k c) (fun r => u12 x6 c r)
  rw [o13, can10, sc512, spread_apply]
  simp only [e]
  exact spread_congr c rfl (fun k l => e13 x7 k l) (fun l => s8 x9 l) (fun l => t14 x8 c l)
theorem out14_apply (n : Fin 1024) : out0_14 co x0 x1 x2 x3 x4 x5 x6 x7 x8 x9 x10 x11 (ix3 0 i n)
    = tc co x0 x1 x2 x3 x4 x5 x6 i ⟨1024 + n, by omega⟩ := by
  rw [o14]
  by_cases h : (n : Nat) < 512
  · refine (can_lo i ⟨n, h⟩ _ _).trans ((sc512 i ⟨n, h⟩ _).trans ?_)
    exact conv_col co x0 x1 x2 x3 x4 x5 x6 i ⟨n, h⟩ (View.ld x5 r0_11) (View.ld x6 r0_16) ⟨1024 + n, by omega⟩
      (fun k => w11 x5 k ⟨n, h⟩) (fun r => u16 x6 ⟨n, h⟩ r)
  · obtain ⟨c, rfl⟩ : ∃ c : Fin 512, n = ⟨512 + c, up_lt c⟩ := ⟨⟨n - 512, by omega⟩, Fin.ext (by simp only; omega)⟩
    refine (can_hi i c _ _).trans ((sc512 i c _).trans ?_)
    have e : (⟨1024 + (512 + c), by omega⟩ : Fin 2048) = ⟨1536 + c, by omega⟩ := Fin.ext (by simp only; omega)
    rw [e]
    exact conv_col co x0 x1 x2 x3 x4 x5 x6 i c (View.ld x5 r0_15) (View.ld x6 r0_19) ⟨1536 + c, by omega⟩
      (fun k => w15 x5 k c) (fun r => u19 x6 c r)
theorem pg_cur (n : Fin 1152) : pg (mid x0 x3 x4) (View.ld x5 r0_18) (ix2 i n)
    = prod (cur x0 x3 x4 i) (fun k n => x5 (ix2 k n)) ⟨2048 + n, by omega⟩ := by
  rw [pg_apply]
  simp only [mid_apply, prod]
  exact Finset.sum_congr rfl fun k _ => congrArg (cur x0 x3 x4 i k * ·) (w18 x5 k n)
theorem out15_apply : out0_15 co x0 x1 x2 x3 x4 x5 x6 x7 x8 x9 x10 x11 (ix3 0 i k)
    = prod (cur x0 x3 x4 i) (fun k n => x5 (ix2 k n)) ⟨2048 + k, by omega⟩ := by
  rw [o15, can2, sc1024, pg_cur]
/-- A token's gates. -/
def gat (W : Fin 1024 → Fin 3200 → EReal) (al dt : Fin 128 → EReal) (x : Fin 1024 → EReal) (l : Fin 128) : EReal :=
  if (l : Nat) < 16 then decay (al l) (prod x W ⟨3072 + l, by omega⟩ + dt l) else share (prod x W ⟨3072 + l, by omega⟩)
theorem out16_apply : out0_16 co x0 x1 x2 x3 x4 x5 x6 x7 x8 x9 x10 x11 (ix3 0 i l)
    = gat (fun k n => x5 (ix2 k n)) (fun l => x10 (ix2 0 l)) (fun l => x11 (ix2 0 l)) (cur x0 x3 x4 i) l := by
  have e : (extractStridedSlice S256x128 ![0, 1024] (pg (mid x0 x3 x4) (View.ld x5 r0_18)) slices_S256x1152_o0_1024_S256x128) (ix2 i l)
      = pg (mid x0 x3 x4) (View.ld x5 r0_18) (ix2 i ⟨1024 + l, by omega⟩) := by
    generalize pg (mid x0 x3 x4) (View.ld x5 r0_18) = y
    pointwise
  have e' : (⟨2048 + (1024 + l), by omega⟩ : Fin 3200) = ⟨3072 + l, by omega⟩ := Fin.ext (by simp only; omega)
  rw [o16, can21, sc128, gts_apply, e, pg_cur, gat, e']
  exact congrArg₂ (fun a d => if (l : Nat) < 16 then decay a (_ + d) else _) (s8 x10 l) (s8 x11 l)

end Cert.Odd

end
-- ==== Proof.OddBlk.lean ====
/-
  The odd layers' projection: the call's operands as the host code before it leaves them, and its blocks read off them.
-/
module

public import proofs.«01_k».proof.Proof.OddOut
public import proofs.«01_k».proof.Proof.Merge3Blk
public import Idealize.ShloMosaic.Lib.Tactic.CleanTypes

@[expose] public section

set_option maxRecDepth 16384

noncomputable section

namespace Cert.Odd

open Cert.Kernel6Ideal Cert.Kernel6Ideal.Gen Idealize.ShloMosaic Idealize.ShloMosaic.TcCoe Idealize.SL.Sem
open Idealize.ShloMosaic.Pipeline (Dat)
open Cert.Merge (mkM row1024 row128)
open Cert.Merge3 (mdt mkM_mdt)

/-! ## Operands -/

/-- The projection's weights with zero columns. -/
def mkW (w : FVec Ideal S1024x3104 .f32) : FVec Ideal S1024x3200 .bf16 :=
  truncf .bf16 (concatenate S1024x3200 1 [⟨S1024x3104, w⟩,
    ⟨S1024x96, broadcastInDim S1024x96 ![] bcast_S_S1024x96 (constant S_ .f32 0x00000000#32 : FVec Ideal S_ .f32)⟩]
    concatenates_S1024x3104_S1024x96_S1024x3200_d1) bitsLt_bf16_f32

/-- The head of a column. -/
def cols : IVec S1024x1 32 := broadcastInDim S1024x1 ![0] bcast_S1024_S1024x1_0 (iotaInDim S1024 32 0)
def fill (x : IVec S_ 32) : IVec S1024x1 32 := broadcastInDim S1024x1 ![] bcast_S_S1024x1 x
def heads : IVec S1024x1 32 :=
  select (andi (cmpi .ne (signi cols) (fill (signi (constantI S_ 32 64#32)))) (cmpi .ne (Host.remsi cols (fill (constantI S_ 32 64#32))) (fill (constantI S_ 32 0#32))))
    (subi (Host.divsi cols (fill (constantI S_ 32 64#32))) (fill (constantI S_ 32 1#32))) (Host.divsi cols (fill (constantI S_ 32 64#32)))

/-- The indicator of a column's head, and its transpose. -/
def mkE : FVec Ideal S1024x128 .bf16 :=
  uitofp .bf16 (cmpi .eq (broadcastInDim S1024x128 ![0, 1] bcast_S1024x1_S1024x128_0_1 heads)
    (broadcastInDim S1024x128 ![0, 1] bcast_S1x128_S1024x128_0_1 (broadcastInDim S1x128 ![1] bcast_S128_S1x128_1 (iotaInDim S128 32 0))))
def mkT : FVec Ideal S128x1024 .bf16 := transpose S128x1024 [1, 0] mkE transposes_S1024x128_S128x1024_1_0

/-- The heads' scales. -/
def mkS : FVec Ideal S1x128 .f32 :=
  broadcastInDim S1x128 ![1] bcast_S128_S1x128_1 (concatenate S128 0
    [⟨S8, broadcastInDim S8 ![] bcast_S_S8 (constant S_ .f32 0x3E000000#32 : FVec Ideal S_ .f32)⟩,
     ⟨S120, broadcastInDim S120 ![] bcast_S_S120 (constant S_ .f32 0x3F800000#32 : FVec Ideal S_ .f32)⟩] concatenates_S8_S120_S128_d0)

/-- A direction's and a head's numbers, side by side with zeros. -/
def mkR (x : FVec Ideal S2x8 .f32) : FVec Ideal S1x128 .f32 :=
  broadcastInDim S1x128 ![1] bcast_S128_S1x128_1 (concatenate S128 0
    [⟨S16, shapeCast S16 x shapeCasts_S2x8_S16⟩,
     ⟨S112, broadcastInDim S112 ![] bcast_S_S112 (constant S_ .f32 0x00000000#32 : FVec Ideal S_ .f32)⟩] concatenates_S16_S112_S128_d0)

variable (m : (ℓ : Loc nD τ sig) → Buf (Elt Ideal) ℓ)

/-- The arguments of device `c`. -/
abbrev a0 (c : Dev nD) : FVec Ideal S8x2304x1024 .f32 := m ((c : Thread nD τ).loc main_arg0)
abbrev a1 (c : Dev nD) : FVec Ideal S8x6x1024 .f32 := m ((c : Thread nD τ).loc main_arg1)
abbrev a2 (c : Dev nD) : FVec Ideal S6x1024 .f32 := m ((c : Thread nD τ).loc main_arg2)
abbrev a3 (c : Dev nD) : FVec Ideal S1024 .f32 := m ((c : Thread nD τ).loc main_arg3)
abbrev a4 (c : Dev nD) : FVec Ideal S1024x3104 .f32 := m ((c : Thread nD τ).loc main_arg4)
abbrev a5 (c : Dev nD) : FVec Ideal S3x2048 .f32 := m ((c : Thread nD τ).loc main_arg5)
abbrev a6 (c : Dev nD) : FVec Ideal S2x8 .f32 := m ((c : Thread nD τ).loc main_arg6)
abbrev a7 (c : Dev nD) : FVec Ideal S2x8 .f32 := m ((c : Thread nD τ).loc main_arg7)

theorem op0 (c : Dev nD) : (V m c main_arg0 : FVec Ideal S8x2304x1024 .f32) = a0 m c := by
  unfold V
  simp only [hostOps0, hostOps0_1, hostOps0_2, List.flatten_cons, List.flatten_nil, List.cons_append, List.nil_append, List.append_nil]
  entry_read
  rfl
theorem op3 (c : Dev nD) : (V m c main_v3 : FVec Ideal S8x2x6x1024 .f32) = mkM (a1 m c) (a2 m c) := by
  unfold V
  simp only [hostOps0, hostOps0_1, hostOps0_2, List.flatten_cons, List.flatten_nil, List.cons_append, List.nil_append, List.append_nil]
  entry_read
  rfl
theorem op4 (c : Dev nD) : (V m c main_v4 : FVec Ideal S1x1024 .f32) = broadcastInDim S1x1024 ![1] bcast_S1024_S1x1024_1 (a3 m c) := by
  unfold V
  simp only [hostOps0, hostOps0_1, hostOps0_2, List.flatten_cons, List.flatten_nil, List.cons_append, List.nil_append, List.append_nil]
  entry_read
  rfl
theorem op5 (c : Dev nD) : (V m c main_v7 : FVec Ideal S1024x3200 .bf16) = mkW (a4 m c) := by
  unfold V
  simp only [hostOps0, hostOps0_1, hostOps0_2, List.flatten_cons, List.flatten_nil, List.cons_append, List.nil_append, List.append_nil]
  entry_read
  rfl
theorem op6 (c : Dev nD) : (V m c main_arg5 : FVec Ideal S3x2048 .f32) = a5 m c := by
  unfold V
  simp only [hostOps0, hostOps0_1, hostOps0_2, List.flatten_cons, List.flatten_nil, List.cons_append, List.nil_append, List.append_nil]
  entry_read
  rfl
theorem op7 (c : Dev nD) : (V m c main_v16 : FVec Ideal S1024x128 .bf16) = mkE := by
  unfold V
  simp only [hostOps0, hostOps0_1, hostOps0_2, List.flatten_cons, List.flatten_nil, List.cons_append, List.nil_append, List.append_nil]
  entry_read
  rfl
theorem op8 (c : Dev nD) : (V m c main_v17 : FVec Ideal S128x1024 .bf16) = mkT := by
  unfold V
  simp only [hostOps0, hostOps0_1, hostOps0_2, List.flatten_cons, List.flatten_nil, List.cons_append, List.nil_append, List.append_nil]
  entry_read
  rfl
theorem op9 (c : Dev nD) : (V m c main_v21 : FVec Ideal S1x128 .f32) = mkS := by
  unfold V
  simp only [hostOps0, hostOps0_1, hostOps0_2, List.flatten_cons, List.flatten_nil, List.cons_append, List.nil_append, List.append_nil]
  entry_read
  rfl
theorem op10 (c : Dev nD) : (V m c main_v25 : FVec Ideal S1x128 .f32) = mkR (a6 m c) := by
  unfold V
  simp only [hostOps0, hostOps0_1, hostOps0_2, List.flatten_cons, List.flatten_nil, List.cons_append, List.nil_append, List.append_nil]
  entry_read
  rfl
theorem op11 (c : Dev nD) : (V m c main_v29 : FVec Ideal S1x128 .f32) = mkR (a7 m c) := by
  unfold V
  simp only [hostOps0, hostOps0_1, hostOps0_2, List.flatten_cons, List.flatten_nil, List.cons_append, List.nil_append, List.append_nil]
  entry_read
  rfl

/-! ## The operands, read at an index -/

/-- The projection's weights with zeros after the last column. -/
def padW (w : Fin 1024 → Fin 3104 → EReal) (k : Fin 1024) (n : Fin 3200) : EReal := if h : (n : Nat) < 3104 then w k ⟨n, h⟩ else 0

theorem mkW_apply (w : FVec Ideal S1024x3104 .f32) (k : Fin 1024) (n : Fin 3200) : mkW w (ix2 k n) = padW (fun k n => w (ix2 k n)) k n := by
  pointwise [mkW, padW]
theorem heads_bits : ∀ k : Fin 1024, Scalar.select (IntOp.andi (IntOp.cmpi .ne (if BitVec.ofNat 32 (k : Nat) = 0 then 0 else if (BitVec.ofNat 32 (k : Nat)).msb then -1 else 1 : BitVec 32)
    (if (64#32 : BitVec 32) = 0 then 0 else if (64#32 : BitVec 32).msb then -1 else 1 : BitVec 32))
    (IntOp.cmpi .ne (IntOp.remsi .host (BitVec.ofNat 32 (k : Nat)) 64#32) 0#32))
    (IntOp.subi (IntOp.divsi .host (BitVec.ofNat 32 (k : Nat)) 64#32) 1#32) (IntOp.divsi .host (BitVec.ofNat 32 (k : Nat)) 64#32)
    = BitVec.ofNat 32 ((k : Nat) / 64) := by decide +kernel
theorem heads_apply (k : Fin 1024) : heads (ix2 k 0) = BitVec.ofNat 32 ((k : Nat) / 64) := by
  refine Eq.trans ?_ (heads_bits k)
  pointwise [heads, cols, fill]
theorem eq_bits : ∀ (a : Fin 16) (l : Fin 128), IntOp.cmpi .eq (BitVec.ofNat 32 (a : Nat)) (BitVec.ofNat 32 (l : Nat))
    = if (a : Nat) = l then 1#1 else 0#1 := by decide +kernel
theorem mkE_apply (k : Fin 1024) (l : Fin 128) : mkE (ix2 k l) = if (k : Nat) / 64 = l then 1 else 0 := by
  have e : mkE (ix2 k l) = FloatOps.uitofp (F := Ideal) .bf16 (IntOp.cmpi .eq (heads (ix2 k 0)) (BitVec.ofNat 32 (l : Nat))) := by
    rw [mkE]
    generalize heads = h
    pointwise
  rw [e, heads_apply, eq_bits ⟨k / 64, by omega⟩ l]
  split
  · show (((1#1 : BitVec 1).toNat : ℝ) : EReal) = 1
    simp
  · show (((0#1 : BitVec 1).toNat : ℝ) : EReal) = 0
    simp
theorem mkT_apply (k : Fin 1024) (l : Fin 128) : mkT (ix2 l k) = if (k : Nat) / 64 = l then 1 else 0 := by
  rw [← mkE_apply, mkT]
  generalize mkE = h
  pointwise
theorem mkS_apply (l : Fin 128) : mkS (ix2 0 l) = if (l : Nat) < 8 then eighth else 1 := by
  pointwise [mkS]
  split <;> rfl
theorem mkR_apply (x : FVec Ideal S2x8 .f32) (l : Fin 128) : mkR x (ix2 0 l)
    = if h : (l : Nat) < 16 then x (ix2 ⟨l / 8, by omega⟩ ⟨l % 8, by omega⟩) else 0 := by
  pointwise [mkR]

/-! ## Blocks -/

theorem idx : ∀ t : Fin cfg0.N,
    win0_0.index t = ![(grid0.coords t 0).val, (grid0.coords t 1).val, 0]
    ∧ win0_1.index t = ![(grid0.coords t 0).val, 32 * (grid0.coords t 1).val - 1, 0]
    ∧ win0_2.index t = ![(grid0.coords t 0).val, min (32 * (grid0.coords t 1).val + 32) 287, 0]
    ∧ win0_3.index t = ![(grid0.coords t 0).val, (grid0.coords t 1).val / 8, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0] := by decide +kernel

theorem lt0 (t : Fin cfg0.N) : (grid0.coords t 0).val < 8 := (grid0.coords t 0).isLt
theorem lt1 (t : Fin cfg0.N) : (grid0.coords t 1).val < 9 := (grid0.coords t 1).isLt

/-- The batch and the token of a block's row. -/
abbrev bat (t : Fin cfg0.N) : Fin 8 := ⟨(grid0.coords t 0).val, lt0 t⟩
abbrev tok (t : Fin cfg0.N) (i : Fin 256) : Fin 2304 := ⟨256 * (grid0.coords t 1).val + i, by have := lt1 t; omega⟩

section blocks

variable (t : Fin cfg0.N) (i : Fin 256) (k : Fin 1024) (r : Fin 8)

theorem blk0 (A : FVec Ideal S8x2304x1024 .f32) : ((cfg0.win 0).blk t).view.read (Elt Ideal) A (ix3 (0 : Fin 1) i k : S1x256x1024.Idx)
      = A (ix3 (bat t) (tok t i) k) := by
  have e := (idx t).1
  blk_ext [e]
theorem blk1 (A : FVec Ideal S8x2304x1024 .f32) : ((cfg0.win 1).blk t).view.read (Elt Ideal) A (ix3 (0 : Fin 1) r k : S1x8x1024.Idx)
      = A (ix3 (bat t) ⟨8 * (32 * (grid0.coords t 1).val - 1) + r, by have := lt1 t; omega⟩ k) := by
  have e := (idx t).2.1
  blk_ext [e]
theorem blk2 (A : FVec Ideal S8x2304x1024 .f32) : ((cfg0.win 2).blk t).view.read (Elt Ideal) A (ix3 (0 : Fin 1) r k : S1x8x1024.Idx)
      = A (ix3 (bat t) ⟨8 * min (32 * (grid0.coords t 1).val + 32) 287 + r, by have := lt1 t; omega⟩ k) := by
  have e := (idx t).2.2.1
  blk_ext [e]
theorem blk3 (A : FVec Ideal S8x2x6x1024 .f32) (r : Fin 6) : ((cfg0.win 3).blk t).view.read (Elt Ideal) A (ix4 (0 : Fin 1) (0 : Fin 1) r k : S1x1x6x1024.Idx)
      = A (ix4 (bat t) ⟨(grid0.coords t 1).val / 8, by have := lt1 t; omega⟩ r k) := by
  have e := (idx t).2.2.2.1
  blk_ext [e]
theorem blk4 (A : FVec Ideal S1x1024 .f32) : ((cfg0.win 4).blk t).view.read (Elt Ideal) A (ix2 (0 : Fin 1) k : S1x1024.Idx) = A (ix2 0 k) := by
  have e := (idx t).2.2.2.2.1
  blk_ext [e]
theorem blk5 (A : FVec Ideal S1024x3200 .bf16) (n : Fin 3200) : ((cfg0.win 5).blk t).view.read (Elt Ideal) A (ix2 k n : S1024x3200.Idx) = A (ix2 k n) := by
  have e := (idx t).2.2.2.2.2.1
  blk_ext [e]
theorem blk6 (A : FVec Ideal S3x2048 .f32) (r : Fin 3) (n : Fin 2048) : ((cfg0.win 6).blk t).view.read (Elt Ideal) A (ix2 r n : S3x2048.Idx) = A (ix2 r n) := by
  have e := (idx t).2.2.2.2.2.2.1
  blk_ext [e]
variable (l : Fin 128)
theorem blk7 (A : FVec Ideal S1024x128 .bf16) : ((cfg0.win 7).blk t).view.read (Elt Ideal) A (ix2 k l : S1024x128.Idx) = A (ix2 k l) := by
  have e := (idx t).2.2.2.2.2.2.2.1
  blk_ext [e]
theorem blk8 (A : FVec Ideal S128x1024 .bf16) : ((cfg0.win 8).blk t).view.read (Elt Ideal) A (ix2 l k : S128x1024.Idx) = A (ix2 l k) := by
  have e := (idx t).2.2.2.2.2.2.2.2.1
  blk_ext [e]
theorem blk9 (A : FVec Ideal S1x128 .f32) : ((cfg0.win 9).blk t).view.read (Elt Ideal) A (ix2 (0 : Fin 1) l : S1x128.Idx) = A (ix2 0 l) := by
  have e := (idx t).2.2.2.2.2.2.2.2.2.1
  blk_ext [e]
theorem blk10 (A : FVec Ideal S1x128 .f32) : ((cfg0.win 10).blk t).view.read (Elt Ideal) A (ix2 (0 : Fin 1) l : S1x128.Idx) = A (ix2 0 l) := by
  have e := (idx t).2.2.2.2.2.2.2.2.2.2.1
  blk_ext [e]
theorem blk11 (A : FVec Ideal S1x128 .f32) : ((cfg0.win 11).blk t).view.read (Elt Ideal) A (ix2 (0 : Fin 1) l : S1x128.Idx) = A (ix2 0 l) := by
  have e := (idx t).2.2.2.2.2.2.2.2.2.2.2.1
  blk_ext [e]
variable (c : Fin 512)
theorem blk12 (A : FVec Ideal S8x2304x512 .f32) : A (((cfg0.win 12).blk t).view.emb (ix3 (0 : Fin 1) i c : S1x256x512.Idx)) = A (ix3 (bat t) (tok t i) c) := by
  have e := (idx t).2.2.2.2.2.2.2.2.2.2.2.2.1
  blk_ext [e]
theorem blk13 (A : FVec Ideal S8x2304x512 .f32) : A (((cfg0.win 13).blk t).view.emb (ix3 (0 : Fin 1) i c : S1x256x512.Idx)) = A (ix3 (bat t) (tok t i) c) := by
  have e := (idx t).2.2.2.2.2.2.2.2.2.2.2.2.2.1
  blk_ext [e]
theorem blk14 (A : FVec Ideal S8x2304x1024 .f32) : A (((cfg0.win 14).blk t).view.emb (ix3 (0 : Fin 1) i k : S1x256x1024.Idx)) = A (ix3 (bat t) (tok t i) k) := by
  have e := (idx t).2.2.2.2.2.2.2.2.2.2.2.2.2.2.1
  blk_ext [e]
theorem blk15 (A : FVec Ideal S8x2304x1024 .f32) : A (((cfg0.win 15).blk t).view.emb (ix3 (0 : Fin 1) i k : S1x256x1024.Idx)) = A (ix3 (bat t) (tok t i) k) := by
  have e := (idx t).2.2.2.2.2.2.2.2.2.2.2.2.2.2.2.1
  blk_ext [e]
theorem blk16 (A : FVec Ideal S8x2304x128 .f32) : A (((cfg0.win 16).blk t).view.emb (ix3 (0 : Fin 1) i l : S1x256x128.Idx)) = A (ix3 (bat t) (tok t i) l) := by
  have e := (idx t).2.2.2.2.2.2.2.2.2.2.2.2.2.2.2.2
  blk_ext [e]

end blocks

/-- The blocks of the call's operands. -/
theorem x0_eq (c : Dev nD) (t : Fin cfg0.N) (i : Fin 256) (k : Fin 1024) :
    (iblk m c 0 t : Vec Ideal S1x256x1024 .f32) (ix3 0 i k) = a0 m c (ix3 (bat t) (tok t i) k) := by
  have e : iblk m c 0 t = ((cfg0.win 0).blk t).view.read (Elt Ideal) (V m c main_arg0 : FVec Ideal S8x2304x1024 .f32) := by rw [iblk]
  rw [e, blk0, op0]
theorem x1_eq (c : Dev nD) (t : Fin cfg0.N) (r : Fin 8) (k : Fin 1024) :
    (iblk m c 1 t : Vec Ideal S1x8x1024 .f32) (ix3 0 r k) = a0 m c (ix3 (bat t) ⟨8 * (32 * (grid0.coords t 1).val - 1) + r, by have := lt1 t; omega⟩ k) := by
  have e : iblk m c 1 t = ((cfg0.win 1).blk t).view.read (Elt Ideal) (V m c main_arg0 : FVec Ideal S8x2304x1024 .f32) := by rw [iblk]
  rw [e, blk1, op0]
theorem x2_eq (c : Dev nD) (t : Fin cfg0.N) (r : Fin 8) (k : Fin 1024) :
    (iblk m c 2 t : Vec Ideal S1x8x1024 .f32) (ix3 0 r k) = a0 m c (ix3 (bat t) ⟨8 * min (32 * (grid0.coords t 1).val + 32) 287 + r, by have := lt1 t; omega⟩ k) := by
  have e : iblk m c 2 t = ((cfg0.win 2).blk t).view.read (Elt Ideal) (V m c main_arg0 : FVec Ideal S8x2304x1024 .f32) := by rw [iblk]
  rw [e, blk2, op0]
theorem x3_eq (c : Dev nD) (t : Fin cfg0.N) (r : Fin 6) (k : Fin 1024) :
    (iblk m c 3 t : Vec Ideal S1x1x6x1024 .f32) (ix4 0 0 r k) = mdt (a1 m c) (a2 m c) (grid0.coords t 1).val (bat t) r k := by
  have e : iblk m c 3 t = ((cfg0.win 3).blk t).view.read (Elt Ideal) (V m c main_v3 : FVec Ideal S8x2x6x1024 .f32) := by rw [iblk]
  rw [e, blk3, op3]; exact mkM_mdt _ _ _ (lt1 t) _ _ _
theorem x4_eq (c : Dev nD) (t : Fin cfg0.N) (k : Fin 1024) : (iblk m c 4 t : Vec Ideal S1x1024 .f32) (ix2 0 k) = a3 m c (ix1 k) := by
  have e : iblk m c 4 t = ((cfg0.win 4).blk t).view.read (Elt Ideal) (V m c main_v4 : FVec Ideal S1x1024 .f32) := by rw [iblk]
  rw [e, blk4, op4, row1024]
theorem x5_eq (c : Dev nD) (t : Fin cfg0.N) (k : Fin 1024) (n : Fin 3200) :
    (iblk m c 5 t : Vec Ideal S1024x3200 .bf16) (ix2 k n) = padW (fun k n => a4 m c (ix2 k n)) k n := by
  have e : iblk m c 5 t = ((cfg0.win 5).blk t).view.read (Elt Ideal) (V m c main_v7 : FVec Ideal S1024x3200 .bf16) := by rw [iblk]
  rw [e, blk5, op5, mkW_apply]
theorem x6_eq (c : Dev nD) (t : Fin cfg0.N) (r : Fin 3) (n : Fin 2048) : (iblk m c 6 t : Vec Ideal S3x2048 .f32) (ix2 r n) = a5 m c (ix2 r n) := by
  have e : iblk m c 6 t = ((cfg0.win 6).blk t).view.read (Elt Ideal) (V m c main_arg5 : FVec Ideal S3x2048 .f32) := by rw [iblk]
  rw [e, blk6, op6]
theorem x7_eq (c : Dev nD) (t : Fin cfg0.N) (k : Fin 1024) (l : Fin 128) :
    (iblk m c 7 t : Vec Ideal S1024x128 .bf16) (ix2 k l) = (if (k : Nat) / 64 = l then 1 else 0 : EReal) := by
  have e : iblk m c 7 t = ((cfg0.win 7).blk t).view.read (Elt Ideal) (V m c main_v16 : FVec Ideal S1024x128 .bf16) := by rw [iblk]
  rw [e, blk7, op7, mkE_apply]
theorem x8_eq (c : Dev nD) (t : Fin cfg0.N) (k : Fin 1024) (l : Fin 128) :
    (iblk m c 8 t : Vec Ideal S128x1024 .bf16) (ix2 l k) = (if (k : Nat) / 64 = l then 1 else 0 : EReal) := by
  have e : iblk m c 8 t = ((cfg0.win 8).blk t).view.read (Elt Ideal) (V m c main_v17 : FVec Ideal S128x1024 .bf16) := by rw [iblk]
  rw [e, blk8, op8, mkT_apply]
theorem x9_eq (c : Dev nD) (t : Fin cfg0.N) (l : Fin 128) :
    (iblk m c 9 t : Vec Ideal S1x128 .f32) (ix2 0 l) = if (l : Nat) < 8 then eighth else 1 := by
  have e : iblk m c 9 t = ((cfg0.win 9).blk t).view.read (Elt Ideal) (V m c main_v21 : FVec Ideal S1x128 .f32) := by rw [iblk]
  rw [e, blk9, op9, mkS_apply]
theorem x10_eq (c : Dev nD) (t : Fin cfg0.N) (l : Fin 128) : (iblk m c 10 t : Vec Ideal S1x128 .f32) (ix2 0 l)
    = if h : (l : Nat) < 16 then a6 m c (ix2 ⟨l / 8, by omega⟩ ⟨l % 8, by omega⟩) else 0 := by
  have e : iblk m c 10 t = ((cfg0.win 10).blk t).view.read (Elt Ideal) (V m c main_v25 : FVec Ideal S1x128 .f32) := by rw [iblk]
  rw [e, blk10, op10, mkR_apply]
theorem x11_eq (c : Dev nD) (t : Fin cfg0.N) (l : Fin 128) : (iblk m c 11 t : Vec Ideal S1x128 .f32) (ix2 0 l)
    = if h : (l : Nat) < 16 then a7 m c (ix2 ⟨l / 8, by omega⟩ ⟨l % 8, by omega⟩) else 0 := by
  have e : iblk m c 11 t = ((cfg0.win 11).blk t).view.read (Elt Ideal) (V m c main_v29 : FVec Ideal S1x128 .f32) := by rw [iblk]
  rw [e, blk11, op11, mkR_apply]

end Cert.Odd

end
-- ==== Proof.OddRef.lean ====
/-
  The reference of the odd layers' projection read at an index: the same functions of a token's rows.
-/
module

public import proofs.«01_k».proof.Proof.OddRow
public import proofs.«01_k».proof.Proof.MergeRefC
public import proofs.«01_k».proof.Proof.Gen.Reference6Ideal.Run
public import Idealize.ShloMosaic.Lib.KernelVsHost

@[expose] public section

set_option maxRecDepth 16384

noncomputable section

namespace Cert.OddRef

open Cert.Reference6Ideal Cert.Reference6Ideal.Gen Idealize.ShloMosaic Idealize.ShloMosaic.TcCoe Idealize.SL.Sem
open Cert.Merge (rms c1024 gate prod)
open Cert.Odd (pre conv eps eighth inv decay share)
open Cert.MergeRef (RN RNC RW RN_apply RNC_apply RW_apply ML)

/-- The two directions' and the heads' numbers as a row of sixteen. -/
abbrev dir (l : Nat) (h : l < 16) : Fin 2 := ⟨l / 8, by omega⟩
abbrev hd (l : Nat) : Fin 8 := ⟨l % 8, by omega⟩

/-- The normed heads of a row's convolved columns, the first scaled. -/
def qv (s : Fin 2048 → EReal) (c : Fin 512) : EReal := s ⟨c, by omega⟩ * (inv (fun c => s ⟨c, by omega⟩) ⟨c / 64, by omega⟩ * eighth)
def kv (s : Fin 2048 → EReal) (c : Fin 512) : EReal := s ⟨512 + c, by omega⟩ * inv (fun c => s ⟨512 + c, by omega⟩) ⟨c / 64, by omega⟩

/-- The shift and the scale of the latent rows and of the context's rows. -/
def SHL (md : FVec Ideal S8x6x1024 .f32) : FVec Ideal S8x2048x1024 .f32 :=
  broadcastInDim S8x2048x1024 ![0, 1, 2] bcast_S8x1x1024_S8x2048x1024_0_1_2 (shapeCast S8x1x1024
    (extractStridedSlice S8x1x1x1024 ![0, 0, 0, 0] (ML md) slices_S8x6x1x1024_S8x1x1x1024_0_0_0_0) shapeCasts_S8x1x1x1024_S8x1x1024)
def SCL (md : FVec Ideal S8x6x1024 .f32) : FVec Ideal S8x2048x1024 .f32 :=
  broadcastInDim S8x2048x1024 ![0, 1, 2] bcast_S8x1x1024_S8x2048x1024_0_1_2
    (addf (broadcastInDim S8x1x1024 ![] bcast_S_S8x1x1024 (constant S_ .f32 0x3F800000#32)) (shapeCast S8x1x1024
    (extractStridedSlice S8x1x1x1024 ![0, 1, 0, 0] (ML md) slices_S8x6x1x1024_S8x1x1x1024_0_1_0_0) shapeCasts_S8x1x1x1024_S8x1x1024))
def SHC (md : FVec Ideal S6x1024 .f32) : FVec Ideal S8x256x1024 .f32 :=
  RW (shapeCast S1024 (extractStridedSlice S1x1024 ![0, 0] md slices_S6x1024_S1x1024_0_0) shapeCasts_S1x1024_S1024)
def SCC (md : FVec Ideal S6x1024 .f32) : FVec Ideal S8x256x1024 .f32 :=
  RW (addf (broadcastInDim S1024 ![] bcast_S_S1024 (constant S_ .f32 0x3F800000#32))
    (shapeCast S1024 (extractStridedSlice S1x1024 ![1, 0] md slices_S6x1024_S1x1024_1_0) shapeCasts_S1x1024_S1024))

theorem SHL_apply (md : FVec Ideal S8x6x1024 .f32) (b : Fin 8) (t : Fin 2048) (k : Fin 1024) : SHL md (ix3 b t k) = md (ix3 b 0 k) := by
  pointwise [SHL, ML]
theorem SCL_apply (md : FVec Ideal S8x6x1024 .f32) (b : Fin 8) (t : Fin 2048) (k : Fin 1024) : SCL md (ix3 b t k) = 1 + md (ix3 b 1 k) := by
  pointwise [SCL, ML]
theorem SHC_apply (md : FVec Ideal S6x1024 .f32) (b : Fin 8) (t : Fin 256) (k : Fin 1024) : SHC md (ix3 b t k) = md (ix2 0 k) := by
  rw [SHC, RW_apply]; pointwise
theorem SCC_apply (md : FVec Ideal S6x1024 .f32) (b : Fin 8) (t : Fin 256) (k : Fin 1024) : SCC md (ix3 b t k) = 1 + md (ix2 1 k) := by
  rw [SCC, RW_apply]; pointwise

/-! ## The latent rows -/

/-- The rows, and their projection. -/
def HL (h : FVec Ideal S8x2304x1024 .f32) : FVec Ideal S8x2048x1024 .f32 :=
  extractStridedSlice S8x2048x1024 ![0, 0, 0] h slices_S8x2304x1024_S8x2048x1024_0_0_0
def YL (h : FVec Ideal S8x2304x1024 .f32) (md : FVec Ideal S8x6x1024 .f32) (n1 : FVec Ideal S1024 .f32) (w : FVec Ideal S1024x3104 .f32) :
    FVec Ideal S8x2048x3104 .f32 :=
  Host.dotGeneral dot_S8x2048x1024_S1024x3104_S8x2048x3104_2_0_01_1_n_n none (addf (mulf (RN (HL h) n1) (SCL md)) (SHL md)) w

/-- The columns that are convolved, and the same with a row of zeros before and after. -/
def QL (y : FVec Ideal S8x2048x3104 .f32) : FVec Ideal S8x2048x2048 .f32 :=
  extractStridedSlice S8x2048x2048 ![0, 0, 0] y slices_S8x2048x3104_S8x2048x2048_0_0_0
def PL (x : FVec Ideal S8x2048x2048 .f32) : FVec Ideal S8x2050x2048 .f32 :=
  pad S8x2050x2048 ![0, 1, 0] ![0, 1, 0] ![0, 0, 0] x (sitofp .f32 (constantI S_ 32 0#32)) pads_S8x2048x2048_S8x2050x2048_000_110_000 h_S_

/-- The short convolution, then its gate. -/
def RL (v : FVec Ideal S2048 .f32) : FVec Ideal S8x2048x2048 .f32 :=
  broadcastInDim S8x2048x2048 ![0, 1, 2] bcast_S1x1x2048_S8x2048x2048_0_1_2 (broadcastInDim S1x1x2048 ![2] bcast_S2048_S1x1x2048_2 v)
def VL (w : FVec Ideal S3x2048 .f32) (p : FVec Ideal S8x2050x2048 .f32) (x : FVec Ideal S8x2048x2048 .f32) : FVec Ideal S8x2048x2048 .f32 :=
  addf (addf (mulf (RL (shapeCast S2048 (extractStridedSlice S1x2048 ![0, 0] w slices_S3x2048_S1x2048_0_0) shapeCasts_S1x2048_S2048))
        (extractStridedSlice S8x2048x2048 ![0, 0, 0] p slices_S8x2050x2048_S8x2048x2048_0_0_0))
      (mulf (RL (shapeCast S2048 (extractStridedSlice S1x2048 ![1, 0] w slices_S3x2048_S1x2048_1_0) shapeCasts_S1x2048_S2048)) x))
    (mulf (RL (shapeCast S2048 (extractStridedSlice S1x2048 ![2, 0] w slices_S3x2048_S1x2048_2_0) shapeCasts_S1x2048_S2048))
      (extractStridedSlice S8x2048x2048 ![0, 2, 0] p slices_S8x2050x2048_S8x2048x2048_0_2_0))
def SL (v : FVec Ideal S8x2048x2048 .f32) : FVec Ideal S8x2048x2048 .f32 :=
  mulf v (Host.divf (broadcastInDim S8x2048x2048 ![] bcast_S_S8x2048x2048 (constant S_ .f32 0x3F800000#32))
    (addf (broadcastInDim S8x2048x2048 ![] bcast_S_S8x2048x2048 (constant S_ .f32 0x3F800000#32)) (Host.exp (Host.negf v))))
def XL (y : FVec Ideal S8x2048x3104 .f32) (w : FVec Ideal S3x2048 .f32) : FVec Ideal S8x2048x2048 .f32 := SL (VL w (PL (QL y)) (QL y))

/-- The heads, their norm, and the heads side by side. -/
def AL (x : FVec Ideal S8x2048x2048 .f32) : FVec Ideal S8x2048x8x64 .f32 :=
  shapeCast S8x2048x8x64 (extractStridedSlice S8x2048x512 ![0, 0, 0] x slices_S8x2048x2048_S8x2048x512_0_0_0) shapeCasts_S8x2048x512_S8x2048x8x64
def BL (x : FVec Ideal S8x2048x2048 .f32) : FVec Ideal S8x2048x8x64 .f32 :=
  shapeCast S8x2048x8x64 (extractStridedSlice S8x2048x512 ![0, 0, 512] x slices_S8x2048x2048_S8x2048x512_0_0_512) shapeCasts_S8x2048x512_S8x2048x8x64
def NL (s : FVec Ideal S8x2048x8x64 .f32) : FVec Ideal S8x2048x8x64 .f32 :=
  mulf s (broadcastInDim S8x2048x8x64 ![0, 1, 2, 3] bcast_S8x2048x8x1_S8x2048x8x64_0_1_2_3
    (Host.rsqrt (addf (broadcastInDim S8x2048x8x1 ![0, 1, 2] bcast_S8x2048x8_S8x2048x8x1_0_1_2
        (Host.reduceAdd (mulf s s) (constant S_ .f32 0x00000000#32) reducesTo_S8x2048x8x64_S8x2048x8_d3 h_S_))
      (broadcastInDim S8x2048x8x1 ![] bcast_S_S8x2048x8x1 (constant S_ .f32 0x358637BD#32)))))
def EL (s : FVec Ideal S8x2048x8x64 .f32) : FVec Ideal S8x2048x8x64 .f32 :=
  mulf (NL s) (broadcastInDim S8x2048x8x64 ![] bcast_S_S8x2048x8x64 (constant S_ .f32 0x3E000000#32))
def FL (s : FVec Ideal S8x2048x8x64 .f32) : FVec Ideal S8x2048x512 .f32 := shapeCast S8x2048x512 s shapeCasts_S8x2048x8x64_S8x2048x512

/-- The decays and the shares. -/
def DL (y : FVec Ideal S8x2048x3104 .f32) (dt : FVec Ideal S2x8 .f32) : FVec Ideal S8x2048x2x8 .f32 :=
  addf (shapeCast S8x2048x2x8 (extractStridedSlice S8x2048x16 ![0, 0, 3072] y slices_S8x2048x3104_S8x2048x16_0_0_3072) shapeCasts_S8x2048x16_S8x2048x2x8)
    (broadcastInDim S8x2048x2x8 ![0, 1, 2, 3] bcast_S1x1x2x8_S8x2048x2x8_0_1_2_3 (broadcastInDim S1x1x2x8 ![2, 3] bcast_S2x8_S1x1x2x8_2_3 dt))
def ZL : FVec Ideal S8x2048x2x8 .f32 := broadcastInDim S8x2048x2x8 ![] bcast_S_S8x2048x2x8 (constant S_ .f32 0x00000000#32)
def LL (al : FVec Ideal S2x8 .f32) (x : FVec Ideal S8x2048x2x8 .f32) : FVec Ideal S8x2048x2x8 .f32 :=
  mulf (broadcastInDim S8x2048x2x8 ![0, 1, 2, 3] bcast_S1x1x2x8_S8x2048x2x8_0_1_2_3 (broadcastInDim S1x1x2x8 ![2, 3] bcast_S2x8_S1x1x2x8_2_3
      (Host.negf (Host.exp al))))
    (select (cmpf .une (subf x ZL) (subf x ZL)) (addf x ZL) (addf (maximumf x ZL) (Host.log1p (Host.exp (Host.negf (Host.absf (subf x ZL)))))))
def KL (y : FVec Ideal S8x2048x3104 .f32) : FVec Ideal S8x2048x16 .f32 :=
  Host.divf (broadcastInDim S8x2048x16 ![] bcast_S_S8x2048x16 (constant S_ .f32 0x3F800000#32))
    (addf (broadcastInDim S8x2048x16 ![] bcast_S_S8x2048x16 (constant S_ .f32 0x3F800000#32))
      (Host.exp (Host.negf (extractStridedSlice S8x2048x16 ![0, 0, 3088] y slices_S8x2048x3104_S8x2048x16_0_0_3088))))
def JL (x : FVec Ideal S8x2048x2x8 .f32) (z : FVec Ideal S8x2048x16 .f32) : FVec Ideal S8x2048x128 .f32 :=
  concatenate S8x2048x128 2 [⟨S8x2048x16, shapeCast S8x2048x16 x shapeCasts_S8x2048x2x8_S8x2048x16⟩, ⟨S8x2048x16, z⟩,
    ⟨S8x2048x96, broadcastInDim S8x2048x96 ![] bcast_S_S8x2048x96 (constant S_ .f32 0x3F000000#32 : FVec Ideal S_ .f32)⟩]
    concatenates_S8x2048x16_S8x2048x16_S8x2048x96_S8x2048x128_d2

section applyL

variable (b : Fin 8) (t : Fin 2048)

theorem HL_apply (h : FVec Ideal S8x2304x1024 .f32) (k : Fin 1024) : HL h (ix3 b t k) = h (ix3 b ⟨0 + t, by omega⟩ k) := by
  pointwise [HL]
theorem YL_apply (h : FVec Ideal S8x2304x1024 .f32) (md : FVec Ideal S8x6x1024 .f32) (n1 : FVec Ideal S1024 .f32) (w : FVec Ideal S1024x3104 .f32)
    (md' : Fin 6 → Fin 1024 → EReal) (h0 : ∀ k : Fin 1024, md (ix3 b 0 k) = md' 0 k) (h1 : ∀ k : Fin 1024, md (ix3 b 1 k) = md' 1 k) (n : Fin 3104) :
    YL h md n1 w (ix3 b t n) = prod (pre (fun k => h (ix3 b ⟨0 + t, by omega⟩ k)) (fun k => n1 (ix1 k)) md') (fun k n => w (ix2 k n)) n := by
  have e : ∀ k : Fin 1024, (addf (mulf (RN (HL h) n1) (SCL md)) (SHL md)) (ix3 b t k)
      = pre (fun k => h (ix3 b ⟨0 + t, by omega⟩ k)) (fun k => n1 (ix1 k)) md' k := fun k => by
    refine Eq.trans (b := RN (HL h) n1 (ix3 b t k) * SCL md (ix3 b t k) + SHL md (ix3 b t k)) rfl ?_
    rw [RN_apply, SCL_apply, SHL_apply, h0, h1]
    simp only [HL_apply]
    rfl
  rw [YL]
  simp only [prod, ← e]
  generalize addf (mulf (RN (HL h) n1) (SCL md)) (SHL md) = a
  pointwise
theorem QL_apply (y : FVec Ideal S8x2048x3104 .f32) (c : Fin 2048) : QL y (ix3 b t c) = y (ix3 b t ⟨c, by omega⟩) := by
  pointwise [QL]
theorem PL_apply (x : FVec Ideal S8x2048x2048 .f32) (u : Fin 2050) (c : Fin 2048) :
    PL x (ix3 b u c) = if h : 1 ≤ (u : Nat) ∧ (u : Nat) < 2048 + 1 then x (ix3 b ⟨u - 1, by omega⟩ c) else 0 := by
  rw [PL]
  by_cases h : 1 ≤ (u : Nat) ∧ (u : Nat) < 2048 + 1
  · rw [dif_pos h]
    refine pad_apply_of_inside _ _ _ _ _ _ _ _ _ fun a => ?_
    fin_cases a
    · show (b : Nat) = 0 + b * (0 + 1); omega
    · show (u : Nat) = 1 + (u - 1) * (0 + 1); omega
    · show (c : Nat) = 0 + c * (0 + 1); omega
  · rw [dif_neg h]
    refine Eq.trans (pad_apply_of_not_inside _ _ _ _ _ _ _ _ (1 : Fin 3) ?_) ?_
    · show ¬(1 ≤ (u : Nat) ∧ ((u : Nat) - 1) % (0 + 1) = 0 ∧ ((u : Nat) - 1) / (0 + 1) < 2048)
      rw [Nat.div_one]
      omega
    · show (((0#32 : BitVec 32).toInt : ℝ) : EReal) = 0
      simp
theorem RL_apply (v : FVec Ideal S2048 .f32) (c : Fin 2048) : RL v (ix3 b t c) = v (ix1 c) := by
  pointwise [RL]
theorem VL_apply (w : FVec Ideal S3x2048 .f32) (p : FVec Ideal S8x2050x2048 .f32) (x : FVec Ideal S8x2048x2048 .f32) (c : Fin 2048) :
    VL w p x (ix3 b t c) = w (ix2 0 c) * p (ix3 b ⟨t, by omega⟩ c) + w (ix2 1 c) * x (ix3 b t c) + w (ix2 2 c) * p (ix3 b ⟨2 + t, by omega⟩ c) := by
  pointwise [VL, RL]
theorem SL_apply (v : FVec Ideal S8x2048x2048 .f32) (c : Fin 2048) : SL v (ix3 b t c) = gate (v (ix3 b t c)) := by
  pointwise [SL, gate]
theorem XL_apply (y : FVec Ideal S8x2048x3104 .f32) (w : FVec Ideal S3x2048 .f32) (c : Fin 2048) :
    XL y w (ix3 b t c) = conv (fun r => w (ix2 r c)) (if h : (t : Nat) = 0 then 0 else y (ix3 b ⟨t - 1, by omega⟩ ⟨c, by omega⟩))
      (y (ix3 b t ⟨c, by omega⟩)) (if h : (t : Nat) = 2048 - 1 then 0 else y (ix3 b ⟨t + 1, by omega⟩ ⟨c, by omega⟩)) := by
  have e1 : PL (QL y) (ix3 b ⟨t, by omega⟩ c) = if h : (t : Nat) = 0 then 0 else y (ix3 b ⟨t - 1, by omega⟩ ⟨c, by omega⟩) := by
    rw [PL_apply]
    by_cases h : (t : Nat) = 0
    · rw [dif_pos h, dif_neg (by simp only; omega)]
    · rw [dif_neg h, dif_pos (by simp only; omega), QL_apply]
  have e2 : PL (QL y) (ix3 b ⟨2 + t, by omega⟩ c) = if h : (t : Nat) = 2048 - 1 then 0 else y (ix3 b ⟨t + 1, by omega⟩ ⟨c, by omega⟩) := by
    rw [PL_apply]
    by_cases h : (t : Nat) = 2048 - 1
    · rw [dif_pos h, dif_neg (by simp only; omega)]
    · rw [dif_neg h, dif_pos (by simp only; omega), QL_apply]
      exact congrArg (fun z => y (ix3 b z _)) (Fin.ext (by simp only; omega))
  rw [XL, SL_apply, VL_apply, e1, e2, QL_apply]
  rfl
theorem AL_apply (x : FVec Ideal S8x2048x2048 .f32) (h : Fin 8) (d : Fin 64) : AL x (ix4 b t h d) = x (ix3 b t ⟨64 * h + d, by omega⟩) := by
  pointwise [AL]
  refine congrArg (fun z => x (ix3 b _ z)) (Fin.ext ?_)
  simp only; omega
theorem BL_apply (x : FVec Ideal S8x2048x2048 .f32) (h : Fin 8) (d : Fin 64) : BL x (ix4 b t h d) = x (ix3 b t ⟨512 + (64 * h + d), by omega⟩) := by
  pointwise [BL]
  refine congrArg (fun z => x (ix3 b _ z)) (Fin.ext ?_)
  simp only; omega
theorem NL_apply (s : FVec Ideal S8x2048x8x64 .f32) (h : Fin 8) (d : Fin 64) :
    NL s (ix4 b t h d) = s (ix4 b t h d) * Ideal.rsqrt ((∑ e : Fin 64, s (ix4 b t h e) * s (ix4 b t h e)) + eps) := by
  pointwise [NL]
theorem EL_apply (s : FVec Ideal S8x2048x8x64 .f32) (h : Fin 8) (d : Fin 64) : EL s (ix4 b t h d) = NL s (ix4 b t h d) * eighth := by
  rw [EL]
  generalize NL s = z
  pointwise
theorem FL_apply (s : FVec Ideal S8x2048x8x64 .f32) (c : Fin 512) : FL s (ix3 b t c) = s (ix4 b t ⟨c / 64, by omega⟩ ⟨c % 64, by omega⟩) := by
  pointwise [FL]
theorem qL_apply (x : FVec Ideal S8x2048x2048 .f32) (c : Fin 512) : FL (EL (AL x)) (ix3 b t c) = qv (fun n => x (ix3 b t n)) c := by
  have e : (⟨64 * (c / 64) + c % 64, by omega⟩ : Fin 2048) = ⟨c, by omega⟩ := Fin.ext (by simp only; omega)
  rw [FL_apply, EL_apply, NL_apply, AL_apply]
  simp only [AL_apply]
  rw [e, mul_assoc]
  rfl
theorem kL_apply (x : FVec Ideal S8x2048x2048 .f32) (c : Fin 512) : FL (NL (BL x)) (ix3 b t c) = kv (fun n => x (ix3 b t n)) c := by
  have e : (⟨512 + (64 * (c / 64) + c % 64), by omega⟩ : Fin 2048) = ⟨512 + c, by omega⟩ := Fin.ext (by simp only; omega)
  rw [FL_apply, NL_apply, BL_apply]
  simp only [BL_apply]
  rw [e]
  rfl
theorem DL_apply (y : FVec Ideal S8x2048x3104 .f32) (dt : FVec Ideal S2x8 .f32) (l : Nat) (hl : l < 16) :
    DL y dt (ix4 b t (dir l hl) (hd l)) = y (ix3 b t ⟨3072 + l, by omega⟩) + dt (ix2 (dir l hl) (hd l)) := by
  pointwise [DL]
  refine congrArg (fun z => y (ix3 b _ z) + _) (Fin.ext ?_)
  simp only; omega
theorem LL_apply (al : FVec Ideal S2x8 .f32) (x : FVec Ideal S8x2048x2x8 .f32) (r : Fin 2) (h : Fin 8) :
    LL al x (ix4 b t r h) = decay (al (ix2 r h)) (x (ix4 b t r h)) := by
  pointwise [LL, ZL, decay]
  rw [if_neg (not_not.mpr rfl)]
  rfl
theorem KL_apply (y : FVec Ideal S8x2048x3104 .f32) (l : Fin 16) : KL y (ix3 b t l) = share (y (ix3 b t ⟨3088 + l, by omega⟩)) := by
  pointwise [KL, share]
theorem JL_apply (x : FVec Ideal S8x2048x2x8 .f32) (z : FVec Ideal S8x2048x16 .f32) (l : Fin 128) :
    JL x z (ix3 b t l) = if h : (l : Nat) < 16 then x (ix4 b t (dir l h) (hd l))
      else if h' : (l : Nat) < 32 then z (ix3 b t ⟨l - 16, by omega⟩) else Ideal.ofBits FTy.f32 0x3F000000#32 := by
  pointwise [JL]
  by_cases h : (l : Nat) < 16
  · rw [dif_pos h, dif_pos h]
  · rw [dif_neg h, dif_neg h]
    by_cases h' : (l : Nat) < 32
    · rw [dif_pos h', dif_pos (by omega)]
    · rw [dif_neg h', dif_neg (by omega)]
theorem gL_apply (y : FVec Ideal S8x2048x3104 .f32) (al dt : FVec Ideal S2x8 .f32) (l : Fin 128) :
    JL (LL al (DL y dt)) (KL y) (ix3 b t l) = if h : (l : Nat) < 16 then decay (al (ix2 (dir l h) (hd l))) (y (ix3 b t ⟨3072 + l, by omega⟩) + dt (ix2 (dir l h) (hd l)))
      else if h' : (l : Nat) < 32 then share (y (ix3 b t ⟨3072 + l, by omega⟩)) else Ideal.ofBits FTy.f32 0x3F000000#32 := by
  rw [JL_apply]
  by_cases h : (l : Nat) < 16
  · rw [dif_pos h, dif_pos h, LL_apply, DL_apply]
  · rw [dif_neg h, dif_neg h]
    by_cases h' : (l : Nat) < 32
    · rw [dif_pos h', dif_pos h', KL_apply]
      exact congrArg (fun z => share (y (ix3 b t z))) (Fin.ext (by simp only; omega))
    · rw [dif_neg h', dif_neg h']

end applyL

/-! ## The context's rows -/

/-- The rows, and their projection. -/
def HC (h : FVec Ideal S8x2304x1024 .f32) : FVec Ideal S8x256x1024 .f32 :=
  extractStridedSlice S8x256x1024 ![0, 2048, 0] h slices_S8x2304x1024_S8x256x1024_0_2048_0
def YC (h : FVec Ideal S8x2304x1024 .f32) (md : FVec Ideal S6x1024 .f32) (n1 : FVec Ideal S1024 .f32) (w : FVec Ideal S1024x3104 .f32) :
    FVec Ideal S8x256x3104 .f32 :=
  Host.dotGeneral dot_S8x256x1024_S1024x3104_S8x256x3104_2_0_01_1_n_n none (addf (mulf (RNC (HC h) n1) (SCC md)) (SHC md)) w

/-- The columns that are convolved, and the same with a row of zeros before and after. -/
def QC (y : FVec Ideal S8x256x3104 .f32) : FVec Ideal S8x256x2048 .f32 :=
  extractStridedSlice S8x256x2048 ![0, 0, 0] y slices_S8x256x3104_S8x256x2048_0_0_0
def PC (x : FVec Ideal S8x256x2048 .f32) : FVec Ideal S8x258x2048 .f32 :=
  pad S8x258x2048 ![0, 1, 0] ![0, 1, 0] ![0, 0, 0] x (sitofp .f32 (constantI S_ 32 0#32)) pads_S8x256x2048_S8x258x2048_000_110_000 h_S_

/-- The short convolution, then its gate. -/
def RC (v : FVec Ideal S2048 .f32) : FVec Ideal S8x256x2048 .f32 :=
  broadcastInDim S8x256x2048 ![0, 1, 2] bcast_S1x1x2048_S8x256x2048_0_1_2 (broadcastInDim S1x1x2048 ![2] bcast_S2048_S1x1x2048_2 v)
def VC (w : FVec Ideal S3x2048 .f32) (p : FVec Ideal S8x258x2048 .f32) (x : FVec Ideal S8x256x2048 .f32) : FVec Ideal S8x256x2048 .f32 :=
  addf (addf (mulf (RC (shapeCast S2048 (extractStridedSlice S1x2048 ![0, 0] w slices_S3x2048_S1x2048_0_0) shapeCasts_S1x2048_S2048))
        (extractStridedSlice S8x256x2048 ![0, 0, 0] p slices_S8x258x2048_S8x256x2048_0_0_0))
      (mulf (RC (shapeCast S2048 (extractStridedSlice S1x2048 ![1, 0] w slices_S3x2048_S1x2048_1_0) shapeCasts_S1x2048_S2048)) x))
    (mulf (RC (shapeCast S2048 (extractStridedSlice S1x2048 ![2, 0] w slices_S3x2048_S1x2048_2_0) shapeCasts_S1x2048_S2048))
      (extractStridedSlice S8x256x2048 ![0, 2, 0] p slices_S8x258x2048_S8x256x2048_0_2_0))
def SC (v : FVec Ideal S8x256x2048 .f32) : FVec Ideal S8x256x2048 .f32 :=
  mulf v (Host.divf (broadcastInDim S8x256x2048 ![] bcast_S_S8x256x2048 (constant S_ .f32 0x3F800000#32))
    (addf (broadcastInDim S8x256x2048 ![] bcast_S_S8x256x2048 (constant S_ .f32 0x3F800000#32)) (Host.exp (Host.negf v))))
def XC (y : FVec Ideal S8x256x3104 .f32) (w : FVec Ideal S3x2048 .f32) : FVec Ideal S8x256x2048 .f32 := SC (VC w (PC (QC y)) (QC y))

/-- The heads, their norm, and the heads side by side. -/
def AC (x : FVec Ideal S8x256x2048 .f32) : FVec Ideal S8x256x8x64 .f32 :=
  shapeCast S8x256x8x64 (extractStridedSlice S8x256x512 ![0, 0, 0] x slices_S8x256x2048_S8x256x512_0_0_0) shapeCasts_S8x256x512_S8x256x8x64
def BC (x : FVec Ideal S8x256x2048 .f32) : FVec Ideal S8x256x8x64 .f32 :=
  shapeCast S8x256x8x64 (extractStridedSlice S8x256x512 ![0, 0, 512] x slices_S8x256x2048_S8x256x512_0_0_512) shapeCasts_S8x256x512_S8x256x8x64
def NC (s : FVec Ideal S8x256x8x64 .f32) : FVec Ideal S8x256x8x64 .f32 :=
  mulf s (broadcastInDim S8x256x8x64 ![0, 1, 2, 3] bcast_S8x256x8x1_S8x256x8x64_0_1_2_3
    (Host.rsqrt (addf (broadcastInDim S8x256x8x1 ![0, 1, 2] bcast_S8x256x8_S8x256x8x1_0_1_2
        (Host.reduceAdd (mulf s s) (constant S_ .f32 0x00000000#32) reducesTo_S8x256x8x64_S8x256x8_d3 h_S_))
      (broadcastInDim S8x256x8x1 ![] bcast_S_S8x256x8x1 (constant S_ .f32 0x358637BD#32)))))
def EC (s : FVec Ideal S8x256x8x64 .f32) : FVec Ideal S8x256x8x64 .f32 :=
  mulf (NC s) (broadcastInDim S8x256x8x64 ![] bcast_S_S8x256x8x64 (constant S_ .f32 0x3E000000#32))
def FC (s : FVec Ideal S8x256x8x64 .f32) : FVec Ideal S8x256x512 .f32 := shapeCast S8x256x512 s shapeCasts_S8x256x8x64_S8x256x512

/-- The decays and the shares. -/
def DC (y : FVec Ideal S8x256x3104 .f32) (dt : FVec Ideal S2x8 .f32) : FVec Ideal S8x256x2x8 .f32 :=
  addf (shapeCast S8x256x2x8 (extractStridedSlice S8x256x16 ![0, 0, 3072] y slices_S8x256x3104_S8x256x16_0_0_3072) shapeCasts_S8x256x16_S8x256x2x8)
    (broadcastInDim S8x256x2x8 ![0, 1, 2, 3] bcast_S1x1x2x8_S8x256x2x8_0_1_2_3 (broadcastInDim S1x1x2x8 ![2, 3] bcast_S2x8_S1x1x2x8_2_3 dt))
def ZC : FVec Ideal S8x256x2x8 .f32 := broadcastInDim S8x256x2x8 ![] bcast_S_S8x256x2x8 (constant S_ .f32 0x00000000#32)
def LC (al : FVec Ideal S2x8 .f32) (x : FVec Ideal S8x256x2x8 .f32) : FVec Ideal S8x256x2x8 .f32 :=
  mulf (broadcastInDim S8x256x2x8 ![0, 1, 2, 3] bcast_S1x1x2x8_S8x256x2x8_0_1_2_3 (broadcastInDim S1x1x2x8 ![2, 3] bcast_S2x8_S1x1x2x8_2_3
      (Host.negf (Host.exp al))))
    (select (cmpf .une (subf x ZC) (subf x ZC)) (addf x ZC) (addf (maximumf x ZC) (Host.log1p (Host.exp (Host.negf (Host.absf (subf x ZC)))))))
def KC (y : FVec Ideal S8x256x3104 .f32) : FVec Ideal S8x256x16 .f32 :=
  Host.divf (broadcastInDim S8x256x16 ![] bcast_S_S8x256x16 (constant S_ .f32 0x3F800000#32))
    (addf (broadcastInDim S8x256x16 ![] bcast_S_S8x256x16 (constant S_ .f32 0x3F800000#32))
      (Host.exp (Host.negf (extractStridedSlice S8x256x16 ![0, 0, 3088] y slices_S8x256x3104_S8x256x16_0_0_3088))))
def JC (x : FVec Ideal S8x256x2x8 .f32) (z : FVec Ideal S8x256x16 .f32) : FVec Ideal S8x256x128 .f32 :=
  concatenate S8x256x128 2 [⟨S8x256x16, shapeCast S8x256x16 x shapeCasts_S8x256x2x8_S8x256x16⟩, ⟨S8x256x16, z⟩,
    ⟨S8x256x96, broadcastInDim S8x256x96 ![] bcast_S_S8x256x96 (constant S_ .f32 0x3F000000#32 : FVec Ideal S_ .f32)⟩]
    concatenates_S8x256x16_S8x256x16_S8x256x96_S8x256x128_d2

section applyC

variable (b : Fin 8) (t : Fin 256)

theorem HC_apply (h : FVec Ideal S8x2304x1024 .f32) (k : Fin 1024) : HC h (ix3 b t k) = h (ix3 b ⟨2048 + t, by omega⟩ k) := by
  pointwise [HC]
theorem YC_apply (h : FVec Ideal S8x2304x1024 .f32) (md : FVec Ideal S6x1024 .f32) (n1 : FVec Ideal S1024 .f32) (w : FVec Ideal S1024x3104 .f32)
    (md' : Fin 6 → Fin 1024 → EReal) (h0 : ∀ k : Fin 1024, md (ix2 0 k) = md' 0 k) (h1 : ∀ k : Fin 1024, md (ix2 1 k) = md' 1 k) (n : Fin 3104) :
    YC h md n1 w (ix3 b t n) = prod (pre (fun k => h (ix3 b ⟨2048 + t, by omega⟩ k)) (fun k => n1 (ix1 k)) md') (fun k n => w (ix2 k n)) n := by
  have e : ∀ k : Fin 1024, (addf (mulf (RNC (HC h) n1) (SCC md)) (SHC md)) (ix3 b t k)
      = pre (fun k => h (ix3 b ⟨2048 + t, by omega⟩ k)) (fun k => n1 (ix1 k)) md' k := fun k => by
    refine Eq.trans (b := RNC (HC h) n1 (ix3 b t k) * SCC md (ix3 b t k) + SHC md (ix3 b t k)) rfl ?_
    rw [RNC_apply, SCC_apply, SHC_apply, h0, h1]
    simp only [HC_apply]
    rfl
  rw [YC]
  simp only [prod, ← e]
  generalize addf (mulf (RNC (HC h) n1) (SCC md)) (SHC md) = a
  pointwise
theorem QC_apply (y : FVec Ideal S8x256x3104 .f32) (c : Fin 2048) : QC y (ix3 b t c) = y (ix3 b t ⟨c, by omega⟩) := by
  pointwise [QC]
theorem PC_apply (x : FVec Ideal S8x256x2048 .f32) (u : Fin 258) (c : Fin 2048) :
    PC x (ix3 b u c) = if h : 1 ≤ (u : Nat) ∧ (u : Nat) < 256 + 1 then x (ix3 b ⟨u - 1, by omega⟩ c) else 0 := by
  rw [PC]
  by_cases h : 1 ≤ (u : Nat) ∧ (u : Nat) < 256 + 1
  · rw [dif_pos h]
    refine pad_apply_of_inside _ _ _ _ _ _ _ _ _ fun a => ?_
    fin_cases a
    · show (b : Nat) = 0 + b * (0 + 1); omega
    · show (u : Nat) = 1 + (u - 1) * (0 + 1); omega
    · show (c : Nat) = 0 + c * (0 + 1); omega
  · rw [dif_neg h]
    refine Eq.trans (pad_apply_of_not_inside _ _ _ _ _ _ _ _ (1 : Fin 3) ?_) ?_
    · show ¬(1 ≤ (u : Nat) ∧ ((u : Nat) - 1) % (0 + 1) = 0 ∧ ((u : Nat) - 1) / (0 + 1) < 256)
      rw [Nat.div_one]
      omega
    · show (((0#32 : BitVec 32).toInt : ℝ) : EReal) = 0
      simp
theorem RC_apply (v : FVec Ideal S2048 .f32) (c : Fin 2048) : RC v (ix3 b t c) = v (ix1 c) := by
  pointwise [RC]
theorem VC_apply (w : FVec Ideal S3x2048 .f32) (p : FVec Ideal S8x258x2048 .f32) (x : FVec Ideal S8x256x2048 .f32) (c : Fin 2048) :
    VC w p x (ix3 b t c) = w (ix2 0 c) * p (ix3 b ⟨t, by omega⟩ c) + w (ix2 1 c) * x (ix3 b t c) + w (ix2 2 c) * p (ix3 b ⟨2 + t, by omega⟩ c) := by
  pointwise [VC, RC]
theorem SC_apply (v : FVec Ideal S8x256x2048 .f32) (c : Fin 2048) : SC v (ix3 b t c) = gate (v (ix3 b t c)) := by
  pointwise [SC, gate]
theorem XC_apply (y : FVec Ideal S8x256x3104 .f32) (w : FVec Ideal S3x2048 .f32) (c : Fin 2048) :
    XC y w (ix3 b t c) = conv (fun r => w (ix2 r c)) (if h : (t : Nat) = 0 then 0 else y (ix3 b ⟨t - 1, by omega⟩ ⟨c, by omega⟩))
      (y (ix3 b t ⟨c, by omega⟩)) (if h : (t : Nat) = 256 - 1 then 0 else y (ix3 b ⟨t + 1, by omega⟩ ⟨c, by omega⟩)) := by
  have e1 : PC (QC y) (ix3 b ⟨t, by omega⟩ c) = if h : (t : Nat) = 0 then 0 else y (ix3 b ⟨t - 1, by omega⟩ ⟨c, by omega⟩) := by
    rw [PC_apply]
    by_cases h : (t : Nat) = 0
    · rw [dif_pos h, dif_neg (by simp only; omega)]
    · rw [dif_neg h, dif_pos (by simp only; omega), QC_apply]
  have e2 : PC (QC y) (ix3 b ⟨2 + t, by omega⟩ c) = if h : (t : Nat) = 256 - 1 then 0 else y (ix3 b ⟨t + 1, by omega⟩ ⟨c, by omega⟩) := by
    rw [PC_apply]
    by_cases h : (t : Nat) = 256 - 1
    · rw [dif_pos h, dif_neg (by simp only; omega)]
    · rw [dif_neg h, dif_pos (by simp only; omega), QC_apply]
      exact congrArg (fun z => y (ix3 b z _)) (Fin.ext (by simp only; omega))
  rw [XC, SC_apply, VC_apply, e1, e2, QC_apply]
  rfl
theorem AC_apply (x : FVec Ideal S8x256x2048 .f32) (h : Fin 8) (d : Fin 64) : AC x (ix4 b t h d) = x (ix3 b t ⟨64 * h + d, by omega⟩) := by
  pointwise [AC]
  refine congrArg (fun z => x (ix3 b _ z)) (Fin.ext ?_)
  simp only; omega
theorem BC_apply (x : FVec Ideal S8x256x2048 .f32) (h : Fin 8) (d : Fin 64) : BC x (ix4 b t h d) = x (ix3 b t ⟨512 + (64 * h + d), by omega⟩) := by
  pointwise [BC]
  refine congrArg (fun z => x (ix3 b _ z)) (Fin.ext ?_)
  simp only; omega
theorem NC_apply (s : FVec Ideal S8x256x8x64 .f32) (h : Fin 8) (d : Fin 64) :
    NC s (ix4 b t h d) = s (ix4 b t h d) * Ideal.rsqrt ((∑ e : Fin 64, s (ix4 b t h e) * s (ix4 b t h e)) + eps) := by
  pointwise [NC]
theorem EC_apply (s : FVec Ideal S8x256x8x64 .f32) (h : Fin 8) (d : Fin 64) : EC s (ix4 b t h d) = NC s (ix4 b t h d) * eighth := by
  rw [EC]
  generalize NC s = z
  pointwise
theorem FC_apply (s : FVec Ideal S8x256x8x64 .f32) (c : Fin 512) : FC s (ix3 b t c) = s (ix4 b t ⟨c / 64, by omega⟩ ⟨c % 64, by omega⟩) := by
  pointwise [FC]
theorem qC_apply (x : FVec Ideal S8x256x2048 .f32) (c : Fin 512) : FC (EC (AC x)) (ix3 b t c) = qv (fun n => x (ix3 b t n)) c := by
  have e : (⟨64 * (c / 64) + c % 64, by omega⟩ : Fin 2048) = ⟨c, by omega⟩ := Fin.ext (by simp only; omega)
  rw [FC_apply, EC_apply, NC_apply, AC_apply]
  simp only [AC_apply]
  rw [e, mul_assoc]
  rfl
theorem kC_apply (x : FVec Ideal S8x256x2048 .f32) (c : Fin 512) : FC (NC (BC x)) (ix3 b t c) = kv (fun n => x (ix3 b t n)) c := by
  have e : (⟨512 + (64 * (c / 64) + c % 64), by omega⟩ : Fin 2048) = ⟨512 + c, by omega⟩ := Fin.ext (by simp only; omega)
  rw [FC_apply, NC_apply, BC_apply]
  simp only [BC_apply]
  rw [e]
  rfl
theorem DC_apply (y : FVec Ideal S8x256x3104 .f32) (dt : FVec Ideal S2x8 .f32) (l : Nat) (hl : l < 16) :
    DC y dt (ix4 b t (dir l hl) (hd l)) = y (ix3 b t ⟨3072 + l, by omega⟩) + dt (ix2 (dir l hl) (hd l)) := by
  pointwise [DC]
  refine congrArg (fun z => y (ix3 b _ z) + _) (Fin.ext ?_)
  simp only; omega
theorem LC_apply (al : FVec Ideal S2x8 .f32) (x : FVec Ideal S8x256x2x8 .f32) (r : Fin 2) (h : Fin 8) :
    LC al x (ix4 b t r h) = decay (al (ix2 r h)) (x (ix4 b t r h)) := by
  pointwise [LC, ZC, decay]
  rw [if_neg (not_not.mpr rfl)]
  rfl
theorem KC_apply (y : FVec Ideal S8x256x3104 .f32) (l : Fin 16) : KC y (ix3 b t l) = share (y (ix3 b t ⟨3088 + l, by omega⟩)) := by
  pointwise [KC, share]
theorem JC_apply (x : FVec Ideal S8x256x2x8 .f32) (z : FVec Ideal S8x256x16 .f32) (l : Fin 128) :
    JC x z (ix3 b t l) = if h : (l : Nat) < 16 then x (ix4 b t (dir l h) (hd l))
      else if h' : (l : Nat) < 32 then z (ix3 b t ⟨l - 16, by omega⟩) else Ideal.ofBits FTy.f32 0x3F000000#32 := by
  pointwise [JC]
  by_cases h : (l : Nat) < 16
  · rw [dif_pos h, dif_pos h]
  · rw [dif_neg h, dif_neg h]
    by_cases h' : (l : Nat) < 32
    · rw [dif_pos h', dif_pos (by omega)]
    · rw [dif_neg h', dif_neg (by omega)]
theorem gC_apply (y : FVec Ideal S8x256x3104 .f32) (al dt : FVec Ideal S2x8 .f32) (l : Fin 128) :
    JC (LC al (DC y dt)) (KC y) (ix3 b t l) = if h : (l : Nat) < 16 then decay (al (ix2 (dir l h) (hd l))) (y (ix3 b t ⟨3072 + l, by omega⟩) + dt (ix2 (dir l h) (hd l)))
      else if h' : (l : Nat) < 32 then share (y (ix3 b t ⟨3072 + l, by omega⟩)) else Ideal.ofBits FTy.f32 0x3F000000#32 := by
  rw [JC_apply]
  by_cases h : (l : Nat) < 16
  · rw [dif_pos h, dif_pos h, LC_apply, DC_apply]
  · rw [dif_neg h, dif_neg h]
    by_cases h' : (l : Nat) < 32
    · rw [dif_pos h', dif_pos h', KC_apply]
      exact congrArg (fun z => share (y (ix3 b t z))) (Fin.ext (by simp only; omega))
    · rw [dif_neg h', dif_neg h']

end applyC

/-! ## Both -/

/-- The latent rows above the context's. -/
def C5 (x : FVec Ideal S8x2048x512 .f32) (y : FVec Ideal S8x256x512 .f32) : FVec Ideal S8x2304x512 .f32 :=
  concatenate S8x2304x512 1 [⟨S8x2048x512, x⟩, ⟨S8x256x512, y⟩] concatenates_S8x2048x512_S8x256x512_S8x2304x512_d1
def C10 (x : FVec Ideal S8x2048x1024 .f32) (y : FVec Ideal S8x256x1024 .f32) : FVec Ideal S8x2304x1024 .f32 :=
  concatenate S8x2304x1024 1 [⟨S8x2048x1024, x⟩, ⟨S8x256x1024, y⟩] concatenates_S8x2048x1024_S8x256x1024_S8x2304x1024_d1
def C1 (x : FVec Ideal S8x2048x128 .f32) (y : FVec Ideal S8x256x128 .f32) : FVec Ideal S8x2304x128 .f32 :=
  concatenate S8x2304x128 1 [⟨S8x2048x128, x⟩, ⟨S8x256x128, y⟩] concatenates_S8x2048x128_S8x256x128_S8x2304x128_d1

theorem C5_lat (x : FVec Ideal S8x2048x512 .f32) (y : FVec Ideal S8x256x512 .f32) (b : Fin 8) (t : Fin 2048) (c : Fin 512) :
    C5 x y (ix3 b ⟨0 + t, by omega⟩ c) = x (ix3 b t c) := by
  pointwise [C5]
theorem C5_ctx (x : FVec Ideal S8x2048x512 .f32) (y : FVec Ideal S8x256x512 .f32) (b : Fin 8) (t : Fin 256) (c : Fin 512) :
    C5 x y (ix3 b ⟨2048 + t, by omega⟩ c) = y (ix3 b t c) := by
  pointwise [C5]

theorem C10_lat (x : FVec Ideal S8x2048x1024 .f32) (y : FVec Ideal S8x256x1024 .f32) (b : Fin 8) (t : Fin 2048) (c : Fin 1024) :
    C10 x y (ix3 b ⟨0 + t, by omega⟩ c) = x (ix3 b t c) := by
  pointwise [C10]
theorem C10_ctx (x : FVec Ideal S8x2048x1024 .f32) (y : FVec Ideal S8x256x1024 .f32) (b : Fin 8) (t : Fin 256) (c : Fin 1024) :
    C10 x y (ix3 b ⟨2048 + t, by omega⟩ c) = y (ix3 b t c) := by
  pointwise [C10]

theorem C1_lat (x : FVec Ideal S8x2048x128 .f32) (y : FVec Ideal S8x256x128 .f32) (b : Fin 8) (t : Fin 2048) (c : Fin 128) :
    C1 x y (ix3 b ⟨0 + t, by omega⟩ c) = x (ix3 b t c) := by
  pointwise [C1]
theorem C1_ctx (x : FVec Ideal S8x2048x128 .f32) (y : FVec Ideal S8x256x128 .f32) (b : Fin 8) (t : Fin 256) (c : Fin 128) :
    C1 x y (ix3 b ⟨2048 + t, by omega⟩ c) = y (ix3 b t c) := by
  pointwise [C1]

/-- The columns past the heads, and the columns that are not convolved. -/
def UL (x : FVec Ideal S8x2048x2048 .f32) : FVec Ideal S8x2048x1024 .f32 := extractStridedSlice S8x2048x1024 ![0, 0, 1024] x slices_S8x2048x2048_S8x2048x1024_0_0_1024
def UC (x : FVec Ideal S8x256x2048 .f32) : FVec Ideal S8x256x1024 .f32 := extractStridedSlice S8x256x1024 ![0, 0, 1024] x slices_S8x256x2048_S8x256x1024_0_0_1024
def WL (y : FVec Ideal S8x2048x3104 .f32) : FVec Ideal S8x2048x1024 .f32 := extractStridedSlice S8x2048x1024 ![0, 0, 2048] y slices_S8x2048x3104_S8x2048x1024_0_0_2048
def WC (y : FVec Ideal S8x256x3104 .f32) : FVec Ideal S8x256x1024 .f32 := extractStridedSlice S8x256x1024 ![0, 0, 2048] y slices_S8x256x3104_S8x256x1024_0_0_2048
theorem UL_apply (x : FVec Ideal S8x2048x2048 .f32) (b : Fin 8) (t : Fin 2048) (k : Fin 1024) : UL x (ix3 b t k) = x (ix3 b t ⟨1024 + k, by omega⟩) := by pointwise [UL]
theorem UC_apply (x : FVec Ideal S8x256x2048 .f32) (b : Fin 8) (t : Fin 256) (k : Fin 1024) : UC x (ix3 b t k) = x (ix3 b t ⟨1024 + k, by omega⟩) := by pointwise [UC]
theorem WL_apply (y : FVec Ideal S8x2048x3104 .f32) (b : Fin 8) (t : Fin 2048) (k : Fin 1024) : WL y (ix3 b t k) = y (ix3 b t ⟨2048 + k, by omega⟩) := by pointwise [WL]
theorem WC_apply (y : FVec Ideal S8x256x3104 .f32) (b : Fin 8) (t : Fin 256) (k : Fin 1024) : WC y (ix3 b t k) = y (ix3 b t ⟨2048 + k, by omega⟩) := by pointwise [WC]

variable (h : FVec Ideal S8x2304x1024 .f32) (ml : FVec Ideal S8x6x1024 .f32) (mc : FVec Ideal S6x1024 .f32) (n1 : FVec Ideal S1024 .f32)
  (w : FVec Ideal S1024x3104 .f32) (cw : FVec Ideal S3x2048 .f32) (al dt : FVec Ideal S2x8 .f32)

/-- The five results as the reference writes them. -/
def REFQ : FVec Ideal S8x2304x512 .f32 := C5 (FL (EL (AL (XL (YL h ml n1 w) cw)))) (FC (EC (AC (XC (YC h mc n1 w) cw))))
def REFK : FVec Ideal S8x2304x512 .f32 := C5 (FL (NL (BL (XL (YL h ml n1 w) cw)))) (FC (NC (BC (XC (YC h mc n1 w) cw))))
def REFV : FVec Ideal S8x2304x1024 .f32 := C10 (UL (XL (YL h ml n1 w) cw)) (UC (XC (YC h mc n1 w) cw))
def REFG : FVec Ideal S8x2304x1024 .f32 := C10 (WL (YL h ml n1 w)) (WC (YC h mc n1 w))
def REFA : FVec Ideal S8x2304x128 .f32 :=
  C1 (JL (LL al (DL (YL h ml n1 w) dt)) (KL (YL h ml n1 w))) (JC (LC al (DC (YC h mc n1 w) dt)) (KC (YC h mc n1 w)))

end Cert.OddRef

end
-- ==== Proof.OddVal.lean ====
/-
  The odd layers' projection: its five result arrays against the reference's.
-/
module

public import proofs.«01_k».proof.Proof.OddBlk
public import proofs.«01_k».proof.Proof.OddRef

@[expose] public section

set_option maxRecDepth 16384

noncomputable section

namespace Cert.Odd

open Cert.Kernel6Ideal Cert.Kernel6Ideal.Gen Idealize.ShloMosaic Idealize.ShloMosaic.TcCoe Idealize.SL.Sem
open Idealize.ShloMosaic.Pipeline (Dat)
open Cert.Merge (prod)
open Cert.Merge3 (mdt)
open Cert.OddRef (qv kv)

/-! ## A product with the padded weights -/

theorem prod_pad (x : Fin 1024 → EReal) (w : Fin 1024 → Fin 3104 → EReal) (n : Fin 3104) : prod x w n = prod x (padW w) ⟨n, by omega⟩ := by
  simp only [prod, padW, dif_pos n.isLt]
theorem prod_past (x : Fin 1024 → EReal) (w : Fin 1024 → Fin 3104 → EReal) (n : Fin 3200) (h : ¬ (n : Nat) < 3104) : prod x (padW w) n = 0 := by
  simp only [prod, padW, dif_neg h, mul_zero, Finset.sum_const_zero]
theorem prod_none (W : Fin 1024 → Fin 3200 → EReal) (n : Fin 3200) : prod (fun _ => (0 : EReal)) W n = 0 := by
  simp only [prod, zero_mul, Finset.sum_const_zero]
theorem share_zero : share 0 = Ideal.ofBits FTy.f32 0x3F000000#32 := by
  have e : Ideal.ofBits FTy.f32 0x3F000000#32 = ((1 / 2 : ℝ) : EReal) := by
    simp [Ideal.ofBits, Ideal.ieee, -EReal.coe_mul]
    norm_num
  have e1 : Ideal.exp (-(0 : EReal)) = ((1 : ℝ) : EReal) := by
    rw [neg_zero, ← EReal.coe_zero]
    show ((Real.exp 0 : ℝ) : EReal) = ((1 : ℝ) : EReal)
    rw [Real.exp_zero]
  have e2 : (1 : EReal) + ((1 : ℝ) : EReal) = ((2 : ℝ) : EReal) := by
    rw [← EReal.coe_one, ← EReal.coe_add]; norm_num
  rw [share, e1, e2, e, ← EReal.coe_one]
  rw [Ideal.div_coe (by norm_num), ← EReal.coe_mul, one_mul]

/-! ## The norms, spread by the heads' indicator -/

section spread

variable (x7 : Vec Ideal S1024x128 .bf16) (x8 : Vec Ideal S128x1024 .bf16) (x9 : Vec Ideal S1x128 .f32) (s : Fin 2048 → EReal) (n : Fin 512)
  (h7 : ∀ (k : Fin 1024) (l : Fin 128), x7 (ix2 k l) = (if (k : Nat) / 64 = l then 1 else 0 : EReal))
  (h8 : ∀ (k : Fin 1024) (l : Fin 128), x8 (ix2 l k) = (if (k : Nat) / 64 = l then 1 else 0 : EReal))
  (h9 : ∀ l : Fin 128, x9 (ix2 0 l) = if (l : Nat) < 8 then eighth else 1)
include h7 h8 h9

theorem spread_q : spread (fun c => s ⟨c, by omega⟩) (fun k l => x7 (ix2 ⟨k, by omega⟩ l)) (fun l => x9 (ix2 0 l))
    (fun l => x8 (ix2 l ⟨n, by omega⟩)) n = qv s n := by
  refine (spread_eq _ _ _ _ n ⟨n / 64, by omega⟩ (fun k => h7 ⟨k, by omega⟩ ⟨n / 64, by omega⟩)
    (fun l => (h8 ⟨n, by omega⟩ l).trans ?_) (1 / 8) ((h9 ⟨n / 64, by omega⟩).trans ?_)).trans ?_
  · exact if_congr ⟨fun h => Fin.ext h.symm, fun h => congrArg Fin.val h.symm⟩ rfl rfl
  · rw [if_pos (by simp only; omega), eighth_eq]
  · rw [qv, eighth_eq]
theorem spread_k : spread (fun c => s ⟨512 + c, by omega⟩) (fun k l => x7 (ix2 ⟨512 + k, by omega⟩ l)) (fun l => x9 (ix2 0 l))
    (fun l => x8 (ix2 l ⟨512 + n, by omega⟩)) n = kv s n := by
  refine (spread_eq _ _ _ _ n ⟨8 + n / 64, by omega⟩ (fun k => (h7 ⟨512 + k, by omega⟩ ⟨8 + n / 64, by omega⟩).trans ?_)
    (fun l => (h8 ⟨512 + n, by omega⟩ l).trans ?_) 1 ((h9 ⟨8 + n / 64, by omega⟩).trans ?_)).trans ?_
  · exact if_congr ⟨fun h => by simp only at h; omega, fun h => by simp only; omega⟩ rfl rfl
  · exact if_congr ⟨fun h => Fin.ext (by simp only at h ⊢; omega), fun h => by rw [h]; simp only; omega⟩ rfl rfl
  · rw [if_neg (by simp only; omega), EReal.coe_one]
  · rw [kv, EReal.coe_one, mul_one]

end spread

variable (m : (ℓ : Loc nD τ sig) → Buf (Elt Ideal) ℓ)

/-! ## A token's row, its neighbours and its convolved columns -/

def W (c : Dev nD) : Fin 1024 → Fin 3200 → EReal := padW (fun k n => a4 m c (ix2 k n))
def PRE (c : Dev nD) (j : Nat) (b : Fin 8) (t : Fin 2304) : Fin 1024 → EReal :=
  pre (fun k => a0 m c (ix3 b t k)) (fun k => a3 m c (ix1 k)) (fun r k => mdt (a1 m c) (a2 m c) j b r k)
def BEF (c : Dev nD) (j : Nat) (b : Fin 8) (t : Fin 2304) : Fin 1024 → EReal :=
  if (t : Nat) = 0 ∨ (t : Nat) = 2048 then fun _ => 0 else PRE m c j b ⟨t - 1, by omega⟩
def AFT (c : Dev nD) (j : Nat) (b : Fin 8) (t : Fin 2304) : Fin 1024 → EReal :=
  if h : (t : Nat) = 2047 ∨ (t : Nat) = 2303 then fun _ => 0 else PRE m c j b ⟨t + 1, by omega⟩
def CV (c : Dev nD) (j : Nat) (b : Fin 8) (t : Fin 2304) : Fin 2048 → EReal :=
  cvr (W m c) (fun r n => a5 m c (ix2 r n)) (BEF m c j b t) (PRE m c j b t) (AFT m c j b t)
def AL (c : Dev nD) (l : Fin 128) : EReal := if h : (l : Nat) < 16 then a6 m c (ix2 ⟨l / 8, by omega⟩ ⟨l % 8, by omega⟩) else 0
def DT (c : Dev nD) (l : Fin 128) : EReal := if h : (l : Nat) < 16 then a7 m c (ix2 ⟨l / 8, by omega⟩ ⟨l % 8, by omega⟩) else 0

/-! ## The reference's results -/

def resQ (c : Dev nD) : FVec Ideal S8x2304x512 .f32 := Cert.OddRef.REFQ (a0 m c) (a1 m c) (a2 m c) (a3 m c) (a4 m c) (a5 m c)
def resK (c : Dev nD) : FVec Ideal S8x2304x512 .f32 := Cert.OddRef.REFK (a0 m c) (a1 m c) (a2 m c) (a3 m c) (a4 m c) (a5 m c)
def resV (c : Dev nD) : FVec Ideal S8x2304x1024 .f32 := Cert.OddRef.REFV (a0 m c) (a1 m c) (a2 m c) (a3 m c) (a4 m c) (a5 m c)
def resG (c : Dev nD) : FVec Ideal S8x2304x1024 .f32 := Cert.OddRef.REFG (a0 m c) (a1 m c) (a2 m c) (a3 m c) (a4 m c)
def resA (c : Dev nD) : FVec Ideal S8x2304x128 .f32 := Cert.OddRef.REFA (a0 m c) (a1 m c) (a2 m c) (a3 m c) (a4 m c) (a6 m c) (a7 m c)

section refL

variable (c : Dev nD) (j : Nat) (hj : j < 8) (b : Fin 8) (t : Fin 2048)
include hj

theorem yL (n : Fin 3104) : Cert.OddRef.YL (a0 m c) (a1 m c) (a3 m c) (a4 m c) (ix3 b t n) = prod (PRE m c j b ⟨0 + t, by omega⟩) (W m c) ⟨n, by omega⟩ := by
  rw [Cert.OddRef.YL_apply b t (a0 m c) (a1 m c) (a3 m c) (a4 m c) (fun r k => mdt (a1 m c) (a2 m c) j b r k)
    (fun k => by rw [mdt, if_pos hj]) (fun k => by rw [mdt, if_pos hj]) n]
  exact prod_pad _ _ n
theorem cvL (n : Fin 2048) : Cert.OddRef.XL (Cert.OddRef.YL (a0 m c) (a1 m c) (a3 m c) (a4 m c)) (a5 m c) (ix3 b t n)
    = CV m c j b ⟨0 + t, by omega⟩ n := by
  have e1 : (if h : (t : Nat) = 0 then 0 else Cert.OddRef.YL (a0 m c) (a1 m c) (a3 m c) (a4 m c) (ix3 b ⟨t - 1, by omega⟩ ⟨n, by omega⟩))
      = prod (BEF m c j b ⟨0 + t, by omega⟩) (W m c) ⟨n, by omega⟩ := by
    by_cases h : (t : Nat) = 0
    · rw [dif_pos h, BEF, if_pos (by simp only; omega), prod_none]
    · rw [dif_neg h, BEF, if_neg (by simp only; omega), yL m c j hj]
      exact congrArg (fun z => prod (PRE m c j b z) (W m c) _) (Fin.ext (by simp only; omega))
  have e2 : (if h : (t : Nat) = 2048 - 1 then 0 else Cert.OddRef.YL (a0 m c) (a1 m c) (a3 m c) (a4 m c) (ix3 b ⟨t + 1, by omega⟩ ⟨n, by omega⟩))
      = prod (AFT m c j b ⟨0 + t, by omega⟩) (W m c) ⟨n, by omega⟩ := by
    by_cases h : (t : Nat) = 2048 - 1
    · rw [dif_pos h, AFT, dif_pos (by simp only; omega), prod_none]
    · rw [dif_neg h, AFT, dif_neg (by simp only; omega), yL m c j hj]
      exact congrArg (fun z => prod (PRE m c j b z) (W m c) _) (Fin.ext (by simp only; omega))
  rw [Cert.OddRef.XL_apply, e1, e2, yL m c j hj]
  rfl
theorem qL (n : Fin 512) : resQ m c (ix3 b ⟨0 + t, by omega⟩ n) = qv (CV m c j b ⟨0 + t, by omega⟩) n := by
  rw [resQ, Cert.OddRef.REFQ, Cert.OddRef.C5_lat, Cert.OddRef.qL_apply]
  simp only [cvL m c j hj]
theorem kL (n : Fin 512) : resK m c (ix3 b ⟨0 + t, by omega⟩ n) = kv (CV m c j b ⟨0 + t, by omega⟩) n := by
  rw [resK, Cert.OddRef.REFK, Cert.OddRef.C5_lat, Cert.OddRef.kL_apply]
  simp only [cvL m c j hj]
theorem vL (n : Fin 1024) : resV m c (ix3 b ⟨0 + t, by omega⟩ n) = CV m c j b ⟨0 + t, by omega⟩ ⟨1024 + n, by omega⟩ := by
  rw [resV, Cert.OddRef.REFV, Cert.OddRef.C10_lat, Cert.OddRef.UL_apply, cvL m c j hj]
theorem gL (n : Fin 1024) : resG m c (ix3 b ⟨0 + t, by omega⟩ n) = prod (PRE m c j b ⟨0 + t, by omega⟩) (W m c) ⟨2048 + n, by omega⟩ := by
  rw [resG, Cert.OddRef.REFG, Cert.OddRef.C10_lat, Cert.OddRef.WL_apply, yL m c j hj]
theorem gtL (l : Fin 128) : resA m c (ix3 b ⟨0 + t, by omega⟩ l) = gat (W m c) (AL m c) (DT m c) (PRE m c j b ⟨0 + t, by omega⟩) l := by
  rw [resA, Cert.OddRef.REFA, Cert.OddRef.C1_lat, Cert.OddRef.gL_apply, gat]
  by_cases h : (l : Nat) < 16
  · rw [dif_pos h, if_pos h, yL m c j hj, AL, DT, dif_pos h, dif_pos h]
  · rw [dif_neg h, if_neg h]
    by_cases h' : (l : Nat) < 32
    · rw [dif_pos h', yL m c j hj]
    · rw [dif_neg h', W, prod_past _ _ _ (by simp only; omega), share_zero]

end refL

section refC

variable (c : Dev nD) (j : Nat) (hj : ¬ j < 8) (b : Fin 8) (t : Fin 256)
include hj

theorem yC (n : Fin 3104) : Cert.OddRef.YC (a0 m c) (a2 m c) (a3 m c) (a4 m c) (ix3 b t n) = prod (PRE m c j b ⟨2048 + t, by omega⟩) (W m c) ⟨n, by omega⟩ := by
  rw [Cert.OddRef.YC_apply b t (a0 m c) (a2 m c) (a3 m c) (a4 m c) (fun r k => mdt (a1 m c) (a2 m c) j b r k)
    (fun k => by rw [mdt, if_neg hj]) (fun k => by rw [mdt, if_neg hj]) n]
  exact prod_pad _ _ n
theorem cvC (n : Fin 2048) : Cert.OddRef.XC (Cert.OddRef.YC (a0 m c) (a2 m c) (a3 m c) (a4 m c)) (a5 m c) (ix3 b t n)
    = CV m c j b ⟨2048 + t, by omega⟩ n := by
  have e1 : (if h : (t : Nat) = 0 then 0 else Cert.OddRef.YC (a0 m c) (a2 m c) (a3 m c) (a4 m c) (ix3 b ⟨t - 1, by omega⟩ ⟨n, by omega⟩))
      = prod (BEF m c j b ⟨2048 + t, by omega⟩) (W m c) ⟨n, by omega⟩ := by
    by_cases h : (t : Nat) = 0
    · rw [dif_pos h, BEF, if_pos (by simp only; omega), prod_none]
    · rw [dif_neg h, BEF, if_neg (by simp only; omega), yC m c j hj]
      exact congrArg (fun z => prod (PRE m c j b z) (W m c) _) (Fin.ext (by simp only; omega))
  have e2 : (if h : (t : Nat) = 256 - 1 then 0 else Cert.OddRef.YC (a0 m c) (a2 m c) (a3 m c) (a4 m c) (ix3 b ⟨t + 1, by omega⟩ ⟨n, by omega⟩))
      = prod (AFT m c j b ⟨2048 + t, by omega⟩) (W m c) ⟨n, by omega⟩ := by
    by_cases h : (t : Nat) = 256 - 1
    · rw [dif_pos h, AFT, dif_pos (by simp only; omega), prod_none]
    · rw [dif_neg h, AFT, dif_neg (by simp only; omega), yC m c j hj]
      exact congrArg (fun z => prod (PRE m c j b z) (W m c) _) (Fin.ext (by simp only; omega))
  rw [Cert.OddRef.XC_apply, e1, e2, yC m c j hj]
  rfl
theorem qC (n : Fin 512) : resQ m c (ix3 b ⟨2048 + t, by omega⟩ n) = qv (CV m c j b ⟨2048 + t, by omega⟩) n := by
  rw [resQ, Cert.OddRef.REFQ, Cert.OddRef.C5_ctx, Cert.OddRef.qC_apply]
  simp only [cvC m c j hj]
theorem kC (n : Fin 512) : resK m c (ix3 b ⟨2048 + t, by omega⟩ n) = kv (CV m c j b ⟨2048 + t, by omega⟩) n := by
  rw [resK, Cert.OddRef.REFK, Cert.OddRef.C5_ctx, Cert.OddRef.kC_apply]
  simp only [cvC m c j hj]
theorem vC (n : Fin 1024) : resV m c (ix3 b ⟨2048 + t, by omega⟩ n) = CV m c j b ⟨2048 + t, by omega⟩ ⟨1024 + n, by omega⟩ := by
  rw [resV, Cert.OddRef.REFV, Cert.OddRef.C10_ctx, Cert.OddRef.UC_apply, cvC m c j hj]
theorem gC (n : Fin 1024) : resG m c (ix3 b ⟨2048 + t, by omega⟩ n) = prod (PRE m c j b ⟨2048 + t, by omega⟩) (W m c) ⟨2048 + n, by omega⟩ := by
  rw [resG, Cert.OddRef.REFG, Cert.OddRef.C10_ctx, Cert.OddRef.WC_apply, yC m c j hj]
theorem gtC (l : Fin 128) : resA m c (ix3 b ⟨2048 + t, by omega⟩ l) = gat (W m c) (AL m c) (DT m c) (PRE m c j b ⟨2048 + t, by omega⟩) l := by
  rw [resA, Cert.OddRef.REFA, Cert.OddRef.C1_ctx, Cert.OddRef.gC_apply, gat]
  by_cases h : (l : Nat) < 16
  · rw [dif_pos h, if_pos h, yC m c j hj, AL, DT, dif_pos h, dif_pos h]
  · rw [dif_neg h, if_neg h]
    by_cases h' : (l : Nat) < 32
    · rw [dif_pos h', yC m c j hj]
    · rw [dif_neg h', W, prod_past _ _ _ (by simp only; omega), share_zero]

end refC

/-! ## The results at a block's row -/

section at_block

variable (c : Dev nD) (t : Fin cfg0.N) (i : Fin 256)

theorem tok_lat (hj : (grid0.coords t 1).val < 8) : tok t i = (⟨0 + (256 * (grid0.coords t 1).val + i), by omega⟩ : Fin 2304) :=
  Fin.ext (by simp only; omega)
theorem tok_ctx (hj : ¬ (grid0.coords t 1).val < 8) : tok t i = (⟨2048 + i, by omega⟩ : Fin 2304) := by
  have := lt1 t
  exact Fin.ext (show 256 * (grid0.coords t 1).val + (i : Nat) = 2048 + i by omega)
theorem q_at (n : Fin 512) : resQ m c (ix3 (bat t) (tok t i) n) = qv (CV m c (grid0.coords t 1).val (bat t) (tok t i)) n := by
  by_cases hj : (grid0.coords t 1).val < 8
  · rw [tok_lat t i hj]
    exact qL m c _ hj (bat t) ⟨256 * (grid0.coords t 1).val + i, by omega⟩ n
  · rw [tok_ctx t i hj]
    exact qC m c _ hj (bat t) i n
theorem k_at (n : Fin 512) : resK m c (ix3 (bat t) (tok t i) n) = kv (CV m c (grid0.coords t 1).val (bat t) (tok t i)) n := by
  by_cases hj : (grid0.coords t 1).val < 8
  · rw [tok_lat t i hj]
    exact kL m c _ hj (bat t) ⟨256 * (grid0.coords t 1).val + i, by omega⟩ n
  · rw [tok_ctx t i hj]
    exact kC m c _ hj (bat t) i n
theorem v_at (n : Fin 1024) : resV m c (ix3 (bat t) (tok t i) n) = CV m c (grid0.coords t 1).val (bat t) (tok t i) ⟨1024 + n, by omega⟩ := by
  by_cases hj : (grid0.coords t 1).val < 8
  · rw [tok_lat t i hj]
    exact vL m c _ hj (bat t) ⟨256 * (grid0.coords t 1).val + i, by omega⟩ n
  · rw [tok_ctx t i hj]
    exact vC m c _ hj (bat t) i n
theorem g_at (n : Fin 1024) : resG m c (ix3 (bat t) (tok t i) n) = prod (PRE m c (grid0.coords t 1).val (bat t) (tok t i)) (W m c) ⟨2048 + n, by omega⟩ := by
  by_cases hj : (grid0.coords t 1).val < 8
  · rw [tok_lat t i hj]
    exact gL m c _ hj (bat t) ⟨256 * (grid0.coords t 1).val + i, by omega⟩ n
  · rw [tok_ctx t i hj]
    exact gC m c _ hj (bat t) i n
theorem gt_at (n : Fin 128) : resA m c (ix3 (bat t) (tok t i) n) = gat (W m c) (AL m c) (DT m c) (PRE m c (grid0.coords t 1).val (bat t) (tok t i)) n := by
  by_cases hj : (grid0.coords t 1).val < 8
  · rw [tok_lat t i hj]
    exact gtL m c _ hj (bat t) ⟨256 * (grid0.coords t 1).val + i, by omega⟩ n
  · rw [tok_ctx t i hj]
    exact gtC m c _ hj (bat t) i n

theorem pre_congr {x x' n n' : Fin 1024 → EReal} {md md' : Fin 6 → Fin 1024 → EReal} (h0 : ∀ k, x k = x' k) (h1 : ∀ k, n k = n' k)
    (h2 : ∀ r k, md r k = md' r k) : pre x n md = pre x' n' md' := by
  rw [funext h0, funext h1, funext fun r => funext (h2 r)]

theorem cur_eq : cur (iblk m c 0 t) (iblk m c 3 t) (iblk m c 4 t) i = PRE m c (grid0.coords t 1).val (bat t) (tok t i) :=
  pre_congr (fun k => x0_eq m c t i k) (fun k => x4_eq m c t k) (fun r k => x3_eq m c t r k)
theorem bef_eq : bef (grid0.coords t) (iblk m c 0 t) (iblk m c 1 t) (iblk m c 3 t) (iblk m c 4 t) i = BEF m c (grid0.coords t 1).val (bat t) (tok t i) := by
  have h9 := lt1 t
  rw [bef, BEF]
  by_cases h : (i : Nat) = 0
  · rw [dif_pos h]
    by_cases h0 : (grid0.coords t 1).val = 0 ∨ (grid0.coords t 1).val = 8
    · rw [if_pos h0, if_pos (by simp only; omega)]
    · rw [if_neg h0, if_neg (by simp only; omega)]
      refine pre_congr (fun k => (x1_eq m c t 7 k).trans (congrArg (fun z => a0 m c (ix3 (bat t) z k)) (Fin.ext ?_))) (fun k => x4_eq m c t k) (fun r k => x3_eq m c t r k)
      show 8 * (32 * (grid0.coords t 1).val - 1) + 7 = 256 * (grid0.coords t 1).val + i - 1
      omega
  · rw [dif_neg h, if_neg (by simp only; omega), cur_eq]
    exact congrArg (PRE m c _ _) (Fin.ext (show 256 * (grid0.coords t 1).val + ((i : Nat) - 1) = 256 * (grid0.coords t 1).val + i - 1 by omega))
theorem aft_eq : aft (grid0.coords t) (iblk m c 0 t) (iblk m c 2 t) (iblk m c 3 t) (iblk m c 4 t) i = AFT m c (grid0.coords t 1).val (bat t) (tok t i) := by
  have h9 := lt1 t
  rw [aft, AFT]
  by_cases h : (i : Nat) = 255
  · rw [dif_pos h]
    by_cases h0 : (grid0.coords t 1).val = 7 ∨ (grid0.coords t 1).val = 8
    · rw [if_pos h0, dif_pos (by simp only; omega)]
    · rw [if_neg h0, dif_neg (by simp only; omega)]
      refine pre_congr (fun k => (x2_eq m c t 0 k).trans (congrArg (fun z => a0 m c (ix3 (bat t) z k)) (Fin.ext ?_))) (fun k => x4_eq m c t k) (fun r k => x3_eq m c t r k)
      show 8 * min (32 * (grid0.coords t 1).val + 32) 287 + 0 = 256 * (grid0.coords t 1).val + i + 1
      omega
  · rw [dif_neg h, dif_neg (by simp only; omega), cur_eq]
    exact congrArg (PRE m c _ _) (Fin.ext (show 256 * (grid0.coords t 1).val + ((i : Nat) + 1) = 256 * (grid0.coords t 1).val + i + 1 by omega))
theorem w_eq : (fun (k : Fin 1024) (n : Fin 3200) => (iblk m c 5 t : Vec Ideal S1024x3200 .bf16) (ix2 k n)) = W m c := by
  funext k n; exact x5_eq m c t k n
theorem cw_eq : (fun (r : Fin 3) (n : Fin 2048) => (iblk m c 6 t : Vec Ideal S3x2048 .f32) (ix2 r n)) = fun r n => a5 m c (ix2 r n) := by
  funext r n; exact x6_eq m c t r n
theorem tc_eq : tc (grid0.coords t) (iblk m c 0 t) (iblk m c 1 t) (iblk m c 2 t) (iblk m c 3 t) (iblk m c 4 t) (iblk m c 5 t) (iblk m c 6 t) i
    = CV m c (grid0.coords t 1).val (bat t) (tok t i) := by
  unfold tc
  rw [w_eq m c t, cw_eq m c t, bef_eq, cur_eq, aft_eq, CV]

end at_block

/-- Result 1's array. -/
theorem finalQ (c : Dev nD) : (dats m 0 c).arrAt 12 cfg0.N = resQ m c := by
  refine (dats m 0 c).arrAt_eq_of_covers 12 _ (by decide +kernel) fun t hf y => ?_
  have key : ∀ (i : Fin 256) (n : Fin 512),
      out0_12 (grid0.coords t) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix3 0 i n)
      = resQ m c (((cfg0.win 12).blk t).view.emb (ix3 (0 : Fin 1) i n : S1x256x512.Idx)) := fun i n => by
    refine Eq.trans ?_ (blk12 t i n (resQ m c)).symm
    rw [out12_apply, tc_eq, q_at]
    exact spread_q (iblk m c 7 t) (iblk m c 8 t) (iblk m c 9 t) _ n (x7_eq m c t) (x8_eq m c t) (x9_eq m c t)
  obtain ⟨i, n, rfl⟩ : ∃ (i : Fin 256) (n : Fin 512), y = (ix3 (0 : Fin 1) i n : S1x256x512.Idx) := by
    refine ⟨y 1, y 2, ?_⟩
    funext a
    fin_cases a
    · exact Subsingleton.elim (α := Fin 1) _ _
    · rfl
    · rfl
  refine Eq.trans ?_ (key i n)
  rw [cast_eq, after0_12]
  rfl

/-- Result 2's array. -/
theorem finalK (c : Dev nD) : (dats m 0 c).arrAt 13 cfg0.N = resK m c := by
  refine (dats m 0 c).arrAt_eq_of_covers 13 _ (by decide +kernel) fun t hf y => ?_
  have key : ∀ (i : Fin 256) (n : Fin 512),
      out0_13 (grid0.coords t) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix3 0 i n)
      = resK m c (((cfg0.win 13).blk t).view.emb (ix3 (0 : Fin 1) i n : S1x256x512.Idx)) := fun i n => by
    refine Eq.trans ?_ (blk13 t i n (resK m c)).symm
    rw [out13_apply, tc_eq, k_at]
    exact spread_k (iblk m c 7 t) (iblk m c 8 t) (iblk m c 9 t) _ n (x7_eq m c t) (x8_eq m c t) (x9_eq m c t)
  obtain ⟨i, n, rfl⟩ : ∃ (i : Fin 256) (n : Fin 512), y = (ix3 (0 : Fin 1) i n : S1x256x512.Idx) := by
    refine ⟨y 1, y 2, ?_⟩
    funext a
    fin_cases a
    · exact Subsingleton.elim (α := Fin 1) _ _
    · rfl
    · rfl
  refine Eq.trans ?_ (key i n)
  rw [cast_eq, after0_13]
  rfl

/-- Result 3's array. -/
theorem finalV (c : Dev nD) : (dats m 0 c).arrAt 14 cfg0.N = resV m c := by
  refine (dats m 0 c).arrAt_eq_of_covers 14 _ (by decide +kernel) fun t hf y => ?_
  have key : ∀ (i : Fin 256) (n : Fin 1024),
      out0_14 (grid0.coords t) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix3 0 i n)
      = resV m c (((cfg0.win 14).blk t).view.emb (ix3 (0 : Fin 1) i n : S1x256x1024.Idx)) := fun i n => by
    refine Eq.trans ?_ (blk14 t i n (resV m c)).symm
    rw [out14_apply, tc_eq, v_at]
  obtain ⟨i, n, rfl⟩ : ∃ (i : Fin 256) (n : Fin 1024), y = (ix3 (0 : Fin 1) i n : S1x256x1024.Idx) := by
    refine ⟨y 1, y 2, ?_⟩
    funext a
    fin_cases a
    · exact Subsingleton.elim (α := Fin 1) _ _
    · rfl
    · rfl
  refine Eq.trans ?_ (key i n)
  rw [cast_eq, after0_14]
  rfl

/-- Result 4's array. -/
theorem finalG (c : Dev nD) : (dats m 0 c).arrAt 15 cfg0.N = resG m c := by
  refine (dats m 0 c).arrAt_eq_of_covers 15 _ (by decide +kernel) fun t hf y => ?_
  have key : ∀ (i : Fin 256) (n : Fin 1024),
      out0_15 (grid0.coords t) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix3 0 i n)
      = resG m c (((cfg0.win 15).blk t).view.emb (ix3 (0 : Fin 1) i n : S1x256x1024.Idx)) := fun i n => by
    refine Eq.trans ?_ (blk15 t i n (resG m c)).symm
    rw [out15_apply, w_eq m c t, cur_eq, g_at]
  obtain ⟨i, n, rfl⟩ : ∃ (i : Fin 256) (n : Fin 1024), y = (ix3 (0 : Fin 1) i n : S1x256x1024.Idx) := by
    refine ⟨y 1, y 2, ?_⟩
    funext a
    fin_cases a
    · exact Subsingleton.elim (α := Fin 1) _ _
    · rfl
    · rfl
  refine Eq.trans ?_ (key i n)
  rw [cast_eq, after0_15]
  rfl

/-- Result 5's array. -/
theorem finalA (c : Dev nD) : (dats m 0 c).arrAt 16 cfg0.N = resA m c := by
  refine (dats m 0 c).arrAt_eq_of_covers 16 _ (by decide +kernel) fun t hf y => ?_
  have key : ∀ (i : Fin 256) (n : Fin 128),
      out0_16 (grid0.coords t) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix3 0 i n)
      = resA m c (((cfg0.win 16).blk t).view.emb (ix3 (0 : Fin 1) i n : S1x256x128.Idx)) := fun i n => by
    refine Eq.trans ?_ (blk16 t i n (resA m c)).symm
    rw [out16_apply, w_eq m c t, cur_eq, gt_at]
    exact congrArg₂ (fun a d => gat (W m c) a d _ n) (funext fun l => x10_eq m c t l) (funext fun l => x11_eq m c t l)
  obtain ⟨i, n, rfl⟩ : ∃ (i : Fin 256) (n : Fin 128), y = (ix3 (0 : Fin 1) i n : S1x256x128.Idx) := by
    refine ⟨y 1, y 2, ?_⟩
    funext a
    fin_cases a
    · exact Subsingleton.elim (α := Fin 1) _ _
    · rfl
    · rfl
  refine Eq.trans ?_ (key i n)
  rw [cast_eq, after0_16]
  rfl

end Cert.Odd

end
-- ==== Proof.OddClaims.lean ====
/-
  The odd layers' projection: its frames, and its five results against the reference's.
-/
module

public import proofs.«01_k».proof.Defs
public import proofs.«01_k».proof.Proof.OddVal
public import proofs.«01_k».proof.Proof.Gen.Kernel6.Frame

@[expose] public section

set_option maxRecDepth 16384

noncomputable section

namespace Cert.OddClaims

open Idealize.ShloMosaic Idealize.ShloMosaic.TcCoe Idealize.SL.Sem

theorem frame : Cert.quiescent_Kernel6 := fun m ρ _ => Cert.Kernel6.Gen.frame m ρ
theorem frameI : Cert.quiescent_Kernel6Ideal := fun m ρ _ => Cert.Kernel6Ideal.Gen.frame m ρ
theorem frameR : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m g m' g' _ hargs
  refine ⟨fun c => Cert.Odd.resQ m c, fun c => Cert.Odd.resK m c, fun c => Cert.Odd.resV m c, fun c => Cert.Odd.resG m c,
    fun c => Cert.Odd.resA m c, ?_, ?_⟩
  · exact (θ_run Cert.Kernel6Ideal.defs _ _).mono (fun _ h c => ⟨(h c).1.trans (Cert.Odd.finalQ m c), (h c).2.1.trans (Cert.Odd.finalK m c),
      (h c).2.2.1.trans (Cert.Odd.finalV m c), (h c).2.2.2.1.trans (Cert.Odd.finalG m c), (h c).2.2.2.2.1.trans (Cert.Odd.finalA m c),
      (h c).2.2.2.2.2⟩) (Cert.Kernel6Ideal.Value.run_blocks (F := Ideal) m g)
  · refine (θ_run Cert.Reference6Ideal.defs _ _).mono (fun _ h c => ⟨(h c).1.trans ?_, (h c).2.1.trans ?_, (h c).2.2.1.trans ?_,
      (h c).2.2.2.1.trans ?_, (h c).2.2.2.2.1.trans ?_, (h c).2.2.2.2.2⟩) (Cert.Reference6Ideal.Value.run (F := Ideal) m' g')
    all_goals obtain ⟨e0, e1, e2, e3, e4, e5, e6, e7⟩ := hargs c
    · refine Eq.trans (b := Cert.OddRef.REFQ (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5))) rfl ?_
      rw [e0, e1, e2, e3, e4, e5]
      rfl
    · refine Eq.trans (b := Cert.OddRef.REFK (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5))) rfl ?_
      rw [e0, e1, e2, e3, e4, e5]
      rfl
    · refine Eq.trans (b := Cert.OddRef.REFV (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5))) rfl ?_
      rw [e0, e1, e2, e3, e4, e5]
      rfl
    · refine Eq.trans (b := Cert.OddRef.REFG (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4))) rfl ?_
      rw [e0, e1, e2, e3, e4]
      rfl
    · refine Eq.trans (b := Cert.OddRef.REFA (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7))) rfl ?_
      rw [e0, e1, e2, e3, e4, e6, e7]
      rfl

end Cert.OddClaims

end
-- ==== Proof.lean ====
/-
  The proof of `Cert.Claim`: the claims of each call, from its module of claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_scores
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.AttnClaims
public import proofs.«01_k».proof.Proof.MergeClaims
public import proofs.«01_k».proof.Proof.Merge3Claims
public import proofs.«01_k».proof.Proof.Merge4Claims
public import proofs.«01_k».proof.Proof.Merge5Claims
public import proofs.«01_k».proof.Proof.OddClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_scores.Gen.facts,
  AttnClaims.frame, AttnClaims.frameI, AttnClaims.frameI', AttnClaims.frameR, AttnClaims.frameR',
  MergeClaims.frame, MergeClaims.frameI, MergeClaims.frameR,
  Merge3Claims.frame, Merge3Claims.frameI, Merge3Claims.frameR,
  Merge4Claims.frame, Merge4Claims.frameI, Merge4Claims.frameR,
  Merge5Claims.frame, Merge5Claims.frameI, Merge5Claims.frameR,
  OddClaims.frame, OddClaims.frameI, OddClaims.frameR,
  AttnClaims.preserves, AttnClaims.algebraic,
  MergeClaims.preserves, MergeClaims.algebraic,
  Merge3Claims.preserves, Merge3Claims.algebraic,
  Merge4Claims.preserves, Merge4Claims.algebraic,
  Merge5Claims.preserves, Merge5Claims.algebraic,
  OddClaims.preserves, OddClaims.algebraic⟩

end Cert.Proof

end
